-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S96x1x2048 : Shape := ⟨3, ![96, 1, 2048]⟩
abbrev S96x1x6 : Shape := ⟨3, ![96, 1, 6]⟩
abbrev S64x1408x1024 : Shape := ⟨3, ![64, 1408, 1024]⟩
abbrev S64x1408x32 : Shape := ⟨3, ![64, 1408, 32]⟩
abbrev S64x2048x704 : Shape := ⟨3, ![64, 2048, 704]⟩
abbrev S64x2048x22 : Shape := ⟨3, ![64, 2048, 22]⟩
abbrev S_ : Shape := ⟨0, ![]⟩

class Facts : Prop where
  bcast_S_S96x1x6 : S_.BroadcastsInDim S96x1x6 (![] : Fin 0 → Fin S96x1x6.rank)
  reducesTo_S96x1x6_S_d0_1_2 : S96x1x6.ReducesTo [0, 1, 2] S_
  h_S_ : 0 < S_.numel

variable [Facts]

def fn {F : FTy → Type} [FloatOps F] (main_arg0 : FVec F S96x1x2048 .bf16) (main_arg1 : IVec S96x1x6 32) (main_arg2 : FVec F S96x1x6 .f32) (main_arg3 : IVec S64x1408x1024 8) (main_arg4 : FVec F S64x1408x32 .f32) (main_arg5 : IVec S64x1408x1024 8) (main_arg6 : FVec F S64x1408x32 .f32) (main_arg7 : IVec S64x2048x704 8) (main_arg8 : FVec F S64x2048x22 .f32) : IVec S_ 1 :=
  let main_cst : FVec F S_ .f32 := constant S_ .f32 0x00000000#32
  let main_v0 : FVec F S96x1x6 .f32 := broadcastInDim S96x1x6 ![] bcast_S_S96x1x6 main_cst
  let main_v1 : IVec S96x1x6 1 := cmpf .oge main_arg2 main_v0
  let main_c : IVec S_ 1 := constantI S_ 1 1#1
  let main_v2 : IVec S_ 1 := (fun x v => Host.reduce IntOp.andi x v reducesTo_S96x1x6_S_d0_1_2 h_S_) main_v1 main_c
  let main_c_0 : IVec S_ 32 := constantI S_ 32 0#32
  let main_v3 : IVec S96x1x6 32 := broadcastInDim S96x1x6 ![] bcast_S_S96x1x6 main_c_0
  let main_v4 : IVec S96x1x6 1 := cmpi .sge main_arg1 main_v3
  let main_c_1 : IVec S_ 32 := constantI S_ 32 64#32
  let main_v5 : IVec S96x1x6 32 := broadcastInDim S96x1x6 ![] bcast_S_S96x1x6 main_c_1
  let main_v6 : IVec S96x1x6 1 := cmpi .slt main_arg1 main_v5
  let main_v7 : IVec S96x1x6 1 := andi main_v4 main_v6
  let main_c_2 : IVec S_ 1 := constantI S_ 1 0#1
  let main_v8 : IVec S_ 1 := (fun x v => Host.reduce IntOp.ori x v reducesTo_S96x1x6_S_d0_1_2 h_S_) main_v7 main_c_2
  let main_v9 : IVec S_ 1 := andi main_v2 main_v8
  main_v9
-- ==== Kernel.lean ====
abbrev S96x1x2048 : Shape := ⟨3, ![96, 1, 2048]⟩
abbrev S96x1x6 : Shape := ⟨3, ![96, 1, 6]⟩
abbrev S64x1408x1024 : Shape := ⟨3, ![64, 1408, 1024]⟩
abbrev S64x1408x32 : Shape := ⟨3, ![64, 1408, 32]⟩
abbrev S64x2048x704 : Shape := ⟨3, ![64, 2048, 704]⟩
abbrev S64x2048x22 : Shape := ⟨3, ![64, 2048, 22]⟩
abbrev S16 : Shape := ⟨1, ![16]⟩
abbrev S96x6 : Shape := ⟨2, ![96, 6]⟩
abbrev S576 : Shape := ⟨1, ![576]⟩
abbrev S576x1 : Shape := ⟨2, ![576, 1]⟩
abbrev S64 : Shape := ⟨1, ![64]⟩
abbrev S1x64 : Shape := ⟨2, ![1, 64]⟩
abbrev S576x64 : Shape := ⟨2, ![576, 64]⟩
abbrev S_ : Shape := ⟨0, ![]⟩
abbrev S1 : Shape := ⟨1, ![1]⟩
abbrev S64x1 : Shape := ⟨2, ![64, 1]⟩
abbrev S64x64 : Shape := ⟨2, ![64, 64]⟩
abbrev S96x32x8x2x4 : Shape := ⟨5, ![96, 32, 8, 2, 4]⟩
abbrev S96x32x4x8x2 : Shape := ⟨5, ![96, 32, 4, 8, 2]⟩
abbrev S96x2048 : Shape := ⟨2, ![96, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S64x128 : Shape := ⟨2, ![64, 128]⟩
abbrev S64x32x1408 : Shape := ⟨3, ![64, 32, 1408]⟩
abbrev S64x704x2048 : Shape := ⟨3, ![64, 704, 2048]⟩
abbrev S22x64x2048 : Shape := ⟨3, ![22, 64, 2048]⟩
abbrev S1x1408x1024 : Shape := ⟨3, ![1, 1408, 1024]⟩
abbrev S1x32x1408 : Shape := ⟨3, ![1, 32, 1408]⟩
abbrev S1x704x2048 : Shape := ⟨3, ![1, 704, 2048]⟩
abbrev S22x8x2048 : Shape := ⟨3, ![22, 8, 2048]⟩
abbrev S96x1408 : Shape := ⟨2, ![96, 1408]⟩
abbrev S96x256 : Shape := ⟨2, ![96, 256]⟩
abbrev S1x128x128 : Shape := ⟨3, ![1, 128, 128]⟩
abbrev S32x128 : Shape := ⟨2, ![32, 128]⟩
abbrev S8x128 : Shape := ⟨2, ![8, 128]⟩
abbrev S1x1x128 : Shape := ⟨3, ![1, 1, 128]⟩
abbrev S16x128 : Shape := ⟨2, ![16, 128]⟩
abbrev S64x128x1 : Shape := ⟨3, ![64, 128, 1]⟩
abbrev S256x128 : Shape := ⟨2, ![256, 128]⟩
abbrev S256x256 : Shape := ⟨2, ![256, 256]⟩
abbrev S96x128 : Shape := ⟨2, ![96, 128]⟩
abbrev S96 : Shape := ⟨1, ![96]⟩
abbrev S96x1 : Shape := ⟨2, ![96, 1]⟩
abbrev S1x64x128 : Shape := ⟨3, ![1, 64, 128]⟩
abbrev S1x8x128 : Shape := ⟨3, ![1, 8, 128]⟩
abbrev S8x128x1 : Shape := ⟨3, ![8, 128, 1]⟩
abbrev S128x256 : Shape := ⟨2, ![128, 256]⟩

abbrev nBuf : Space → Nat
  | .hbm => 201
  | .vmem => 20
  | .smem => 3
  | _ => 0

abbrev hbmTy0_0 (i : Nat) : BufTy := match i % 128 with
  | 0 => ⟨S96x1x2048, .bf16⟩
  | 1 => ⟨S96x1x6, .i32⟩
  | 2 => ⟨S96x1x6, .f32⟩
  | 3 => ⟨S64x1408x1024, .i8⟩
  | 4 => ⟨S64x1408x32, .f32⟩
  | 5 => ⟨S64x1408x1024, .i8⟩
  | 6 => ⟨S64x1408x32, .f32⟩
  | 7 => ⟨S64x2048x704, .i8⟩
  | 8 => ⟨S64x2048x22, .f32⟩
  | 9 => ⟨S16, .f32⟩
  | 10 => ⟨S96x6, .i32⟩
  | 11 => ⟨S96x6, .f32⟩
  | 12 => ⟨S576, .i32⟩
  | 13 => ⟨S576x1, .i32⟩
  | 14 => ⟨S64, .i32⟩
  | 15 => ⟨S1x64, .i32⟩
  | 16 => ⟨S576x64, .i32⟩
  | 17 => ⟨S576x64, .i32⟩
  | 18 => ⟨S576x64, .i1⟩
  | 19 => ⟨S_, .i1⟩
  | 20 => ⟨S64, .i1⟩
  | 21 => ⟨S64, .i32⟩
  | 22 => ⟨S_, .i32⟩
  | 23 => ⟨S_, .i32⟩
  | 24 => ⟨S64, .i32⟩
  | 25 => ⟨S_, .i32⟩
  | 26 => ⟨S64, .i32⟩
  | 27 => ⟨S64, .i32⟩
  | 28 => ⟨S1, .i32⟩
  | 29 => ⟨S_, .i32⟩
  | 30 => ⟨S1, .i32⟩
  | 31 => ⟨S1x64, .i1⟩
  | 32 => ⟨S1x64, .i32⟩
  | 33 => ⟨S64, .i32⟩
  | 34 => ⟨S64x1, .i32⟩
  | 35 => ⟨S64x64, .i32⟩
  | 36 => ⟨S64x64, .i32⟩
  | 37 => ⟨S64x64, .i1⟩
  | 38 => ⟨S64x64, .i1⟩
  | 39 => ⟨S64x64, .i1⟩
  | 40 => ⟨S64, .i32⟩
  | 41 => ⟨S1x64, .i32⟩
  | 42 => ⟨S_, .i32⟩
  | 43 => ⟨S_, .i32⟩
  | 44 => ⟨S64x64, .i32⟩
  | 45 => ⟨S64x64, .i32⟩
  | 46 => ⟨S64x64, .i32⟩
  | 47 => ⟨S_, .i32⟩
  | 48 => ⟨S96x32x8x2x4, .bf16⟩
  | 49 => ⟨S96x32x4x8x2, .bf16⟩
  | 50 => ⟨S96x2048, .bf16⟩
  | 51 => ⟨S128, .i32⟩
  | 52 => ⟨S_, .i32⟩
  | 53 => ⟨S_, .i32⟩
  | 54 => ⟨S128, .i32⟩
  | 55 => ⟨S128, .i32⟩
  | 56 => ⟨S128, .i32⟩
  | 57 => ⟨S_, .i32⟩
  | 58 => ⟨S128, .i32⟩
  | 59 => ⟨S128, .i1⟩
  | 60 => ⟨S128, .i32⟩
  | 61 => ⟨S128, .i32⟩
  | 62 => ⟨S_, .i32⟩
  | 63 => ⟨S128, .i32⟩
  | 64 => ⟨S128, .i1⟩
  | 65 => ⟨S128, .i1⟩
  | 66 => ⟨S_, .i32⟩
  | 67 => ⟨S128, .i32⟩
  | 68 => ⟨S128, .i32⟩
  | 69 => ⟨S128, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S128, .i32⟩
  | 77 => ⟨S128, .i32⟩
  | 78 => ⟨S_, .i32⟩
  | 79 => ⟨S128, .i32⟩
  | 80 => ⟨S128, .i1⟩
  | 81 => ⟨S_, .i32⟩
  | 82 => ⟨S128, .i32⟩
  | 83 => ⟨S128, .i1⟩
  | 84 => ⟨S_, .i32⟩
  | 85 => ⟨S_, .i1⟩
  | 86 => ⟨S128, .i1⟩
  | 87 => ⟨S128, .i1⟩
  | 88 => ⟨S128, .i1⟩
  | 89 => ⟨S128, .i32⟩
  | 90 => ⟨S128, .i32⟩
  | 91 => ⟨S128, .i32⟩
  | 92 => ⟨S_, .i32⟩
  | 93 => ⟨S_, .i32⟩
  | 94 => ⟨S128, .i32⟩
  | 95 => ⟨S128, .i32⟩
  | 96 => ⟨S128, .i32⟩
  | 97 => ⟨S_, .i32⟩
  | 98 => ⟨S128, .i32⟩
  | 99 => ⟨S128, .i1⟩
  | 100 => ⟨S128, .i32⟩
  | 101 => ⟨S128, .i32⟩
  | 102 => ⟨S_, .i32⟩
  | 103 => ⟨S128, .i32⟩
  | 104 => ⟨S128, .i1⟩
  | 105 => ⟨S128, .i1⟩
  | 106 => ⟨S_, .i32⟩
  | 107 => ⟨S128, .i32⟩
  | 108 => ⟨S128, .i32⟩
  | 109 => ⟨S128, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S128, .i32⟩
  | 117 => ⟨S128, .i32⟩
  | 118 => ⟨S_, .i32⟩
  | 119 => ⟨S128, .i32⟩
  | 120 => ⟨S128, .i1⟩
  | 121 => ⟨S_, .i32⟩
  | 122 => ⟨S128, .i32⟩
  | 123 => ⟨S128, .i1⟩
  | 124 => ⟨S_, .i32⟩
  | 125 => ⟨S_, .i1⟩
  | 126 => ⟨S128, .i1⟩
  | 127 => ⟨S128, .i1⟩
  | _ => ⟨S96x1x2048, .bf16⟩

abbrev hbmTy0_1 (i : Nat) : BufTy := match i % 128 with
  | 0 => ⟨S128, .i1⟩
  | 1 => ⟨S128, .i32⟩
  | 2 => ⟨S128, .i32⟩
  | 3 => ⟨S128, .i32⟩
  | 4 => ⟨S_, .i32⟩
  | 5 => ⟨S_, .i32⟩
  | 6 => ⟨S128, .i32⟩
  | 7 => ⟨S128, .i32⟩
  | 8 => ⟨S128, .i32⟩
  | 9 => ⟨S_, .i32⟩
  | 10 => ⟨S128, .i32⟩
  | 11 => ⟨S128, .i1⟩
  | 12 => ⟨S128, .i32⟩
  | 13 => ⟨S128, .i32⟩
  | 14 => ⟨S_, .i32⟩
  | 15 => ⟨S128, .i32⟩
  | 16 => ⟨S128, .i1⟩
  | 17 => ⟨S128, .i1⟩
  | 18 => ⟨S_, .i32⟩
  | 19 => ⟨S128, .i32⟩
  | 20 => ⟨S128, .i32⟩
  | 21 => ⟨S128, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i1⟩
  | 36 => ⟨S_, .i32⟩
  | 37 => ⟨S_, .i1⟩
  | 38 => ⟨S128, .i1⟩
  | 39 => ⟨S128, .i1⟩
  | 40 => ⟨S128, .i1⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S_, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S128, .i32⟩
  | 55 => ⟨S128, .i32⟩
  | 56 => ⟨S128, .i32⟩
  | 57 => ⟨S128x1, .i32⟩
  | 58 => ⟨S1x128, .i32⟩
  | 59 => ⟨S128x128, .i32⟩
  | 60 => ⟨S128x128, .i32⟩
  | 61 => ⟨S128x128, .i1⟩
  | 62 => ⟨S128x128, .bf16⟩
  | 63 => ⟨S_, .i32⟩
  | 64 => ⟨S_, .f32⟩
  | 65 => ⟨S128, .f32⟩
  | 66 => ⟨S1x128, .f32⟩
  | 67 => ⟨S64x128, .f32⟩
  | 68 => ⟨S64x32x1408, .f32⟩
  | 69 => ⟨S64x32x1408, .f32⟩
  | 70 => ⟨S64x704x2048, .i8⟩
  | 71 => ⟨S22x64x2048, .f32⟩
  | 72 => ⟨S96x2048, .bf16⟩
  | _ => ⟨S96x1x2048, .bf16⟩

abbrev hbmTy (i : Nat) : BufTy := match i / 128 with
  | 0 => hbmTy0_0 i
  | 1 => hbmTy0_1 i
  | _ => ⟨S96x1x2048, .bf16⟩

abbrev bufTy : (tb : Table) → Fin (tcTables nBuf tb) → BufTy
  | .hbm, ⟨i, _⟩ => hbmTy i
  | .local _ .vmem, ⟨0, _⟩ => ⟨S96x2048, .bf16⟩
  | .local _ .vmem, ⟨1, _⟩ => ⟨S96x6, .i32⟩
  | .local _ .vmem, ⟨2, _⟩ => ⟨S96x6, .f32⟩
  | .local _ .vmem, ⟨3, _⟩ => ⟨S128x128, .bf16⟩
  | .local _ .vmem, ⟨4, _⟩ => ⟨S64x128, .f32⟩
  | .local _ .vmem, ⟨5, _⟩ => ⟨S1x1408x1024, .i8⟩
  | .local _ .vmem, ⟨6, _⟩ => ⟨S1x1408x1024, .i8⟩
  | .local _ .vmem, ⟨7, _⟩ => ⟨S1x32x1408, .f32⟩
  | .local _ .vmem, ⟨8, _⟩ => ⟨S1x32x1408, .f32⟩
  | .local _ .vmem, ⟨9, _⟩ => ⟨S1x1408x1024, .i8⟩
  | .local _ .vmem, ⟨10, _⟩ => ⟨S1x1408x1024, .i8⟩
  | .local _ .vmem, ⟨11, _⟩ => ⟨S1x32x1408, .f32⟩
  | .local _ .vmem, ⟨12, _⟩ => ⟨S1x32x1408, .f32⟩
  | .local _ .vmem, ⟨13, _⟩ => ⟨S1x704x2048, .i8⟩
  | .local _ .vmem, ⟨14, _⟩ => ⟨S1x704x2048, .i8⟩
  | .local _ .vmem, ⟨15, _⟩ => ⟨S22x8x2048, .f32⟩
  | .local _ .vmem, ⟨16, _⟩ => ⟨S22x8x2048, .f32⟩
  | .local _ .vmem, ⟨17, _⟩ => ⟨S96x2048, .bf16⟩
  | .local _ .vmem, ⟨18, _⟩ => ⟨S96x1408, .bf16⟩
  | .local _ .vmem, ⟨19, _⟩ => ⟨S96x2048, .f32⟩
  | .local _ .smem, ⟨0, _⟩ => ⟨S_, .i32⟩
  | .local _ .smem, ⟨1, _⟩ => ⟨S64, .i32⟩
  | .local _ .smem, ⟨2, _⟩ => ⟨S1, .i32⟩
  | _, _ => ⟨S96x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_call0_call0_c : Ref sig .tc := ⟨.hbm, 22, rfl⟩
abbrev main_call0_call0_v0 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v34 : Ref sig .tc := ⟨.hbm, 69, rfl⟩
abbrev main_c_5 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v35 : Ref sig .tc := ⟨.hbm, 91, rfl⟩
abbrev main_c_6 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_c : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_0 : Ref sig .tc := ⟨.hbm, 106, rfl⟩
abbrev main_call4_v12 : Ref sig .tc := ⟨.hbm, 107, rfl⟩
abbrev main_call4_v13 : Ref sig .tc := ⟨.hbm, 108, rfl⟩
abbrev main_v36 : Ref sig .tc := ⟨.hbm, 109, rfl⟩
abbrev main_c_7 : Ref sig .tc := ⟨.hbm, 110, rfl⟩
abbrev main_call5_v0 : Ref sig .tc := ⟨.hbm, 111, rfl⟩
abbrev main_call5_c : Ref sig .tc := ⟨.hbm, 112, rfl⟩
abbrev main_call5_v1 : Ref sig .tc := ⟨.hbm, 113, rfl⟩
abbrev main_call5_c_0 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_c_1 : Ref sig .tc := ⟨.hbm, 118, rfl⟩
abbrev main_call5_v5 : Ref sig .tc := ⟨.hbm, 119, rfl⟩
abbrev main_call5_v6 : Ref sig .tc := ⟨.hbm, 120, rfl⟩
abbrev main_call5_c_2 : Ref sig .tc := ⟨.hbm, 121, rfl⟩
abbrev main_call5_v7 : Ref sig .tc := ⟨.hbm, 122, rfl⟩
abbrev main_call5_v8 : Ref sig .tc := ⟨.hbm, 123, rfl⟩
abbrev main_call5_c_3 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_v12 : Ref sig .tc := ⟨.hbm, 128, rfl⟩
abbrev main_call5_v13 : Ref sig .tc := ⟨.hbm, 129, rfl⟩
abbrev main_call5_v14 : Ref sig .tc := ⟨.hbm, 130, rfl⟩
abbrev main_v37 : Ref sig .tc := ⟨.hbm, 131, rfl⟩
abbrev main_c_8 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_c : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_c_0 : Ref sig .tc := ⟨.hbm, 146, rfl⟩
abbrev main_call6_v12 : Ref sig .tc := ⟨.hbm, 147, rfl⟩
abbrev main_call6_v13 : Ref sig .tc := ⟨.hbm, 148, rfl⟩
abbrev main_v38 : Ref sig .tc := ⟨.hbm, 149, rfl⟩
abbrev main_c_9 : Ref sig .tc := ⟨.hbm, 150, rfl⟩
abbrev main_call7_v0 : Ref sig .tc := ⟨.hbm, 151, rfl⟩
abbrev main_call7_c : Ref sig .tc := ⟨.hbm, 152, rfl⟩
abbrev main_call7_v1 : Ref sig .tc := ⟨.hbm, 153, rfl⟩
abbrev main_call7_c_0 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_call7_c_1 : Ref sig .tc := ⟨.hbm, 158, rfl⟩
abbrev main_call7_v5 : Ref sig .tc := ⟨.hbm, 159, rfl⟩
abbrev main_call7_v6 : Ref sig .tc := ⟨.hbm, 160, rfl⟩
abbrev main_call7_c_2 : Ref sig .tc := ⟨.hbm, 161, rfl⟩
abbrev main_call7_v7 : Ref sig .tc := ⟨.hbm, 162, rfl⟩
abbrev main_call7_v8 : Ref sig .tc := ⟨.hbm, 163, rfl⟩
abbrev main_call7_c_3 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_v12 : Ref sig .tc := ⟨.hbm, 168, rfl⟩
abbrev main_call7_v13 : Ref sig .tc := ⟨.hbm, 169, rfl⟩
abbrev main_call7_v14 : Ref sig .tc := ⟨.hbm, 170, rfl⟩
abbrev main_v39 : Ref sig .tc := ⟨.hbm, 171, rfl⟩
abbrev main_c_10 : Ref sig .tc := ⟨.hbm, 172, rfl⟩
abbrev main_v40 : Ref sig .tc := ⟨.hbm, 173, rfl⟩
abbrev main_v41 : Ref sig .tc := ⟨.hbm, 174, rfl⟩
abbrev main_c_11 : Ref sig .tc := ⟨.hbm, 175, rfl⟩
abbrev main_v42 : Ref sig .tc := ⟨.hbm, 176, rfl⟩
abbrev main_v43 : Ref sig .tc := ⟨.hbm, 177, rfl⟩
abbrev main_v44 : Ref sig .tc := ⟨.hbm, 178, rfl⟩
abbrev main_c_12 : Ref sig .tc := ⟨.hbm, 179, rfl⟩
abbrev main_v45 : Ref sig .tc := ⟨.hbm, 180, rfl⟩
abbrev main_v46 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_v53 : Ref sig .tc := ⟨.hbm, 188, rfl⟩
abbrev main_v54 : Ref sig .tc := ⟨.hbm, 189, rfl⟩
abbrev main_v55 : Ref sig .tc := ⟨.hbm, 190, rfl⟩
abbrev main_c_13 : Ref sig .tc := ⟨.hbm, 191, rfl⟩
abbrev main_call8_v0 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v60 : Ref sig .tc := ⟨.hbm, 196, rfl⟩
abbrev main_v61 : Ref sig .tc := ⟨.hbm, 197, rfl⟩
abbrev main_v62 : Ref sig .tc := ⟨.hbm, 198, rfl⟩
abbrev main_v63 : Ref sig .tc := ⟨.hbm, 199, rfl⟩
abbrev main_v64 : Ref sig .tc := ⟨.hbm, 200, rfl⟩
abbrev main_v59 : Ref sig .tc := ⟨.smem, 0, rfl⟩
abbrev main_v29 : Ref sig .tc := ⟨.smem, 1, rfl⟩
abbrev main_v16 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![0], ![true]⟩

abbrev pre0 : Pipeline.Prefetch sig := ⟨3, ![main_v59.idx, main_v29.idx, main_v16.idx], fun | 0 => main_v59.names | 1 => main_v29.names | 2 => main_v16.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def dynb0 (pf : pre0.Contents (Elt F)) : grid0.Bounds := ![(pf 0 fun a => a.elim0).toNat]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v0 : Index := Scalar.indexCast arg0
  ![v0.toNat]

def k0_chk1 (arg0 : BitVec 32) : Prop :=
  (∀ a, (k0_off2 arg0) a + S1.size a ≤ S64.size a)
theorem k0_off2_inb : ∀ (arg0 : BitVec 32) (k0_hw1 : k0_chk1 arg0), ∀ a, (k0_off2 arg0) a + S1.size a ≤ S64.size a := fun arg0 k0_hw1 => k0_hw1

@[reducible] def k0_t1_loop : Scf.Loop 32 :=
  let c0_i32_2 : BitVec 32 := 0#32
  let c11_i32 : BitVec 32 := 11#32
  let v7 : BitVec 32 := Scalar.addi c0_i32_2 c11_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  v26
def k0_off3 (k0_t1 : Fin k0_t1_loop.trips) : Fin 3 → Nat :=
  let c0_17 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v29 : Index := Scalar.indexCast v27
  let c0_18 : Index := 0#32
  ![0, v29.toNat, 0]
def k0_off4 (k0_t1 : Fin k0_t1_loop.trips) : Fin 3 → Nat :=
  let c0_19 : Index := 0#32
  let c0_20 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v35 : Index := Scalar.indexCast v27
  ![0, 0, v35.toNat]
def k0_off5 (k0_t1 : Fin k0_t1_loop.trips) : Fin 3 → Nat :=
  let c0_23 : Index := 0#32
  let c1 : Index := 1#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v58 : Index := Scalar.indexCast v27
  ![0, 1, v58.toNat]
def k0_off6 (k0_t1 : Fin k0_t1_loop.trips) : Fin 3 → Nat :=
  let c0_29 : Index := 0#32
  let c2 : Index := 2#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v81 : Index := Scalar.indexCast v27
  ![0, 2, v81.toNat]
def k0_off7 (k0_t1 : Fin k0_t1_loop.trips) : Fin 3 → Nat :=
  let c0_35 : Index := 0#32
  let c3 : Index := 3#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v104 : Index := Scalar.indexCast v27
  ![0, 3, v104.toNat]
def k0_off8 (k0_t1 : Fin k0_t1_loop.trips) : Fin 3 → Nat :=
  let c0_74 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v230 : Index := Scalar.indexCast v27
  let c128 : Index := 128#32
  ![0, v230.toNat, 128]
def k0_off9 (k0_t1 : Fin k0_t1_loop.trips) : Fin 3 → Nat :=
  let c0_75 : Index := 0#32
  let c4 : Index := 4#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v236 : Index := Scalar.indexCast v27
  ![0, 4, v236.toNat]
def k0_off10 (k0_t1 : Fin k0_t1_loop.trips) : Fin 3 → Nat :=
  let c0_81 : Index := 0#32
  let c5 : Index := 5#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v259 : Index := Scalar.indexCast v27
  ![0, 5, v259.toNat]
def k0_off11 (k0_t1 : Fin k0_t1_loop.trips) : Fin 3 → Nat :=
  let c0_87 : Index := 0#32
  let c6 : Index := 6#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v282 : Index := Scalar.indexCast v27
  ![0, 6, v282.toNat]
def k0_off12 (k0_t1 : Fin k0_t1_loop.trips) : Fin 3 → Nat :=
  let c0_93 : Index := 0#32
  let c7 : Index := 7#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v305 : Index := Scalar.indexCast v27
  ![0, 7, v305.toNat]
def k0_off13 (k0_t1 : Fin k0_t1_loop.trips) : Fin 3 → Nat :=
  let c0_131 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v431 : Index := Scalar.indexCast v27
  let c256_132 : Index := 256#32
  ![0, v431.toNat, 256]
def k0_off14 (k0_t1 : Fin k0_t1_loop.trips) : Fin 3 → Nat :=
  let c0_133 : Index := 0#32
  let c8 : Index := 8#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v437 : Index := Scalar.indexCast v27
  ![0, 8, v437.toNat]
def k0_off15 (k0_t1 : Fin k0_t1_loop.trips) : Fin 3 → Nat :=
  let c0_139 : Index := 0#32
  let c9 : Index := 9#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v460 : Index := Scalar.indexCast v27
  ![0, 9, v460.toNat]
def k0_off16 (k0_t1 : Fin k0_t1_loop.trips) : Fin 3 → Nat :=
  let c0_145 : Index := 0#32
  let c10 : Index := 10#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v483 : Index := Scalar.indexCast v27
  ![0, 10, v483.toNat]
def k0_off17 (k0_t1 : Fin k0_t1_loop.trips) : Fin 3 → Nat :=
  let c0_151 : Index := 0#32
  let c11 : Index := 11#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v506 : Index := Scalar.indexCast v27
  ![0, 11, v506.toNat]
def k0_off18 (k0_t1 : Fin k0_t1_loop.trips) : Fin 3 → Nat :=
  let c0_189 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v632 : Index := Scalar.indexCast v27
  let c384 : Index := 384#32
  ![0, v632.toNat, 384]
def k0_off19 (k0_t1 : Fin k0_t1_loop.trips) : Fin 3 → Nat :=
  let c0_190 : Index := 0#32
  let c12 : Index := 12#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v638 : Index := Scalar.indexCast v27
  ![0, 12, v638.toNat]
def k0_off20 (k0_t1 : Fin k0_t1_loop.trips) : Fin 3 → Nat :=
  let c0_196 : Index := 0#32
  let c13 : Index := 13#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v661 : Index := Scalar.indexCast v27
  ![0, 13, v661.toNat]
def k0_off21 (k0_t1 : Fin k0_t1_loop.trips) : Fin 3 → Nat :=
  let c0_202 : Index := 0#32
  let c14 : Index := 14#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v684 : Index := Scalar.indexCast v27
  ![0, 14, v684.toNat]
def k0_off22 (k0_t1 : Fin k0_t1_loop.trips) : Fin 3 → Nat :=
  let c0_208 : Index := 0#32
  let c15 : Index := 15#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v707 : Index := Scalar.indexCast v27
  ![0, 15, v707.toNat]
def k0_off23 (k0_t1 : Fin k0_t1_loop.trips) : Fin 3 → Nat :=
  let c0_246 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v833 : Index := Scalar.indexCast v27
  let c512_247 : Index := 512#32
  ![0, v833.toNat, 512]
def k0_off24 (k0_t1 : Fin k0_t1_loop.trips) : Fin 3 → Nat :=
  let c0_248 : Index := 0#32
  let c16 : Index := 16#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v839 : Index := Scalar.indexCast v27
  ![0, 16, v839.toNat]
def k0_off25 (k0_t1 : Fin k0_t1_loop.trips) : Fin 3 → Nat :=
  let c0_254 : Index := 0#32
  let c17 : Index := 17#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v862 : Index := Scalar.indexCast v27
  ![0, 17, v862.toNat]
def k0_off26 (k0_t1 : Fin k0_t1_loop.trips) : Fin 3 → Nat :=
  let c0_260 : Index := 0#32
  let c18 : Index := 18#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v885 : Index := Scalar.indexCast v27
  ![0, 18, v885.toNat]
def k0_off27 (k0_t1 : Fin k0_t1_loop.trips) : Fin 3 → Nat :=
  let c0_266 : Index := 0#32
  let c19 : Index := 19#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v908 : Index := Scalar.indexCast v27
  ![0, 19, v908.toNat]
def k0_off28 (k0_t1 : Fin k0_t1_loop.trips) : Fin 3 → Nat :=
  let c0_304 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1034 : Index := Scalar.indexCast v27
  let c640 : Index := 640#32
  ![0, v1034.toNat, 640]
def k0_off29 (k0_t1 : Fin k0_t1_loop.trips) : Fin 3 → Nat :=
  let c0_305 : Index := 0#32
  let c20 : Index := 20#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1040 : Index := Scalar.indexCast v27
  ![0, 20, v1040.toNat]
def k0_off30 (k0_t1 : Fin k0_t1_loop.trips) : Fin 3 → Nat :=
  let c0_311 : Index := 0#32
  let c21 : Index := 21#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1063 : Index := Scalar.indexCast v27
  ![0, 21, v1063.toNat]
def k0_off31 (k0_t1 : Fin k0_t1_loop.trips) : Fin 3 → Nat :=
  let c0_317 : Index := 0#32
  let c22 : Index := 22#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1086 : Index := Scalar.indexCast v27
  ![0, 22, v1086.toNat]
def k0_off32 (k0_t1 : Fin k0_t1_loop.trips) : Fin 3 → Nat :=
  let c0_323 : Index := 0#32
  let c23 : Index := 23#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1109 : Index := Scalar.indexCast v27
  ![0, 23, v1109.toNat]
def k0_off33 (k0_t1 : Fin k0_t1_loop.trips) : Fin 3 → Nat :=
  let c0_361 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1235 : Index := Scalar.indexCast v27
  let c768_362 : Index := 768#32
  ![0, v1235.toNat, 768]
def k0_off34 (k0_t1 : Fin k0_t1_loop.trips) : Fin 3 → Nat :=
  let c0_363 : Index := 0#32
  let c24 : Index := 24#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1241 : Index := Scalar.indexCast v27
  ![0, 24, v1241.toNat]
def k0_off35 (k0_t1 : Fin k0_t1_loop.trips) : Fin 3 → Nat :=
  let c0_369 : Index := 0#32
  let c25 : Index := 25#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1264 : Index := Scalar.indexCast v27
  ![0, 25, v1264.toNat]
def k0_off36 (k0_t1 : Fin k0_t1_loop.trips) : Fin 3 → Nat :=
  let c0_375 : Index := 0#32
  let c26 : Index := 26#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1287 : Index := Scalar.indexCast v27
  ![0, 26, v1287.toNat]
def k0_off37 (k0_t1 : Fin k0_t1_loop.trips) : Fin 3 → Nat :=
  let c0_381 : Index := 0#32
  let c27 : Index := 27#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1310 : Index := Scalar.indexCast v27
  ![0, 27, v1310.toNat]
def k0_off38 (k0_t1 : Fin k0_t1_loop.trips) : Fin 3 → Nat :=
  let c0_419 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1436 : Index := Scalar.indexCast v27
  let c896 : Index := 896#32
  ![0, v1436.toNat, 896]
def k0_off39 (k0_t1 : Fin k0_t1_loop.trips) : Fin 3 → Nat :=
  let c0_420 : Index := 0#32
  let c28 : Index := 28#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1442 : Index := Scalar.indexCast v27
  ![0, 28, v1442.toNat]
def k0_off40 (k0_t1 : Fin k0_t1_loop.trips) : Fin 3 → Nat :=
  let c0_426 : Index := 0#32
  let c29 : Index := 29#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1465 : Index := Scalar.indexCast v27
  ![0, 29, v1465.toNat]
def k0_off41 (k0_t1 : Fin k0_t1_loop.trips) : Fin 3 → Nat :=
  let c0_432 : Index := 0#32
  let c30 : Index := 30#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1488 : Index := Scalar.indexCast v27
  ![0, 30, v1488.toNat]
def k0_off42 (k0_t1 : Fin k0_t1_loop.trips) : Fin 3 → Nat :=
  let c0_438 : Index := 0#32
  let c31 : Index := 31#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1511 : Index := Scalar.indexCast v27
  ![0, 31, v1511.toNat]
def k0_off43 (k0_t1 : Fin k0_t1_loop.trips) : Fin 2 → Nat :=
  let c0_479 : Index := 0#32
  let c0_i32_2 : BitVec 32 := 0#32
  let c1_i32 : BitVec 32 := 1#32
  let arg17 : BitVec 32 := Scf.iv c0_i32_2 c1_i32 k0_t1
  let c128_i32 : BitVec 32 := 128#32
  let v26 : BitVec 32 := Scalar.muli arg17 c128_i32
  let v27 : BitVec 32 := v26
  let v1647 : Index := Scalar.indexCast v27
  ![0, v1647.toNat]
@[reducible] def k0_t2_loop : Scf.Loop 32 :=
  let c0_i32_9 : BitVec 32 := 0#32
  let c8_i32_10 : BitVec 32 := 8#32
  let v20 : BitVec 32 := Scalar.addi c0_i32_9 c8_i32_10
  let c1_i32_11 : BitVec 32 := 1#32
  ⟨c0_i32_9, v20, c1_i32_11⟩
def k0_mult2 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32 : BitVec 32 := 256#32
  let v26 : BitVec 32 := Scalar.muli arg17 c256_i32
  v26
def k0_mult3 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_17 : BitVec 32 := 256#32
  let v29 : BitVec 32 := Scalar.muli arg17 c256_i32_17
  let c0_i32_18 : BitVec 32 := 0#32
  let v30 : BitVec 32 := Scalar.addi v29 c0_i32_18
  v30
def k0_off44 (k0_t2 : Fin k0_t2_loop.trips) (c0_i32_18 : BitVec 32) : Fin 3 → Nat :=
  let c0_19 : Index := 0#32
  let c0_20 : Index := 0#32
  let c0_i32_9 : BitVec 32 := 0#32
  let c1_i32_11 : BitVec 32 := 1#32
  let arg17 : BitVec 32 := Scf.iv c0_i32_9 c1_i32_11 k0_t2
  let c256_i32_17 : BitVec 32 := 256#32
  let v29 : BitVec 32 := Scalar.muli arg17 c256_i32_17
  let v30 : BitVec 32 := Scalar.addi v29 c0_i32_18
  let v31 : BitVec 32 := v30
  let v32 : Index := Scalar.indexCast v31
  ![0, 0, v32.toNat]
def k0_off45 (k0_t2 : Fin k0_t2_loop.trips) (c0_i32_18 : BitVec 32) : Fin 3 → Nat :=
  let c0_21 : Index := 0#32
  let c0_22 : Index := 0#32
  let c0_i32_9 : BitVec 32 := 0#32
  let c1_i32_11 : BitVec 32 := 1#32
  let arg17 : BitVec 32 := Scf.iv c0_i32_9 c1_i32_11 k0_t2
  let c256_i32_17 : BitVec 32 := 256#32
  let v29 : BitVec 32 := Scalar.muli arg17 c256_i32_17
  let v30 : BitVec 32 := Scalar.addi v29 c0_i32_18
  let v31 : BitVec 32 := v30
  let v36 : Index := Scalar.indexCast v31
  ![0, 0, v36.toNat]
def k0_off46 (k0_t2 : Fin k0_t2_loop.trips) (c0_i32_18 : BitVec 32) : Fin 3 → Nat :=
  let c1 : Index := 1#32
  let c0_25 : Index := 0#32
  let c0_i32_9 : BitVec 32 := 0#32
  let c1_i32_11 : BitVec 32 := 1#32
  let arg17 : BitVec 32 := Scf.iv c0_i32_9 c1_i32_11 k0_t2
  let c256_i32_17 : BitVec 32 := 256#32
  let v29 : BitVec 32 := Scalar.muli arg17 c256_i32_17
  let v30 : BitVec 32 := Scalar.addi v29 c0_i32_18
  let v31 : BitVec 32 := v30
  let v62 : Index := Scalar.indexCast v31
  ![1, 0, v62.toNat]
def k0_mult4 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_31 : BitVec 32 := 256#32
  let v89 : BitVec 32 := Scalar.muli arg17 c256_i32_31
  let c128_i32 : BitVec 32 := 128#32
  let v90 : BitVec 32 := Scalar.addi v89 c128_i32
  v90
def k0_mult5 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_51 : BitVec 32 := 256#32
  let v153 : BitVec 32 := Scalar.muli arg17 c256_i32_51
  let c0_i32_52 : BitVec 32 := 0#32
  let v154 : BitVec 32 := Scalar.addi v153 c0_i32_52
  v154
def k0_off47 (k0_t2 : Fin k0_t2_loop.trips) (c0_i32_52 : BitVec 32) : Fin 3 → Nat :=
  let c0_53 : Index := 0#32
  let c64 : Index := 64#32
  let c0_i32_9 : BitVec 32 := 0#32
  let c1_i32_11 : BitVec 32 := 1#32
  let arg17 : BitVec 32 := Scf.iv c0_i32_9 c1_i32_11 k0_t2
  let c256_i32_51 : BitVec 32 := 256#32
  let v153 : BitVec 32 := Scalar.muli arg17 c256_i32_51
  let v154 : BitVec 32 := Scalar.addi v153 c0_i32_52
  let v155 : BitVec 32 := v154
  let v156 : Index := Scalar.indexCast v155
  ![0, 64, v156.toNat]
def k0_off48 (k0_t2 : Fin k0_t2_loop.trips) (c0_i32_52 : BitVec 32) : Fin 3 → Nat :=
  let c2 : Index := 2#32
  let c0_54 : Index := 0#32
  let c0_i32_9 : BitVec 32 := 0#32
  let c1_i32_11 : BitVec 32 := 1#32
  let arg17 : BitVec 32 := Scf.iv c0_i32_9 c1_i32_11 k0_t2
  let c256_i32_51 : BitVec 32 := 256#32
  let v153 : BitVec 32 := Scalar.muli arg17 c256_i32_51
  let v154 : BitVec 32 := Scalar.addi v153 c0_i32_52
  let v155 : BitVec 32 := v154
  let v160 : Index := Scalar.indexCast v155
  ![2, 0, v160.toNat]
def k0_off49 (k0_t2 : Fin k0_t2_loop.trips) (c0_i32_52 : BitVec 32) : Fin 3 → Nat :=
  let c3 : Index := 3#32
  let c0_60 : Index := 0#32
  let c0_i32_9 : BitVec 32 := 0#32
  let c1_i32_11 : BitVec 32 := 1#32
  let arg17 : BitVec 32 := Scf.iv c0_i32_9 c1_i32_11 k0_t2
  let c256_i32_51 : BitVec 32 := 256#32
  let v153 : BitVec 32 := Scalar.muli arg17 c256_i32_51
  let v154 : BitVec 32 := Scalar.addi v153 c0_i32_52
  let v155 : BitVec 32 := v154
  let v186 : Index := Scalar.indexCast v155
  ![3, 0, v186.toNat]
def k0_mult6 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_66 : BitVec 32 := 256#32
  let v213 : BitVec 32 := Scalar.muli arg17 c256_i32_66
  let c128_i32_67 : BitVec 32 := 128#32
  let v214 : BitVec 32 := Scalar.addi v213 c128_i32_67
  v214
def k0_mult7 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_86 : BitVec 32 := 256#32
  let v277 : BitVec 32 := Scalar.muli arg17 c256_i32_86
  let c0_i32_87 : BitVec 32 := 0#32
  let v278 : BitVec 32 := Scalar.addi v277 c0_i32_87
  v278
def k0_off50 (k0_t2 : Fin k0_t2_loop.trips) (c0_i32_87 : BitVec 32) : Fin 3 → Nat :=
  let c0_88 : Index := 0#32
  let c128_89 : Index := 128#32
  let c0_i32_9 : BitVec 32 := 0#32
  let c1_i32_11 : BitVec 32 := 1#32
  let arg17 : BitVec 32 := Scf.iv c0_i32_9 c1_i32_11 k0_t2
  let c256_i32_86 : BitVec 32 := 256#32
  let v277 : BitVec 32 := Scalar.muli arg17 c256_i32_86
  let v278 : BitVec 32 := Scalar.addi v277 c0_i32_87
  let v279 : BitVec 32 := v278
  let v280 : Index := Scalar.indexCast v279
  ![0, 128, v280.toNat]
def k0_off51 (k0_t2 : Fin k0_t2_loop.trips) (c0_i32_87 : BitVec 32) : Fin 3 → Nat :=
  let c4 : Index := 4#32
  let c0_90 : Index := 0#32
  let c0_i32_9 : BitVec 32 := 0#32
  let c1_i32_11 : BitVec 32 := 1#32
  let arg17 : BitVec 32 := Scf.iv c0_i32_9 c1_i32_11 k0_t2
  let c256_i32_86 : BitVec 32 := 256#32
  let v277 : BitVec 32 := Scalar.muli arg17 c256_i32_86
  let v278 : BitVec 32 := Scalar.addi v277 c0_i32_87
  let v279 : BitVec 32 := v278
  let v284 : Index := Scalar.indexCast v279
  ![4, 0, v284.toNat]
def k0_off52 (k0_t2 : Fin k0_t2_loop.trips) (c0_i32_87 : BitVec 32) : Fin 3 → Nat :=
  let c5 : Index := 5#32
  let c0_96 : Index := 0#32
  let c0_i32_9 : BitVec 32 := 0#32
  let c1_i32_11 : BitVec 32 := 1#32
  let arg17 : BitVec 32 := Scf.iv c0_i32_9 c1_i32_11 k0_t2
  let c256_i32_86 : BitVec 32 := 256#32
  let v277 : BitVec 32 := Scalar.muli arg17 c256_i32_86
  let v278 : BitVec 32 := Scalar.addi v277 c0_i32_87
  let v279 : BitVec 32 := v278
  let v310 : Index := Scalar.indexCast v279
  ![5, 0, v310.toNat]
def k0_mult8 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_102 : BitVec 32 := 256#32
  let v337 : BitVec 32 := Scalar.muli arg17 c256_i32_102
  let c128_i32_103 : BitVec 32 := 128#32
  let v338 : BitVec 32 := Scalar.addi v337 c128_i32_103
  v338
def k0_mult9 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_122 : BitVec 32 := 256#32
  let v401 : BitVec 32 := Scalar.muli arg17 c256_i32_122
  let c0_i32_123 : BitVec 32 := 0#32
  let v402 : BitVec 32 := Scalar.addi v401 c0_i32_123
  v402
def k0_off53 (k0_t2 : Fin k0_t2_loop.trips) (c0_i32_123 : BitVec 32) : Fin 3 → Nat :=
  let c0_124 : Index := 0#32
  let c192 : Index := 192#32
  let c0_i32_9 : BitVec 32 := 0#32
  let c1_i32_11 : BitVec 32 := 1#32
  let arg17 : BitVec 32 := Scf.iv c0_i32_9 c1_i32_11 k0_t2
  let c256_i32_122 : BitVec 32 := 256#32
  let v401 : BitVec 32 := Scalar.muli arg17 c256_i32_122
  let v402 : BitVec 32 := Scalar.addi v401 c0_i32_123
  let v403 : BitVec 32 := v402
  let v404 : Index := Scalar.indexCast v403
  ![0, 192, v404.toNat]
def k0_off54 (k0_t2 : Fin k0_t2_loop.trips) (c0_i32_123 : BitVec 32) : Fin 3 → Nat :=
  let c6 : Index := 6#32
  let c0_125 : Index := 0#32
  let c0_i32_9 : BitVec 32 := 0#32
  let c1_i32_11 : BitVec 32 := 1#32
  let arg17 : BitVec 32 := Scf.iv c0_i32_9 c1_i32_11 k0_t2
  let c256_i32_122 : BitVec 32 := 256#32
  let v401 : BitVec 32 := Scalar.muli arg17 c256_i32_122
  let v402 : BitVec 32 := Scalar.addi v401 c0_i32_123
  let v403 : BitVec 32 := v402
  let v408 : Index := Scalar.indexCast v403
  ![6, 0, v408.toNat]
def k0_off55 (k0_t2 : Fin k0_t2_loop.trips) (c0_i32_123 : BitVec 32) : Fin 3 → Nat :=
  let c7 : Index := 7#32
  let c0_131 : Index := 0#32
  let c0_i32_9 : BitVec 32 := 0#32
  let c1_i32_11 : BitVec 32 := 1#32
  let arg17 : BitVec 32 := Scf.iv c0_i32_9 c1_i32_11 k0_t2
  let c256_i32_122 : BitVec 32 := 256#32
  let v401 : BitVec 32 := Scalar.muli arg17 c256_i32_122
  let v402 : BitVec 32 := Scalar.addi v401 c0_i32_123
  let v403 : BitVec 32 := v402
  let v434 : Index := Scalar.indexCast v403
  ![7, 0, v434.toNat]
def k0_mult10 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_137 : BitVec 32 := 256#32
  let v461 : BitVec 32 := Scalar.muli arg17 c256_i32_137
  let c128_i32_138 : BitVec 32 := 128#32
  let v462 : BitVec 32 := Scalar.addi v461 c128_i32_138
  v462
def k0_mult11 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_157 : BitVec 32 := 256#32
  let v525 : BitVec 32 := Scalar.muli arg17 c256_i32_157
  let c0_i32_158 : BitVec 32 := 0#32
  let v526 : BitVec 32 := Scalar.addi v525 c0_i32_158
  v526
def k0_off56 (k0_t2 : Fin k0_t2_loop.trips) (c0_i32_158 : BitVec 32) : Fin 3 → Nat :=
  let c0_159 : Index := 0#32
  let c256_160 : Index := 256#32
  let c0_i32_9 : BitVec 32 := 0#32
  let c1_i32_11 : BitVec 32 := 1#32
  let arg17 : BitVec 32 := Scf.iv c0_i32_9 c1_i32_11 k0_t2
  let c256_i32_157 : BitVec 32 := 256#32
  let v525 : BitVec 32 := Scalar.muli arg17 c256_i32_157
  let v526 : BitVec 32 := Scalar.addi v525 c0_i32_158
  let v527 : BitVec 32 := v526
  let v528 : Index := Scalar.indexCast v527
  ![0, 256, v528.toNat]
def k0_off57 (k0_t2 : Fin k0_t2_loop.trips) (c0_i32_158 : BitVec 32) : Fin 3 → Nat :=
  let c8 : Index := 8#32
  let c0_161 : Index := 0#32
  let c0_i32_9 : BitVec 32 := 0#32
  let c1_i32_11 : BitVec 32 := 1#32
  let arg17 : BitVec 32 := Scf.iv c0_i32_9 c1_i32_11 k0_t2
  let c256_i32_157 : BitVec 32 := 256#32
  let v525 : BitVec 32 := Scalar.muli arg17 c256_i32_157
  let v526 : BitVec 32 := Scalar.addi v525 c0_i32_158
  let v527 : BitVec 32 := v526
  let v532 : Index := Scalar.indexCast v527
  ![8, 0, v532.toNat]
def k0_off58 (k0_t2 : Fin k0_t2_loop.trips) (c0_i32_158 : BitVec 32) : Fin 3 → Nat :=
  let c9 : Index := 9#32
  let c0_167 : Index := 0#32
  let c0_i32_9 : BitVec 32 := 0#32
  let c1_i32_11 : BitVec 32 := 1#32
  let arg17 : BitVec 32 := Scf.iv c0_i32_9 c1_i32_11 k0_t2
  let c256_i32_157 : BitVec 32 := 256#32
  let v525 : BitVec 32 := Scalar.muli arg17 c256_i32_157
  let v526 : BitVec 32 := Scalar.addi v525 c0_i32_158
  let v527 : BitVec 32 := v526
  let v558 : Index := Scalar.indexCast v527
  ![9, 0, v558.toNat]
def k0_mult12 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_173 : BitVec 32 := 256#32
  let v585 : BitVec 32 := Scalar.muli arg17 c256_i32_173
  let c128_i32_174 : BitVec 32 := 128#32
  let v586 : BitVec 32 := Scalar.addi v585 c128_i32_174
  v586
def k0_mult13 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_193 : BitVec 32 := 256#32
  let v649 : BitVec 32 := Scalar.muli arg17 c256_i32_193
  let c0_i32_194 : BitVec 32 := 0#32
  let v650 : BitVec 32 := Scalar.addi v649 c0_i32_194
  v650
def k0_off59 (k0_t2 : Fin k0_t2_loop.trips) (c0_i32_194 : BitVec 32) : Fin 3 → Nat :=
  let c0_195 : Index := 0#32
  let c320 : Index := 320#32
  let c0_i32_9 : BitVec 32 := 0#32
  let c1_i32_11 : BitVec 32 := 1#32
  let arg17 : BitVec 32 := Scf.iv c0_i32_9 c1_i32_11 k0_t2
  let c256_i32_193 : BitVec 32 := 256#32
  let v649 : BitVec 32 := Scalar.muli arg17 c256_i32_193
  let v650 : BitVec 32 := Scalar.addi v649 c0_i32_194
  let v651 : BitVec 32 := v650
  let v652 : Index := Scalar.indexCast v651
  ![0, 320, v652.toNat]
def k0_off60 (k0_t2 : Fin k0_t2_loop.trips) (c0_i32_194 : BitVec 32) : Fin 3 → Nat :=
  let c10 : Index := 10#32
  let c0_196 : Index := 0#32
  let c0_i32_9 : BitVec 32 := 0#32
  let c1_i32_11 : BitVec 32 := 1#32
  let arg17 : BitVec 32 := Scf.iv c0_i32_9 c1_i32_11 k0_t2
  let c256_i32_193 : BitVec 32 := 256#32
  let v649 : BitVec 32 := Scalar.muli arg17 c256_i32_193
  let v650 : BitVec 32 := Scalar.addi v649 c0_i32_194
  let v651 : BitVec 32 := v650
  let v656 : Index := Scalar.indexCast v651
  ![10, 0, v656.toNat]
def k0_off61 (k0_t2 : Fin k0_t2_loop.trips) (c0_i32_194 : BitVec 32) : Fin 3 → Nat :=
  let c11 : Index := 11#32
  let c0_202 : Index := 0#32
  let c0_i32_9 : BitVec 32 := 0#32
  let c1_i32_11 : BitVec 32 := 1#32
  let arg17 : BitVec 32 := Scf.iv c0_i32_9 c1_i32_11 k0_t2
  let c256_i32_193 : BitVec 32 := 256#32
  let v649 : BitVec 32 := Scalar.muli arg17 c256_i32_193
  let v650 : BitVec 32 := Scalar.addi v649 c0_i32_194
  let v651 : BitVec 32 := v650
  let v682 : Index := Scalar.indexCast v651
  ![11, 0, v682.toNat]
def k0_mult14 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_208 : BitVec 32 := 256#32
  let v709 : BitVec 32 := Scalar.muli arg17 c256_i32_208
  let c128_i32_209 : BitVec 32 := 128#32
  let v710 : BitVec 32 := Scalar.addi v709 c128_i32_209
  v710
def k0_mult15 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_228 : BitVec 32 := 256#32
  let v773 : BitVec 32 := Scalar.muli arg17 c256_i32_228
  let c0_i32_229 : BitVec 32 := 0#32
  let v774 : BitVec 32 := Scalar.addi v773 c0_i32_229
  v774
def k0_off62 (k0_t2 : Fin k0_t2_loop.trips) (c0_i32_229 : BitVec 32) : Fin 3 → Nat :=
  let c0_230 : Index := 0#32
  let c384_231 : Index := 384#32
  let c0_i32_9 : BitVec 32 := 0#32
  let c1_i32_11 : BitVec 32 := 1#32
  let arg17 : BitVec 32 := Scf.iv c0_i32_9 c1_i32_11 k0_t2
  let c256_i32_228 : BitVec 32 := 256#32
  let v773 : BitVec 32 := Scalar.muli arg17 c256_i32_228
  let v774 : BitVec 32 := Scalar.addi v773 c0_i32_229
  let v775 : BitVec 32 := v774
  let v776 : Index := Scalar.indexCast v775
  ![0, 384, v776.toNat]
def k0_off63 (k0_t2 : Fin k0_t2_loop.trips) (c0_i32_229 : BitVec 32) : Fin 3 → Nat :=
  let c12 : Index := 12#32
  let c0_232 : Index := 0#32
  let c0_i32_9 : BitVec 32 := 0#32
  let c1_i32_11 : BitVec 32 := 1#32
  let arg17 : BitVec 32 := Scf.iv c0_i32_9 c1_i32_11 k0_t2
  let c256_i32_228 : BitVec 32 := 256#32
  let v773 : BitVec 32 := Scalar.muli arg17 c256_i32_228
  let v774 : BitVec 32 := Scalar.addi v773 c0_i32_229
  let v775 : BitVec 32 := v774
  let v780 : Index := Scalar.indexCast v775
  ![12, 0, v780.toNat]
def k0_off64 (k0_t2 : Fin k0_t2_loop.trips) (c0_i32_229 : BitVec 32) : Fin 3 → Nat :=
  let c13 : Index := 13#32
  let c0_238 : Index := 0#32
  let c0_i32_9 : BitVec 32 := 0#32
  let c1_i32_11 : BitVec 32 := 1#32
  let arg17 : BitVec 32 := Scf.iv c0_i32_9 c1_i32_11 k0_t2
  let c256_i32_228 : BitVec 32 := 256#32
  let v773 : BitVec 32 := Scalar.muli arg17 c256_i32_228
  let v774 : BitVec 32 := Scalar.addi v773 c0_i32_229
  let v775 : BitVec 32 := v774
  let v806 : Index := Scalar.indexCast v775
  ![13, 0, v806.toNat]
def k0_mult16 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_244 : BitVec 32 := 256#32
  let v833 : BitVec 32 := Scalar.muli arg17 c256_i32_244
  let c128_i32_245 : BitVec 32 := 128#32
  let v834 : BitVec 32 := Scalar.addi v833 c128_i32_245
  v834
def k0_mult17 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_264 : BitVec 32 := 256#32
  let v897 : BitVec 32 := Scalar.muli arg17 c256_i32_264
  let c0_i32_265 : BitVec 32 := 0#32
  let v898 : BitVec 32 := Scalar.addi v897 c0_i32_265
  v898
def k0_off65 (k0_t2 : Fin k0_t2_loop.trips) (c0_i32_265 : BitVec 32) : Fin 3 → Nat :=
  let c0_266 : Index := 0#32
  let c448 : Index := 448#32
  let c0_i32_9 : BitVec 32 := 0#32
  let c1_i32_11 : BitVec 32 := 1#32
  let arg17 : BitVec 32 := Scf.iv c0_i32_9 c1_i32_11 k0_t2
  let c256_i32_264 : BitVec 32 := 256#32
  let v897 : BitVec 32 := Scalar.muli arg17 c256_i32_264
  let v898 : BitVec 32 := Scalar.addi v897 c0_i32_265
  let v899 : BitVec 32 := v898
  let v900 : Index := Scalar.indexCast v899
  ![0, 448, v900.toNat]
def k0_off66 (k0_t2 : Fin k0_t2_loop.trips) (c0_i32_265 : BitVec 32) : Fin 3 → Nat :=
  let c14 : Index := 14#32
  let c0_267 : Index := 0#32
  let c0_i32_9 : BitVec 32 := 0#32
  let c1_i32_11 : BitVec 32 := 1#32
  let arg17 : BitVec 32 := Scf.iv c0_i32_9 c1_i32_11 k0_t2
  let c256_i32_264 : BitVec 32 := 256#32
  let v897 : BitVec 32 := Scalar.muli arg17 c256_i32_264
  let v898 : BitVec 32 := Scalar.addi v897 c0_i32_265
  let v899 : BitVec 32 := v898
  let v904 : Index := Scalar.indexCast v899
  ![14, 0, v904.toNat]
def k0_off67 (k0_t2 : Fin k0_t2_loop.trips) (c0_i32_265 : BitVec 32) : Fin 3 → Nat :=
  let c15 : Index := 15#32
  let c0_273 : Index := 0#32
  let c0_i32_9 : BitVec 32 := 0#32
  let c1_i32_11 : BitVec 32 := 1#32
  let arg17 : BitVec 32 := Scf.iv c0_i32_9 c1_i32_11 k0_t2
  let c256_i32_264 : BitVec 32 := 256#32
  let v897 : BitVec 32 := Scalar.muli arg17 c256_i32_264
  let v898 : BitVec 32 := Scalar.addi v897 c0_i32_265
  let v899 : BitVec 32 := v898
  let v930 : Index := Scalar.indexCast v899
  ![15, 0, v930.toNat]
def k0_mult18 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_279 : BitVec 32 := 256#32
  let v957 : BitVec 32 := Scalar.muli arg17 c256_i32_279
  let c128_i32_280 : BitVec 32 := 128#32
  let v958 : BitVec 32 := Scalar.addi v957 c128_i32_280
  v958
def k0_mult19 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_299 : BitVec 32 := 256#32
  let v1021 : BitVec 32 := Scalar.muli arg17 c256_i32_299
  let c0_i32_300 : BitVec 32 := 0#32
  let v1022 : BitVec 32 := Scalar.addi v1021 c0_i32_300
  v1022
def k0_off68 (k0_t2 : Fin k0_t2_loop.trips) (c0_i32_300 : BitVec 32) : Fin 3 → Nat :=
  let c0_301 : Index := 0#32
  let c512_302 : Index := 512#32
  let c0_i32_9 : BitVec 32 := 0#32
  let c1_i32_11 : BitVec 32 := 1#32
  let arg17 : BitVec 32 := Scf.iv c0_i32_9 c1_i32_11 k0_t2
  let c256_i32_299 : BitVec 32 := 256#32
  let v1021 : BitVec 32 := Scalar.muli arg17 c256_i32_299
  let v1022 : BitVec 32 := Scalar.addi v1021 c0_i32_300
  let v1023 : BitVec 32 := v1022
  let v1024 : Index := Scalar.indexCast v1023
  ![0, 512, v1024.toNat]
def k0_off69 (k0_t2 : Fin k0_t2_loop.trips) (c0_i32_300 : BitVec 32) : Fin 3 → Nat :=
  let c16 : Index := 16#32
  let c0_303 : Index := 0#32
  let c0_i32_9 : BitVec 32 := 0#32
  let c1_i32_11 : BitVec 32 := 1#32
  let arg17 : BitVec 32 := Scf.iv c0_i32_9 c1_i32_11 k0_t2
  let c256_i32_299 : BitVec 32 := 256#32
  let v1021 : BitVec 32 := Scalar.muli arg17 c256_i32_299
  let v1022 : BitVec 32 := Scalar.addi v1021 c0_i32_300
  let v1023 : BitVec 32 := v1022
  let v1028 : Index := Scalar.indexCast v1023
  ![16, 0, v1028.toNat]
def k0_off70 (k0_t2 : Fin k0_t2_loop.trips) (c0_i32_300 : BitVec 32) : Fin 3 → Nat :=
  let c17 : Index := 17#32
  let c0_309 : Index := 0#32
  let c0_i32_9 : BitVec 32 := 0#32
  let c1_i32_11 : BitVec 32 := 1#32
  let arg17 : BitVec 32 := Scf.iv c0_i32_9 c1_i32_11 k0_t2
  let c256_i32_299 : BitVec 32 := 256#32
  let v1021 : BitVec 32 := Scalar.muli arg17 c256_i32_299
  let v1022 : BitVec 32 := Scalar.addi v1021 c0_i32_300
  let v1023 : BitVec 32 := v1022
  let v1054 : Index := Scalar.indexCast v1023
  ![17, 0, v1054.toNat]
def k0_mult20 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_315 : BitVec 32 := 256#32
  let v1081 : BitVec 32 := Scalar.muli arg17 c256_i32_315
  let c128_i32_316 : BitVec 32 := 128#32
  let v1082 : BitVec 32 := Scalar.addi v1081 c128_i32_316
  v1082
def k0_mult21 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_335 : BitVec 32 := 256#32
  let v1145 : BitVec 32 := Scalar.muli arg17 c256_i32_335
  let c0_i32_336 : BitVec 32 := 0#32
  let v1146 : BitVec 32 := Scalar.addi v1145 c0_i32_336
  v1146
def k0_off71 (k0_t2 : Fin k0_t2_loop.trips) (c0_i32_336 : BitVec 32) : Fin 3 → Nat :=
  let c0_337 : Index := 0#32
  let c576 : Index := 576#32
  let c0_i32_9 : BitVec 32 := 0#32
  let c1_i32_11 : BitVec 32 := 1#32
  let arg17 : BitVec 32 := Scf.iv c0_i32_9 c1_i32_11 k0_t2
  let c256_i32_335 : BitVec 32 := 256#32
  let v1145 : BitVec 32 := Scalar.muli arg17 c256_i32_335
  let v1146 : BitVec 32 := Scalar.addi v1145 c0_i32_336
  let v1147 : BitVec 32 := v1146
  let v1148 : Index := Scalar.indexCast v1147
  ![0, 576, v1148.toNat]
def k0_off72 (k0_t2 : Fin k0_t2_loop.trips) (c0_i32_336 : BitVec 32) : Fin 3 → Nat :=
  let c18 : Index := 18#32
  let c0_338 : Index := 0#32
  let c0_i32_9 : BitVec 32 := 0#32
  let c1_i32_11 : BitVec 32 := 1#32
  let arg17 : BitVec 32 := Scf.iv c0_i32_9 c1_i32_11 k0_t2
  let c256_i32_335 : BitVec 32 := 256#32
  let v1145 : BitVec 32 := Scalar.muli arg17 c256_i32_335
  let v1146 : BitVec 32 := Scalar.addi v1145 c0_i32_336
  let v1147 : BitVec 32 := v1146
  let v1152 : Index := Scalar.indexCast v1147
  ![18, 0, v1152.toNat]
def k0_off73 (k0_t2 : Fin k0_t2_loop.trips) (c0_i32_336 : BitVec 32) : Fin 3 → Nat :=
  let c19 : Index := 19#32
  let c0_344 : Index := 0#32
  let c0_i32_9 : BitVec 32 := 0#32
  let c1_i32_11 : BitVec 32 := 1#32
  let arg17 : BitVec 32 := Scf.iv c0_i32_9 c1_i32_11 k0_t2
  let c256_i32_335 : BitVec 32 := 256#32
  let v1145 : BitVec 32 := Scalar.muli arg17 c256_i32_335
  let v1146 : BitVec 32 := Scalar.addi v1145 c0_i32_336
  let v1147 : BitVec 32 := v1146
  let v1178 : Index := Scalar.indexCast v1147
  ![19, 0, v1178.toNat]
def k0_mult22 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_350 : BitVec 32 := 256#32
  let v1205 : BitVec 32 := Scalar.muli arg17 c256_i32_350
  let c128_i32_351 : BitVec 32 := 128#32
  let v1206 : BitVec 32 := Scalar.addi v1205 c128_i32_351
  v1206
def k0_mult23 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_370 : BitVec 32 := 256#32
  let v1269 : BitVec 32 := Scalar.muli arg17 c256_i32_370
  let c0_i32_371 : BitVec 32 := 0#32
  let v1270 : BitVec 32 := Scalar.addi v1269 c0_i32_371
  v1270
def k0_off74 (k0_t2 : Fin k0_t2_loop.trips) (c0_i32_371 : BitVec 32) : Fin 3 → Nat :=
  let c0_372 : Index := 0#32
  let c640_373 : Index := 640#32
  let c0_i32_9 : BitVec 32 := 0#32
  let c1_i32_11 : BitVec 32 := 1#32
  let arg17 : BitVec 32 := Scf.iv c0_i32_9 c1_i32_11 k0_t2
  let c256_i32_370 : BitVec 32 := 256#32
  let v1269 : BitVec 32 := Scalar.muli arg17 c256_i32_370
  let v1270 : BitVec 32 := Scalar.addi v1269 c0_i32_371
  let v1271 : BitVec 32 := v1270
  let v1272 : Index := Scalar.indexCast v1271
  ![0, 640, v1272.toNat]
def k0_off75 (k0_t2 : Fin k0_t2_loop.trips) (c0_i32_371 : BitVec 32) : Fin 3 → Nat :=
  let c20 : Index := 20#32
  let c0_374 : Index := 0#32
  let c0_i32_9 : BitVec 32 := 0#32
  let c1_i32_11 : BitVec 32 := 1#32
  let arg17 : BitVec 32 := Scf.iv c0_i32_9 c1_i32_11 k0_t2
  let c256_i32_370 : BitVec 32 := 256#32
  let v1269 : BitVec 32 := Scalar.muli arg17 c256_i32_370
  let v1270 : BitVec 32 := Scalar.addi v1269 c0_i32_371
  let v1271 : BitVec 32 := v1270
  let v1276 : Index := Scalar.indexCast v1271
  ![20, 0, v1276.toNat]
def k0_off76 (k0_t2 : Fin k0_t2_loop.trips) (c0_i32_371 : BitVec 32) : Fin 3 → Nat :=
  let c21 : Index := 21#32
  let c0_380 : Index := 0#32
  let c0_i32_9 : BitVec 32 := 0#32
  let c1_i32_11 : BitVec 32 := 1#32
  let arg17 : BitVec 32 := Scf.iv c0_i32_9 c1_i32_11 k0_t2
  let c256_i32_370 : BitVec 32 := 256#32
  let v1269 : BitVec 32 := Scalar.muli arg17 c256_i32_370
  let v1270 : BitVec 32 := Scalar.addi v1269 c0_i32_371
  let v1271 : BitVec 32 := v1270
  let v1302 : Index := Scalar.indexCast v1271
  ![21, 0, v1302.toNat]
def k0_mult24 (k0_t2 : Fin k0_t2_loop.trips) : BitVec 32 :=
  let c0_i32_9 : BitVec 32 := 0#32
  let c1_i32_11 : BitVec 32 := 1#32
  let arg17 : BitVec 32 := Scf.iv c0_i32_9 c1_i32_11 k0_t2
  let c256_i32_386 : BitVec 32 := 256#32
  let v1329 : BitVec 32 := Scalar.muli arg17 c256_i32_386
  let c128_i32_387 : BitVec 32 := 128#32
  let v1330 : BitVec 32 := Scalar.addi v1329 c128_i32_387
  v1330
def k0_off77 (k0_t2 : Fin k0_t2_loop.trips) : Fin 2 → Nat :=
  let c0_406 : Index := 0#32
  let c0_i32_9 : BitVec 32 := 0#32
  let c1_i32_11 : BitVec 32 := 1#32
  let arg17 : BitVec 32 := Scf.iv c0_i32_9 c1_i32_11 k0_t2
  let c256_i32 : BitVec 32 := 256#32
  let v26 : BitVec 32 := Scalar.muli arg17 c256_i32
  let v27 : BitVec 32 := v26
  let v1393 : Index := Scalar.indexCast v27
  ![0, v1393.toNat]
def k0_cond2 (arg0 : BitVec 32) (v21 : BitVec 32) : BitVec 1 :=
  let c1_i32_14 : BitVec 32 := 1#32
  let v22 : BitVec 32 := Scalar.subi v21 c1_i32_14
  let v23 : BitVec 1 := Scalar.cmpi .eq arg0 v22
  let v24 : BitVec 32 := Scalar.extui v23
  let c0_i32_15 : BitVec 32 := 0#32
  let v25 : BitVec 1 := Scalar.cmpi .ne v24 c0_i32_15
  v25

def cc0_transform_0 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_6 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_7 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_8 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_9 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_10 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![c0_i32_4.toNat, v18.toNat, c0_i32_5.toNat]

def cc0_transform_11 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1408x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1408x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x704x2048 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S22x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S96x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S96x1x2048 : Shape := ⟨3, ![96, 1, 2048]⟩
abbrev S96x1x6 : Shape := ⟨3, ![96, 1, 6]⟩
abbrev S64x1408x1024 : Shape := ⟨3, ![64, 1408, 1024]⟩
abbrev S64x1408x32 : Shape := ⟨3, ![64, 1408, 32]⟩
abbrev S64x2048x704 : Shape := ⟨3, ![64, 2048, 704]⟩
abbrev S64x2048x22 : Shape := ⟨3, ![64, 2048, 22]⟩
abbrev S96x2048 : Shape := ⟨2, ![96, 2048]⟩
abbrev S96x6 : Shape := ⟨2, ![96, 6]⟩
abbrev S_ : Shape := ⟨0, ![]⟩
abbrev S64x1408x1024x1 : Shape := ⟨4, ![64, 1408, 1024, 1]⟩
abbrev S64x1408x1024x2 : Shape := ⟨4, ![64, 1408, 1024, 2]⟩
abbrev S64x1408x32x64 : Shape := ⟨4, ![64, 1408, 32, 64]⟩
abbrev S64x1408x32x1 : Shape := ⟨4, ![64, 1408, 32, 1]⟩
abbrev S64x1408x2048 : Shape := ⟨3, ![64, 1408, 2048]⟩
abbrev S96x64x1408 : Shape := ⟨3, ![96, 64, 1408]⟩
abbrev S64x2048x704x1 : Shape := ⟨4, ![64, 2048, 704, 1]⟩
abbrev S64x2048x704x2 : Shape := ⟨4, ![64, 2048, 704, 2]⟩
abbrev S64x2048x22x64 : Shape := ⟨4, ![64, 2048, 22, 64]⟩
abbrev S64x2048x22x1 : Shape := ⟨4, ![64, 2048, 22, 1]⟩
abbrev S64x2048x1408 : Shape := ⟨3, ![64, 2048, 1408]⟩
abbrev S64x2048x96 : Shape := ⟨3, ![64, 2048, 96]⟩
abbrev S96x64x2048 : Shape := ⟨3, ![96, 64, 2048]⟩
abbrev S96x6x1 : Shape := ⟨3, ![96, 6, 1]⟩
abbrev S64 : Shape := ⟨1, ![64]⟩
abbrev S1x1x64 : Shape := ⟨3, ![1, 1, 64]⟩
abbrev S96x6x64 : Shape := ⟨3, ![96, 6, 64]⟩
abbrev S96x6x64x1 : Shape := ⟨4, ![96, 6, 64, 1]⟩
abbrev S96x1x64x2048 : Shape := ⟨4, ![96, 1, 64, 2048]⟩
abbrev S96x6x64x2048 : Shape := ⟨4, ![96, 6, 64, 2048]⟩
abbrev S96x6x2048 : Shape := ⟨3, ![96, 6, 2048]⟩

abbrev nBuf : Space → Nat
  | .hbm => 319
  | .vmem => 0
  | .smem => 0
  | _ => 0

abbrev hbmTy0_0 (i : Nat) : BufTy := match i % 128 with
  | 0 => ⟨S96x1x2048, .bf16⟩
  | 1 => ⟨S96x1x6, .i32⟩
  | 2 => ⟨S96x1x6, .f32⟩
  | 3 => ⟨S64x1408x1024, .i8⟩
  | 4 => ⟨S64x1408x32, .f32⟩
  | 5 => ⟨S64x1408x1024, .i8⟩
  | 6 => ⟨S64x1408x32, .f32⟩
  | 7 => ⟨S64x2048x704, .i8⟩
  | 8 => ⟨S64x2048x22, .f32⟩
  | 9 => ⟨S96x2048, .bf16⟩
  | 10 => ⟨S96x6, .i32⟩
  | 11 => ⟨S96x6, .f32⟩
  | 12 => ⟨S64x1408x1024, .i32⟩
  | 13 => ⟨S_, .i32⟩
  | 14 => ⟨S64x1408x1024, .i32⟩
  | 15 => ⟨S64x1408x1024, .i32⟩
  | 16 => ⟨S_, .i32⟩
  | 17 => ⟨S64x1408x1024, .i32⟩
  | 18 => ⟨S64x1408x1024, .i32⟩
  | 19 => ⟨S_, .i32⟩
  | 20 => ⟨S64x1408x1024, .i32⟩
  | 21 => ⟨S64x1408x1024, .i32⟩
  | 22 => ⟨S64x1408x1024x1, .i32⟩
  | 23 => ⟨S64x1408x1024x1, .i32⟩
  | 24 => ⟨S64x1408x1024x2, .i32⟩
  | 25 => ⟨S64x1408x32x64, .i32⟩
  | 26 => ⟨S_, .i32⟩
  | 27 => ⟨S64x1408x32x64, .i32⟩
  | 28 => ⟨S64x1408x32x64, .i32⟩
  | 29 => ⟨S_, .i32⟩
  | 30 => ⟨S64x1408x32x64, .i32⟩
  | 31 => ⟨S64x1408x32x64, .i1⟩
  | 32 => ⟨S_, .i32⟩
  | 33 => ⟨S64x1408x32x64, .i32⟩
  | 34 => ⟨S64x1408x32x64, .i32⟩
  | 35 => ⟨S_, .i32⟩
  | 36 => ⟨S64x1408x32x64, .i32⟩
  | 37 => ⟨S64x1408x32x64, .i1⟩
  | 38 => ⟨S_, .i32⟩
  | 39 => ⟨S64x1408x32x64, .i32⟩
  | 40 => ⟨S64x1408x32x64, .i32⟩
  | 41 => ⟨S_, .i32⟩
  | 42 => ⟨S64x1408x32x64, .i32⟩
  | 43 => ⟨S64x1408x32x64, .i1⟩
  | 44 => ⟨S_, .i32⟩
  | 45 => ⟨S64x1408x32x64, .i32⟩
  | 46 => ⟨S64x1408x32x64, .i32⟩
  | 47 => ⟨S_, .i32⟩
  | 48 => ⟨S64x1408x32x64, .i32⟩
  | 49 => ⟨S64x1408x32x64, .i1⟩
  | 50 => ⟨S_, .f32⟩
  | 51 => ⟨S_, .f32⟩
  | 52 => ⟨S64x1408x32x64, .f32⟩
  | 53 => ⟨S64x1408x32x64, .f32⟩
  | 54 => ⟨S64x1408x32x64, .f32⟩
  | 55 => ⟨S_, .f32⟩
  | 56 => ⟨S_, .f32⟩
  | 57 => ⟨S64x1408x32x64, .f32⟩
  | 58 => ⟨S64x1408x32x64, .f32⟩
  | 59 => ⟨S64x1408x32x64, .f32⟩
  | 60 => ⟨S64x1408x32x64, .f32⟩
  | 61 => ⟨S_, .f32⟩
  | 62 => ⟨S_, .f32⟩
  | 63 => ⟨S64x1408x32x64, .f32⟩
  | 64 => ⟨S64x1408x32x64, .f32⟩
  | 65 => ⟨S64x1408x32x64, .f32⟩
  | 66 => ⟨S_, .f32⟩
  | 67 => ⟨S_, .f32⟩
  | 68 => ⟨S64x1408x32x64, .f32⟩
  | 69 => ⟨S64x1408x32x64, .f32⟩
  | 70 => ⟨S64x1408x32x64, .f32⟩
  | 71 => ⟨S64x1408x32x64, .f32⟩
  | 72 => ⟨S64x1408x32x64, .f32⟩
  | 73 => ⟨S_, .f32⟩
  | 74 => ⟨S_, .f32⟩
  | 75 => ⟨S64x1408x32x64, .f32⟩
  | 76 => ⟨S64x1408x32x64, .f32⟩
  | 77 => ⟨S64x1408x32x64, .f32⟩
  | 78 => ⟨S_, .f32⟩
  | 79 => ⟨S_, .f32⟩
  | 80 => ⟨S64x1408x32x64, .f32⟩
  | 81 => ⟨S64x1408x32x64, .f32⟩
  | 82 => ⟨S64x1408x32x64, .f32⟩
  | 83 => ⟨S64x1408x32x64, .f32⟩
  | 84 => ⟨S_, .f32⟩
  | 85 => ⟨S_, .f32⟩
  | 86 => ⟨S64x1408x32x64, .f32⟩
  | 87 => ⟨S64x1408x32x64, .f32⟩
  | 88 => ⟨S64x1408x32x64, .f32⟩
  | 89 => ⟨S_, .f32⟩
  | 90 => ⟨S_, .f32⟩
  | 91 => ⟨S64x1408x32x64, .f32⟩
  | 92 => ⟨S64x1408x32x64, .f32⟩
  | 93 => ⟨S64x1408x32x64, .f32⟩
  | 94 => ⟨S64x1408x32x64, .f32⟩
  | 95 => ⟨S64x1408x32x64, .f32⟩
  | 96 => ⟨S64x1408x32x64, .f32⟩
  | 97 => ⟨S64x1408x32x1, .f32⟩
  | 98 => ⟨S64x1408x32x64, .f32⟩
  | 99 => ⟨S64x1408x32x64, .f32⟩
  | 100 => ⟨S64x1408x2048, .f32⟩
  | 101 => ⟨S64x1408x2048, .bf16⟩
  | 102 => ⟨S96x64x1408, .f32⟩
  | 103 => ⟨S64x1408x1024, .i32⟩
  | 104 => ⟨S_, .i32⟩
  | 105 => ⟨S64x1408x1024, .i32⟩
  | 106 => ⟨S64x1408x1024, .i32⟩
  | 107 => ⟨S_, .i32⟩
  | 108 => ⟨S64x1408x1024, .i32⟩
  | 109 => ⟨S64x1408x1024, .i32⟩
  | 110 => ⟨S_, .i32⟩
  | 111 => ⟨S64x1408x1024, .i32⟩
  | 112 => ⟨S64x1408x1024, .i32⟩
  | 113 => ⟨S64x1408x1024x1, .i32⟩
  | 114 => ⟨S64x1408x1024x1, .i32⟩
  | 115 => ⟨S64x1408x1024x2, .i32⟩
  | 116 => ⟨S64x1408x32x64, .i32⟩
  | 117 => ⟨S_, .i32⟩
  | 118 => ⟨S64x1408x32x64, .i32⟩
  | 119 => ⟨S64x1408x32x64, .i32⟩
  | 120 => ⟨S_, .i32⟩
  | 121 => ⟨S64x1408x32x64, .i32⟩
  | 122 => ⟨S64x1408x32x64, .i1⟩
  | 123 => ⟨S_, .i32⟩
  | 124 => ⟨S64x1408x32x64, .i32⟩
  | 125 => ⟨S64x1408x32x64, .i32⟩
  | 126 => ⟨S_, .i32⟩
  | 127 => ⟨S64x1408x32x64, .i32⟩
  | _ => ⟨S96x1x2048, .bf16⟩

abbrev hbmTy0_1 (i : Nat) : BufTy := match i % 128 with
  | 0 => ⟨S64x1408x32x64, .i1⟩
  | 1 => ⟨S_, .i32⟩
  | 2 => ⟨S64x1408x32x64, .i32⟩
  | 3 => ⟨S64x1408x32x64, .i32⟩
  | 4 => ⟨S_, .i32⟩
  | 5 => ⟨S64x1408x32x64, .i32⟩
  | 6 => ⟨S64x1408x32x64, .i1⟩
  | 7 => ⟨S_, .i32⟩
  | 8 => ⟨S64x1408x32x64, .i32⟩
  | 9 => ⟨S64x1408x32x64, .i32⟩
  | 10 => ⟨S_, .i32⟩
  | 11 => ⟨S64x1408x32x64, .i32⟩
  | 12 => ⟨S64x1408x32x64, .i1⟩
  | 13 => ⟨S_, .f32⟩
  | 14 => ⟨S_, .f32⟩
  | 15 => ⟨S64x1408x32x64, .f32⟩
  | 16 => ⟨S64x1408x32x64, .f32⟩
  | 17 => ⟨S64x1408x32x64, .f32⟩
  | 18 => ⟨S_, .f32⟩
  | 19 => ⟨S_, .f32⟩
  | 20 => ⟨S64x1408x32x64, .f32⟩
  | 21 => ⟨S64x1408x32x64, .f32⟩
  | 22 => ⟨S64x1408x32x64, .f32⟩
  | 23 => ⟨S64x1408x32x64, .f32⟩
  | 24 => ⟨S_, .f32⟩
  | 25 => ⟨S_, .f32⟩
  | 26 => ⟨S64x1408x32x64, .f32⟩
  | 27 => ⟨S64x1408x32x64, .f32⟩
  | 28 => ⟨S64x1408x32x64, .f32⟩
  | 29 => ⟨S_, .f32⟩
  | 30 => ⟨S_, .f32⟩
  | 31 => ⟨S64x1408x32x64, .f32⟩
  | 32 => ⟨S64x1408x32x64, .f32⟩
  | 33 => ⟨S64x1408x32x64, .f32⟩
  | 34 => ⟨S64x1408x32x64, .f32⟩
  | 35 => ⟨S64x1408x32x64, .f32⟩
  | 36 => ⟨S_, .f32⟩
  | 37 => ⟨S_, .f32⟩
  | 38 => ⟨S64x1408x32x64, .f32⟩
  | 39 => ⟨S64x1408x32x64, .f32⟩
  | 40 => ⟨S64x1408x32x64, .f32⟩
  | 41 => ⟨S_, .f32⟩
  | 42 => ⟨S_, .f32⟩
  | 43 => ⟨S64x1408x32x64, .f32⟩
  | 44 => ⟨S64x1408x32x64, .f32⟩
  | 45 => ⟨S64x1408x32x64, .f32⟩
  | 46 => ⟨S64x1408x32x64, .f32⟩
  | 47 => ⟨S_, .f32⟩
  | 48 => ⟨S_, .f32⟩
  | 49 => ⟨S64x1408x32x64, .f32⟩
  | 50 => ⟨S64x1408x32x64, .f32⟩
  | 51 => ⟨S64x1408x32x64, .f32⟩
  | 52 => ⟨S_, .f32⟩
  | 53 => ⟨S_, .f32⟩
  | 54 => ⟨S64x1408x32x64, .f32⟩
  | 55 => ⟨S64x1408x32x64, .f32⟩
  | 56 => ⟨S64x1408x32x64, .f32⟩
  | 57 => ⟨S64x1408x32x64, .f32⟩
  | 58 => ⟨S64x1408x32x64, .f32⟩
  | 59 => ⟨S64x1408x32x64, .f32⟩
  | 60 => ⟨S64x1408x32x1, .f32⟩
  | 61 => ⟨S64x1408x32x64, .f32⟩
  | 62 => ⟨S64x1408x32x64, .f32⟩
  | 63 => ⟨S64x1408x2048, .f32⟩
  | 64 => ⟨S64x1408x2048, .bf16⟩
  | 65 => ⟨S96x64x1408, .f32⟩
  | 66 => ⟨S96x64x1408, .f32⟩
  | 67 => ⟨S96x64x1408, .f32⟩
  | 68 => ⟨S_, .f32⟩
  | 69 => ⟨S96x64x1408, .f32⟩
  | 70 => ⟨S96x64x1408, .f32⟩
  | 71 => ⟨S_, .f32⟩
  | 72 => ⟨S96x64x1408, .f32⟩
  | 73 => ⟨S96x64x1408, .f32⟩
  | 74 => ⟨S96x64x1408, .f32⟩
  | 75 => ⟨S96x64x1408, .f32⟩
  | 76 => ⟨S96x64x1408, .bf16⟩
  | 77 => ⟨S64x2048x704, .i32⟩
  | 78 => ⟨S_, .i32⟩
  | 79 => ⟨S64x2048x704, .i32⟩
  | 80 => ⟨S64x2048x704, .i32⟩
  | 81 => ⟨S_, .i32⟩
  | 82 => ⟨S64x2048x704, .i32⟩
  | 83 => ⟨S64x2048x704, .i32⟩
  | 84 => ⟨S_, .i32⟩
  | 85 => ⟨S64x2048x704, .i32⟩
  | 86 => ⟨S64x2048x704, .i32⟩
  | 87 => ⟨S64x2048x704x1, .i32⟩
  | 88 => ⟨S64x2048x704x1, .i32⟩
  | 89 => ⟨S64x2048x704x2, .i32⟩
  | 90 => ⟨S64x2048x22x64, .i32⟩
  | 91 => ⟨S_, .i32⟩
  | 92 => ⟨S64x2048x22x64, .i32⟩
  | 93 => ⟨S64x2048x22x64, .i32⟩
  | 94 => ⟨S_, .i32⟩
  | 95 => ⟨S64x2048x22x64, .i32⟩
  | 96 => ⟨S64x2048x22x64, .i1⟩
  | 97 => ⟨S_, .i32⟩
  | 98 => ⟨S64x2048x22x64, .i32⟩
  | 99 => ⟨S64x2048x22x64, .i32⟩
  | 100 => ⟨S_, .i32⟩
  | 101 => ⟨S64x2048x22x64, .i32⟩
  | 102 => ⟨S64x2048x22x64, .i1⟩
  | 103 => ⟨S_, .i32⟩
  | 104 => ⟨S64x2048x22x64, .i32⟩
  | 105 => ⟨S64x2048x22x64, .i32⟩
  | 106 => ⟨S_, .i32⟩
  | 107 => ⟨S64x2048x22x64, .i32⟩
  | 108 => ⟨S64x2048x22x64, .i1⟩
  | 109 => ⟨S_, .i32⟩
  | 110 => ⟨S64x2048x22x64, .i32⟩
  | 111 => ⟨S64x2048x22x64, .i32⟩
  | 112 => ⟨S_, .i32⟩
  | 113 => ⟨S64x2048x22x64, .i32⟩
  | 114 => ⟨S64x2048x22x64, .i1⟩
  | 115 => ⟨S_, .f32⟩
  | 116 => ⟨S_, .f32⟩
  | 117 => ⟨S64x2048x22x64, .f32⟩
  | 118 => ⟨S64x2048x22x64, .f32⟩
  | 119 => ⟨S64x2048x22x64, .f32⟩
  | 120 => ⟨S_, .f32⟩
  | 121 => ⟨S_, .f32⟩
  | 122 => ⟨S64x2048x22x64, .f32⟩
  | 123 => ⟨S64x2048x22x64, .f32⟩
  | 124 => ⟨S64x2048x22x64, .f32⟩
  | 125 => ⟨S64x2048x22x64, .f32⟩
  | 126 => ⟨S_, .f32⟩
  | 127 => ⟨S_, .f32⟩
  | _ => ⟨S96x1x2048, .bf16⟩

abbrev hbmTy0_2 (i : Nat) : BufTy := match i % 128 with
  | 0 => ⟨S64x2048x22x64, .f32⟩
  | 1 => ⟨S64x2048x22x64, .f32⟩
  | 2 => ⟨S64x2048x22x64, .f32⟩
  | 3 => ⟨S_, .f32⟩
  | 4 => ⟨S_, .f32⟩
  | 5 => ⟨S64x2048x22x64, .f32⟩
  | 6 => ⟨S64x2048x22x64, .f32⟩
  | 7 => ⟨S64x2048x22x64, .f32⟩
  | 8 => ⟨S64x2048x22x64, .f32⟩
  | 9 => ⟨S64x2048x22x64, .f32⟩
  | 10 => ⟨S_, .f32⟩
  | 11 => ⟨S_, .f32⟩
  | 12 => ⟨S64x2048x22x64, .f32⟩
  | 13 => ⟨S64x2048x22x64, .f32⟩
  | 14 => ⟨S64x2048x22x64, .f32⟩
  | 15 => ⟨S_, .f32⟩
  | 16 => ⟨S_, .f32⟩
  | 17 => ⟨S64x2048x22x64, .f32⟩
  | 18 => ⟨S64x2048x22x64, .f32⟩
  | 19 => ⟨S64x2048x22x64, .f32⟩
  | 20 => ⟨S64x2048x22x64, .f32⟩
  | 21 => ⟨S_, .f32⟩
  | 22 => ⟨S_, .f32⟩
  | 23 => ⟨S64x2048x22x64, .f32⟩
  | 24 => ⟨S64x2048x22x64, .f32⟩
  | 25 => ⟨S64x2048x22x64, .f32⟩
  | 26 => ⟨S_, .f32⟩
  | 27 => ⟨S_, .f32⟩
  | 28 => ⟨S64x2048x22x64, .f32⟩
  | 29 => ⟨S64x2048x22x64, .f32⟩
  | 30 => ⟨S64x2048x22x64, .f32⟩
  | 31 => ⟨S64x2048x22x64, .f32⟩
  | 32 => ⟨S64x2048x22x64, .f32⟩
  | 33 => ⟨S64x2048x22x64, .f32⟩
  | 34 => ⟨S64x2048x22x1, .f32⟩
  | 35 => ⟨S64x2048x22x64, .f32⟩
  | 36 => ⟨S64x2048x22x64, .f32⟩
  | 37 => ⟨S64x2048x1408, .f32⟩
  | 38 => ⟨S64x2048x1408, .bf16⟩
  | 39 => ⟨S64x2048x96, .f32⟩
  | 40 => ⟨S96x64x2048, .f32⟩
  | 41 => ⟨S96x6x1, .i32⟩
  | 42 => ⟨S64, .i32⟩
  | 43 => ⟨S1x1x64, .i32⟩
  | 44 => ⟨S96x6x64, .i32⟩
  | 45 => ⟨S96x6x64, .i32⟩
  | 46 => ⟨S96x6x64, .i1⟩
  | 47 => ⟨S96x6x64x1, .i1⟩
  | 48 => ⟨S96x1x64x2048, .f32⟩
  | 49 => ⟨S_, .f32⟩
  | 50 => ⟨S_, .f32⟩
  | 51 => ⟨S96x6x64x2048, .i1⟩
  | 52 => ⟨S96x6x64x2048, .f32⟩
  | 53 => ⟨S96x6x64x2048, .f32⟩
  | 54 => ⟨S96x6x64x2048, .f32⟩
  | 55 => ⟨S_, .f32⟩
  | 56 => ⟨S96x6x2048, .f32⟩
  | 57 => ⟨S96x6x1, .f32⟩
  | 58 => ⟨S96x6x2048, .f32⟩
  | 59 => ⟨S96x6x2048, .f32⟩
  | 60 => ⟨S_, .f32⟩
  | 61 => ⟨S96x2048, .f32⟩
  | 62 => ⟨S96x2048, .bf16⟩
  | _ => ⟨S96x1x2048, .bf16⟩

abbrev hbmTy (i : Nat) : BufTy := match i / 128 with
  | 0 => hbmTy0_0 i
  | 1 => hbmTy0_1 i
  | 2 => hbmTy0_2 i
  | _ => ⟨S96x1x2048, .bf16⟩

abbrev bufTy : (tb : Table) → Fin (tcTables nBuf tb) → BufTy
  | .hbm, ⟨i, _⟩ => hbmTy i
  | _, _ => ⟨S96x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_cst_10 : Ref sig .tc := ⟨.hbm, 51, rfl⟩
abbrev main_call0_v0 : Ref sig .tc := ⟨.hbm, 52, rfl⟩
abbrev main_call0_v1 : Ref sig .tc := ⟨.hbm, 53, rfl⟩
abbrev main_v30 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_v31 : Ref sig .tc := ⟨.hbm, 59, rfl⟩
abbrev main_v32 : Ref sig .tc := ⟨.hbm, 60, rfl⟩
abbrev main_cst_13 : Ref sig .tc := ⟨.hbm, 61, rfl⟩
abbrev main_cst_14 : Ref sig .tc := ⟨.hbm, 62, rfl⟩
abbrev main_call3_v0 : Ref sig .tc := ⟨.hbm, 63, rfl⟩
abbrev main_call3_v1 : Ref sig .tc := ⟨.hbm, 64, rfl⟩
abbrev main_v33 : Ref sig .tc := ⟨.hbm, 65, rfl⟩
abbrev main_cst_15 : Ref sig .tc := ⟨.hbm, 66, rfl⟩
abbrev main_cst_16 : Ref sig .tc := ⟨.hbm, 67, rfl⟩
abbrev main_call4_v0 : Ref sig .tc := ⟨.hbm, 68, rfl⟩
abbrev main_call4_v1 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_17 : Ref sig .tc := ⟨.hbm, 73, rfl⟩
abbrev main_cst_18 : Ref sig .tc := ⟨.hbm, 74, rfl⟩
abbrev main_call7_v0 : Ref sig .tc := ⟨.hbm, 75, rfl⟩
abbrev main_call7_v1 : Ref sig .tc := ⟨.hbm, 76, rfl⟩
abbrev main_v37 : Ref sig .tc := ⟨.hbm, 77, rfl⟩
abbrev main_cst_19 : Ref sig .tc := ⟨.hbm, 78, rfl⟩
abbrev main_cst_20 : Ref sig .tc := ⟨.hbm, 79, rfl⟩
abbrev main_call8_v0 : Ref sig .tc := ⟨.hbm, 80, rfl⟩
abbrev main_call8_v1 : Ref sig .tc := ⟨.hbm, 81, rfl⟩
abbrev main_v38 : Ref sig .tc := ⟨.hbm, 82, rfl⟩
abbrev main_v39 : Ref sig .tc := ⟨.hbm, 83, rfl⟩
abbrev main_cst_21 : Ref sig .tc := ⟨.hbm, 84, rfl⟩
abbrev main_cst_22 : Ref sig .tc := ⟨.hbm, 85, rfl⟩
abbrev main_call10_v0 : Ref sig .tc := ⟨.hbm, 86, rfl⟩
abbrev main_call10_v1 : Ref sig .tc := ⟨.hbm, 87, rfl⟩
abbrev main_v40 : Ref sig .tc := ⟨.hbm, 88, rfl⟩
abbrev main_cst_23 : Ref sig .tc := ⟨.hbm, 89, rfl⟩
abbrev main_cst_24 : Ref sig .tc := ⟨.hbm, 90, rfl⟩
abbrev main_call11_v0 : Ref sig .tc := ⟨.hbm, 91, rfl⟩
abbrev main_call11_v1 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_25 : Ref sig .tc := ⟨.hbm, 104, rfl⟩
abbrev main_v52 : Ref sig .tc := ⟨.hbm, 105, rfl⟩
abbrev main_v53 : Ref sig .tc := ⟨.hbm, 106, rfl⟩
abbrev main_c_26 : Ref sig .tc := ⟨.hbm, 107, rfl⟩
abbrev main_v54 : Ref sig .tc := ⟨.hbm, 108, rfl⟩
abbrev main_v55 : Ref sig .tc := ⟨.hbm, 109, rfl⟩
abbrev main_c_27 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_c_28 : Ref sig .tc := ⟨.hbm, 117, rfl⟩
abbrev main_v62 : Ref sig .tc := ⟨.hbm, 118, rfl⟩
abbrev main_v63 : Ref sig .tc := ⟨.hbm, 119, rfl⟩
abbrev main_c_29 : Ref sig .tc := ⟨.hbm, 120, rfl⟩
abbrev main_v64 : Ref sig .tc := ⟨.hbm, 121, rfl⟩
abbrev main_v65 : Ref sig .tc := ⟨.hbm, 122, rfl⟩
abbrev main_c_30 : Ref sig .tc := ⟨.hbm, 123, rfl⟩
abbrev main_v66 : Ref sig .tc := ⟨.hbm, 124, rfl⟩
abbrev main_v67 : Ref sig .tc := ⟨.hbm, 125, rfl⟩
abbrev main_c_31 : Ref sig .tc := ⟨.hbm, 126, rfl⟩
abbrev main_v68 : Ref sig .tc := ⟨.hbm, 127, rfl⟩
abbrev main_v69 : Ref sig .tc := ⟨.hbm, 128, rfl⟩
abbrev main_c_32 : Ref sig .tc := ⟨.hbm, 129, rfl⟩
abbrev main_v70 : Ref sig .tc := ⟨.hbm, 130, rfl⟩
abbrev main_v71 : Ref sig .tc := ⟨.hbm, 131, rfl⟩
abbrev main_c_33 : Ref sig .tc := ⟨.hbm, 132, rfl⟩
abbrev main_v72 : Ref sig .tc := ⟨.hbm, 133, rfl⟩
abbrev main_v73 : Ref sig .tc := ⟨.hbm, 134, rfl⟩
abbrev main_c_34 : Ref sig .tc := ⟨.hbm, 135, rfl⟩
abbrev main_v74 : Ref sig .tc := ⟨.hbm, 136, rfl⟩
abbrev main_v75 : Ref sig .tc := ⟨.hbm, 137, rfl⟩
abbrev main_c_35 : Ref sig .tc := ⟨.hbm, 138, rfl⟩
abbrev main_v76 : Ref sig .tc := ⟨.hbm, 139, rfl⟩
abbrev main_v77 : Ref sig .tc := ⟨.hbm, 140, rfl⟩
abbrev main_cst_36 : Ref sig .tc := ⟨.hbm, 141, rfl⟩
abbrev main_cst_37 : Ref sig .tc := ⟨.hbm, 142, rfl⟩
abbrev main_call15_v0 : Ref sig .tc := ⟨.hbm, 143, rfl⟩
abbrev main_call15_v1 : Ref sig .tc := ⟨.hbm, 144, rfl⟩
abbrev main_v78 : Ref sig .tc := ⟨.hbm, 145, rfl⟩
abbrev main_cst_38 : Ref sig .tc := ⟨.hbm, 146, rfl⟩
abbrev main_cst_39 : Ref sig .tc := ⟨.hbm, 147, rfl⟩
abbrev main_call16_v0 : Ref sig .tc := ⟨.hbm, 148, rfl⟩
abbrev main_call16_v1 : Ref sig .tc := ⟨.hbm, 149, rfl⟩
abbrev main_v79 : Ref sig .tc := ⟨.hbm, 150, rfl⟩
abbrev main_v80 : Ref sig .tc := ⟨.hbm, 151, rfl⟩
abbrev main_cst_40 : Ref sig .tc := ⟨.hbm, 152, rfl⟩
abbrev main_cst_41 : Ref sig .tc := ⟨.hbm, 153, rfl⟩
abbrev main_call18_v0 : Ref sig .tc := ⟨.hbm, 154, rfl⟩
abbrev main_call18_v1 : Ref sig .tc := ⟨.hbm, 155, rfl⟩
abbrev main_v81 : Ref sig .tc := ⟨.hbm, 156, rfl⟩
abbrev main_cst_42 : Ref sig .tc := ⟨.hbm, 157, rfl⟩
abbrev main_cst_43 : Ref sig .tc := ⟨.hbm, 158, rfl⟩
abbrev main_call19_v0 : Ref sig .tc := ⟨.hbm, 159, rfl⟩
abbrev main_call19_v1 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_44 : Ref sig .tc := ⟨.hbm, 164, rfl⟩
abbrev main_cst_45 : Ref sig .tc := ⟨.hbm, 165, rfl⟩
abbrev main_call22_v0 : Ref sig .tc := ⟨.hbm, 166, rfl⟩
abbrev main_call22_v1 : Ref sig .tc := ⟨.hbm, 167, rfl⟩
abbrev main_v85 : Ref sig .tc := ⟨.hbm, 168, rfl⟩
abbrev main_cst_46 : Ref sig .tc := ⟨.hbm, 169, rfl⟩
abbrev main_cst_47 : Ref sig .tc := ⟨.hbm, 170, rfl⟩
abbrev main_call23_v0 : Ref sig .tc := ⟨.hbm, 171, rfl⟩
abbrev main_call23_v1 : Ref sig .tc := ⟨.hbm, 172, rfl⟩
abbrev main_v86 : Ref sig .tc := ⟨.hbm, 173, rfl⟩
abbrev main_v87 : Ref sig .tc := ⟨.hbm, 174, rfl⟩
abbrev main_cst_48 : Ref sig .tc := ⟨.hbm, 175, rfl⟩
abbrev main_cst_49 : Ref sig .tc := ⟨.hbm, 176, rfl⟩
abbrev main_call25_v0 : Ref sig .tc := ⟨.hbm, 177, rfl⟩
abbrev main_call25_v1 : Ref sig .tc := ⟨.hbm, 178, rfl⟩
abbrev main_v88 : Ref sig .tc := ⟨.hbm, 179, rfl⟩
abbrev main_cst_50 : Ref sig .tc := ⟨.hbm, 180, rfl⟩
abbrev main_cst_51 : Ref sig .tc := ⟨.hbm, 181, rfl⟩
abbrev main_call26_v0 : Ref sig .tc := ⟨.hbm, 182, rfl⟩
abbrev main_call26_v1 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_call30_v0 : Ref sig .tc := ⟨.hbm, 194, rfl⟩
abbrev main_call30_v1 : Ref sig .tc := ⟨.hbm, 195, rfl⟩
abbrev main_call30_cst : Ref sig .tc := ⟨.hbm, 196, rfl⟩
abbrev main_call30_v2 : Ref sig .tc := ⟨.hbm, 197, rfl⟩
abbrev main_call30_v3 : Ref sig .tc := ⟨.hbm, 198, rfl⟩
abbrev main_call30_cst_0 : Ref sig .tc := ⟨.hbm, 199, rfl⟩
abbrev main_call30_v4 : Ref sig .tc := ⟨.hbm, 200, rfl⟩
abbrev main_call30_v5 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_c_52 : Ref sig .tc := ⟨.hbm, 206, rfl⟩
abbrev main_v103 : Ref sig .tc := ⟨.hbm, 207, rfl⟩
abbrev main_v104 : Ref sig .tc := ⟨.hbm, 208, rfl⟩
abbrev main_c_53 : Ref sig .tc := ⟨.hbm, 209, rfl⟩
abbrev main_v105 : Ref sig .tc := ⟨.hbm, 210, rfl⟩
abbrev main_v106 : Ref sig .tc := ⟨.hbm, 211, rfl⟩
abbrev main_c_54 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_c_55 : Ref sig .tc := ⟨.hbm, 219, rfl⟩
abbrev main_v113 : Ref sig .tc := ⟨.hbm, 220, rfl⟩
abbrev main_v114 : Ref sig .tc := ⟨.hbm, 221, rfl⟩
abbrev main_c_56 : Ref sig .tc := ⟨.hbm, 222, rfl⟩
abbrev main_v115 : Ref sig .tc := ⟨.hbm, 223, rfl⟩
abbrev main_v116 : Ref sig .tc := ⟨.hbm, 224, rfl⟩
abbrev main_c_57 : Ref sig .tc := ⟨.hbm, 225, rfl⟩
abbrev main_v117 : Ref sig .tc := ⟨.hbm, 226, rfl⟩
abbrev main_v118 : Ref sig .tc := ⟨.hbm, 227, rfl⟩
abbrev main_c_58 : Ref sig .tc := ⟨.hbm, 228, rfl⟩
abbrev main_v119 : Ref sig .tc := ⟨.hbm, 229, rfl⟩
abbrev main_v120 : Ref sig .tc := ⟨.hbm, 230, rfl⟩
abbrev main_c_59 : Ref sig .tc := ⟨.hbm, 231, rfl⟩
abbrev main_v121 : Ref sig .tc := ⟨.hbm, 232, rfl⟩
abbrev main_v122 : Ref sig .tc := ⟨.hbm, 233, rfl⟩
abbrev main_c_60 : Ref sig .tc := ⟨.hbm, 234, rfl⟩
abbrev main_v123 : Ref sig .tc := ⟨.hbm, 235, rfl⟩
abbrev main_v124 : Ref sig .tc := ⟨.hbm, 236, rfl⟩
abbrev main_c_61 : Ref sig .tc := ⟨.hbm, 237, rfl⟩
abbrev main_v125 : Ref sig .tc := ⟨.hbm, 238, rfl⟩
abbrev main_v126 : Ref sig .tc := ⟨.hbm, 239, rfl⟩
abbrev main_c_62 : Ref sig .tc := ⟨.hbm, 240, rfl⟩
abbrev main_v127 : Ref sig .tc := ⟨.hbm, 241, rfl⟩
abbrev main_v128 : Ref sig .tc := ⟨.hbm, 242, rfl⟩
abbrev main_cst_63 : Ref sig .tc := ⟨.hbm, 243, rfl⟩
abbrev main_cst_64 : Ref sig .tc := ⟨.hbm, 244, rfl⟩
abbrev main_call31_v0 : Ref sig .tc := ⟨.hbm, 245, rfl⟩
abbrev main_call31_v1 : Ref sig .tc := ⟨.hbm, 246, rfl⟩
abbrev main_v129 : Ref sig .tc := ⟨.hbm, 247, rfl⟩
abbrev main_cst_65 : Ref sig .tc := ⟨.hbm, 248, rfl⟩
abbrev main_cst_66 : Ref sig .tc := ⟨.hbm, 249, rfl⟩
abbrev main_call32_v0 : Ref sig .tc := ⟨.hbm, 250, rfl⟩
abbrev main_call32_v1 : Ref sig .tc := ⟨.hbm, 251, rfl⟩
abbrev main_v130 : Ref sig .tc := ⟨.hbm, 252, rfl⟩
abbrev main_v131 : Ref sig .tc := ⟨.hbm, 253, rfl⟩
abbrev main_cst_67 : Ref sig .tc := ⟨.hbm, 254, rfl⟩
abbrev main_cst_68 : Ref sig .tc := ⟨.hbm, 255, rfl⟩
abbrev main_call34_v0 : Ref sig .tc := ⟨.hbm, 256, rfl⟩
abbrev main_call34_v1 : Ref sig .tc := ⟨.hbm, 257, rfl⟩
abbrev main_v132 : Ref sig .tc := ⟨.hbm, 258, rfl⟩
abbrev main_cst_69 : Ref sig .tc := ⟨.hbm, 259, rfl⟩
abbrev main_cst_70 : Ref sig .tc := ⟨.hbm, 260, rfl⟩
abbrev main_call35_v0 : Ref sig .tc := ⟨.hbm, 261, rfl⟩
abbrev main_call35_v1 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_cst_71 : Ref sig .tc := ⟨.hbm, 266, rfl⟩
abbrev main_cst_72 : Ref sig .tc := ⟨.hbm, 267, rfl⟩
abbrev main_call38_v0 : Ref sig .tc := ⟨.hbm, 268, rfl⟩
abbrev main_call38_v1 : Ref sig .tc := ⟨.hbm, 269, rfl⟩
abbrev main_v136 : Ref sig .tc := ⟨.hbm, 270, rfl⟩
abbrev main_cst_73 : Ref sig .tc := ⟨.hbm, 271, rfl⟩
abbrev main_cst_74 : Ref sig .tc := ⟨.hbm, 272, rfl⟩
abbrev main_call39_v0 : Ref sig .tc := ⟨.hbm, 273, rfl⟩
abbrev main_call39_v1 : Ref sig .tc := ⟨.hbm, 274, rfl⟩
abbrev main_v137 : Ref sig .tc := ⟨.hbm, 275, rfl⟩
abbrev main_v138 : Ref sig .tc := ⟨.hbm, 276, rfl⟩
abbrev main_cst_75 : Ref sig .tc := ⟨.hbm, 277, rfl⟩
abbrev main_cst_76 : Ref sig .tc := ⟨.hbm, 278, rfl⟩
abbrev main_call41_v0 : Ref sig .tc := ⟨.hbm, 279, rfl⟩
abbrev main_call41_v1 : Ref sig .tc := ⟨.hbm, 280, rfl⟩
abbrev main_v139 : Ref sig .tc := ⟨.hbm, 281, rfl⟩
abbrev main_cst_77 : Ref sig .tc := ⟨.hbm, 282, rfl⟩
abbrev main_cst_78 : Ref sig .tc := ⟨.hbm, 283, rfl⟩
abbrev main_call42_v0 : Ref sig .tc := ⟨.hbm, 284, rfl⟩
abbrev main_call42_v1 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_cst_79 : Ref sig .tc := ⟨.hbm, 305, rfl⟩
abbrev main_call46_v0 : Ref sig .tc := ⟨.hbm, 306, rfl⟩
abbrev main_call46_v1 : Ref sig .tc := ⟨.hbm, 307, rfl⟩
abbrev main_call46_v2 : Ref sig .tc := ⟨.hbm, 308, rfl⟩
abbrev main_call46_v3 : Ref sig .tc := ⟨.hbm, 309, rfl⟩
abbrev main_v159 : Ref sig .tc := ⟨.hbm, 310, rfl⟩
abbrev main_cst_80 : Ref sig .tc := ⟨.hbm, 311, rfl⟩
abbrev main_v160 : Ref sig .tc := ⟨.hbm, 312, rfl⟩
abbrev main_v161 : Ref sig .tc := ⟨.hbm, 313, rfl⟩
abbrev main_v162 : Ref sig .tc := ⟨.hbm, 314, rfl⟩
abbrev main_v163 : Ref sig .tc := ⟨.hbm, 315, rfl⟩
abbrev main_cst_81 : Ref sig .tc := ⟨.hbm, 316, rfl⟩
abbrev main_v164 : Ref sig .tc := ⟨.hbm, 317, rfl⟩
abbrev main_v165 : Ref sig .tc := ⟨.hbm, 318, rfl⟩

abbrev nD : Nat := 1
abbrev τ : Topo := Topo.v7x

variable {F : FTy → Type} [FloatOps F]
-- ==== Proof.Bits.Tile.lean ====
/-
  One pass of each loop of the kernel, written as a function of what it loads: the decoding of a block of 64 packed
  codes, the 256 rows by 128 columns of decoded weights a pass multiplies by, the partial products, and what is stored.
-/
module

public import proofs.«01_k».proof.Proof.Gen.Kernel.Loops

@[expose] public section

noncomputable section

namespace Cert.Kernel.Tile

open Idealize.ShloMosaic Idealize.ShloMosaic.TcCoe Idealize.ShloMosaic.Tactic
open Cert.Kernel Cert.Kernel.Gen

variable {F : FTy → Type} [FloatOps F]

/-- The 64 codes of eight rows of words: each half-word gives four, at shifts 4, 0, 12 and 8, in four runs of 16 rows. -/
def codes (w : IVec S8x128 32) : IVec S64x128 32 :=
  have h : IVec S16x128 32 := extsi 32 (bitcast S16x128 16 w bitcasts_S8x128_w32_S16x128_w16) natLt_16_32
  andi (concatenate S64x128 0 [⟨S16x128, shrsi h (broadcast S16x128 4#32)⟩, ⟨S16x128, shrsi h (broadcast S16x128 0#32)⟩,
      ⟨S16x128, shrsi h (broadcast S16x128 12#32)⟩, ⟨S16x128, shrsi h (broadcast S16x128 8#32)⟩]
      concatenates_S16x128_S16x128_S16x128_S16x128_S64x128_d0) (broadcast S64x128 15#32)

/-- The decoded values of eight rows of words: the table at each code, times the scale of its column, in bf16. -/
def decode (tab : FVec F S64x128 .f32) (w : IVec S8x128 32) (a : FVec F S64x128 .f32) : FVec F S64x128 .bf16 :=
  truncf .bf16 (mulf (dynamicGather 1 tab (shapeCast S64x128 (shapeCast S64x128x1 (codes w) shapeCasts_S64x128_S64x128x1)
    shapeCasts_S64x128x1_S64x128)) a) bitsLt_bf16_f32

/-- A scale per column, laid over 64 rows. -/
def scale1 (a : Vec F S1x1x128 .f32) : FVec F S64x128 .f32 :=
  broadcastTo S64x128 (shapeCast S1x128 a shapeCasts_S1x1x128_S1x128) broadcasts_S1x128_S64x128

/-- 256 rows by 128 columns of decoded gate or up weights: four blocks of 64 rows, each with its scale. -/
def half1 (tab : FVec F S64x128 .f32) (w : Vec F S1x128x128 .i8) (a : Fin 4 → Vec F S1x1x128 .f32) : FVec F S256x128 .bf16 :=
  concatenate S256x128 0
    [⟨S64x128, decode tab (extractStridedSlice S8x128 ![0, 0] (k0_pay8 w) slices_S32x128_o0_0_S8x128) (scale1 (a 0))⟩,
     ⟨S64x128, decode tab (extractStridedSlice S8x128 ![8, 0] (k0_pay8 w) slices_S32x128_o8_0_S8x128) (scale1 (a 1))⟩,
     ⟨S64x128, decode tab (extractStridedSlice S8x128 ![16, 0] (k0_pay8 w) slices_S32x128_o16_0_S8x128) (scale1 (a 2))⟩,
     ⟨S64x128, decode tab (extractStridedSlice S8x128 ![24, 0] (k0_pay8 w) slices_S32x128_o24_0_S8x128) (scale1 (a 3))⟩]
    concatenates_S64x128_S64x128_S64x128_S64x128_S256x128_d0

/-- One partial product of the gate and up columns, added to the ones before. -/
def step1 (tab : FVec F S64x128 .f32) (acc : FVec F S96x256 .f32) (x : Vec F S96x256 .bf16)
    (wg wu : Vec F S1x128x128 .i8) (ag au : Fin 4 → Vec F S1x1x128 .f32) : FVec F S96x256 .f32 :=
  addf acc (matmul dot_S96x256_S256x256_S96x256_1_0_0_1_n_n none (shapeCast S96x256 x shapeCasts_S96x256_S96x256)
    (concatenate S256x256 1 [⟨S256x128, half1 tab wg ag⟩, ⟨S256x128, half1 tab wu au⟩] concatenates_S256x128_S256x128_S256x256_d1)
    (constant S96x256 .f32 0x00000000#32))

/-- The gate and up columns of one pass: the sum of the eight partial products. -/
def acc1 (tab : FVec F S64x128 .f32) (x : Fin 8 → Vec F S96x256 .bf16)
    (wg wu : Fin 8 → Vec F S1x128x128 .i8) (ag au : Fin 8 → Fin 4 → Vec F S1x1x128 .f32) : FVec F S96x256 .f32 :=
  step1 tab (step1 tab (step1 tab (step1 tab (step1 tab (step1 tab (step1 tab (step1 tab k0_pay7
    (x 0) (wg 0) (wu 0) (ag 0) (au 0)) (x 1) (wg 1) (wu 1) (ag 1) (au 1)) (x 2) (wg 2) (wu 2) (ag 2) (au 2))
    (x 3) (wg 3) (wu 3) (ag 3) (au 3)) (x 4) (wg 4) (wu 4) (ag 4) (au 4)) (x 5) (wg 5) (wu 5) (ag 5) (au 5))
    (x 6) (wg 6) (wu 6) (ag 6) (au 6)) (x 7) (wg 7) (wu 7) (ag 7) (au 7)

/-- silu of the gate columns times the up columns, in bf16. -/
def swiglu (g : FVec F S96x256 .f32) : FVec F S96x128 .bf16 :=
  have gate := extractStridedSlice S96x128 ![0, 0] g slices_S96x256_o0_0_S96x128
  have up := extractStridedSlice S96x128 ![0, 128] g slices_S96x256_o0_128_S96x128
  truncf .bf16 (mulf (mulf gate (logistic gate)) up) bitsLt_bf16_f32

/-- What a pass of the first loop stores: the 128 columns of the hidden layer, their order permuted. -/
def tile1 (tab : Vec F S64x128 .f32) (perm : Vec F S128x128 .bf16) (x : Fin 8 → Vec F S96x256 .bf16)
    (wg wu : Fin 8 → Vec F S1x128x128 .i8) (ag au : Fin 8 → Fin 4 → Vec F S1x1x128 .f32) : FVec F S96x128 .bf16 :=
  k0_pay3 (swiglu (acc1 (k0_pay1 tab) x wg wu ag au)) perm

/-- The scales of the down weights: of eight experts' rows the one wanted, laid over 64 rows. -/
def scale2 (sub : IVec S8x128 32) (a : Vec F S1x8x128 .f32) : FVec F S64x128 .f32 :=
  have g : FVec F S8x128 .f32 := dynamicGather 0 (shapeCast S8x128 a shapeCasts_S1x8x128_S8x128)
    (shapeCast S8x128 (shapeCast S8x128x1 sub shapeCasts_S8x128_S8x128x1) shapeCasts_S8x128x1_S8x128)
  concatenate S64x128 0 [⟨S8x128, g⟩, ⟨S8x128, g⟩, ⟨S8x128, g⟩, ⟨S8x128, g⟩, ⟨S8x128, g⟩, ⟨S8x128, g⟩, ⟨S8x128, g⟩, ⟨S8x128, g⟩]
    concatenates_S8x128_S8x128_S8x128_S8x128_S8x128_S8x128_S8x128_S8x128_S64x128_d0

/-- 128 rows by 128 columns of decoded down weights: two blocks of 64 rows, each with its scale. -/
def half2 (tab : FVec F S64x128 .f32) (sub : IVec S8x128 32) (w : Vec F S1x64x128 .i8) (a : Fin 2 → Vec F S1x8x128 .f32) :
    FVec F S128x128 .bf16 :=
  concatenate S128x128 0
    [⟨S64x128, decode tab (extractStridedSlice S8x128 ![0, 0] (k0_pay167 w) slices_S16x128_o0_0_S8x128) (scale2 sub (a 0))⟩,
     ⟨S64x128, decode tab (extractStridedSlice S8x128 ![8, 0] (k0_pay167 w) slices_S16x128_o8_0_S8x128) (scale2 sub (a 1))⟩]
    concatenates_S64x128_S64x128_S128x128_d0

/-- One partial product of the down columns, added to the ones before. -/
def step2 (tab : FVec F S64x128 .f32) (sub : IVec S8x128 32) (acc : FVec F S96x256 .f32) (h : Vec F S96x128 .bf16)
    (w : Fin 2 → Vec F S1x64x128 .i8) (a : Fin 2 → Fin 2 → Vec F S1x8x128 .f32) : FVec F S96x256 .f32 :=
  addf acc (matmul dot_S96x128_S128x256_S96x256_1_0_0_1_n_n none h
    (concatenate S128x256 1 [⟨S128x128, half2 tab sub (w 0) (a 0)⟩, ⟨S128x128, half2 tab sub (w 1) (a 1)⟩] concatenates_S128x128_S128x128_S128x256_d1)
    (constant S96x256 .f32 0x00000000#32))

/-- The down columns of one pass: the sum of the eleven partial products. -/
def acc2 (tab : FVec F S64x128 .f32) (sub : IVec S8x128 32) (h : Fin 11 → Vec F S96x128 .bf16)
    (w : Fin 11 → Fin 2 → Vec F S1x64x128 .i8) (a : Fin 11 → Fin 2 → Fin 2 → Vec F S1x8x128 .f32) : FVec F S96x256 .f32 :=
  have s := step2 tab sub
  s (s (s (s (s (s (s (s (s (s (s k0_pay166 (h 0) (w 0) (a 0)) (h 1) (w 1) (a 1)) (h 2) (w 2) (a 2)) (h 3) (w 3) (a 3))
    (h 4) (w 4) (a 4)) (h 5) (w 5) (a 5)) (h 6) (w 6) (a 6)) (h 7) (w 7) (a 7)) (h 8) (w 8) (a 8)) (h 9) (w 9) (a 9))
    (h 10) (w 10) (a 10)

/-- What a pass of the second loop stores: the columns found there, plus the down columns weighted by the expert's
    combine weight of each token. -/
def tile2 (tab : Vec F S64x128 .f32) (e : Elt F .i32) (ids : Vec F S96x6 .i32) (cw : Vec F S96x6 .f32)
    (h : Fin 11 → Vec F S96x128 .bf16) (w : Fin 11 → Fin 2 → Vec F S1x64x128 .i8)
    (a : Fin 11 → Fin 2 → Fin 2 → Vec F S1x8x128 .f32) (old : Vec F S96x256 .f32) : FVec F S96x256 .f32 :=
  k0_pay5 e ids cw (acc2 (k0_pay1 tab) (k0_pay4 (F := F) e) h w a) old

end Cert.Kernel.Tile
-- ==== Proof.Bits.Trip.lean ====
/-
  What one pass of each loop of the kernel writes, as the functions of Tile.lean of what it reads.
-/
module

public import proofs.«01_k».proof.Proof.Bits.Tile

@[expose] public section

set_option maxRecDepth 100000
set_option maxHeartbeats 4000000

noncomputable section

namespace Cert.Kernel.Tile

open Idealize.ShloMosaic Idealize.ShloMosaic.TcCoe Idealize.ShloMosaic.Tactic
open Cert.Kernel Cert.Kernel.Gen

variable {F : FTy → Type} [FloatOps F]

/-- A pass of the first loop writes one piece: 128 columns of the hidden layer. -/
theorem tripL1  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v2 : Vec F S64x128 .f32) (X_arg3 : BufTy.Contents (Elt F) arg3.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips) :
    tripL_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 k = [⟨Rect.unit (s := S96x1408) (k0_off43 k) S96x128.size (k0_off43_inb k),
      tile1 v2 (View.readAt (Elt F) arg6.view (Rect.unit (s := S128x128) ![0, 0] S128x128.size inb_S128x128_S128x128_0_0).toLoadRect X_arg6)
        ![View.readAt (Elt F) arg3.view (Rect.unit (s := S96x2048) (![0, 0]) S96x256.size (inb_S96x2048_S96x256_0_0)).toLoadRect X_arg3, View.readAt (Elt F) arg3.view (Rect.unit (s := S96x2048) (![0, 256]) S96x256.size (inb_S96x2048_S96x256_0_256)).toLoadRect X_arg3, View.readAt (Elt F) arg3.view (Rect.unit (s := S96x2048) (![0, 512]) S96x256.size (inb_S96x2048_S96x256_0_512)).toLoadRect X_arg3, View.readAt (Elt F) arg3.view (Rect.unit (s := S96x2048) (![0, 768]) S96x256.size (inb_S96x2048_S96x256_0_768)).toLoadRect X_arg3, View.readAt (Elt F) arg3.view (Rect.unit (s := S96x2048) (![0, 1024]) S96x256.size (inb_S96x2048_S96x256_0_1024)).toLoadRect X_arg3, View.readAt (Elt F) arg3.view (Rect.unit (s := S96x2048) (![0, 1280]) S96x256.size (inb_S96x2048_S96x256_0_1280)).toLoadRect X_arg3, View.readAt (Elt F) arg3.view (Rect.unit (s := S96x2048) (![0, 1536]) S96x256.size (inb_S96x2048_S96x256_0_1536)).toLoadRect X_arg3, View.readAt (Elt F) arg3.view (Rect.unit (s := S96x2048) (![0, 1792]) S96x256.size (inb_S96x2048_S96x256_0_1792)).toLoadRect X_arg3]
        ![View.readAt (Elt F) arg8.view (Rect.unit (s := S1x1408x1024) (k0_off3 k) S1x128x128.size (k0_off3_inb k)).toLoadRect X_arg8, View.readAt (Elt F) arg8.view (Rect.unit (s := S1x1408x1024) (k0_off8 k) S1x128x128.size (k0_off8_inb k)).toLoadRect X_arg8, View.readAt (Elt F) arg8.view (Rect.unit (s := S1x1408x1024) (k0_off13 k) S1x128x128.size (k0_off13_inb k)).toLoadRect X_arg8, View.readAt (Elt F) arg8.view (Rect.unit (s := S1x1408x1024) (k0_off18 k) S1x128x128.size (k0_off18_inb k)).toLoadRect X_arg8, View.readAt (Elt F) arg8.view (Rect.unit (s := S1x1408x1024) (k0_off23 k) S1x128x128.size (k0_off23_inb k)).toLoadRect X_arg8, View.readAt (Elt F) arg8.view (Rect.unit (s := S1x1408x1024) (k0_off28 k) S1x128x128.size (k0_off28_inb k)).toLoadRect X_arg8, View.readAt (Elt F) arg8.view (Rect.unit (s := S1x1408x1024) (k0_off33 k) S1x128x128.size (k0_off33_inb k)).toLoadRect X_arg8, View.readAt (Elt F) arg8.view (Rect.unit (s := S1x1408x1024) (k0_off38 k) S1x128x128.size (k0_off38_inb k)).toLoadRect X_arg8]
        ![View.readAt (Elt F) arg10.view (Rect.unit (s := S1x1408x1024) (k0_off3 k) S1x128x128.size (k0_off3_inb k)).toLoadRect X_arg10, View.readAt (Elt F) arg10.view (Rect.unit (s := S1x1408x1024) (k0_off8 k) S1x128x128.size (k0_off8_inb k)).toLoadRect X_arg10, View.readAt (Elt F) arg10.view (Rect.unit (s := S1x1408x1024) (k0_off13 k) S1x128x128.size (k0_off13_inb k)).toLoadRect X_arg10, View.readAt (Elt F) arg10.view (Rect.unit (s := S1x1408x1024) (k0_off18 k) S1x128x128.size (k0_off18_inb k)).toLoadRect X_arg10, View.readAt (Elt F) arg10.view (Rect.unit (s := S1x1408x1024) (k0_off23 k) S1x128x128.size (k0_off23_inb k)).toLoadRect X_arg10, View.readAt (Elt F) arg10.view (Rect.unit (s := S1x1408x1024) (k0_off28 k) S1x128x128.size (k0_off28_inb k)).toLoadRect X_arg10, View.readAt (Elt F) arg10.view (Rect.unit (s := S1x1408x1024) (k0_off33 k) S1x128x128.size (k0_off33_inb k)).toLoadRect X_arg10, View.readAt (Elt F) arg10.view (Rect.unit (s := S1x1408x1024) (k0_off38 k) S1x128x128.size (k0_off38_inb k)).toLoadRect X_arg10]
        ![![View.readAt (Elt F) arg9.view (Rect.unit (s := S1x32x1408) (k0_off4 k) S1x1x128.size (k0_off4_inb k)).toLoadRect X_arg9, View.readAt (Elt F) arg9.view (Rect.unit (s := S1x32x1408) (k0_off5 k) S1x1x128.size (k0_off5_inb k)).toLoadRect X_arg9, View.readAt (Elt F) arg9.view (Rect.unit (s := S1x32x1408) (k0_off6 k) S1x1x128.size (k0_off6_inb k)).toLoadRect X_arg9, View.readAt (Elt F) arg9.view (Rect.unit (s := S1x32x1408) (k0_off7 k) S1x1x128.size (k0_off7_inb k)).toLoadRect X_arg9], ![View.readAt (Elt F) arg9.view (Rect.unit (s := S1x32x1408) (k0_off9 k) S1x1x128.size (k0_off9_inb k)).toLoadRect X_arg9, View.readAt (Elt F) arg9.view (Rect.unit (s := S1x32x1408) (k0_off10 k) S1x1x128.size (k0_off10_inb k)).toLoadRect X_arg9, View.readAt (Elt F) arg9.view (Rect.unit (s := S1x32x1408) (k0_off11 k) S1x1x128.size (k0_off11_inb k)).toLoadRect X_arg9, View.readAt (Elt F) arg9.view (Rect.unit (s := S1x32x1408) (k0_off12 k) S1x1x128.size (k0_off12_inb k)).toLoadRect X_arg9], ![View.readAt (Elt F) arg9.view (Rect.unit (s := S1x32x1408) (k0_off14 k) S1x1x128.size (k0_off14_inb k)).toLoadRect X_arg9, View.readAt (Elt F) arg9.view (Rect.unit (s := S1x32x1408) (k0_off15 k) S1x1x128.size (k0_off15_inb k)).toLoadRect X_arg9, View.readAt (Elt F) arg9.view (Rect.unit (s := S1x32x1408) (k0_off16 k) S1x1x128.size (k0_off16_inb k)).toLoadRect X_arg9, View.readAt (Elt F) arg9.view (Rect.unit (s := S1x32x1408) (k0_off17 k) S1x1x128.size (k0_off17_inb k)).toLoadRect X_arg9], ![View.readAt (Elt F) arg9.view (Rect.unit (s := S1x32x1408) (k0_off19 k) S1x1x128.size (k0_off19_inb k)).toLoadRect X_arg9, View.readAt (Elt F) arg9.view (Rect.unit (s := S1x32x1408) (k0_off20 k) S1x1x128.size (k0_off20_inb k)).toLoadRect X_arg9, View.readAt (Elt F) arg9.view (Rect.unit (s := S1x32x1408) (k0_off21 k) S1x1x128.size (k0_off21_inb k)).toLoadRect X_arg9, View.readAt (Elt F) arg9.view (Rect.unit (s := S1x32x1408) (k0_off22 k) S1x1x128.size (k0_off22_inb k)).toLoadRect X_arg9], ![View.readAt (Elt F) arg9.view (Rect.unit (s := S1x32x1408) (k0_off24 k) S1x1x128.size (k0_off24_inb k)).toLoadRect X_arg9, View.readAt (Elt F) arg9.view (Rect.unit (s := S1x32x1408) (k0_off25 k) S1x1x128.size (k0_off25_inb k)).toLoadRect X_arg9, View.readAt (Elt F) arg9.view (Rect.unit (s := S1x32x1408) (k0_off26 k) S1x1x128.size (k0_off26_inb k)).toLoadRect X_arg9, View.readAt (Elt F) arg9.view (Rect.unit (s := S1x32x1408) (k0_off27 k) S1x1x128.size (k0_off27_inb k)).toLoadRect X_arg9], ![View.readAt (Elt F) arg9.view (Rect.unit (s := S1x32x1408) (k0_off29 k) S1x1x128.size (k0_off29_inb k)).toLoadRect X_arg9, View.readAt (Elt F) arg9.view (Rect.unit (s := S1x32x1408) (k0_off30 k) S1x1x128.size (k0_off30_inb k)).toLoadRect X_arg9, View.readAt (Elt F) arg9.view (Rect.unit (s := S1x32x1408) (k0_off31 k) S1x1x128.size (k0_off31_inb k)).toLoadRect X_arg9, View.readAt (Elt F) arg9.view (Rect.unit (s := S1x32x1408) (k0_off32 k) S1x1x128.size (k0_off32_inb k)).toLoadRect X_arg9], ![View.readAt (Elt F) arg9.view (Rect.unit (s := S1x32x1408) (k0_off34 k) S1x1x128.size (k0_off34_inb k)).toLoadRect X_arg9, View.readAt (Elt F) arg9.view (Rect.unit (s := S1x32x1408) (k0_off35 k) S1x1x128.size (k0_off35_inb k)).toLoadRect X_arg9, View.readAt (Elt F) arg9.view (Rect.unit (s := S1x32x1408) (k0_off36 k) S1x1x128.size (k0_off36_inb k)).toLoadRect X_arg9, View.readAt (Elt F) arg9.view (Rect.unit (s := S1x32x1408) (k0_off37 k) S1x1x128.size (k0_off37_inb k)).toLoadRect X_arg9], ![View.readAt (Elt F) arg9.view (Rect.unit (s := S1x32x1408) (k0_off39 k) S1x1x128.size (k0_off39_inb k)).toLoadRect X_arg9, View.readAt (Elt F) arg9.view (Rect.unit (s := S1x32x1408) (k0_off40 k) S1x1x128.size (k0_off40_inb k)).toLoadRect X_arg9, View.readAt (Elt F) arg9.view (Rect.unit (s := S1x32x1408) (k0_off41 k) S1x1x128.size (k0_off41_inb k)).toLoadRect X_arg9, View.readAt (Elt F) arg9.view (Rect.unit (s := S1x32x1408) (k0_off42 k) S1x1x128.size (k0_off42_inb k)).toLoadRect X_arg9]]
        ![![View.readAt (Elt F) arg11.view (Rect.unit (s := S1x32x1408) (k0_off4 k) S1x1x128.size (k0_off4_inb k)).toLoadRect X_arg11, View.readAt (Elt F) arg11.view (Rect.unit (s := S1x32x1408) (k0_off5 k) S1x1x128.size (k0_off5_inb k)).toLoadRect X_arg11, View.readAt (Elt F) arg11.view (Rect.unit (s := S1x32x1408) (k0_off6 k) S1x1x128.size (k0_off6_inb k)).toLoadRect X_arg11, View.readAt (Elt F) arg11.view (Rect.unit (s := S1x32x1408) (k0_off7 k) S1x1x128.size (k0_off7_inb k)).toLoadRect X_arg11], ![View.readAt (Elt F) arg11.view (Rect.unit (s := S1x32x1408) (k0_off9 k) S1x1x128.size (k0_off9_inb k)).toLoadRect X_arg11, View.readAt (Elt F) arg11.view (Rect.unit (s := S1x32x1408) (k0_off10 k) S1x1x128.size (k0_off10_inb k)).toLoadRect X_arg11, View.readAt (Elt F) arg11.view (Rect.unit (s := S1x32x1408) (k0_off11 k) S1x1x128.size (k0_off11_inb k)).toLoadRect X_arg11, View.readAt (Elt F) arg11.view (Rect.unit (s := S1x32x1408) (k0_off12 k) S1x1x128.size (k0_off12_inb k)).toLoadRect X_arg11], ![View.readAt (Elt F) arg11.view (Rect.unit (s := S1x32x1408) (k0_off14 k) S1x1x128.size (k0_off14_inb k)).toLoadRect X_arg11, View.readAt (Elt F) arg11.view (Rect.unit (s := S1x32x1408) (k0_off15 k) S1x1x128.size (k0_off15_inb k)).toLoadRect X_arg11, View.readAt (Elt F) arg11.view (Rect.unit (s := S1x32x1408) (k0_off16 k) S1x1x128.size (k0_off16_inb k)).toLoadRect X_arg11, View.readAt (Elt F) arg11.view (Rect.unit (s := S1x32x1408) (k0_off17 k) S1x1x128.size (k0_off17_inb k)).toLoadRect X_arg11], ![View.readAt (Elt F) arg11.view (Rect.unit (s := S1x32x1408) (k0_off19 k) S1x1x128.size (k0_off19_inb k)).toLoadRect X_arg11, View.readAt (Elt F) arg11.view (Rect.unit (s := S1x32x1408) (k0_off20 k) S1x1x128.size (k0_off20_inb k)).toLoadRect X_arg11, View.readAt (Elt F) arg11.view (Rect.unit (s := S1x32x1408) (k0_off21 k) S1x1x128.size (k0_off21_inb k)).toLoadRect X_arg11, View.readAt (Elt F) arg11.view (Rect.unit (s := S1x32x1408) (k0_off22 k) S1x1x128.size (k0_off22_inb k)).toLoadRect X_arg11], ![View.readAt (Elt F) arg11.view (Rect.unit (s := S1x32x1408) (k0_off24 k) S1x1x128.size (k0_off24_inb k)).toLoadRect X_arg11, View.readAt (Elt F) arg11.view (Rect.unit (s := S1x32x1408) (k0_off25 k) S1x1x128.size (k0_off25_inb k)).toLoadRect X_arg11, View.readAt (Elt F) arg11.view (Rect.unit (s := S1x32x1408) (k0_off26 k) S1x1x128.size (k0_off26_inb k)).toLoadRect X_arg11, View.readAt (Elt F) arg11.view (Rect.unit (s := S1x32x1408) (k0_off27 k) S1x1x128.size (k0_off27_inb k)).toLoadRect X_arg11], ![View.readAt (Elt F) arg11.view (Rect.unit (s := S1x32x1408) (k0_off29 k) S1x1x128.size (k0_off29_inb k)).toLoadRect X_arg11, View.readAt (Elt F) arg11.view (Rect.unit (s := S1x32x1408) (k0_off30 k) S1x1x128.size (k0_off30_inb k)).toLoadRect X_arg11, View.readAt (Elt F) arg11.view (Rect.unit (s := S1x32x1408) (k0_off31 k) S1x1x128.size (k0_off31_inb k)).toLoadRect X_arg11, View.readAt (Elt F) arg11.view (Rect.unit (s := S1x32x1408) (k0_off32 k) S1x1x128.size (k0_off32_inb k)).toLoadRect X_arg11], ![View.readAt (Elt F) arg11.view (Rect.unit (s := S1x32x1408) (k0_off34 k) S1x1x128.size (k0_off34_inb k)).toLoadRect X_arg11, View.readAt (Elt F) arg11.view (Rect.unit (s := S1x32x1408) (k0_off35 k) S1x1x128.size (k0_off35_inb k)).toLoadRect X_arg11, View.readAt (Elt F) arg11.view (Rect.unit (s := S1x32x1408) (k0_off36 k) S1x1x128.size (k0_off36_inb k)).toLoadRect X_arg11, View.readAt (Elt F) arg11.view (Rect.unit (s := S1x32x1408) (k0_off37 k) S1x1x128.size (k0_off37_inb k)).toLoadRect X_arg11], ![View.readAt (Elt F) arg11.view (Rect.unit (s := S1x32x1408) (k0_off39 k) S1x1x128.size (k0_off39_inb k)).toLoadRect X_arg11, View.readAt (Elt F) arg11.view (Rect.unit (s := S1x32x1408) (k0_off40 k) S1x1x128.size (k0_off40_inb k)).toLoadRect X_arg11, View.readAt (Elt F) arg11.view (Rect.unit (s := S1x32x1408) (k0_off41 k) S1x1x128.size (k0_off41_inb k)).toLoadRect X_arg11, View.readAt (Elt F) arg11.view (Rect.unit (s := S1x32x1408) (k0_off42 k) S1x1x128.size (k0_off42_inb k)).toLoadRect X_arg11]]⟩] := by
  unfold tripL_k0_t1 trip_k0_t1; rfl

/-- A pass of the second loop writes one piece: 256 columns of the accumulator. -/
theorem tripL2  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v1 : Elt F .i32) (v2 : Vec F S64x128 .f32) (v8 : Vec F S96x6 .i32) (v12 : Vec F S96x6 .f32) (X_arg12 : BufTy.Contents (Elt F) arg12.view.ty) (X_arg13 : BufTy.Contents (Elt F) arg13.view.ty) (X_arg15 : BufTy.Contents (Elt F) arg15.view.ty) (k : Fin k0_t2_loop.trips) (f_arg16 : BufTy.Contents (Elt F) arg16.view.ty) :
    tripL_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 k f_arg16 = [⟨Rect.unit (s := S96x2048) (k0_off77 k) S96x256.size (k0_off77_inb k),
      tile2 v2 v1 v8 v12
        ![View.readAt (Elt F) arg15.view (Rect.unit (s := S96x1408) (![0, 0]) S96x128.size (inb_S96x1408_S96x128_0_0)).toLoadRect X_arg15, View.readAt (Elt F) arg15.view (Rect.unit (s := S96x1408) (![0, 128]) S96x128.size (inb_S96x1408_S96x128_0_128)).toLoadRect X_arg15, View.readAt (Elt F) arg15.view (Rect.unit (s := S96x1408) (![0, 256]) S96x128.size (inb_S96x1408_S96x128_0_256)).toLoadRect X_arg15, View.readAt (Elt F) arg15.view (Rect.unit (s := S96x1408) (![0, 384]) S96x128.size (inb_S96x1408_S96x128_0_384)).toLoadRect X_arg15, View.readAt (Elt F) arg15.view (Rect.unit (s := S96x1408) (![0, 512]) S96x128.size (inb_S96x1408_S96x128_0_512)).toLoadRect X_arg15, View.readAt (Elt F) arg15.view (Rect.unit (s := S96x1408) (![0, 640]) S96x128.size (inb_S96x1408_S96x128_0_640)).toLoadRect X_arg15, View.readAt (Elt F) arg15.view (Rect.unit (s := S96x1408) (![0, 768]) S96x128.size (inb_S96x1408_S96x128_0_768)).toLoadRect X_arg15, View.readAt (Elt F) arg15.view (Rect.unit (s := S96x1408) (![0, 896]) S96x128.size (inb_S96x1408_S96x128_0_896)).toLoadRect X_arg15, View.readAt (Elt F) arg15.view (Rect.unit (s := S96x1408) (![0, 1024]) S96x128.size (inb_S96x1408_S96x128_0_1024)).toLoadRect X_arg15, View.readAt (Elt F) arg15.view (Rect.unit (s := S96x1408) (![0, 1152]) S96x128.size (inb_S96x1408_S96x128_0_1152)).toLoadRect X_arg15, View.readAt (Elt F) arg15.view (Rect.unit (s := S96x1408) (![0, 1280]) S96x128.size (inb_S96x1408_S96x128_0_1280)).toLoadRect X_arg15]
        ![![View.readAt (Elt F) arg12.view (Rect.unit (s := S1x704x2048) (k0_off44 k 0#32) S1x64x128.size (k0_off44_inb k 0)).toLoadRect X_arg12, View.readAt (Elt F) arg12.view (Rect.unit (s := S1x704x2048) (k0_off44 k 128#32) S1x64x128.size (k0_off44_inb k 1)).toLoadRect X_arg12], ![View.readAt (Elt F) arg12.view (Rect.unit (s := S1x704x2048) (k0_off47 k 0#32) S1x64x128.size (k0_off47_inb k 0)).toLoadRect X_arg12, View.readAt (Elt F) arg12.view (Rect.unit (s := S1x704x2048) (k0_off47 k 128#32) S1x64x128.size (k0_off47_inb k 1)).toLoadRect X_arg12], ![View.readAt (Elt F) arg12.view (Rect.unit (s := S1x704x2048) (k0_off50 k 0#32) S1x64x128.size (k0_off50_inb k 0)).toLoadRect X_arg12, View.readAt (Elt F) arg12.view (Rect.unit (s := S1x704x2048) (k0_off50 k 128#32) S1x64x128.size (k0_off50_inb k 1)).toLoadRect X_arg12], ![View.readAt (Elt F) arg12.view (Rect.unit (s := S1x704x2048) (k0_off53 k 0#32) S1x64x128.size (k0_off53_inb k 0)).toLoadRect X_arg12, View.readAt (Elt F) arg12.view (Rect.unit (s := S1x704x2048) (k0_off53 k 128#32) S1x64x128.size (k0_off53_inb k 1)).toLoadRect X_arg12], ![View.readAt (Elt F) arg12.view (Rect.unit (s := S1x704x2048) (k0_off56 k 0#32) S1x64x128.size (k0_off56_inb k 0)).toLoadRect X_arg12, View.readAt (Elt F) arg12.view (Rect.unit (s := S1x704x2048) (k0_off56 k 128#32) S1x64x128.size (k0_off56_inb k 1)).toLoadRect X_arg12], ![View.readAt (Elt F) arg12.view (Rect.unit (s := S1x704x2048) (k0_off59 k 0#32) S1x64x128.size (k0_off59_inb k 0)).toLoadRect X_arg12, View.readAt (Elt F) arg12.view (Rect.unit (s := S1x704x2048) (k0_off59 k 128#32) S1x64x128.size (k0_off59_inb k 1)).toLoadRect X_arg12], ![View.readAt (Elt F) arg12.view (Rect.unit (s := S1x704x2048) (k0_off62 k 0#32) S1x64x128.size (k0_off62_inb k 0)).toLoadRect X_arg12, View.readAt (Elt F) arg12.view (Rect.unit (s := S1x704x2048) (k0_off62 k 128#32) S1x64x128.size (k0_off62_inb k 1)).toLoadRect X_arg12], ![View.readAt (Elt F) arg12.view (Rect.unit (s := S1x704x2048) (k0_off65 k 0#32) S1x64x128.size (k0_off65_inb k 0)).toLoadRect X_arg12, View.readAt (Elt F) arg12.view (Rect.unit (s := S1x704x2048) (k0_off65 k 128#32) S1x64x128.size (k0_off65_inb k 1)).toLoadRect X_arg12], ![View.readAt (Elt F) arg12.view (Rect.unit (s := S1x704x2048) (k0_off68 k 0#32) S1x64x128.size (k0_off68_inb k 0)).toLoadRect X_arg12, View.readAt (Elt F) arg12.view (Rect.unit (s := S1x704x2048) (k0_off68 k 128#32) S1x64x128.size (k0_off68_inb k 1)).toLoadRect X_arg12], ![View.readAt (Elt F) arg12.view (Rect.unit (s := S1x704x2048) (k0_off71 k 0#32) S1x64x128.size (k0_off71_inb k 0)).toLoadRect X_arg12, View.readAt (Elt F) arg12.view (Rect.unit (s := S1x704x2048) (k0_off71 k 128#32) S1x64x128.size (k0_off71_inb k 1)).toLoadRect X_arg12], ![View.readAt (Elt F) arg12.view (Rect.unit (s := S1x704x2048) (k0_off74 k 0#32) S1x64x128.size (k0_off74_inb k 0)).toLoadRect X_arg12, View.readAt (Elt F) arg12.view (Rect.unit (s := S1x704x2048) (k0_off74 k 128#32) S1x64x128.size (k0_off74_inb k 1)).toLoadRect X_arg12]]
        ![![![View.readAt (Elt F) arg13.view (Rect.unit (s := S22x8x2048) (k0_off45 k 0#32) S1x8x128.size (k0_off45_inb k 0)).toLoadRect X_arg13, View.readAt (Elt F) arg13.view (Rect.unit (s := S22x8x2048) (k0_off46 k 0#32) S1x8x128.size (k0_off46_inb k 0)).toLoadRect X_arg13], ![View.readAt (Elt F) arg13.view (Rect.unit (s := S22x8x2048) (k0_off45 k 128#32) S1x8x128.size (k0_off45_inb k 1)).toLoadRect X_arg13, View.readAt (Elt F) arg13.view (Rect.unit (s := S22x8x2048) (k0_off46 k 128#32) S1x8x128.size (k0_off46_inb k 1)).toLoadRect X_arg13]], ![![View.readAt (Elt F) arg13.view (Rect.unit (s := S22x8x2048) (k0_off48 k 0#32) S1x8x128.size (k0_off48_inb k 0)).toLoadRect X_arg13, View.readAt (Elt F) arg13.view (Rect.unit (s := S22x8x2048) (k0_off49 k 0#32) S1x8x128.size (k0_off49_inb k 0)).toLoadRect X_arg13], ![View.readAt (Elt F) arg13.view (Rect.unit (s := S22x8x2048) (k0_off48 k 128#32) S1x8x128.size (k0_off48_inb k 1)).toLoadRect X_arg13, View.readAt (Elt F) arg13.view (Rect.unit (s := S22x8x2048) (k0_off49 k 128#32) S1x8x128.size (k0_off49_inb k 1)).toLoadRect X_arg13]], ![![View.readAt (Elt F) arg13.view (Rect.unit (s := S22x8x2048) (k0_off51 k 0#32) S1x8x128.size (k0_off51_inb k 0)).toLoadRect X_arg13, View.readAt (Elt F) arg13.view (Rect.unit (s := S22x8x2048) (k0_off52 k 0#32) S1x8x128.size (k0_off52_inb k 0)).toLoadRect X_arg13], ![View.readAt (Elt F) arg13.view (Rect.unit (s := S22x8x2048) (k0_off51 k 128#32) S1x8x128.size (k0_off51_inb k 1)).toLoadRect X_arg13, View.readAt (Elt F) arg13.view (Rect.unit (s := S22x8x2048) (k0_off52 k 128#32) S1x8x128.size (k0_off52_inb k 1)).toLoadRect X_arg13]], ![![View.readAt (Elt F) arg13.view (Rect.unit (s := S22x8x2048) (k0_off54 k 0#32) S1x8x128.size (k0_off54_inb k 0)).toLoadRect X_arg13, View.readAt (Elt F) arg13.view (Rect.unit (s := S22x8x2048) (k0_off55 k 0#32) S1x8x128.size (k0_off55_inb k 0)).toLoadRect X_arg13], ![View.readAt (Elt F) arg13.view (Rect.unit (s := S22x8x2048) (k0_off54 k 128#32) S1x8x128.size (k0_off54_inb k 1)).toLoadRect X_arg13, View.readAt (Elt F) arg13.view (Rect.unit (s := S22x8x2048) (k0_off55 k 128#32) S1x8x128.size (k0_off55_inb k 1)).toLoadRect X_arg13]], ![![View.readAt (Elt F) arg13.view (Rect.unit (s := S22x8x2048) (k0_off57 k 0#32) S1x8x128.size (k0_off57_inb k 0)).toLoadRect X_arg13, View.readAt (Elt F) arg13.view (Rect.unit (s := S22x8x2048) (k0_off58 k 0#32) S1x8x128.size (k0_off58_inb k 0)).toLoadRect X_arg13], ![View.readAt (Elt F) arg13.view (Rect.unit (s := S22x8x2048) (k0_off57 k 128#32) S1x8x128.size (k0_off57_inb k 1)).toLoadRect X_arg13, View.readAt (Elt F) arg13.view (Rect.unit (s := S22x8x2048) (k0_off58 k 128#32) S1x8x128.size (k0_off58_inb k 1)).toLoadRect X_arg13]], ![![View.readAt (Elt F) arg13.view (Rect.unit (s := S22x8x2048) (k0_off60 k 0#32) S1x8x128.size (k0_off60_inb k 0)).toLoadRect X_arg13, View.readAt (Elt F) arg13.view (Rect.unit (s := S22x8x2048) (k0_off61 k 0#32) S1x8x128.size (k0_off61_inb k 0)).toLoadRect X_arg13], ![View.readAt (Elt F) arg13.view (Rect.unit (s := S22x8x2048) (k0_off60 k 128#32) S1x8x128.size (k0_off60_inb k 1)).toLoadRect X_arg13, View.readAt (Elt F) arg13.view (Rect.unit (s := S22x8x2048) (k0_off61 k 128#32) S1x8x128.size (k0_off61_inb k 1)).toLoadRect X_arg13]], ![![View.readAt (Elt F) arg13.view (Rect.unit (s := S22x8x2048) (k0_off63 k 0#32) S1x8x128.size (k0_off63_inb k 0)).toLoadRect X_arg13, View.readAt (Elt F) arg13.view (Rect.unit (s := S22x8x2048) (k0_off64 k 0#32) S1x8x128.size (k0_off64_inb k 0)).toLoadRect X_arg13], ![View.readAt (Elt F) arg13.view (Rect.unit (s := S22x8x2048) (k0_off63 k 128#32) S1x8x128.size (k0_off63_inb k 1)).toLoadRect X_arg13, View.readAt (Elt F) arg13.view (Rect.unit (s := S22x8x2048) (k0_off64 k 128#32) S1x8x128.size (k0_off64_inb k 1)).toLoadRect X_arg13]], ![![View.readAt (Elt F) arg13.view (Rect.unit (s := S22x8x2048) (k0_off66 k 0#32) S1x8x128.size (k0_off66_inb k 0)).toLoadRect X_arg13, View.readAt (Elt F) arg13.view (Rect.unit (s := S22x8x2048) (k0_off67 k 0#32) S1x8x128.size (k0_off67_inb k 0)).toLoadRect X_arg13], ![View.readAt (Elt F) arg13.view (Rect.unit (s := S22x8x2048) (k0_off66 k 128#32) S1x8x128.size (k0_off66_inb k 1)).toLoadRect X_arg13, View.readAt (Elt F) arg13.view (Rect.unit (s := S22x8x2048) (k0_off67 k 128#32) S1x8x128.size (k0_off67_inb k 1)).toLoadRect X_arg13]], ![![View.readAt (Elt F) arg13.view (Rect.unit (s := S22x8x2048) (k0_off69 k 0#32) S1x8x128.size (k0_off69_inb k 0)).toLoadRect X_arg13, View.readAt (Elt F) arg13.view (Rect.unit (s := S22x8x2048) (k0_off70 k 0#32) S1x8x128.size (k0_off70_inb k 0)).toLoadRect X_arg13], ![View.readAt (Elt F) arg13.view (Rect.unit (s := S22x8x2048) (k0_off69 k 128#32) S1x8x128.size (k0_off69_inb k 1)).toLoadRect X_arg13, View.readAt (Elt F) arg13.view (Rect.unit (s := S22x8x2048) (k0_off70 k 128#32) S1x8x128.size (k0_off70_inb k 1)).toLoadRect X_arg13]], ![![View.readAt (Elt F) arg13.view (Rect.unit (s := S22x8x2048) (k0_off72 k 0#32) S1x8x128.size (k0_off72_inb k 0)).toLoadRect X_arg13, View.readAt (Elt F) arg13.view (Rect.unit (s := S22x8x2048) (k0_off73 k 0#32) S1x8x128.size (k0_off73_inb k 0)).toLoadRect X_arg13], ![View.readAt (Elt F) arg13.view (Rect.unit (s := S22x8x2048) (k0_off72 k 128#32) S1x8x128.size (k0_off72_inb k 1)).toLoadRect X_arg13, View.readAt (Elt F) arg13.view (Rect.unit (s := S22x8x2048) (k0_off73 k 128#32) S1x8x128.size (k0_off73_inb k 1)).toLoadRect X_arg13]], ![![View.readAt (Elt F) arg13.view (Rect.unit (s := S22x8x2048) (k0_off75 k 0#32) S1x8x128.size (k0_off75_inb k 0)).toLoadRect X_arg13, View.readAt (Elt F) arg13.view (Rect.unit (s := S22x8x2048) (k0_off76 k 0#32) S1x8x128.size (k0_off76_inb k 0)).toLoadRect X_arg13], ![View.readAt (Elt F) arg13.view (Rect.unit (s := S22x8x2048) (k0_off75 k 128#32) S1x8x128.size (k0_off75_inb k 1)).toLoadRect X_arg13, View.readAt (Elt F) arg13.view (Rect.unit (s := S22x8x2048) (k0_off76 k 128#32) S1x8x128.size (k0_off76_inb k 1)).toLoadRect X_arg13]]]
        (View.readAt (Elt F) arg16.view (Rect.unit (s := S96x2048) (k0_off77 k) S96x256.size (k0_off77_inb k)).toLoadRect f_arg16)⟩] := by
  unfold tripL_k0_t2 trip_k0_t2; rfl

end Cert.Kernel.Tile
-- ==== Proof.Bits.Blocks.lean ====
/-
  What one pass of each loop reads and writes, with every offset in closed form; and the whole of what the two loops
  leave: the hidden layer of one expert, and the accumulator with that expert's contribution added.
-/
module

public import proofs.«01_k».proof.Proof.Bits.Trip
public import Idealize.ShloMosaic.Lib.VecWindow
public import Idealize.ShloMosaic.Lib.ValueIdx

@[expose] public section

set_option maxRecDepth 100000
set_option maxHeartbeats 4000000

noncomputable section

namespace Cert.Kernel.Tile

open Idealize.ShloMosaic Idealize.ShloMosaic.TcCoe Idealize.ShloMosaic.Tactic
open Cert.Kernel Cert.Kernel.Gen

variable {F : FTy → Type} [FloatOps F]

/-- The eight column blocks of the tokens; -/
def xB (x : Vec F S96x2048 .bf16) (j : Fin 8) : Vec F S96x256 .bf16 :=
  VecWindow.window x ![0, 256 * j.val] S96x256.size (by revert j; decide)
/-- the gate (or up) codes of one pass, block by block; -/
def wB (w : Vec F S1x1408x1024 .i8) (k : Fin 11) (j : Fin 8) : Vec F S1x128x128 .i8 :=
  VecWindow.window w ![0, 128 * k.val, 128 * j.val] S1x128x128.size (by revert k j; decide)
/-- and their scales, four to a block; -/
def aB (a : Vec F S1x32x1408 .f32) (k : Fin 11) (j : Fin 8) (g : Fin 4) : Vec F S1x1x128 .f32 :=
  VecWindow.window a ![0, 4 * j.val + g.val, 128 * k.val] S1x1x128.size (by revert k j g; decide)
/-- the eleven column blocks of the hidden layer; -/
def hB (h : Vec F S96x1408 .bf16) (c : Fin 11) : Vec F S96x128 .bf16 :=
  VecWindow.window h ![0, 128 * c.val] S96x128.size (by revert c; decide)
/-- the down codes of one pass, block by block, left and right half; -/
def dB (w : Vec F S1x704x2048 .i8) (k : Fin 8) (c : Fin 11) (l : Fin 2) : Vec F S1x64x128 .i8 :=
  VecWindow.window w ![0, 64 * c.val, 256 * k.val + 128 * l.val] S1x64x128.size (by revert k c l; decide)
/-- and their scales, two to a block, of eight experts each; -/
def sB (a : Vec F S22x8x2048 .f32) (k : Fin 8) (c : Fin 11) (l g : Fin 2) : Vec F S1x8x128 .f32 :=
  VecWindow.window a ![2 * c.val + g.val, 0, 256 * k.val + 128 * l.val] S1x8x128.size (by revert k c l g; decide)
/-- one pass's columns of the accumulator. -/
def oB (o : Vec F S96x2048 .f32) (k : Fin 8) : Vec F S96x256 .f32 :=
  VecWindow.window o ![0, 256 * k.val] S96x256.size (by revert k; decide)

/-- The 128 columns of the hidden layer a pass of the first loop computes, of the whole operands; -/
def hidTile (tab : Vec F S64x128 .f32) (perm : Vec F S128x128 .bf16) (x : Vec F S96x2048 .bf16) (wg : Vec F S1x1408x1024 .i8)
    (ag : Vec F S1x32x1408 .f32) (wu : Vec F S1x1408x1024 .i8) (au : Vec F S1x32x1408 .f32) (k : Fin 11) : FVec F S96x128 .bf16 :=
  tile1 tab perm (xB x) (wB (F := F) wg k) (wB (F := F) wu k) (aB ag k) (aB au k)
/-- all of its columns. -/
def hidden (tab : Vec F S64x128 .f32) (perm : Vec F S128x128 .bf16) (x : Vec F S96x2048 .bf16) (wg : Vec F S1x1408x1024 .i8)
    (ag : Vec F S1x32x1408 .f32) (wu : Vec F S1x1408x1024 .i8) (au : Vec F S1x32x1408 .f32) : Vec F S96x1408 .bf16 := fun i =>
  hidTile tab perm x wg ag wu au ⟨(i 1).val / 128, Nat.div_lt_of_lt_mul (i 1).isLt⟩ (ValueIdx.ix2 (i 0) ⟨(i 1).val % 128, Nat.mod_lt _ (by decide)⟩)

/-- The 256 columns of the accumulator a pass of the second loop leaves, of the whole operands; -/
def outTile (tab : Vec F S64x128 .f32) (e : Elt F .i32) (ids : Vec F S96x6 .i32) (cw : Vec F S96x6 .f32) (h : Vec F S96x1408 .bf16)
    (wd : Vec F S1x704x2048 .i8) (ad : Vec F S22x8x2048 .f32) (old : Vec F S96x2048 .f32) (k : Fin 8) : FVec F S96x256 .f32 :=
  tile2 tab e ids cw (hB h) (dB (F := F) wd k) (sB ad k) (oB old k)
/-- all of its columns. -/
def added (tab : Vec F S64x128 .f32) (e : Elt F .i32) (ids : Vec F S96x6 .i32) (cw : Vec F S96x6 .f32) (h : Vec F S96x1408 .bf16)
    (wd : Vec F S1x704x2048 .i8) (ad : Vec F S22x8x2048 .f32) (old : Vec F S96x2048 .f32) : Vec F S96x2048 .f32 := fun i =>
  outTile tab e ids cw h wd ad old ⟨(i 1).val / 256, Nat.div_lt_of_lt_mul (i 1).isLt⟩ (ValueIdx.ix2 (i 0) ⟨(i 1).val % 256, Nat.mod_lt _ (by decide)⟩)

theorem xB_at (v : View sig .tc .vmem S96x2048 .bf16) (f : v.ty.Contents (Elt F)) {off : Fin S96x2048.rank → ℕ} (j : Fin 8) (h : off = ![0, 256 * j.val])
    (inb : ∀ a, off a + S96x256.size a ≤ S96x2048.size a) :
    v.readAt (Elt F) (Rect.unit (s := S96x2048) off S96x256.size inb).toLoadRect f = xB (F := F) (v.read (Elt F) f) j :=
  View.readAt_unit v f inb h _

theorem wB_at (v : View sig .tc .vmem S1x1408x1024 .i8) (f : v.ty.Contents (Elt F)) {off : Fin S1x1408x1024.rank → ℕ} (k : Fin 11) (j : Fin 8) (h : off = ![0, 128 * k.val, 128 * j.val])
    (inb : ∀ a, off a + S1x128x128.size a ≤ S1x1408x1024.size a) :
    v.readAt (Elt F) (Rect.unit (s := S1x1408x1024) off S1x128x128.size inb).toLoadRect f = wB (F := F) (v.read (Elt F) f) k j :=
  View.readAt_unit v f inb h _

theorem aB_at (v : View sig .tc .vmem S1x32x1408 .f32) (f : v.ty.Contents (Elt F)) {off : Fin S1x32x1408.rank → ℕ} (k : Fin 11) (j : Fin 8) (g : Fin 4) (h : off = ![0, 4 * j.val + g.val, 128 * k.val])
    (inb : ∀ a, off a + S1x1x128.size a ≤ S1x32x1408.size a) :
    v.readAt (Elt F) (Rect.unit (s := S1x32x1408) off S1x1x128.size inb).toLoadRect f = aB (F := F) (v.read (Elt F) f) k j g :=
  View.readAt_unit v f inb h _

theorem hB_at (v : View sig .tc .vmem S96x1408 .bf16) (f : v.ty.Contents (Elt F)) {off : Fin S96x1408.rank → ℕ} (c : Fin 11) (h : off = ![0, 128 * c.val])
    (inb : ∀ a, off a + S96x128.size a ≤ S96x1408.size a) :
    v.readAt (Elt F) (Rect.unit (s := S96x1408) off S96x128.size inb).toLoadRect f = hB (F := F) (v.read (Elt F) f) c :=
  View.readAt_unit v f inb h _

theorem dB_at (v : View sig .tc .vmem S1x704x2048 .i8) (f : v.ty.Contents (Elt F)) {off : Fin S1x704x2048.rank → ℕ} (k : Fin 8) (c : Fin 11) (l : Fin 2) (h : off = ![0, 64 * c.val, 256 * k.val + 128 * l.val])
    (inb : ∀ a, off a + S1x64x128.size a ≤ S1x704x2048.size a) :
    v.readAt (Elt F) (Rect.unit (s := S1x704x2048) off S1x64x128.size inb).toLoadRect f = dB (F := F) (v.read (Elt F) f) k c l :=
  View.readAt_unit v f inb h _

theorem sB_at (v : View sig .tc .vmem S22x8x2048 .f32) (f : v.ty.Contents (Elt F)) {off : Fin S22x8x2048.rank → ℕ} (k : Fin 8) (c : Fin 11) (l : Fin 2) (g : Fin 2) (h : off = ![2 * c.val + g.val, 0, 256 * k.val + 128 * l.val])
    (inb : ∀ a, off a + S1x8x128.size a ≤ S22x8x2048.size a) :
    v.readAt (Elt F) (Rect.unit (s := S22x8x2048) off S1x8x128.size inb).toLoadRect f = sB (F := F) (v.read (Elt F) f) k c l g :=
  View.readAt_unit v f inb h _

theorem oB_at (v : View sig .tc .vmem S96x2048 .f32) (f : v.ty.Contents (Elt F)) {off : Fin S96x2048.rank → ℕ} (k : Fin 8) (h : off = ![0, 256 * k.val])
    (inb : ∀ a, off a + S96x256.size a ≤ S96x2048.size a) :
    v.readAt (Elt F) (Rect.unit (s := S96x2048) off S96x256.size inb).toLoadRect f = oB (F := F) (v.read (Elt F) f) k :=
  View.readAt_unit v f inb h _

/-! The offsets of the first loop's reads and of its store. -/

theorem off3_eq : ∀ k : Fin k0_t1_loop.trips, k0_off3 k = ![0, 128 * k.val, 0] := by decide +kernel
theorem off8_eq : ∀ k : Fin k0_t1_loop.trips, k0_off8 k = ![0, 128 * k.val, 128] := by decide +kernel
theorem off13_eq : ∀ k : Fin k0_t1_loop.trips, k0_off13 k = ![0, 128 * k.val, 256] := by decide +kernel
theorem off18_eq : ∀ k : Fin k0_t1_loop.trips, k0_off18 k = ![0, 128 * k.val, 384] := by decide +kernel
theorem off23_eq : ∀ k : Fin k0_t1_loop.trips, k0_off23 k = ![0, 128 * k.val, 512] := by decide +kernel
theorem off28_eq : ∀ k : Fin k0_t1_loop.trips, k0_off28 k = ![0, 128 * k.val, 640] := by decide +kernel
theorem off33_eq : ∀ k : Fin k0_t1_loop.trips, k0_off33 k = ![0, 128 * k.val, 768] := by decide +kernel
theorem off38_eq : ∀ k : Fin k0_t1_loop.trips, k0_off38 k = ![0, 128 * k.val, 896] := by decide +kernel
theorem off4_eq : ∀ k : Fin k0_t1_loop.trips, k0_off4 k = ![0, 0, 128 * k.val] := by decide +kernel
theorem off5_eq : ∀ k : Fin k0_t1_loop.trips, k0_off5 k = ![0, 1, 128 * k.val] := by decide +kernel
theorem off6_eq : ∀ k : Fin k0_t1_loop.trips, k0_off6 k = ![0, 2, 128 * k.val] := by decide +kernel
theorem off7_eq : ∀ k : Fin k0_t1_loop.trips, k0_off7 k = ![0, 3, 128 * k.val] := by decide +kernel
theorem off9_eq : ∀ k : Fin k0_t1_loop.trips, k0_off9 k = ![0, 4, 128 * k.val] := by decide +kernel
theorem off10_eq : ∀ k : Fin k0_t1_loop.trips, k0_off10 k = ![0, 5, 128 * k.val] := by decide +kernel
theorem off11_eq : ∀ k : Fin k0_t1_loop.trips, k0_off11 k = ![0, 6, 128 * k.val] := by decide +kernel
theorem off12_eq : ∀ k : Fin k0_t1_loop.trips, k0_off12 k = ![0, 7, 128 * k.val] := by decide +kernel
theorem off14_eq : ∀ k : Fin k0_t1_loop.trips, k0_off14 k = ![0, 8, 128 * k.val] := by decide +kernel
theorem off15_eq : ∀ k : Fin k0_t1_loop.trips, k0_off15 k = ![0, 9, 128 * k.val] := by decide +kernel
theorem off16_eq : ∀ k : Fin k0_t1_loop.trips, k0_off16 k = ![0, 10, 128 * k.val] := by decide +kernel
theorem off17_eq : ∀ k : Fin k0_t1_loop.trips, k0_off17 k = ![0, 11, 128 * k.val] := by decide +kernel
theorem off19_eq : ∀ k : Fin k0_t1_loop.trips, k0_off19 k = ![0, 12, 128 * k.val] := by decide +kernel
theorem off20_eq : ∀ k : Fin k0_t1_loop.trips, k0_off20 k = ![0, 13, 128 * k.val] := by decide +kernel
theorem off21_eq : ∀ k : Fin k0_t1_loop.trips, k0_off21 k = ![0, 14, 128 * k.val] := by decide +kernel
theorem off22_eq : ∀ k : Fin k0_t1_loop.trips, k0_off22 k = ![0, 15, 128 * k.val] := by decide +kernel
theorem off24_eq : ∀ k : Fin k0_t1_loop.trips, k0_off24 k = ![0, 16, 128 * k.val] := by decide +kernel
theorem off25_eq : ∀ k : Fin k0_t1_loop.trips, k0_off25 k = ![0, 17, 128 * k.val] := by decide +kernel
theorem off26_eq : ∀ k : Fin k0_t1_loop.trips, k0_off26 k = ![0, 18, 128 * k.val] := by decide +kernel
theorem off27_eq : ∀ k : Fin k0_t1_loop.trips, k0_off27 k = ![0, 19, 128 * k.val] := by decide +kernel
theorem off29_eq : ∀ k : Fin k0_t1_loop.trips, k0_off29 k = ![0, 20, 128 * k.val] := by decide +kernel
theorem off30_eq : ∀ k : Fin k0_t1_loop.trips, k0_off30 k = ![0, 21, 128 * k.val] := by decide +kernel
theorem off31_eq : ∀ k : Fin k0_t1_loop.trips, k0_off31 k = ![0, 22, 128 * k.val] := by decide +kernel
theorem off32_eq : ∀ k : Fin k0_t1_loop.trips, k0_off32 k = ![0, 23, 128 * k.val] := by decide +kernel
theorem off34_eq : ∀ k : Fin k0_t1_loop.trips, k0_off34 k = ![0, 24, 128 * k.val] := by decide +kernel
theorem off35_eq : ∀ k : Fin k0_t1_loop.trips, k0_off35 k = ![0, 25, 128 * k.val] := by decide +kernel
theorem off36_eq : ∀ k : Fin k0_t1_loop.trips, k0_off36 k = ![0, 26, 128 * k.val] := by decide +kernel
theorem off37_eq : ∀ k : Fin k0_t1_loop.trips, k0_off37 k = ![0, 27, 128 * k.val] := by decide +kernel
theorem off39_eq : ∀ k : Fin k0_t1_loop.trips, k0_off39 k = ![0, 28, 128 * k.val] := by decide +kernel
theorem off40_eq : ∀ k : Fin k0_t1_loop.trips, k0_off40 k = ![0, 29, 128 * k.val] := by decide +kernel
theorem off41_eq : ∀ k : Fin k0_t1_loop.trips, k0_off41 k = ![0, 30, 128 * k.val] := by decide +kernel
theorem off42_eq : ∀ k : Fin k0_t1_loop.trips, k0_off42 k = ![0, 31, 128 * k.val] := by decide +kernel
theorem off43_eq : ∀ k : Fin k0_t1_loop.trips, k0_off43 k = ![0, 128 * k.val] := by decide +kernel

/-- A pass of the first loop writes its 128 columns of the hidden layer. -/
theorem tripH  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v2 : Vec F S64x128 .f32) (X_arg3 : BufTy.Contents (Elt F) arg3.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips) :
        tripL_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 k  = [⟨Rect.unit (s := S96x1408) (k0_off43 k) S96x128.size (k0_off43_inb k),
      hidTile v2 (arg6.view.read (Elt F) X_arg6) (arg3.view.read (Elt F) X_arg3) (arg8.view.read (Elt F) X_arg8) (arg9.view.read (Elt F) X_arg9) (arg10.view.read (Elt F) X_arg10) (arg11.view.read (Elt F) X_arg11) (⟨k.val, k.isLt⟩ : Fin 11)⟩] := by
  rw [tripL1]
  unfold hidTile
  congr 3
  · exact View.readAt_full arg6.view X_arg6 inb_S128x128_S128x128_0_0
  · funext j; match j with | ⟨0, _⟩ => exact xB_at arg3.view X_arg3 (⟨0, by decide⟩ : Fin 8) (off := ![0, 0]) rfl inb_S96x2048_S96x256_0_0 | ⟨1, _⟩ => exact xB_at arg3.view X_arg3 (⟨1, by decide⟩ : Fin 8) (off := ![0, 256]) rfl inb_S96x2048_S96x256_0_256 | ⟨2, _⟩ => exact xB_at arg3.view X_arg3 (⟨2, by decide⟩ : Fin 8) (off := ![0, 512]) rfl inb_S96x2048_S96x256_0_512 | ⟨3, _⟩ => exact xB_at arg3.view X_arg3 (⟨3, by decide⟩ : Fin 8) (off := ![0, 768]) rfl inb_S96x2048_S96x256_0_768 | ⟨4, _⟩ => exact xB_at arg3.view X_arg3 (⟨4, by decide⟩ : Fin 8) (off := ![0, 1024]) rfl inb_S96x2048_S96x256_0_1024 | ⟨5, _⟩ => exact xB_at arg3.view X_arg3 (⟨5, by decide⟩ : Fin 8) (off := ![0, 1280]) rfl inb_S96x2048_S96x256_0_1280 | ⟨6, _⟩ => exact xB_at arg3.view X_arg3 (⟨6, by decide⟩ : Fin 8) (off := ![0, 1536]) rfl inb_S96x2048_S96x256_0_1536 | ⟨7, _⟩ => exact xB_at arg3.view X_arg3 (⟨7, by decide⟩ : Fin 8) (off := ![0, 1792]) rfl inb_S96x2048_S96x256_0_1792
  · funext j; match j with | ⟨0, _⟩ => exact wB_at arg8.view X_arg8 (⟨k.val, k.isLt⟩ : Fin 11) (⟨0, by decide⟩ : Fin 8) (off3_eq k) (k0_off3_inb k) | ⟨1, _⟩ => exact wB_at arg8.view X_arg8 (⟨k.val, k.isLt⟩ : Fin 11) (⟨1, by decide⟩ : Fin 8) (off8_eq k) (k0_off8_inb k) | ⟨2, _⟩ => exact wB_at arg8.view X_arg8 (⟨k.val, k.isLt⟩ : Fin 11) (⟨2, by decide⟩ : Fin 8) (off13_eq k) (k0_off13_inb k) | ⟨3, _⟩ => exact wB_at arg8.view X_arg8 (⟨k.val, k.isLt⟩ : Fin 11) (⟨3, by decide⟩ : Fin 8) (off18_eq k) (k0_off18_inb k) | ⟨4, _⟩ => exact wB_at arg8.view X_arg8 (⟨k.val, k.isLt⟩ : Fin 11) (⟨4, by decide⟩ : Fin 8) (off23_eq k) (k0_off23_inb k) | ⟨5, _⟩ => exact wB_at arg8.view X_arg8 (⟨k.val, k.isLt⟩ : Fin 11) (⟨5, by decide⟩ : Fin 8) (off28_eq k) (k0_off28_inb k) | ⟨6, _⟩ => exact wB_at arg8.view X_arg8 (⟨k.val, k.isLt⟩ : Fin 11) (⟨6, by decide⟩ : Fin 8) (off33_eq k) (k0_off33_inb k) | ⟨7, _⟩ => exact wB_at arg8.view X_arg8 (⟨k.val, k.isLt⟩ : Fin 11) (⟨7, by decide⟩ : Fin 8) (off38_eq k) (k0_off38_inb k)
  · funext j; match j with | ⟨0, _⟩ => exact wB_at arg10.view X_arg10 (⟨k.val, k.isLt⟩ : Fin 11) (⟨0, by decide⟩ : Fin 8) (off3_eq k) (k0_off3_inb k) | ⟨1, _⟩ => exact wB_at arg10.view X_arg10 (⟨k.val, k.isLt⟩ : Fin 11) (⟨1, by decide⟩ : Fin 8) (off8_eq k) (k0_off8_inb k) | ⟨2, _⟩ => exact wB_at arg10.view X_arg10 (⟨k.val, k.isLt⟩ : Fin 11) (⟨2, by decide⟩ : Fin 8) (off13_eq k) (k0_off13_inb k) | ⟨3, _⟩ => exact wB_at arg10.view X_arg10 (⟨k.val, k.isLt⟩ : Fin 11) (⟨3, by decide⟩ : Fin 8) (off18_eq k) (k0_off18_inb k) | ⟨4, _⟩ => exact wB_at arg10.view X_arg10 (⟨k.val, k.isLt⟩ : Fin 11) (⟨4, by decide⟩ : Fin 8) (off23_eq k) (k0_off23_inb k) | ⟨5, _⟩ => exact wB_at arg10.view X_arg10 (⟨k.val, k.isLt⟩ : Fin 11) (⟨5, by decide⟩ : Fin 8) (off28_eq k) (k0_off28_inb k) | ⟨6, _⟩ => exact wB_at arg10.view X_arg10 (⟨k.val, k.isLt⟩ : Fin 11) (⟨6, by decide⟩ : Fin 8) (off33_eq k) (k0_off33_inb k) | ⟨7, _⟩ => exact wB_at arg10.view X_arg10 (⟨k.val, k.isLt⟩ : Fin 11) (⟨7, by decide⟩ : Fin 8) (off38_eq k) (k0_off38_inb k)
  · funext j g; match j, g with | ⟨0, _⟩, ⟨0, _⟩ => exact aB_at arg9.view X_arg9 (⟨k.val, k.isLt⟩ : Fin 11) (⟨0, by decide⟩ : Fin 8) (⟨0, by decide⟩ : Fin 4) (off4_eq k) (k0_off4_inb k) | ⟨0, _⟩, ⟨1, _⟩ => exact aB_at arg9.view X_arg9 (⟨k.val, k.isLt⟩ : Fin 11) (⟨0, by decide⟩ : Fin 8) (⟨1, by decide⟩ : Fin 4) (off5_eq k) (k0_off5_inb k) | ⟨0, _⟩, ⟨2, _⟩ => exact aB_at arg9.view X_arg9 (⟨k.val, k.isLt⟩ : Fin 11) (⟨0, by decide⟩ : Fin 8) (⟨2, by decide⟩ : Fin 4) (off6_eq k) (k0_off6_inb k) | ⟨0, _⟩, ⟨3, _⟩ => exact aB_at arg9.view X_arg9 (⟨k.val, k.isLt⟩ : Fin 11) (⟨0, by decide⟩ : Fin 8) (⟨3, by decide⟩ : Fin 4) (off7_eq k) (k0_off7_inb k) | ⟨1, _⟩, ⟨0, _⟩ => exact aB_at arg9.view X_arg9 (⟨k.val, k.isLt⟩ : Fin 11) (⟨1, by decide⟩ : Fin 8) (⟨0, by decide⟩ : Fin 4) (off9_eq k) (k0_off9_inb k) | ⟨1, _⟩, ⟨1, _⟩ => exact aB_at arg9.view X_arg9 (⟨k.val, k.isLt⟩ : Fin 11) (⟨1, by decide⟩ : Fin 8) (⟨1, by decide⟩ : Fin 4) (off10_eq k) (k0_off10_inb k) | ⟨1, _⟩, ⟨2, _⟩ => exact aB_at arg9.view X_arg9 (⟨k.val, k.isLt⟩ : Fin 11) (⟨1, by decide⟩ : Fin 8) (⟨2, by decide⟩ : Fin 4) (off11_eq k) (k0_off11_inb k) | ⟨1, _⟩, ⟨3, _⟩ => exact aB_at arg9.view X_arg9 (⟨k.val, k.isLt⟩ : Fin 11) (⟨1, by decide⟩ : Fin 8) (⟨3, by decide⟩ : Fin 4) (off12_eq k) (k0_off12_inb k) | ⟨2, _⟩, ⟨0, _⟩ => exact aB_at arg9.view X_arg9 (⟨k.val, k.isLt⟩ : Fin 11) (⟨2, by decide⟩ : Fin 8) (⟨0, by decide⟩ : Fin 4) (off14_eq k) (k0_off14_inb k) | ⟨2, _⟩, ⟨1, _⟩ => exact aB_at arg9.view X_arg9 (⟨k.val, k.isLt⟩ : Fin 11) (⟨2, by decide⟩ : Fin 8) (⟨1, by decide⟩ : Fin 4) (off15_eq k) (k0_off15_inb k) | ⟨2, _⟩, ⟨2, _⟩ => exact aB_at arg9.view X_arg9 (⟨k.val, k.isLt⟩ : Fin 11) (⟨2, by decide⟩ : Fin 8) (⟨2, by decide⟩ : Fin 4) (off16_eq k) (k0_off16_inb k) | ⟨2, _⟩, ⟨3, _⟩ => exact aB_at arg9.view X_arg9 (⟨k.val, k.isLt⟩ : Fin 11) (⟨2, by decide⟩ : Fin 8) (⟨3, by decide⟩ : Fin 4) (off17_eq k) (k0_off17_inb k) | ⟨3, _⟩, ⟨0, _⟩ => exact aB_at arg9.view X_arg9 (⟨k.val, k.isLt⟩ : Fin 11) (⟨3, by decide⟩ : Fin 8) (⟨0, by decide⟩ : Fin 4) (off19_eq k) (k0_off19_inb k) | ⟨3, _⟩, ⟨1, _⟩ => exact aB_at arg9.view X_arg9 (⟨k.val, k.isLt⟩ : Fin 11) (⟨3, by decide⟩ : Fin 8) (⟨1, by decide⟩ : Fin 4) (off20_eq k) (k0_off20_inb k) | ⟨3, _⟩, ⟨2, _⟩ => exact aB_at arg9.view X_arg9 (⟨k.val, k.isLt⟩ : Fin 11) (⟨3, by decide⟩ : Fin 8) (⟨2, by decide⟩ : Fin 4) (off21_eq k) (k0_off21_inb k) | ⟨3, _⟩, ⟨3, _⟩ => exact aB_at arg9.view X_arg9 (⟨k.val, k.isLt⟩ : Fin 11) (⟨3, by decide⟩ : Fin 8) (⟨3, by decide⟩ : Fin 4) (off22_eq k) (k0_off22_inb k) | ⟨4, _⟩, ⟨0, _⟩ => exact aB_at arg9.view X_arg9 (⟨k.val, k.isLt⟩ : Fin 11) (⟨4, by decide⟩ : Fin 8) (⟨0, by decide⟩ : Fin 4) (off24_eq k) (k0_off24_inb k) | ⟨4, _⟩, ⟨1, _⟩ => exact aB_at arg9.view X_arg9 (⟨k.val, k.isLt⟩ : Fin 11) (⟨4, by decide⟩ : Fin 8) (⟨1, by decide⟩ : Fin 4) (off25_eq k) (k0_off25_inb k) | ⟨4, _⟩, ⟨2, _⟩ => exact aB_at arg9.view X_arg9 (⟨k.val, k.isLt⟩ : Fin 11) (⟨4, by decide⟩ : Fin 8) (⟨2, by decide⟩ : Fin 4) (off26_eq k) (k0_off26_inb k) | ⟨4, _⟩, ⟨3, _⟩ => exact aB_at arg9.view X_arg9 (⟨k.val, k.isLt⟩ : Fin 11) (⟨4, by decide⟩ : Fin 8) (⟨3, by decide⟩ : Fin 4) (off27_eq k) (k0_off27_inb k) | ⟨5, _⟩, ⟨0, _⟩ => exact aB_at arg9.view X_arg9 (⟨k.val, k.isLt⟩ : Fin 11) (⟨5, by decide⟩ : Fin 8) (⟨0, by decide⟩ : Fin 4) (off29_eq k) (k0_off29_inb k) | ⟨5, _⟩, ⟨1, _⟩ => exact aB_at arg9.view X_arg9 (⟨k.val, k.isLt⟩ : Fin 11) (⟨5, by decide⟩ : Fin 8) (⟨1, by decide⟩ : Fin 4) (off30_eq k) (k0_off30_inb k) | ⟨5, _⟩, ⟨2, _⟩ => exact aB_at arg9.view X_arg9 (⟨k.val, k.isLt⟩ : Fin 11) (⟨5, by decide⟩ : Fin 8) (⟨2, by decide⟩ : Fin 4) (off31_eq k) (k0_off31_inb k) | ⟨5, _⟩, ⟨3, _⟩ => exact aB_at arg9.view X_arg9 (⟨k.val, k.isLt⟩ : Fin 11) (⟨5, by decide⟩ : Fin 8) (⟨3, by decide⟩ : Fin 4) (off32_eq k) (k0_off32_inb k) | ⟨6, _⟩, ⟨0, _⟩ => exact aB_at arg9.view X_arg9 (⟨k.val, k.isLt⟩ : Fin 11) (⟨6, by decide⟩ : Fin 8) (⟨0, by decide⟩ : Fin 4) (off34_eq k) (k0_off34_inb k) | ⟨6, _⟩, ⟨1, _⟩ => exact aB_at arg9.view X_arg9 (⟨k.val, k.isLt⟩ : Fin 11) (⟨6, by decide⟩ : Fin 8) (⟨1, by decide⟩ : Fin 4) (off35_eq k) (k0_off35_inb k) | ⟨6, _⟩, ⟨2, _⟩ => exact aB_at arg9.view X_arg9 (⟨k.val, k.isLt⟩ : Fin 11) (⟨6, by decide⟩ : Fin 8) (⟨2, by decide⟩ : Fin 4) (off36_eq k) (k0_off36_inb k) | ⟨6, _⟩, ⟨3, _⟩ => exact aB_at arg9.view X_arg9 (⟨k.val, k.isLt⟩ : Fin 11) (⟨6, by decide⟩ : Fin 8) (⟨3, by decide⟩ : Fin 4) (off37_eq k) (k0_off37_inb k) | ⟨7, _⟩, ⟨0, _⟩ => exact aB_at arg9.view X_arg9 (⟨k.val, k.isLt⟩ : Fin 11) (⟨7, by decide⟩ : Fin 8) (⟨0, by decide⟩ : Fin 4) (off39_eq k) (k0_off39_inb k) | ⟨7, _⟩, ⟨1, _⟩ => exact aB_at arg9.view X_arg9 (⟨k.val, k.isLt⟩ : Fin 11) (⟨7, by decide⟩ : Fin 8) (⟨1, by decide⟩ : Fin 4) (off40_eq k) (k0_off40_inb k) | ⟨7, _⟩, ⟨2, _⟩ => exact aB_at arg9.view X_arg9 (⟨k.val, k.isLt⟩ : Fin 11) (⟨7, by decide⟩ : Fin 8) (⟨2, by decide⟩ : Fin 4) (off41_eq k) (k0_off41_inb k) | ⟨7, _⟩, ⟨3, _⟩ => exact aB_at arg9.view X_arg9 (⟨k.val, k.isLt⟩ : Fin 11) (⟨7, by decide⟩ : Fin 8) (⟨3, by decide⟩ : Fin 4) (off42_eq k) (k0_off42_inb k)
  · funext j g; match j, g with | ⟨0, _⟩, ⟨0, _⟩ => exact aB_at arg11.view X_arg11 (⟨k.val, k.isLt⟩ : Fin 11) (⟨0, by decide⟩ : Fin 8) (⟨0, by decide⟩ : Fin 4) (off4_eq k) (k0_off4_inb k) | ⟨0, _⟩, ⟨1, _⟩ => exact aB_at arg11.view X_arg11 (⟨k.val, k.isLt⟩ : Fin 11) (⟨0, by decide⟩ : Fin 8) (⟨1, by decide⟩ : Fin 4) (off5_eq k) (k0_off5_inb k) | ⟨0, _⟩, ⟨2, _⟩ => exact aB_at arg11.view X_arg11 (⟨k.val, k.isLt⟩ : Fin 11) (⟨0, by decide⟩ : Fin 8) (⟨2, by decide⟩ : Fin 4) (off6_eq k) (k0_off6_inb k) | ⟨0, _⟩, ⟨3, _⟩ => exact aB_at arg11.view X_arg11 (⟨k.val, k.isLt⟩ : Fin 11) (⟨0, by decide⟩ : Fin 8) (⟨3, by decide⟩ : Fin 4) (off7_eq k) (k0_off7_inb k) | ⟨1, _⟩, ⟨0, _⟩ => exact aB_at arg11.view X_arg11 (⟨k.val, k.isLt⟩ : Fin 11) (⟨1, by decide⟩ : Fin 8) (⟨0, by decide⟩ : Fin 4) (off9_eq k) (k0_off9_inb k) | ⟨1, _⟩, ⟨1, _⟩ => exact aB_at arg11.view X_arg11 (⟨k.val, k.isLt⟩ : Fin 11) (⟨1, by decide⟩ : Fin 8) (⟨1, by decide⟩ : Fin 4) (off10_eq k) (k0_off10_inb k) | ⟨1, _⟩, ⟨2, _⟩ => exact aB_at arg11.view X_arg11 (⟨k.val, k.isLt⟩ : Fin 11) (⟨1, by decide⟩ : Fin 8) (⟨2, by decide⟩ : Fin 4) (off11_eq k) (k0_off11_inb k) | ⟨1, _⟩, ⟨3, _⟩ => exact aB_at arg11.view X_arg11 (⟨k.val, k.isLt⟩ : Fin 11) (⟨1, by decide⟩ : Fin 8) (⟨3, by decide⟩ : Fin 4) (off12_eq k) (k0_off12_inb k) | ⟨2, _⟩, ⟨0, _⟩ => exact aB_at arg11.view X_arg11 (⟨k.val, k.isLt⟩ : Fin 11) (⟨2, by decide⟩ : Fin 8) (⟨0, by decide⟩ : Fin 4) (off14_eq k) (k0_off14_inb k) | ⟨2, _⟩, ⟨1, _⟩ => exact aB_at arg11.view X_arg11 (⟨k.val, k.isLt⟩ : Fin 11) (⟨2, by decide⟩ : Fin 8) (⟨1, by decide⟩ : Fin 4) (off15_eq k) (k0_off15_inb k) | ⟨2, _⟩, ⟨2, _⟩ => exact aB_at arg11.view X_arg11 (⟨k.val, k.isLt⟩ : Fin 11) (⟨2, by decide⟩ : Fin 8) (⟨2, by decide⟩ : Fin 4) (off16_eq k) (k0_off16_inb k) | ⟨2, _⟩, ⟨3, _⟩ => exact aB_at arg11.view X_arg11 (⟨k.val, k.isLt⟩ : Fin 11) (⟨2, by decide⟩ : Fin 8) (⟨3, by decide⟩ : Fin 4) (off17_eq k) (k0_off17_inb k) | ⟨3, _⟩, ⟨0, _⟩ => exact aB_at arg11.view X_arg11 (⟨k.val, k.isLt⟩ : Fin 11) (⟨3, by decide⟩ : Fin 8) (⟨0, by decide⟩ : Fin 4) (off19_eq k) (k0_off19_inb k) | ⟨3, _⟩, ⟨1, _⟩ => exact aB_at arg11.view X_arg11 (⟨k.val, k.isLt⟩ : Fin 11) (⟨3, by decide⟩ : Fin 8) (⟨1, by decide⟩ : Fin 4) (off20_eq k) (k0_off20_inb k) | ⟨3, _⟩, ⟨2, _⟩ => exact aB_at arg11.view X_arg11 (⟨k.val, k.isLt⟩ : Fin 11) (⟨3, by decide⟩ : Fin 8) (⟨2, by decide⟩ : Fin 4) (off21_eq k) (k0_off21_inb k) | ⟨3, _⟩, ⟨3, _⟩ => exact aB_at arg11.view X_arg11 (⟨k.val, k.isLt⟩ : Fin 11) (⟨3, by decide⟩ : Fin 8) (⟨3, by decide⟩ : Fin 4) (off22_eq k) (k0_off22_inb k) | ⟨4, _⟩, ⟨0, _⟩ => exact aB_at arg11.view X_arg11 (⟨k.val, k.isLt⟩ : Fin 11) (⟨4, by decide⟩ : Fin 8) (⟨0, by decide⟩ : Fin 4) (off24_eq k) (k0_off24_inb k) | ⟨4, _⟩, ⟨1, _⟩ => exact aB_at arg11.view X_arg11 (⟨k.val, k.isLt⟩ : Fin 11) (⟨4, by decide⟩ : Fin 8) (⟨1, by decide⟩ : Fin 4) (off25_eq k) (k0_off25_inb k) | ⟨4, _⟩, ⟨2, _⟩ => exact aB_at arg11.view X_arg11 (⟨k.val, k.isLt⟩ : Fin 11) (⟨4, by decide⟩ : Fin 8) (⟨2, by decide⟩ : Fin 4) (off26_eq k) (k0_off26_inb k) | ⟨4, _⟩, ⟨3, _⟩ => exact aB_at arg11.view X_arg11 (⟨k.val, k.isLt⟩ : Fin 11) (⟨4, by decide⟩ : Fin 8) (⟨3, by decide⟩ : Fin 4) (off27_eq k) (k0_off27_inb k) | ⟨5, _⟩, ⟨0, _⟩ => exact aB_at arg11.view X_arg11 (⟨k.val, k.isLt⟩ : Fin 11) (⟨5, by decide⟩ : Fin 8) (⟨0, by decide⟩ : Fin 4) (off29_eq k) (k0_off29_inb k) | ⟨5, _⟩, ⟨1, _⟩ => exact aB_at arg11.view X_arg11 (⟨k.val, k.isLt⟩ : Fin 11) (⟨5, by decide⟩ : Fin 8) (⟨1, by decide⟩ : Fin 4) (off30_eq k) (k0_off30_inb k) | ⟨5, _⟩, ⟨2, _⟩ => exact aB_at arg11.view X_arg11 (⟨k.val, k.isLt⟩ : Fin 11) (⟨5, by decide⟩ : Fin 8) (⟨2, by decide⟩ : Fin 4) (off31_eq k) (k0_off31_inb k) | ⟨5, _⟩, ⟨3, _⟩ => exact aB_at arg11.view X_arg11 (⟨k.val, k.isLt⟩ : Fin 11) (⟨5, by decide⟩ : Fin 8) (⟨3, by decide⟩ : Fin 4) (off32_eq k) (k0_off32_inb k) | ⟨6, _⟩, ⟨0, _⟩ => exact aB_at arg11.view X_arg11 (⟨k.val, k.isLt⟩ : Fin 11) (⟨6, by decide⟩ : Fin 8) (⟨0, by decide⟩ : Fin 4) (off34_eq k) (k0_off34_inb k) | ⟨6, _⟩, ⟨1, _⟩ => exact aB_at arg11.view X_arg11 (⟨k.val, k.isLt⟩ : Fin 11) (⟨6, by decide⟩ : Fin 8) (⟨1, by decide⟩ : Fin 4) (off35_eq k) (k0_off35_inb k) | ⟨6, _⟩, ⟨2, _⟩ => exact aB_at arg11.view X_arg11 (⟨k.val, k.isLt⟩ : Fin 11) (⟨6, by decide⟩ : Fin 8) (⟨2, by decide⟩ : Fin 4) (off36_eq k) (k0_off36_inb k) | ⟨6, _⟩, ⟨3, _⟩ => exact aB_at arg11.view X_arg11 (⟨k.val, k.isLt⟩ : Fin 11) (⟨6, by decide⟩ : Fin 8) (⟨3, by decide⟩ : Fin 4) (off37_eq k) (k0_off37_inb k) | ⟨7, _⟩, ⟨0, _⟩ => exact aB_at arg11.view X_arg11 (⟨k.val, k.isLt⟩ : Fin 11) (⟨7, by decide⟩ : Fin 8) (⟨0, by decide⟩ : Fin 4) (off39_eq k) (k0_off39_inb k) | ⟨7, _⟩, ⟨1, _⟩ => exact aB_at arg11.view X_arg11 (⟨k.val, k.isLt⟩ : Fin 11) (⟨7, by decide⟩ : Fin 8) (⟨1, by decide⟩ : Fin 4) (off40_eq k) (k0_off40_inb k) | ⟨7, _⟩, ⟨2, _⟩ => exact aB_at arg11.view X_arg11 (⟨k.val, k.isLt⟩ : Fin 11) (⟨7, by decide⟩ : Fin 8) (⟨2, by decide⟩ : Fin 4) (off41_eq k) (k0_off41_inb k) | ⟨7, _⟩, ⟨3, _⟩ => exact aB_at arg11.view X_arg11 (⟨k.val, k.isLt⟩ : Fin 11) (⟨7, by decide⟩ : Fin 8) (⟨3, by decide⟩ : Fin 4) (off42_eq k) (k0_off42_inb k)

end Cert.Kernel.Tile
-- ==== Proof.Bits.BlocksOut.lean ====
/-
  What one pass of the second loop reads and writes, with every offset in closed form.
-/
module

public import proofs.«01_k».proof.Proof.Bits.Blocks
public import Idealize.ShloMosaic.Lib.VecWindow
public import Idealize.ShloMosaic.Lib.ValueIdx

@[expose] public section

set_option maxRecDepth 100000
set_option maxHeartbeats 4000000

noncomputable section

namespace Cert.Kernel.Tile

open Idealize.ShloMosaic Idealize.ShloMosaic.TcCoe Idealize.ShloMosaic.Tactic
open Cert.Kernel Cert.Kernel.Gen

variable {F : FTy → Type} [FloatOps F]

/-! The offsets of the second loop's reads and of its store. -/

theorem off44_0_eq : ∀ k : Fin k0_t2_loop.trips, k0_off44 k 0#32 = ![0, 0, 256 * k.val + 0] := by decide +kernel
theorem off44_128_eq : ∀ k : Fin k0_t2_loop.trips, k0_off44 k 128#32 = ![0, 0, 256 * k.val + 128] := by decide +kernel
theorem off47_0_eq : ∀ k : Fin k0_t2_loop.trips, k0_off47 k 0#32 = ![0, 64, 256 * k.val + 0] := by decide +kernel
theorem off47_128_eq : ∀ k : Fin k0_t2_loop.trips, k0_off47 k 128#32 = ![0, 64, 256 * k.val + 128] := by decide +kernel
theorem off50_0_eq : ∀ k : Fin k0_t2_loop.trips, k0_off50 k 0#32 = ![0, 128, 256 * k.val + 0] := by decide +kernel
theorem off50_128_eq : ∀ k : Fin k0_t2_loop.trips, k0_off50 k 128#32 = ![0, 128, 256 * k.val + 128] := by decide +kernel
theorem off53_0_eq : ∀ k : Fin k0_t2_loop.trips, k0_off53 k 0#32 = ![0, 192, 256 * k.val + 0] := by decide +kernel
theorem off53_128_eq : ∀ k : Fin k0_t2_loop.trips, k0_off53 k 128#32 = ![0, 192, 256 * k.val + 128] := by decide +kernel
theorem off56_0_eq : ∀ k : Fin k0_t2_loop.trips, k0_off56 k 0#32 = ![0, 256, 256 * k.val + 0] := by decide +kernel
theorem off56_128_eq : ∀ k : Fin k0_t2_loop.trips, k0_off56 k 128#32 = ![0, 256, 256 * k.val + 128] := by decide +kernel
theorem off59_0_eq : ∀ k : Fin k0_t2_loop.trips, k0_off59 k 0#32 = ![0, 320, 256 * k.val + 0] := by decide +kernel
theorem off59_128_eq : ∀ k : Fin k0_t2_loop.trips, k0_off59 k 128#32 = ![0, 320, 256 * k.val + 128] := by decide +kernel
theorem off62_0_eq : ∀ k : Fin k0_t2_loop.trips, k0_off62 k 0#32 = ![0, 384, 256 * k.val + 0] := by decide +kernel
theorem off62_128_eq : ∀ k : Fin k0_t2_loop.trips, k0_off62 k 128#32 = ![0, 384, 256 * k.val + 128] := by decide +kernel
theorem off65_0_eq : ∀ k : Fin k0_t2_loop.trips, k0_off65 k 0#32 = ![0, 448, 256 * k.val + 0] := by decide +kernel
theorem off65_128_eq : ∀ k : Fin k0_t2_loop.trips, k0_off65 k 128#32 = ![0, 448, 256 * k.val + 128] := by decide +kernel
theorem off68_0_eq : ∀ k : Fin k0_t2_loop.trips, k0_off68 k 0#32 = ![0, 512, 256 * k.val + 0] := by decide +kernel
theorem off68_128_eq : ∀ k : Fin k0_t2_loop.trips, k0_off68 k 128#32 = ![0, 512, 256 * k.val + 128] := by decide +kernel
theorem off71_0_eq : ∀ k : Fin k0_t2_loop.trips, k0_off71 k 0#32 = ![0, 576, 256 * k.val + 0] := by decide +kernel
theorem off71_128_eq : ∀ k : Fin k0_t2_loop.trips, k0_off71 k 128#32 = ![0, 576, 256 * k.val + 128] := by decide +kernel
theorem off74_0_eq : ∀ k : Fin k0_t2_loop.trips, k0_off74 k 0#32 = ![0, 640, 256 * k.val + 0] := by decide +kernel
theorem off74_128_eq : ∀ k : Fin k0_t2_loop.trips, k0_off74 k 128#32 = ![0, 640, 256 * k.val + 128] := by decide +kernel
theorem off45_0_eq : ∀ k : Fin k0_t2_loop.trips, k0_off45 k 0#32 = ![0, 0, 256 * k.val + 0] := by decide +kernel
theorem off46_0_eq : ∀ k : Fin k0_t2_loop.trips, k0_off46 k 0#32 = ![1, 0, 256 * k.val + 0] := by decide +kernel
theorem off45_128_eq : ∀ k : Fin k0_t2_loop.trips, k0_off45 k 128#32 = ![0, 0, 256 * k.val + 128] := by decide +kernel
theorem off46_128_eq : ∀ k : Fin k0_t2_loop.trips, k0_off46 k 128#32 = ![1, 0, 256 * k.val + 128] := by decide +kernel
theorem off48_0_eq : ∀ k : Fin k0_t2_loop.trips, k0_off48 k 0#32 = ![2, 0, 256 * k.val + 0] := by decide +kernel
theorem off49_0_eq : ∀ k : Fin k0_t2_loop.trips, k0_off49 k 0#32 = ![3, 0, 256 * k.val + 0] := by decide +kernel
theorem off48_128_eq : ∀ k : Fin k0_t2_loop.trips, k0_off48 k 128#32 = ![2, 0, 256 * k.val + 128] := by decide +kernel
theorem off49_128_eq : ∀ k : Fin k0_t2_loop.trips, k0_off49 k 128#32 = ![3, 0, 256 * k.val + 128] := by decide +kernel
theorem off51_0_eq : ∀ k : Fin k0_t2_loop.trips, k0_off51 k 0#32 = ![4, 0, 256 * k.val + 0] := by decide +kernel
theorem off52_0_eq : ∀ k : Fin k0_t2_loop.trips, k0_off52 k 0#32 = ![5, 0, 256 * k.val + 0] := by decide +kernel
theorem off51_128_eq : ∀ k : Fin k0_t2_loop.trips, k0_off51 k 128#32 = ![4, 0, 256 * k.val + 128] := by decide +kernel
theorem off52_128_eq : ∀ k : Fin k0_t2_loop.trips, k0_off52 k 128#32 = ![5, 0, 256 * k.val + 128] := by decide +kernel
theorem off54_0_eq : ∀ k : Fin k0_t2_loop.trips, k0_off54 k 0#32 = ![6, 0, 256 * k.val + 0] := by decide +kernel
theorem off55_0_eq : ∀ k : Fin k0_t2_loop.trips, k0_off55 k 0#32 = ![7, 0, 256 * k.val + 0] := by decide +kernel
theorem off54_128_eq : ∀ k : Fin k0_t2_loop.trips, k0_off54 k 128#32 = ![6, 0, 256 * k.val + 128] := by decide +kernel
theorem off55_128_eq : ∀ k : Fin k0_t2_loop.trips, k0_off55 k 128#32 = ![7, 0, 256 * k.val + 128] := by decide +kernel
theorem off57_0_eq : ∀ k : Fin k0_t2_loop.trips, k0_off57 k 0#32 = ![8, 0, 256 * k.val + 0] := by decide +kernel
theorem off58_0_eq : ∀ k : Fin k0_t2_loop.trips, k0_off58 k 0#32 = ![9, 0, 256 * k.val + 0] := by decide +kernel
theorem off57_128_eq : ∀ k : Fin k0_t2_loop.trips, k0_off57 k 128#32 = ![8, 0, 256 * k.val + 128] := by decide +kernel
theorem off58_128_eq : ∀ k : Fin k0_t2_loop.trips, k0_off58 k 128#32 = ![9, 0, 256 * k.val + 128] := by decide +kernel
theorem off60_0_eq : ∀ k : Fin k0_t2_loop.trips, k0_off60 k 0#32 = ![10, 0, 256 * k.val + 0] := by decide +kernel
theorem off61_0_eq : ∀ k : Fin k0_t2_loop.trips, k0_off61 k 0#32 = ![11, 0, 256 * k.val + 0] := by decide +kernel
theorem off60_128_eq : ∀ k : Fin k0_t2_loop.trips, k0_off60 k 128#32 = ![10, 0, 256 * k.val + 128] := by decide +kernel
theorem off61_128_eq : ∀ k : Fin k0_t2_loop.trips, k0_off61 k 128#32 = ![11, 0, 256 * k.val + 128] := by decide +kernel
theorem off63_0_eq : ∀ k : Fin k0_t2_loop.trips, k0_off63 k 0#32 = ![12, 0, 256 * k.val + 0] := by decide +kernel
theorem off64_0_eq : ∀ k : Fin k0_t2_loop.trips, k0_off64 k 0#32 = ![13, 0, 256 * k.val + 0] := by decide +kernel
theorem off63_128_eq : ∀ k : Fin k0_t2_loop.trips, k0_off63 k 128#32 = ![12, 0, 256 * k.val + 128] := by decide +kernel
theorem off64_128_eq : ∀ k : Fin k0_t2_loop.trips, k0_off64 k 128#32 = ![13, 0, 256 * k.val + 128] := by decide +kernel
theorem off66_0_eq : ∀ k : Fin k0_t2_loop.trips, k0_off66 k 0#32 = ![14, 0, 256 * k.val + 0] := by decide +kernel
theorem off67_0_eq : ∀ k : Fin k0_t2_loop.trips, k0_off67 k 0#32 = ![15, 0, 256 * k.val + 0] := by decide +kernel
theorem off66_128_eq : ∀ k : Fin k0_t2_loop.trips, k0_off66 k 128#32 = ![14, 0, 256 * k.val + 128] := by decide +kernel
theorem off67_128_eq : ∀ k : Fin k0_t2_loop.trips, k0_off67 k 128#32 = ![15, 0, 256 * k.val + 128] := by decide +kernel
theorem off69_0_eq : ∀ k : Fin k0_t2_loop.trips, k0_off69 k 0#32 = ![16, 0, 256 * k.val + 0] := by decide +kernel
theorem off70_0_eq : ∀ k : Fin k0_t2_loop.trips, k0_off70 k 0#32 = ![17, 0, 256 * k.val + 0] := by decide +kernel
theorem off69_128_eq : ∀ k : Fin k0_t2_loop.trips, k0_off69 k 128#32 = ![16, 0, 256 * k.val + 128] := by decide +kernel
theorem off70_128_eq : ∀ k : Fin k0_t2_loop.trips, k0_off70 k 128#32 = ![17, 0, 256 * k.val + 128] := by decide +kernel
theorem off72_0_eq : ∀ k : Fin k0_t2_loop.trips, k0_off72 k 0#32 = ![18, 0, 256 * k.val + 0] := by decide +kernel
theorem off73_0_eq : ∀ k : Fin k0_t2_loop.trips, k0_off73 k 0#32 = ![19, 0, 256 * k.val + 0] := by decide +kernel
theorem off72_128_eq : ∀ k : Fin k0_t2_loop.trips, k0_off72 k 128#32 = ![18, 0, 256 * k.val + 128] := by decide +kernel
theorem off73_128_eq : ∀ k : Fin k0_t2_loop.trips, k0_off73 k 128#32 = ![19, 0, 256 * k.val + 128] := by decide +kernel
theorem off75_0_eq : ∀ k : Fin k0_t2_loop.trips, k0_off75 k 0#32 = ![20, 0, 256 * k.val + 0] := by decide +kernel
theorem off76_0_eq : ∀ k : Fin k0_t2_loop.trips, k0_off76 k 0#32 = ![21, 0, 256 * k.val + 0] := by decide +kernel
theorem off75_128_eq : ∀ k : Fin k0_t2_loop.trips, k0_off75 k 128#32 = ![20, 0, 256 * k.val + 128] := by decide +kernel
theorem off76_128_eq : ∀ k : Fin k0_t2_loop.trips, k0_off76 k 128#32 = ![21, 0, 256 * k.val + 128] := by decide +kernel
theorem off77_eq : ∀ k : Fin k0_t2_loop.trips, k0_off77 k = ![0, 256 * k.val] := by decide +kernel

/-- A pass of the second loop writes its 256 columns of the accumulator. -/
theorem tripO  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v1 : Elt F .i32) (v2 : Vec F S64x128 .f32) (v8 : Vec F S96x6 .i32) (v12 : Vec F S96x6 .f32) (X_arg12 : BufTy.Contents (Elt F) arg12.view.ty) (X_arg13 : BufTy.Contents (Elt F) arg13.view.ty) (X_arg15 : BufTy.Contents (Elt F) arg15.view.ty) (k : Fin k0_t2_loop.trips) (f_arg16 : BufTy.Contents (Elt F) arg16.view.ty) :
        tripL_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 k f_arg16  = [⟨Rect.unit (s := S96x2048) (k0_off77 k) S96x256.size (k0_off77_inb k),
      outTile v2 v1 v8 v12 (arg15.view.read (Elt F) X_arg15) (arg12.view.read (Elt F) X_arg12) (arg13.view.read (Elt F) X_arg13) (arg16.view.read (Elt F) f_arg16) (⟨k.val, k.isLt⟩ : Fin 8)⟩] := by
  rw [tripL2]
  unfold outTile
  congr 3
  · funext j; match j with | ⟨0, _⟩ => exact hB_at arg15.view X_arg15 (⟨0, by decide⟩ : Fin 11) (off := ![0, 0]) rfl inb_S96x1408_S96x128_0_0 | ⟨1, _⟩ => exact hB_at arg15.view X_arg15 (⟨1, by decide⟩ : Fin 11) (off := ![0, 128]) rfl inb_S96x1408_S96x128_0_128 | ⟨2, _⟩ => exact hB_at arg15.view X_arg15 (⟨2, by decide⟩ : Fin 11) (off := ![0, 256]) rfl inb_S96x1408_S96x128_0_256 | ⟨3, _⟩ => exact hB_at arg15.view X_arg15 (⟨3, by decide⟩ : Fin 11) (off := ![0, 384]) rfl inb_S96x1408_S96x128_0_384 | ⟨4, _⟩ => exact hB_at arg15.view X_arg15 (⟨4, by decide⟩ : Fin 11) (off := ![0, 512]) rfl inb_S96x1408_S96x128_0_512 | ⟨5, _⟩ => exact hB_at arg15.view X_arg15 (⟨5, by decide⟩ : Fin 11) (off := ![0, 640]) rfl inb_S96x1408_S96x128_0_640 | ⟨6, _⟩ => exact hB_at arg15.view X_arg15 (⟨6, by decide⟩ : Fin 11) (off := ![0, 768]) rfl inb_S96x1408_S96x128_0_768 | ⟨7, _⟩ => exact hB_at arg15.view X_arg15 (⟨7, by decide⟩ : Fin 11) (off := ![0, 896]) rfl inb_S96x1408_S96x128_0_896 | ⟨8, _⟩ => exact hB_at arg15.view X_arg15 (⟨8, by decide⟩ : Fin 11) (off := ![0, 1024]) rfl inb_S96x1408_S96x128_0_1024 | ⟨9, _⟩ => exact hB_at arg15.view X_arg15 (⟨9, by decide⟩ : Fin 11) (off := ![0, 1152]) rfl inb_S96x1408_S96x128_0_1152 | ⟨10, _⟩ => exact hB_at arg15.view X_arg15 (⟨10, by decide⟩ : Fin 11) (off := ![0, 1280]) rfl inb_S96x1408_S96x128_0_1280
  · funext c l; match c, l with | ⟨0, _⟩, ⟨0, _⟩ => exact dB_at arg12.view X_arg12 (⟨k.val, k.isLt⟩ : Fin 8) (⟨0, by decide⟩ : Fin 11) (⟨0, by decide⟩ : Fin 2) (off44_0_eq k) (k0_off44_inb k 0) | ⟨0, _⟩, ⟨1, _⟩ => exact dB_at arg12.view X_arg12 (⟨k.val, k.isLt⟩ : Fin 8) (⟨0, by decide⟩ : Fin 11) (⟨1, by decide⟩ : Fin 2) (off44_128_eq k) (k0_off44_inb k 1) | ⟨1, _⟩, ⟨0, _⟩ => exact dB_at arg12.view X_arg12 (⟨k.val, k.isLt⟩ : Fin 8) (⟨1, by decide⟩ : Fin 11) (⟨0, by decide⟩ : Fin 2) (off47_0_eq k) (k0_off47_inb k 0) | ⟨1, _⟩, ⟨1, _⟩ => exact dB_at arg12.view X_arg12 (⟨k.val, k.isLt⟩ : Fin 8) (⟨1, by decide⟩ : Fin 11) (⟨1, by decide⟩ : Fin 2) (off47_128_eq k) (k0_off47_inb k 1) | ⟨2, _⟩, ⟨0, _⟩ => exact dB_at arg12.view X_arg12 (⟨k.val, k.isLt⟩ : Fin 8) (⟨2, by decide⟩ : Fin 11) (⟨0, by decide⟩ : Fin 2) (off50_0_eq k) (k0_off50_inb k 0) | ⟨2, _⟩, ⟨1, _⟩ => exact dB_at arg12.view X_arg12 (⟨k.val, k.isLt⟩ : Fin 8) (⟨2, by decide⟩ : Fin 11) (⟨1, by decide⟩ : Fin 2) (off50_128_eq k) (k0_off50_inb k 1) | ⟨3, _⟩, ⟨0, _⟩ => exact dB_at arg12.view X_arg12 (⟨k.val, k.isLt⟩ : Fin 8) (⟨3, by decide⟩ : Fin 11) (⟨0, by decide⟩ : Fin 2) (off53_0_eq k) (k0_off53_inb k 0) | ⟨3, _⟩, ⟨1, _⟩ => exact dB_at arg12.view X_arg12 (⟨k.val, k.isLt⟩ : Fin 8) (⟨3, by decide⟩ : Fin 11) (⟨1, by decide⟩ : Fin 2) (off53_128_eq k) (k0_off53_inb k 1) | ⟨4, _⟩, ⟨0, _⟩ => exact dB_at arg12.view X_arg12 (⟨k.val, k.isLt⟩ : Fin 8) (⟨4, by decide⟩ : Fin 11) (⟨0, by decide⟩ : Fin 2) (off56_0_eq k) (k0_off56_inb k 0) | ⟨4, _⟩, ⟨1, _⟩ => exact dB_at arg12.view X_arg12 (⟨k.val, k.isLt⟩ : Fin 8) (⟨4, by decide⟩ : Fin 11) (⟨1, by decide⟩ : Fin 2) (off56_128_eq k) (k0_off56_inb k 1) | ⟨5, _⟩, ⟨0, _⟩ => exact dB_at arg12.view X_arg12 (⟨k.val, k.isLt⟩ : Fin 8) (⟨5, by decide⟩ : Fin 11) (⟨0, by decide⟩ : Fin 2) (off59_0_eq k) (k0_off59_inb k 0) | ⟨5, _⟩, ⟨1, _⟩ => exact dB_at arg12.view X_arg12 (⟨k.val, k.isLt⟩ : Fin 8) (⟨5, by decide⟩ : Fin 11) (⟨1, by decide⟩ : Fin 2) (off59_128_eq k) (k0_off59_inb k 1) | ⟨6, _⟩, ⟨0, _⟩ => exact dB_at arg12.view X_arg12 (⟨k.val, k.isLt⟩ : Fin 8) (⟨6, by decide⟩ : Fin 11) (⟨0, by decide⟩ : Fin 2) (off62_0_eq k) (k0_off62_inb k 0) | ⟨6, _⟩, ⟨1, _⟩ => exact dB_at arg12.view X_arg12 (⟨k.val, k.isLt⟩ : Fin 8) (⟨6, by decide⟩ : Fin 11) (⟨1, by decide⟩ : Fin 2) (off62_128_eq k) (k0_off62_inb k 1) | ⟨7, _⟩, ⟨0, _⟩ => exact dB_at arg12.view X_arg12 (⟨k.val, k.isLt⟩ : Fin 8) (⟨7, by decide⟩ : Fin 11) (⟨0, by decide⟩ : Fin 2) (off65_0_eq k) (k0_off65_inb k 0) | ⟨7, _⟩, ⟨1, _⟩ => exact dB_at arg12.view X_arg12 (⟨k.val, k.isLt⟩ : Fin 8) (⟨7, by decide⟩ : Fin 11) (⟨1, by decide⟩ : Fin 2) (off65_128_eq k) (k0_off65_inb k 1) | ⟨8, _⟩, ⟨0, _⟩ => exact dB_at arg12.view X_arg12 (⟨k.val, k.isLt⟩ : Fin 8) (⟨8, by decide⟩ : Fin 11) (⟨0, by decide⟩ : Fin 2) (off68_0_eq k) (k0_off68_inb k 0) | ⟨8, _⟩, ⟨1, _⟩ => exact dB_at arg12.view X_arg12 (⟨k.val, k.isLt⟩ : Fin 8) (⟨8, by decide⟩ : Fin 11) (⟨1, by decide⟩ : Fin 2) (off68_128_eq k) (k0_off68_inb k 1) | ⟨9, _⟩, ⟨0, _⟩ => exact dB_at arg12.view X_arg12 (⟨k.val, k.isLt⟩ : Fin 8) (⟨9, by decide⟩ : Fin 11) (⟨0, by decide⟩ : Fin 2) (off71_0_eq k) (k0_off71_inb k 0) | ⟨9, _⟩, ⟨1, _⟩ => exact dB_at arg12.view X_arg12 (⟨k.val, k.isLt⟩ : Fin 8) (⟨9, by decide⟩ : Fin 11) (⟨1, by decide⟩ : Fin 2) (off71_128_eq k) (k0_off71_inb k 1) | ⟨10, _⟩, ⟨0, _⟩ => exact dB_at arg12.view X_arg12 (⟨k.val, k.isLt⟩ : Fin 8) (⟨10, by decide⟩ : Fin 11) (⟨0, by decide⟩ : Fin 2) (off74_0_eq k) (k0_off74_inb k 0) | ⟨10, _⟩, ⟨1, _⟩ => exact dB_at arg12.view X_arg12 (⟨k.val, k.isLt⟩ : Fin 8) (⟨10, by decide⟩ : Fin 11) (⟨1, by decide⟩ : Fin 2) (off74_128_eq k) (k0_off74_inb k 1)
  · funext c l g; match c, l, g with | ⟨0, _⟩, ⟨0, _⟩, ⟨0, _⟩ => exact sB_at arg13.view X_arg13 (⟨k.val, k.isLt⟩ : Fin 8) (⟨0, by decide⟩ : Fin 11) (⟨0, by decide⟩ : Fin 2) (⟨0, by decide⟩ : Fin 2) (off45_0_eq k) (k0_off45_inb k 0) | ⟨0, _⟩, ⟨0, _⟩, ⟨1, _⟩ => exact sB_at arg13.view X_arg13 (⟨k.val, k.isLt⟩ : Fin 8) (⟨0, by decide⟩ : Fin 11) (⟨0, by decide⟩ : Fin 2) (⟨1, by decide⟩ : Fin 2) (off46_0_eq k) (k0_off46_inb k 0) | ⟨0, _⟩, ⟨1, _⟩, ⟨0, _⟩ => exact sB_at arg13.view X_arg13 (⟨k.val, k.isLt⟩ : Fin 8) (⟨0, by decide⟩ : Fin 11) (⟨1, by decide⟩ : Fin 2) (⟨0, by decide⟩ : Fin 2) (off45_128_eq k) (k0_off45_inb k 1) | ⟨0, _⟩, ⟨1, _⟩, ⟨1, _⟩ => exact sB_at arg13.view X_arg13 (⟨k.val, k.isLt⟩ : Fin 8) (⟨0, by decide⟩ : Fin 11) (⟨1, by decide⟩ : Fin 2) (⟨1, by decide⟩ : Fin 2) (off46_128_eq k) (k0_off46_inb k 1) | ⟨1, _⟩, ⟨0, _⟩, ⟨0, _⟩ => exact sB_at arg13.view X_arg13 (⟨k.val, k.isLt⟩ : Fin 8) (⟨1, by decide⟩ : Fin 11) (⟨0, by decide⟩ : Fin 2) (⟨0, by decide⟩ : Fin 2) (off48_0_eq k) (k0_off48_inb k 0) | ⟨1, _⟩, ⟨0, _⟩, ⟨1, _⟩ => exact sB_at arg13.view X_arg13 (⟨k.val, k.isLt⟩ : Fin 8) (⟨1, by decide⟩ : Fin 11) (⟨0, by decide⟩ : Fin 2) (⟨1, by decide⟩ : Fin 2) (off49_0_eq k) (k0_off49_inb k 0) | ⟨1, _⟩, ⟨1, _⟩, ⟨0, _⟩ => exact sB_at arg13.view X_arg13 (⟨k.val, k.isLt⟩ : Fin 8) (⟨1, by decide⟩ : Fin 11) (⟨1, by decide⟩ : Fin 2) (⟨0, by decide⟩ : Fin 2) (off48_128_eq k) (k0_off48_inb k 1) | ⟨1, _⟩, ⟨1, _⟩, ⟨1, _⟩ => exact sB_at arg13.view X_arg13 (⟨k.val, k.isLt⟩ : Fin 8) (⟨1, by decide⟩ : Fin 11) (⟨1, by decide⟩ : Fin 2) (⟨1, by decide⟩ : Fin 2) (off49_128_eq k) (k0_off49_inb k 1) | ⟨2, _⟩, ⟨0, _⟩, ⟨0, _⟩ => exact sB_at arg13.view X_arg13 (⟨k.val, k.isLt⟩ : Fin 8) (⟨2, by decide⟩ : Fin 11) (⟨0, by decide⟩ : Fin 2) (⟨0, by decide⟩ : Fin 2) (off51_0_eq k) (k0_off51_inb k 0) | ⟨2, _⟩, ⟨0, _⟩, ⟨1, _⟩ => exact sB_at arg13.view X_arg13 (⟨k.val, k.isLt⟩ : Fin 8) (⟨2, by decide⟩ : Fin 11) (⟨0, by decide⟩ : Fin 2) (⟨1, by decide⟩ : Fin 2) (off52_0_eq k) (k0_off52_inb k 0) | ⟨2, _⟩, ⟨1, _⟩, ⟨0, _⟩ => exact sB_at arg13.view X_arg13 (⟨k.val, k.isLt⟩ : Fin 8) (⟨2, by decide⟩ : Fin 11) (⟨1, by decide⟩ : Fin 2) (⟨0, by decide⟩ : Fin 2) (off51_128_eq k) (k0_off51_inb k 1) | ⟨2, _⟩, ⟨1, _⟩, ⟨1, _⟩ => exact sB_at arg13.view X_arg13 (⟨k.val, k.isLt⟩ : Fin 8) (⟨2, by decide⟩ : Fin 11) (⟨1, by decide⟩ : Fin 2) (⟨1, by decide⟩ : Fin 2) (off52_128_eq k) (k0_off52_inb k 1) | ⟨3, _⟩, ⟨0, _⟩, ⟨0, _⟩ => exact sB_at arg13.view X_arg13 (⟨k.val, k.isLt⟩ : Fin 8) (⟨3, by decide⟩ : Fin 11) (⟨0, by decide⟩ : Fin 2) (⟨0, by decide⟩ : Fin 2) (off54_0_eq k) (k0_off54_inb k 0) | ⟨3, _⟩, ⟨0, _⟩, ⟨1, _⟩ => exact sB_at arg13.view X_arg13 (⟨k.val, k.isLt⟩ : Fin 8) (⟨3, by decide⟩ : Fin 11) (⟨0, by decide⟩ : Fin 2) (⟨1, by decide⟩ : Fin 2) (off55_0_eq k) (k0_off55_inb k 0) | ⟨3, _⟩, ⟨1, _⟩, ⟨0, _⟩ => exact sB_at arg13.view X_arg13 (⟨k.val, k.isLt⟩ : Fin 8) (⟨3, by decide⟩ : Fin 11) (⟨1, by decide⟩ : Fin 2) (⟨0, by decide⟩ : Fin 2) (off54_128_eq k) (k0_off54_inb k 1) | ⟨3, _⟩, ⟨1, _⟩, ⟨1, _⟩ => exact sB_at arg13.view X_arg13 (⟨k.val, k.isLt⟩ : Fin 8) (⟨3, by decide⟩ : Fin 11) (⟨1, by decide⟩ : Fin 2) (⟨1, by decide⟩ : Fin 2) (off55_128_eq k) (k0_off55_inb k 1) | ⟨4, _⟩, ⟨0, _⟩, ⟨0, _⟩ => exact sB_at arg13.view X_arg13 (⟨k.val, k.isLt⟩ : Fin 8) (⟨4, by decide⟩ : Fin 11) (⟨0, by decide⟩ : Fin 2) (⟨0, by decide⟩ : Fin 2) (off57_0_eq k) (k0_off57_inb k 0) | ⟨4, _⟩, ⟨0, _⟩, ⟨1, _⟩ => exact sB_at arg13.view X_arg13 (⟨k.val, k.isLt⟩ : Fin 8) (⟨4, by decide⟩ : Fin 11) (⟨0, by decide⟩ : Fin 2) (⟨1, by decide⟩ : Fin 2) (off58_0_eq k) (k0_off58_inb k 0) | ⟨4, _⟩, ⟨1, _⟩, ⟨0, _⟩ => exact sB_at arg13.view X_arg13 (⟨k.val, k.isLt⟩ : Fin 8) (⟨4, by decide⟩ : Fin 11) (⟨1, by decide⟩ : Fin 2) (⟨0, by decide⟩ : Fin 2) (off57_128_eq k) (k0_off57_inb k 1) | ⟨4, _⟩, ⟨1, _⟩, ⟨1, _⟩ => exact sB_at arg13.view X_arg13 (⟨k.val, k.isLt⟩ : Fin 8) (⟨4, by decide⟩ : Fin 11) (⟨1, by decide⟩ : Fin 2) (⟨1, by decide⟩ : Fin 2) (off58_128_eq k) (k0_off58_inb k 1) | ⟨5, _⟩, ⟨0, _⟩, ⟨0, _⟩ => exact sB_at arg13.view X_arg13 (⟨k.val, k.isLt⟩ : Fin 8) (⟨5, by decide⟩ : Fin 11) (⟨0, by decide⟩ : Fin 2) (⟨0, by decide⟩ : Fin 2) (off60_0_eq k) (k0_off60_inb k 0) | ⟨5, _⟩, ⟨0, _⟩, ⟨1, _⟩ => exact sB_at arg13.view X_arg13 (⟨k.val, k.isLt⟩ : Fin 8) (⟨5, by decide⟩ : Fin 11) (⟨0, by decide⟩ : Fin 2) (⟨1, by decide⟩ : Fin 2) (off61_0_eq k) (k0_off61_inb k 0) | ⟨5, _⟩, ⟨1, _⟩, ⟨0, _⟩ => exact sB_at arg13.view X_arg13 (⟨k.val, k.isLt⟩ : Fin 8) (⟨5, by decide⟩ : Fin 11) (⟨1, by decide⟩ : Fin 2) (⟨0, by decide⟩ : Fin 2) (off60_128_eq k) (k0_off60_inb k 1) | ⟨5, _⟩, ⟨1, _⟩, ⟨1, _⟩ => exact sB_at arg13.view X_arg13 (⟨k.val, k.isLt⟩ : Fin 8) (⟨5, by decide⟩ : Fin 11) (⟨1, by decide⟩ : Fin 2) (⟨1, by decide⟩ : Fin 2) (off61_128_eq k) (k0_off61_inb k 1) | ⟨6, _⟩, ⟨0, _⟩, ⟨0, _⟩ => exact sB_at arg13.view X_arg13 (⟨k.val, k.isLt⟩ : Fin 8) (⟨6, by decide⟩ : Fin 11) (⟨0, by decide⟩ : Fin 2) (⟨0, by decide⟩ : Fin 2) (off63_0_eq k) (k0_off63_inb k 0) | ⟨6, _⟩, ⟨0, _⟩, ⟨1, _⟩ => exact sB_at arg13.view X_arg13 (⟨k.val, k.isLt⟩ : Fin 8) (⟨6, by decide⟩ : Fin 11) (⟨0, by decide⟩ : Fin 2) (⟨1, by decide⟩ : Fin 2) (off64_0_eq k) (k0_off64_inb k 0) | ⟨6, _⟩, ⟨1, _⟩, ⟨0, _⟩ => exact sB_at arg13.view X_arg13 (⟨k.val, k.isLt⟩ : Fin 8) (⟨6, by decide⟩ : Fin 11) (⟨1, by decide⟩ : Fin 2) (⟨0, by decide⟩ : Fin 2) (off63_128_eq k) (k0_off63_inb k 1) | ⟨6, _⟩, ⟨1, _⟩, ⟨1, _⟩ => exact sB_at arg13.view X_arg13 (⟨k.val, k.isLt⟩ : Fin 8) (⟨6, by decide⟩ : Fin 11) (⟨1, by decide⟩ : Fin 2) (⟨1, by decide⟩ : Fin 2) (off64_128_eq k) (k0_off64_inb k 1) | ⟨7, _⟩, ⟨0, _⟩, ⟨0, _⟩ => exact sB_at arg13.view X_arg13 (⟨k.val, k.isLt⟩ : Fin 8) (⟨7, by decide⟩ : Fin 11) (⟨0, by decide⟩ : Fin 2) (⟨0, by decide⟩ : Fin 2) (off66_0_eq k) (k0_off66_inb k 0) | ⟨7, _⟩, ⟨0, _⟩, ⟨1, _⟩ => exact sB_at arg13.view X_arg13 (⟨k.val, k.isLt⟩ : Fin 8) (⟨7, by decide⟩ : Fin 11) (⟨0, by decide⟩ : Fin 2) (⟨1, by decide⟩ : Fin 2) (off67_0_eq k) (k0_off67_inb k 0) | ⟨7, _⟩, ⟨1, _⟩, ⟨0, _⟩ => exact sB_at arg13.view X_arg13 (⟨k.val, k.isLt⟩ : Fin 8) (⟨7, by decide⟩ : Fin 11) (⟨1, by decide⟩ : Fin 2) (⟨0, by decide⟩ : Fin 2) (off66_128_eq k) (k0_off66_inb k 1) | ⟨7, _⟩, ⟨1, _⟩, ⟨1, _⟩ => exact sB_at arg13.view X_arg13 (⟨k.val, k.isLt⟩ : Fin 8) (⟨7, by decide⟩ : Fin 11) (⟨1, by decide⟩ : Fin 2) (⟨1, by decide⟩ : Fin 2) (off67_128_eq k) (k0_off67_inb k 1) | ⟨8, _⟩, ⟨0, _⟩, ⟨0, _⟩ => exact sB_at arg13.view X_arg13 (⟨k.val, k.isLt⟩ : Fin 8) (⟨8, by decide⟩ : Fin 11) (⟨0, by decide⟩ : Fin 2) (⟨0, by decide⟩ : Fin 2) (off69_0_eq k) (k0_off69_inb k 0) | ⟨8, _⟩, ⟨0, _⟩, ⟨1, _⟩ => exact sB_at arg13.view X_arg13 (⟨k.val, k.isLt⟩ : Fin 8) (⟨8, by decide⟩ : Fin 11) (⟨0, by decide⟩ : Fin 2) (⟨1, by decide⟩ : Fin 2) (off70_0_eq k) (k0_off70_inb k 0) | ⟨8, _⟩, ⟨1, _⟩, ⟨0, _⟩ => exact sB_at arg13.view X_arg13 (⟨k.val, k.isLt⟩ : Fin 8) (⟨8, by decide⟩ : Fin 11) (⟨1, by decide⟩ : Fin 2) (⟨0, by decide⟩ : Fin 2) (off69_128_eq k) (k0_off69_inb k 1) | ⟨8, _⟩, ⟨1, _⟩, ⟨1, _⟩ => exact sB_at arg13.view X_arg13 (⟨k.val, k.isLt⟩ : Fin 8) (⟨8, by decide⟩ : Fin 11) (⟨1, by decide⟩ : Fin 2) (⟨1, by decide⟩ : Fin 2) (off70_128_eq k) (k0_off70_inb k 1) | ⟨9, _⟩, ⟨0, _⟩, ⟨0, _⟩ => exact sB_at arg13.view X_arg13 (⟨k.val, k.isLt⟩ : Fin 8) (⟨9, by decide⟩ : Fin 11) (⟨0, by decide⟩ : Fin 2) (⟨0, by decide⟩ : Fin 2) (off72_0_eq k) (k0_off72_inb k 0) | ⟨9, _⟩, ⟨0, _⟩, ⟨1, _⟩ => exact sB_at arg13.view X_arg13 (⟨k.val, k.isLt⟩ : Fin 8) (⟨9, by decide⟩ : Fin 11) (⟨0, by decide⟩ : Fin 2) (⟨1, by decide⟩ : Fin 2) (off73_0_eq k) (k0_off73_inb k 0) | ⟨9, _⟩, ⟨1, _⟩, ⟨0, _⟩ => exact sB_at arg13.view X_arg13 (⟨k.val, k.isLt⟩ : Fin 8) (⟨9, by decide⟩ : Fin 11) (⟨1, by decide⟩ : Fin 2) (⟨0, by decide⟩ : Fin 2) (off72_128_eq k) (k0_off72_inb k 1) | ⟨9, _⟩, ⟨1, _⟩, ⟨1, _⟩ => exact sB_at arg13.view X_arg13 (⟨k.val, k.isLt⟩ : Fin 8) (⟨9, by decide⟩ : Fin 11) (⟨1, by decide⟩ : Fin 2) (⟨1, by decide⟩ : Fin 2) (off73_128_eq k) (k0_off73_inb k 1) | ⟨10, _⟩, ⟨0, _⟩, ⟨0, _⟩ => exact sB_at arg13.view X_arg13 (⟨k.val, k.isLt⟩ : Fin 8) (⟨10, by decide⟩ : Fin 11) (⟨0, by decide⟩ : Fin 2) (⟨0, by decide⟩ : Fin 2) (off75_0_eq k) (k0_off75_inb k 0) | ⟨10, _⟩, ⟨0, _⟩, ⟨1, _⟩ => exact sB_at arg13.view X_arg13 (⟨k.val, k.isLt⟩ : Fin 8) (⟨10, by decide⟩ : Fin 11) (⟨0, by decide⟩ : Fin 2) (⟨1, by decide⟩ : Fin 2) (off76_0_eq k) (k0_off76_inb k 0) | ⟨10, _⟩, ⟨1, _⟩, ⟨0, _⟩ => exact sB_at arg13.view X_arg13 (⟨k.val, k.isLt⟩ : Fin 8) (⟨10, by decide⟩ : Fin 11) (⟨1, by decide⟩ : Fin 2) (⟨0, by decide⟩ : Fin 2) (off75_128_eq k) (k0_off75_inb k 1) | ⟨10, _⟩, ⟨1, _⟩, ⟨1, _⟩ => exact sB_at arg13.view X_arg13 (⟨k.val, k.isLt⟩ : Fin 8) (⟨10, by decide⟩ : Fin 11) (⟨1, by decide⟩ : Fin 2) (⟨1, by decide⟩ : Fin 2) (off76_128_eq k) (k0_off76_inb k 1)
  · exact oB_at arg16.view f_arg16 (⟨k.val, k.isLt⟩ : Fin 8) (off77_eq k) (k0_off77_inb k)

end Cert.Kernel.Tile
-- ==== Proof.Bits.Reads.lean ====
/-
  What the two loops leave, whatever was in the scratch buffers before: the first the whole hidden layer of the step's
  expert, the second the accumulator with that expert's contribution added.
-/
module

public import proofs.«01_k».proof.Proof.Bits.BlocksOut

@[expose] public section

set_option maxRecDepth 100000
set_option maxHeartbeats 4000000

noncomputable section

namespace Cert.Kernel.Tile

open Idealize.ShloMosaic Idealize.ShloMosaic.TcCoe Idealize.ShloMosaic.Tactic
open Cert.Kernel Cert.Kernel.Gen

variable {F : FTy → Type} [FloatOps F]

/-- Eleven stores of 128 columns each, side by side, leave the columns stored. -/
theorem tiled1 (v : View sig .tc .vmem S96x1408 .bf16) (G : v.ty.Contents (Elt F)) (pb : ℕ → List (View.Piece (Elt F) S96x1408 .bf16))
    (T : Fin 11 → Vec F S96x128 .bf16) (h0 : pb 0 = [])
    (hs : ∀ k : Fin 11, ∃ off inb, off = ![0, 128 * k.val] ∧ pb (k.val + 1) = ⟨Rect.unit (s := S96x1408) off S96x128.size inb, T k⟩ :: pb k.val)
    (i : S96x1408.Idx) : v.read (Elt F) (v.writes (Elt F) G (pb 11)) i
      = T ⟨(i 1).val / 128, Nat.div_lt_of_lt_mul (i 1).isLt⟩ (ValueIdx.ix2 (i 0) ⟨(i 1).val % 128, Nat.mod_lt _ (by decide)⟩) := by
  have hi : (i 1).val < 1408 := (i 1).isLt
  have key : ∀ n ≤ 11, (i 1).val < 128 * n → v.read (Elt F) (v.writes (Elt F) G (pb n)) i
      = T ⟨(i 1).val / 128, Nat.div_lt_of_lt_mul (i 1).isLt⟩ (ValueIdx.ix2 (i 0) ⟨(i 1).val % 128, Nat.mod_lt _ (by decide)⟩) := by
    intro n
    induction n with
    | zero => intro _ h; omega
    | succ n ih =>
      intro hn h
      obtain ⟨off, inb, ho, hp⟩ := hs ⟨n, by omega⟩
      rw [show pb (n + 1) = _ from hp]
      by_cases hc : (i 1).val < 128 * n
      · rw [View.read_writes_cons_unit_of_not_mem v G inb _ _ i ho 1 (.inl hc)]
        exact ih (by omega) hc
      · have e : (⟨n, by omega⟩ : Fin 11) = ⟨(i 1).val / 128, Nat.div_lt_of_lt_mul (i 1).isLt⟩ := Fin.ext (by show n = (i 1).val / 128; omega)
        rw [← e]
        refine View.read_writes_cons_unit_of_mem v G inb _ _ i _ ho fun a => ?_
        match a with
        | ⟨0, _⟩ => exact (Nat.zero_add _).symm
        | ⟨1, _⟩ => show (i 1).val = 128 * n + (i 1).val % 128; omega
  exact key 11 (le_refl _) hi

/-- Eight stores of 256 columns each, side by side, each computed from the columns found there, leave the columns
    computed from what was there at first. -/
theorem tiled2 (v : View sig .tc .vmem S96x2048 .f32) (G : v.ty.Contents (Elt F)) (pb : ℕ → List (View.Piece (Elt F) S96x2048 .f32))
    (T : Fin 8 → Vec F S96x256 .f32 → Vec F S96x256 .f32) (h0 : pb 0 = [])
    (hs : ∀ k : Fin 8, ∃ off inb, off = ![0, 256 * k.val]
      ∧ pb (k.val + 1) = ⟨Rect.unit (s := S96x2048) off S96x256.size inb, T k (oB (v.read (Elt F) (v.writes (Elt F) G (pb k.val))) k)⟩ :: pb k.val)
    (i : S96x2048.Idx) : v.read (Elt F) (v.writes (Elt F) G (pb 8)) i
      = T ⟨(i 1).val / 256, Nat.div_lt_of_lt_mul (i 1).isLt⟩ (oB (v.read (Elt F) G) ⟨(i 1).val / 256, Nat.div_lt_of_lt_mul (i 1).isLt⟩)
          (ValueIdx.ix2 (i 0) ⟨(i 1).val % 256, Nat.mod_lt _ (by decide)⟩) := by
  have rest : ∀ n ≤ 8, ∀ i : S96x2048.Idx, 256 * n ≤ (i 1).val → v.read (Elt F) (v.writes (Elt F) G (pb n)) i = v.read (Elt F) G i := by
    intro n
    induction n with
    | zero => intro _ i _; rw [h0]; rfl
    | succ n ih =>
      intro hn i h
      obtain ⟨off, inb, ho, hp⟩ := hs ⟨n, by omega⟩
      rw [show pb (n + 1) = _ from hp,
        View.read_writes_cons_unit_of_not_mem v G inb _ _ i ho 1 (.inr (by show 256 * n + 256 ≤ (i 1).val; omega))]
      exact ih (by omega) i (by omega)
  have hi : (i 1).val < 2048 := (i 1).isLt
  have key : ∀ n ≤ 8, (i 1).val < 256 * n → v.read (Elt F) (v.writes (Elt F) G (pb n)) i
      = T ⟨(i 1).val / 256, Nat.div_lt_of_lt_mul (i 1).isLt⟩ (oB (v.read (Elt F) G) ⟨(i 1).val / 256, Nat.div_lt_of_lt_mul (i 1).isLt⟩)
          (ValueIdx.ix2 (i 0) ⟨(i 1).val % 256, Nat.mod_lt _ (by decide)⟩) := by
    intro n
    induction n with
    | zero => intro _ h; omega
    | succ n ih =>
      intro hn h
      obtain ⟨off, inb, ho, hp⟩ := hs ⟨n, by omega⟩
      rw [show pb (n + 1) = _ from hp]
      by_cases hc : (i 1).val < 256 * n
      · rw [View.read_writes_cons_unit_of_not_mem v G inb _ _ i ho 1 (.inl hc)]
        exact ih (by omega) hc
      · have e : (⟨n, by omega⟩ : Fin 8) = ⟨(i 1).val / 256, Nat.div_lt_of_lt_mul (i 1).isLt⟩ := Fin.ext (by show n = (i 1).val / 256; omega)
        rw [← e]
        have ho' : oB (v.read (Elt F) (v.writes (Elt F) G (pb n))) ⟨n, by omega⟩ = oB (v.read (Elt F) G) ⟨n, by omega⟩ := by
          funext y
          refine rest n (by omega) _ ?_
          show 256 * n ≤ 256 * n + 1 * (y 1).val
          omega
        refine (View.read_writes_cons_unit_of_mem v G inb _ _ i (ValueIdx.ix2 (i 0) ⟨(i 1).val % 256, Nat.mod_lt _ (by decide)⟩) ho fun a => ?_).trans (by rw [ho'])
        match a with
        | ⟨0, _⟩ => exact (Nat.zero_add _).symm
        | ⟨1, _⟩ => show (i 1).val = 256 * n + (i 1).val % 256; omega
  exact key 8 (le_refl _) hi

/-- The hidden layer after the first loop. -/
theorem read_hidden  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v2 : Vec F S64x128 .f32) (X_arg3 : BufTy.Contents (Elt F) arg3.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)  (G : arg15.view.ty.Contents (Elt F)) :
    arg15.view.read (Elt F) (arg15.view.writes (Elt F) G (pb_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 (Scf.trips k0_t1_loop.lb k0_t1_loop.ub k0_t1_loop.st)))
      = hidden v2 (arg6.view.read (Elt F) X_arg6) (arg3.view.read (Elt F) X_arg3) (arg8.view.read (Elt F) X_arg8) (arg9.view.read (Elt F) X_arg9) (arg10.view.read (Elt F) X_arg10) (arg11.view.read (Elt F) X_arg11) := by
  funext y
  refine tiled1 arg15.view G (pb_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11) (hidTile v2 (arg6.view.read (Elt F) X_arg6) (arg3.view.read (Elt F) X_arg3) (arg8.view.read (Elt F) X_arg8) (arg9.view.read (Elt F) X_arg9) (arg10.view.read (Elt F) X_arg10) (arg11.view.read (Elt F) X_arg11)) rfl (fun k => ?_) y
  refine ⟨k0_off43 ⟨k.val, k.isLt⟩, k0_off43_inb _, off43_eq _, ?_⟩
  rw [show pb_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 (k.val + 1) = _ from pb_k0_t1_succ  𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 ⟨k.val, k.isLt⟩, tripH]
  rfl

/-- The accumulator after the second loop. -/
theorem read_added  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v1 : Elt F .i32) (v2 : Vec F S64x128 .f32) (v8 : Vec F S96x6 .i32) (v12 : Vec F S96x6 .f32) (X_arg12 : BufTy.Contents (Elt F) arg12.view.ty) (X_arg13 : BufTy.Contents (Elt F) arg13.view.ty) (X_arg15 : BufTy.Contents (Elt F) arg15.view.ty)  (G : arg16.view.ty.Contents (Elt F)) :
    arg16.view.read (Elt F) (arg16.view.writes (Elt F) G (pb_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G (Scf.trips k0_t2_loop.lb k0_t2_loop.ub k0_t2_loop.st)))
      = added v2 v1 v8 v12 (arg15.view.read (Elt F) X_arg15) (arg12.view.read (Elt F) X_arg12) (arg13.view.read (Elt F) X_arg13) (arg16.view.read (Elt F) G) := by
  funext y
  refine tiled2 arg16.view G (pb_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G) (fun k => tile2 v2 v1 v8 v12 (hB (arg15.view.read (Elt F) X_arg15)) (dB (F := F) (arg12.view.read (Elt F) X_arg12) k) (sB (arg13.view.read (Elt F) X_arg13) k)) rfl (fun k => ?_) y
  refine ⟨k0_off77 ⟨k.val, k.isLt⟩, k0_off77_inb _, off77_eq _, ?_⟩
  rw [show pb_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G (k.val + 1) = _ from pb_k0_t2_succ  𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G ⟨k.val, k.isLt⟩, tripO]
  rfl

end Cert.Kernel.Tile
-- ==== Proof.Bits.Body.lean ====
/-
  One grid step of the kernel: from its windows, its two tables and its two scratch buffers, it runs to its return
  and hands everything back.
-/
module

public import proofs.«01_k».proof.Proof.Bits.Reads

@[expose] public section

set_option maxRecDepth 100000
set_option maxHeartbeats 4000000

noncomputable section

namespace Cert.Kernel.Step

open Cert.Kernel Cert.Kernel.Gen Cert.Kernel.Tile
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- The buffer held whole at `f`; -/
abbrev pt (c : Dev nD) {sp : Space} {S : Shape} {e : EltTy} (M : Memref sig .tc sp S e) (f : Bf (F := F) c M) : sProp 𝕄 :=
  M.view.loc (c : Thread nD τ) ↦[M.view.set]{fullShare} f
/-- or at half, to read. -/
abbrev ptq (c : Dev nD) {sp : Space} {S : Shape} {e : EltTy} (M : Memref sig .tc sp S e) (f : Bf (F := F) c M) : sProp 𝕄 :=
  M.view.loc (c : Thread nD τ) ↦[M.view.set]{fullShare.right} f

/-- The grid coordinate is in the range of the list of used experts. -/
theorem inRange {arg0 : BitVec 32} (h : k0_chk1 arg0) : arg0.toNat < 64 := by
  have h' := h 0
  have e : k0_off2 arg0 0 = arg0.toNat := rfl
  rw [e] at h'
  exact Nat.lt_of_succ_le h'

/-- The kernel's test for the first step. -/
theorem firstIff (arg0 : BitVec 32) : Scalar.cmpi .ne (Scalar.extui (Scalar.cmpi .eq arg0 0#32)) 0#32 = 1#1 ↔ arg0 = 0#32 := by
  by_cases h : arg0 = 0#32
  · subst h; exact ⟨fun _ => rfl, fun _ => by decide⟩
  · have e : Scalar.cmpi .eq arg0 0#32 = 0#1 := by
      show BitVec.ofBool (arg0 == 0#32) = 0#1
      rw [beq_eq_false_iff_ne.mpr h]; rfl
    rw [e]; exact ⟨fun h' => absurd h' (by decide), fun h' => absurd h' h⟩

/-- The accumulator after the step, of what the step reads. -/
def accNew (first : Bool) (e : Elt F .i32) (x : Vec F S96x2048 .bf16) (ids : Vec F S96x6 .i32) (cw : Vec F S96x6 .f32)
    (perm : Vec F S128x128 .bf16) (tab : Vec F S64x128 .f32) (wg : Vec F S1x1408x1024 .i8) (ag : Vec F S1x32x1408 .f32)
    (wu : Vec F S1x1408x1024 .i8) (au : Vec F S1x32x1408 .f32) (wd : Vec F S1x704x2048 .i8) (ad : Vec F S22x8x2048 .f32)
    (old : Vec F S96x2048 .f32) : Vec F S96x2048 .f32 :=
  added tab e ids cw (hidden tab perm x wg ag wu au) wd ad (if first then k0_pay2 else old)

/-- The step runs to its return; the accumulator then holds `accNew`, and the output's buffer is rounded from it at the
    last step and left alone at the others. -/
theorem kernelRun (c : Dev nD) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole)
    (X_arg1 : Bf (F := F) c arg1) (X_arg2 : Bf (F := F) c arg2) (X_arg3 : Bf (F := F) c arg3) (X_arg4 : Bf (F := F) c arg4) (X_arg5 : Bf (F := F) c arg5) (X_arg6 : Bf (F := F) c arg6) (X_arg7 : Bf (F := F) c arg7) (X_arg8 : Bf (F := F) c arg8) (X_arg9 : Bf (F := F) c arg9) (X_arg10 : Bf (F := F) c arg10) (X_arg11 : Bf (F := F) c arg11) (X_arg12 : Bf (F := F) c arg12) (X_arg13 : Bf (F := F) c arg13) (X_arg14 : Bf (F := F) c arg14) (X_arg15 : Bf (F := F) c arg15) (X_arg16 : Bf (F := F) c arg16) (W : Waits sig Unit) (hchk : k0_chk1 arg0) (Q : PUnit → sProp 𝕄) :
    iprop(ptq c arg1 X_arg1 ∗ ptq c arg2 X_arg2 ∗ pt c arg3 X_arg3 ∗ pt c arg4 X_arg4 ∗ pt c arg5 X_arg5 ∗ pt c arg6 X_arg6 ∗ pt c arg7 X_arg7 ∗ pt c arg8 X_arg8 ∗ pt c arg9 X_arg9 ∗ pt c arg10 X_arg10 ∗ pt c arg11 X_arg11 ∗ pt c arg12 X_arg12 ∗ pt c arg13 X_arg13 ∗ pt c arg14 X_arg14 ∗ pt c arg15 X_arg15 ∗ pt c arg16 X_arg16 ∗ owes (c : Thread nD τ) 0 W
      ∗ (iprop(ptq c arg1 X_arg1 ∗ ptq c arg2 X_arg2 ∗ pt c arg3 X_arg3 ∗ pt c arg4 X_arg4 ∗ pt c arg5 X_arg5 ∗ pt c arg6 X_arg6 ∗ pt c arg7 X_arg7 ∗ pt c arg8 X_arg8 ∗ pt c arg9 X_arg9 ∗ pt c arg10 X_arg10 ∗ pt c arg11 X_arg11 ∗ pt c arg12 X_arg12 ∗ pt c arg13 X_arg13 ∗ (∃ f, pt c arg15 f)
          ∗ (∃ f g, ⌜arg16.view.read (Elt F) f = accNew (arg0 == 0#32) (arg1.view.read (Elt F) X_arg1 (ValueIdx.ix1 ⟨arg0.toNat, inRange hchk⟩)) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg13.view.read (Elt F) X_arg13) (arg16.view.read (Elt F) X_arg16)
              ∧ arg14.view.read (Elt F) g = if k0_cond2 arg0 (arg2.view.read (Elt F) X_arg2 (ValueIdx.ix1 0)) = 1#1 then k0_pay6 (arg16.view.read (Elt F) f) else arg14.view.read (Elt F) X_arg14⌝
            ∗ pt c arg16 f ∗ pt c arg14 g)
          ∗ owes (c : Thread nD τ) 0 W) -∗ Q ⟨⟩))
    ⊢ wp frame (wpE (defs₀ (F := F)) Variants.none c none) Set.univ (cc0_moe_nf4 (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_moe_nf4_eq_skeleton]; unfold cc0_moe_nf4_skel
  iintro ⟨Harg1, Harg2, Harg3, Harg4, Harg5, Harg6, Harg7, Harg8, Harg9, Harg10, Harg11, Harg12, Harg13, Harg14, Harg15, Harg16, HO, Hk⟩
  by_cases h1 : Scalar.cmpi .ne (Scalar.extui (Scalar.cmpi .eq arg0 0#32)) 0#32 = 1#1
  · sl_exec
    sl_step
    iapply Hk
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg15]; · iexists _; iexact Harg15
    isplitr [HO]; swap; · iexact HO
    iexists _, _
    isplitr
    rotate_left
    · isplitl [Harg16]; · iexact Harg16
      iexact Harg14
    ipureintro
    have ha : kernelRun.sl.r c arg0 arg1 X_arg1 hchk = arg1.view.read (Elt F) X_arg1 (ValueIdx.ix1 ⟨arg0.toNat, inRange hchk⟩) := by
      unfold kernelRun.sl.r
      refine congrArg (arg1.view.read (Elt F) X_arg1) (funext fun a => Fin.ext ?_)
      match a with
      | ⟨0, _⟩ => rfl
    have hn : kernelRun.sl.r_1 c arg2 X_arg2 = arg2.view.read (Elt F) X_arg2 (ValueIdx.ix1 0) := by
      unfold kernelRun.sl.r_1
      refine congrArg (arg2.view.read (Elt F) X_arg2) (funext fun a => Fin.ext ?_)
      match a with
      | ⟨0, _⟩ => rfl
    rw [ha, hn]
    refine ⟨?_, ?_⟩
    · rw [View.writes_append, read_added, read_hidden, View.readAt_full, View.readAt_full, View.readAt_full]
      unfold accNew
      have hz : arg16.view.read (Elt F) (arg16.view.writes (Elt F) arg16.view.junk (kernelRun.sl.Harg16_1 (F := F))) = k0_pay2 (F := F) := by
        unfold kernelRun.sl.Harg16_1
        exact View.read_writes_full _ _ _ _ _
      rw [hz, if_pos (by simpa using (firstIff arg0).mp h1)]
    · by_cases hl : k0_cond2 arg0 (arg2.view.read (Elt F) X_arg2 (ValueIdx.ix1 0)) = 1#1
      · rw [dif_pos hl, if_pos hl, View.read_writes_full]
        congr 1
        unfold kernelRun.sl.v26
        first | exact View.readAt_full _ _ _ | (unfold View.readCov; exact (View.readAt_full _ _ _).trans (by rw [ha]))
      · rw [dif_neg hl, if_neg hl]
  · sl_exec
    sl_step
    iapply Hk
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg15]; · iexists _; iexact Harg15
    isplitr [HO]; swap; · iexact HO
    iexists _, _
    isplitr
    rotate_left
    · isplitl [Harg16]; · iexact Harg16
      iexact Harg14
    ipureintro
    have ha : kernelRun.sl.r_2 c arg0 arg1 X_arg1 hchk = arg1.view.read (Elt F) X_arg1 (ValueIdx.ix1 ⟨arg0.toNat, inRange hchk⟩) := by
      unfold kernelRun.sl.r_2
      refine congrArg (arg1.view.read (Elt F) X_arg1) (funext fun a => Fin.ext ?_)
      match a with
      | ⟨0, _⟩ => rfl
    have hn : kernelRun.sl.r_3 c arg2 X_arg2 = arg2.view.read (Elt F) X_arg2 (ValueIdx.ix1 0) := by
      unfold kernelRun.sl.r_3
      refine congrArg (arg2.view.read (Elt F) X_arg2) (funext fun a => Fin.ext ?_)
      match a with
      | ⟨0, _⟩ => rfl
    rw [ha, hn]
    refine ⟨?_, ?_⟩
    · rw [read_added, read_hidden, View.readAt_full, View.readAt_full, View.readAt_full]
      unfold accNew
      rw [if_neg (by simpa using fun h => h1 ((firstIff arg0).mpr h))]
    · by_cases hl : k0_cond2 arg0 (arg2.view.read (Elt F) X_arg2 (ValueIdx.ix1 0)) = 1#1
      · rw [dif_pos hl, if_pos hl, View.read_writes_full]
        congr 1
        unfold kernelRun.sl.v26_1
        first | (rw [View.readAt_full, ha])
      · rw [dif_neg hl, if_neg hl]

end Cert.Kernel.Step

end
-- ==== Proof.Bits.StepOwns.lean ====
/-
  One grid step, of the values its windows' buffers hold: the accumulator becomes `accNew` of them, and the output window
  is stored on the last step only.
-/
module

public import proofs.«01_k».proof.Proof.Bits.Body

@[expose] public section

set_option maxRecDepth 100000
set_option maxHeartbeats 4000000

noncomputable section

namespace Cert.Kernel.Step

open Cert.Kernel Cert.Kernel.Gen Cert.Kernel.Tile
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] accNew Tile.hidden added k0_pay6 k0_pay2

variable {F : FTy → Type} [FloatOps F]

local notation "𝕄" => MT nD τ sig Unit (Elt F) ℕ (UR sig nD τ) ℕ

set_option backward.isDefEq.respectTransparency.types false in
/-- The step at the two tables `T1`, `T2`, the windows' values `X3` … `X14` and the scratch buffers' contents. -/
theorem stepRun (c : Dev nD) (b : grid0.Bounds) (i : grid0.Static) (arg0 : BitVec 32) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole)
    (T1 : Buf (Elt F) ((c : Thread nD τ).loc main_v29)) (T2 : Buf (Elt F) ((c : Thread nD τ).loc main_v16))
    (X3 : Vec F S96x2048 .bf16) (X4 : Vec F S96x6 .i32) (X5 : Vec F S96x6 .f32) (X6 : Vec F S128x128 .bf16) (X7 : Vec F S64x128 .f32) (X8 : Vec F S1x1408x1024 .i8) (X9 : Vec F S1x32x1408 .f32) (X10 : Vec F S1x1408x1024 .i8) (X11 : Vec F S1x32x1408 .f32) (X12 : Vec F S1x704x2048 .i8) (X13 : Vec F S22x8x2048 .f32) (X14 : Vec F S96x2048 .bf16)
    (f15 : Buf (Elt F) ((c : Thread nD τ).loc cc0_scratch0)) (f16 : Buf (Elt F) ((c : Thread nD τ).loc cc0_scratch1))
    (W : Waits sig Unit) (hchk : k0_chk1 arg0) (Q : PUnit → sProp 𝕄) :
    iprop(((c : Thread nD τ).loc main_v29 ↦{fullShare.right} T1) ∗ ((c : Thread nD τ).loc main_v16 ↦{fullShare.right} T2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14
      ∗ ((c : Thread nD τ).loc cc0_scratch0 ↦{fullShare} f15) ∗ ((c : Thread nD τ).loc cc0_scratch1 ↦{fullShare} f16) ∗ owes (c : Thread nD τ) 0 W
      ∗ (iprop(((c : Thread nD τ).loc main_v29 ↦{fullShare.right} T1) ∗ ((c : Thread nD τ).loc main_v16 ↦{fullShare.right} T2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13
          ∗ owns (c : Thread nD τ) arg14 fullShare (if k0_cond2 arg0 (T2 (ValueIdx.ix1 0)) = 1#1 then k0_pay6 (accNew (arg0 == 0#32) (T1 (ValueIdx.ix1 ⟨arg0.toNat, inRange hchk⟩)) X3 X4 X5 X6 X7 X8 X9 X10 X11 X12 X13 f16) else X14)
          ∗ (∃ f, (c : Thread nD τ).loc cc0_scratch0 ↦{fullShare} f)
          ∗ ((c : Thread nD τ).loc cc0_scratch1 ↦{fullShare} accNew (arg0 == 0#32) (T1 (ValueIdx.ix1 ⟨arg0.toNat, inRange hchk⟩)) X3 X4 X5 X6 X7 X8 X9 X10 X11 X12 X13 f16)
          ∗ owes (c : Thread nD τ) 0 W) -∗ Q ⟨⟩))
    ⊢ wp frame (wpE (defs₀ (F := F)) Variants.none c none) Set.univ (cc0_moe_nf4 (F := F) b i arg0 (Memref.whole main_v29) (Memref.isWhole_whole _) (Memref.whole main_v16) (Memref.isWhole_whole _) arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) Q := by
  unfold owns
  iintro ⟨HT1, HT2, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%g13, %hg13, H13⟩, ⟨%g14, %hg14, H14⟩, H15, H16, HO, Hk⟩
  subst hg3
  subst hg4
  subst hg5
  subst hg6
  subst hg7
  subst hg8
  subst hg9
  subst hg10
  subst hg11
  subst hg12
  subst hg13
  subst hg14
  iapply (kernelRun c b i arg0 (Memref.whole main_v29) (Memref.isWhole_whole _) (Memref.whole main_v16) (Memref.isWhole_whole _) arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) T1 T2 g3 g4 g5 g6 g7 g8 g9 g10 g11 g12 g13 g14 f15 f16 W hchk)
  unfold ptq pt
  simp only [Memref.view_whole, View.set_whole, View.read_whole]
  isplitl [HT1]; · iexact HT1
  isplitl [HT2]; · iexact HT2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HO]; · iexact HO
  iintro ⟨HT1, HT2, H3, H4, H5, H6, H7, H8, H9, H10, H11, H12, H13, H15, ⟨%f, %g, %hfg, H16, H14⟩, HO⟩
  obtain ⟨hf, hg⟩ := hfg

  iapply Hk
  isplitl [HT1]; · iexact HT1
  isplitl [HT2]; · iexact HT2
  isplitl [H3]; · (iexists _; isplitr; swap; (· iexact H3); ipureintro; rfl)
  isplitl [H4]; · (iexists _; isplitr; swap; (· iexact H4); ipureintro; rfl)
  isplitl [H5]; · (iexists _; isplitr; swap; (· iexact H5); ipureintro; rfl)
  isplitl [H6]; · (iexists _; isplitr; swap; (· iexact H6); ipureintro; rfl)
  isplitl [H7]; · (iexists _; isplitr; swap; (· iexact H7); ipureintro; rfl)
  isplitl [H8]; · (iexists _; isplitr; swap; (· iexact H8); ipureintro; rfl)
  isplitl [H9]; · (iexists _; isplitr; swap; (· iexact H9); ipureintro; rfl)
  isplitl [H10]; · (iexists _; isplitr; swap; (· iexact H10); ipureintro; rfl)
  isplitl [H11]; · (iexists _; isplitr; swap; (· iexact H11); ipureintro; rfl)
  isplitl [H12]; · (iexists _; isplitr; swap; (· iexact H12); ipureintro; rfl)
  isplitl [H13]; · (iexists _; isplitr; swap; (· iexact H13); ipureintro; rfl)
  isplitl [H14]
  · iexists _; isplitr; swap; (· iexact H14); ipureintro; rw [hg, hf]
  isplitl [H15]; · iexact H15
  isplitl [H16]; · rw [← hf]; iexact H16
  iexact HO

end Cert.Kernel.Step

end
-- ==== Proof.Bits.HostOps.lean ====
/-
  The host's operations before the kernel, stretch by stretch: which buffers each stretch writes, and the functions of
  the arguments that they compute.
-/
module

public import proofs.«01_k».proof.Proof.Gen.Kernel.Launch
public import Idealize.ShloMosaic.Lib.StableHlo.Run
public import Idealize.ShloMosaic.Lib.Pipeline.Frame

@[expose] public section

set_option Elab.async false

noncomputable section

namespace Cert.Kernel.Host

open Cert.Kernel Cert.Kernel.Gen Idealize.ShloMosaic Idealize.ShloMosaic.TcCoe Idealize.SL.Sem Idealize.ShloMosaic.StableHlo

variable {F : FTy → Type} [FloatOps F]

/-! ## The functions the host computes -/

/-- Which experts some token picks. -/
def used (ids : IVec S96x1x6 32) : IVec S64 1 :=
  Host.reduce IntOp.ori (cmpi .eq (broadcastInDim S576x64 ![0, 1] bcast_S576x1_S576x64_0_1
      (broadcastInDim S576x1 ![0] bcast_S576_S576x1_0 (shapeCast S576 (shapeCast S96x6 ids shapeCasts_S96x1x6_S96x6) shapeCasts_S96x6_S576)))
    (broadcastInDim S576x64 ![0, 1] bcast_S1x64_S576x64_0_1 (broadcastInDim S1x64 ![1] bcast_S64_S1x64_1 (iotaInDim S64 32 0))))
    (constantI S_ 1 0#1) reducesTo_S576x64_S64_d0 h_S_

/-- A used expert's place among the used ones (the running count, less one). -/
def rank (u : IVec S64 1) : IVec S64 32 :=
  subi (Host.reduceWindow IntOp.addi ![64] ![1] ![63] ![0] (extui 32 u natLt_1_32)
      (broadcastInDim S_ ![] bcast_S_S_ (constantI S_ 32 0#32)) reduceWindows_S64_S64_w64s1p63_0 h_S_)
    (broadcastInDim S64 ![] bcast_S_S64 (constantI S_ 32 1#32))

/-- How many experts are used. -/
def nAct (u : IVec S64 1) : IVec S1 32 :=
  addi (extractStridedSlice S1 ![63] (rank u) slices_S64_S1_63) (broadcastInDim S1 ![] bcast_S_S1 (constantI S_ 32 1#32))

/-- Row `s`, column `e`: expert `e` is the `s`-th of the used ones. -/
def hit (u : IVec S64 1) : IVec S64x64 1 :=
  andi (broadcastInDim S64x64 ![0, 1] bcast_S1x64_S64x64_0_1 (broadcastInDim S1x64 ![1] bcast_S64_S1x64_1 u))
    (cmpi .eq (broadcastInDim S64x64 ![0, 1] bcast_S1x64_S64x64_0_1 (broadcastInDim S1x64 ![1] bcast_S64_S1x64_1 (rank u)))
      (broadcastInDim S64x64 ![0, 1] bcast_S64x1_S64x64_0_1 (broadcastInDim S64x1 ![0] bcast_S64_S64x1_0 (iotaInDim S64 32 0))))

/-- The used experts in increasing order, then zeros. -/
def act (u : IVec S64 1) : IVec S64 32 :=
  Host.reduce IntOp.addi (select (hit u)
      (broadcastInDim S64x64 ![0, 1] bcast_S1x64_S64x64_0_1 (broadcastInDim S1x64 ![1] bcast_S64_S1x64_1 (iotaInDim S64 32 0)))
      (broadcastInDim S64x64 ![] bcast_S_S64x64 (id (constantI S_ 32 0#32))))
    (constantI S_ 32 0#32) reducesTo_S64x64_S64_d1 h_S_

/-- Each entry divided by `c`, rounded down. -/
def floorDiv (x : IVec S128 32) (c : IVec S_ 32) : IVec S128 32 :=
  select (andi (cmpi .ne (signi x) (broadcastInDim S128 ![] bcast_S_S128 (signi c)))
      (cmpi .ne (Host.remsi x (broadcastInDim S128 ![] bcast_S_S128 c)) (broadcastInDim S128 ![] bcast_S_S128 (constantI S_ 32 0#32))))
    (subi (Host.divsi x (broadcastInDim S128 ![] bcast_S_S128 c)) (broadcastInDim S128 ![] bcast_S_S128 (constantI S_ 32 1#32)))
    (Host.divsi x (broadcastInDim S128 ![] bcast_S_S128 c))

/-- Each entry's remainder by `c`, of the sign of `c` (by 1 where `c` is 0). -/
def floorMod (x : IVec S128 32) (c : IVec S_ 32) : IVec S128 32 :=
  have c' : IVec S_ 32 := select (cmpi .eq c (constantI S_ 32 0#32)) (constantI S_ 32 1#32) c
  have r : IVec S128 32 := Host.remsi x (broadcastInDim S128 ![] bcast_S_S128 c')
  select (andi (cmpi .ne (cmpi .slt r (broadcastInDim S128 ![] bcast_S_S128 (constantI S_ 32 0#32)))
        (broadcastInDim S128 ![] bcast_S_S128 (cmpi .slt c' (constantI S_ 32 0#32))))
      (cmpi .ne r (broadcastInDim S128 ![] bcast_S_S128 (constantI S_ 32 0#32))))
    (addi r (broadcastInDim S128 ![] bcast_S_S128 c')) r

/-- The place, among 128 codes, of each row of decoded weights. -/
def order : IVec S128 32 :=
  addi (addi (addi
      (muli (broadcastInDim S128 ![] bcast_S_S128 (constantI S_ 32 64#32)) (floorDiv (iotaInDim S128 32 0) (constantI S_ 32 64#32)))
      (muli (broadcastInDim S128 ![] bcast_S_S128 (constantI S_ 32 8#32))
        (floorDiv (floorMod (iotaInDim S128 32 0) (constantI S_ 32 16#32)) (constantI S_ 32 2#32))))
      (muli (broadcastInDim S128 ![] bcast_S_S128 (constantI S_ 32 4#32)) (floorMod (iotaInDim S128 32 0) (constantI S_ 32 2#32))))
    (floorDiv (floorMod (iotaInDim S128 32 0) (constantI S_ 32 64#32)) (constantI S_ 32 16#32))

/-- The 128 by 128 matrix that takes hidden columns to the order of the decoded rows. -/
def perm : FVec F S128x128 .bf16 :=
  uitofp .bf16 (cmpi .eq
    (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 order)))

/-- The activations, their columns in the order of the decoded rows. -/
def xPerm (x : FVec F S96x1x2048 .bf16) : FVec F S96x2048 .bf16 :=
  shapeCast S96x2048 (transpose S96x32x4x8x2 [0, 1, 4, 2, 3] (shapeCast S96x32x8x2x4 x shapeCasts_S96x1x2048_S96x32x8x2x4)
    transposes_S96x32x8x2x4_S96x32x4x8x2_0_1_4_2_3) shapeCasts_S96x32x4x8x2_S96x2048

/-- The sixteen values, padded to 128 lanes and laid over 64 rows. -/
def table : FVec F S64x128 .f32 :=
  broadcastInDim S64x128 ![0, 1] bcast_S1x128_S64x128_0_1 (broadcastInDim S1x128 ![1] bcast_S128_S1x128_1
    (pad S128 ![0] ![112] ![0] ((fun i => FloatOps.ofBits .f32 (lit0 (S16.rowMajor i))) : FVec F S16 .f32)
      (sitofp .f32 (constantI S_ 32 0#32) : FVec F S_ .f32) pads_S16_S128_01120 h_S_))

/-! ## The stretches -/

/-- The contents after stretch 0. -/
def V0 (V : Valuation τ sig (Elt F)) : Valuation τ sig (Elt F) := after hostOps0 V

/-- The buffers stretch 0 writes. -/
abbrev outs0 : List (Ref sig .tc) := [main_cst, main_v0, main_v1, main_v2, main_v3, main_v4, main_v5, main_v6, main_v7, main_v8, main_c, main_v9, main_v10]

set_option maxRecDepth 8192 in
theorem writes0 : (hostOps0 : List (HloOp τ sig (Elt F))).Forall fun op => op.writes ⊆ (outs0.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh0 : (hostOps0 : List (HloOp τ sig (Elt F))).Forall fun op => op.fresh = ∅ := by
  simp only [List.Forall]
  exact ⟨rfl, rfl, rfl, rfl, rfl, rfl, rfl, rfl, rfl, rfl, rfl, rfl, rfl⟩

theorem keep0 (V : Valuation τ sig (Elt F)) (r : Ref sig .tc) (h : r ∉ outs0) :
    V0 V (Proc.devRef .tc r) = V (Proc.devRef .tc r) :=
  after_of_writes_sub hostOps0 _ writes0 h

/-- The contents after stretch 1. -/
def V1 (V : Valuation τ sig (Elt F)) : Valuation τ sig (Elt F) := after hostOps0_1 (V0 V)

/-- The buffers stretch 1 writes. -/
abbrev outs1 : List (Ref sig .tc) := [main_call0_call0_c, main_call0_call0_v0, main_v11]

set_option maxRecDepth 8192 in
theorem writes1 : (hostOps0_1 : List (HloOp τ sig (Elt F))).Forall fun op => op.writes ⊆ (outs1.map (Proc.devRef (τ := τ) .tc)).toFinset := by
  simp only [List.Forall]
  refine ⟨?_, ?_, ?_⟩ <;>
    (simp only [nullary_writes, unary_writes, binary_writes, ternary_writes, reshape_writes, Finset.singleton_subset_iff, List.mem_toFinset]; exact List.mem_map_of_mem (by decide))

theorem fresh1 : (hostOps0_1 : List (HloOp τ sig (Elt F))).Forall fun op => op.fresh = ∅ := by
  simp only [List.Forall]
  exact ⟨rfl, rfl, rfl⟩

theorem keep1 (V : Valuation τ sig (Elt F)) (r : Ref sig .tc) (h : r ∉ outs1) :
    V1 V (Proc.devRef .tc r) = V0 V (Proc.devRef .tc r) :=
  after_of_writes_sub hostOps0_1 _ writes1 h

/-- The contents after stretch 2. -/
def V2 (V : Valuation τ sig (Elt F)) : Valuation τ sig (Elt F) := after hostOps0_2 (V1 V)

/-- The buffers stretch 2 writes. -/
abbrev outs2 : List (Ref sig .tc) := [main_c_0, main_v12, main_v13, main_v14, main_c_1, main_v15, main_v16, main_v17, main_v18, main_v19, main_v20, main_v21, main_v22, main_v23, main_v24, main_v25, main_v26, main_v27, main_c_2]

set_option maxRecDepth 8192 in
theorem writes2 : (hostOps0_2 : List (HloOp τ sig (Elt F))).Forall fun op => op.writes ⊆ (outs2.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh2 : (hostOps0_2 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl⟩

theorem keep2 (V : Valuation τ sig (Elt F)) (r : Ref sig .tc) (h : r ∉ outs2) :
    V2 V (Proc.devRef .tc r) = V1 V (Proc.devRef .tc r) :=
  after_of_writes_sub hostOps0_2 _ writes2 h

/-- The contents after stretch 3. -/
def V3 (V : Valuation τ sig (Elt F)) : Valuation τ sig (Elt F) := after hostOps0_3 (V2 V)

/-- The buffers stretch 3 writes. -/
abbrev outs3 : List (Ref sig .tc) := [main_call1_v0, main_call1_v1, main_call1_v2, main_v28]

set_option maxRecDepth 8192 in
theorem writes3 : (hostOps0_3 : List (HloOp τ sig (Elt F))).Forall fun op => op.writes ⊆ (outs3.map (Proc.devRef (τ := τ) .tc)).toFinset := by
  simp only [List.Forall]
  refine ⟨?_, ?_, ?_, ?_⟩ <;>
    (simp only [nullary_writes, unary_writes, binary_writes, ternary_writes, reshape_writes, Finset.singleton_subset_iff, List.mem_toFinset]; exact List.mem_map_of_mem (by decide))

theorem fresh3 : (hostOps0_3 : List (HloOp τ sig (Elt F))).Forall fun op => op.fresh = ∅ := by
  simp only [List.Forall]
  exact ⟨rfl, rfl, rfl, rfl⟩

theorem keep3 (V : Valuation τ sig (Elt F)) (r : Ref sig .tc) (h : r ∉ outs3) :
    V3 V (Proc.devRef .tc r) = V2 V (Proc.devRef .tc r) :=
  after_of_writes_sub hostOps0_3 _ writes3 h

/-- The contents after stretch 4. -/
def V4 (V : Valuation τ sig (Elt F)) : Valuation τ sig (Elt F) := after hostOps0_4 (V3 V)

/-- The buffers stretch 4 writes. -/
abbrev outs4 : List (Ref sig .tc) := [main_c_3, main_v29, main_v30, main_v31, main_v32, main_v33, main_c_4]

set_option maxRecDepth 8192 in
theorem writes4 : (hostOps0_4 : List (HloOp τ sig (Elt F))).Forall fun op => op.writes ⊆ (outs4.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]; exact List.mem_map_of_mem (by decide))

theorem fresh4 : (hostOps0_4 : List (HloOp τ sig (Elt F))).Forall fun op => op.fresh = ∅ := by
  simp only [List.Forall]
  exact ⟨rfl, rfl, rfl, rfl, rfl, rfl, rfl⟩

theorem keep4 (V : Valuation τ sig (Elt F)) (r : Ref sig .tc) (h : r ∉ outs4) :
    V4 V (Proc.devRef .tc r) = V3 V (Proc.devRef .tc r) :=
  after_of_writes_sub hostOps0_4 _ writes4 h

/-- The contents after stretch 5. -/
def V5 (V : Valuation τ sig (Elt F)) : Valuation τ sig (Elt F) := after hostOps0_5 (V4 V)

/-- The buffers stretch 5 writes. -/
abbrev outs5 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v34]

set_option maxRecDepth 8192 in
theorem writes5 : (hostOps0_5 : List (HloOp τ sig (Elt F))).Forall fun op => op.writes ⊆ (outs5.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh5 : (hostOps0_5 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl⟩

theorem keep5 (V : Valuation τ sig (Elt F)) (r : Ref sig .tc) (h : r ∉ outs5) :
    V5 V (Proc.devRef .tc r) = V4 V (Proc.devRef .tc r) :=
  after_of_writes_sub hostOps0_5 _ writes5 h

/-- The contents after stretch 6. -/
def V6 (V : Valuation τ sig (Elt F)) : Valuation τ sig (Elt F) := after hostOps0_6 (V5 V)

/-- The buffers stretch 6 writes. -/
abbrev outs6 : List (Ref sig .tc) := [main_c_5]

set_option maxRecDepth 8192 in
theorem writes6 : (hostOps0_6 : List (HloOp τ sig (Elt F))).Forall fun op => op.writes ⊆ (outs6.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh6 : (hostOps0_6 : List (HloOp τ sig (Elt F))).Forall fun op => op.fresh = ∅ := by
  simp only [List.Forall]
  rfl

theorem keep6 (V : Valuation τ sig (Elt F)) (r : Ref sig .tc) (h : r ∉ outs6) :
    V6 V (Proc.devRef .tc r) = V5 V (Proc.devRef .tc r) :=
  after_of_writes_sub hostOps0_6 _ writes6 h

/-- The contents after stretch 7. -/
def V7 (V : Valuation τ sig (Elt F)) : Valuation τ sig (Elt F) := after hostOps0_7 (V6 V)

/-- The buffers stretch 7 writes. -/
abbrev outs7 : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v35]

set_option maxRecDepth 8192 in
theorem writes7 : (hostOps0_7 : List (HloOp τ sig (Elt F))).Forall fun op => op.writes ⊆ (outs7.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh7 : (hostOps0_7 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl⟩

theorem keep7 (V : Valuation τ sig (Elt F)) (r : Ref sig .tc) (h : r ∉ outs7) :
    V7 V (Proc.devRef .tc r) = V6 V (Proc.devRef .tc r) :=
  after_of_writes_sub hostOps0_7 _ writes7 h

/-- The contents after stretch 8. -/
def V8 (V : Valuation τ sig (Elt F)) : Valuation τ sig (Elt F) := after hostOps0_8 (V7 V)

/-- The buffers stretch 8 writes. -/
abbrev outs8 : List (Ref sig .tc) := [main_c_6]

set_option maxRecDepth 8192 in
theorem writes8 : (hostOps0_8 : List (HloOp τ sig (Elt F))).Forall fun op => op.writes ⊆ (outs8.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh8 : (hostOps0_8 : List (HloOp τ sig (Elt F))).Forall fun op => op.fresh = ∅ := by
  simp only [List.Forall]
  rfl

theorem keep8 (V : Valuation τ sig (Elt F)) (r : Ref sig .tc) (h : r ∉ outs8) :
    V8 V (Proc.devRef .tc r) = V7 V (Proc.devRef .tc r) :=
  after_of_writes_sub hostOps0_8 _ writes8 h

/-- The contents after stretch 9. -/
def V9 (V : Valuation τ sig (Elt F)) : Valuation τ sig (Elt F) := after hostOps0_9 (V8 V)

/-- The buffers stretch 9 writes. -/
abbrev outs9 : List (Ref sig .tc) := [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v36]

set_option maxRecDepth 8192 in
theorem writes9 : (hostOps0_9 : List (HloOp τ sig (Elt F))).Forall fun op => op.writes ⊆ (outs9.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh9 : (hostOps0_9 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl⟩

theorem keep9 (V : Valuation τ sig (Elt F)) (r : Ref sig .tc) (h : r ∉ outs9) :
    V9 V (Proc.devRef .tc r) = V8 V (Proc.devRef .tc r) :=
  after_of_writes_sub hostOps0_9 _ writes9 h

/-- The contents after stretch 10. -/
def V10 (V : Valuation τ sig (Elt F)) : Valuation τ sig (Elt F) := after hostOps0_10 (V9 V)

/-- The buffers stretch 10 writes. -/
abbrev outs10 : List (Ref sig .tc) := [main_c_7]

set_option maxRecDepth 8192 in
theorem writes10 : (hostOps0_10 : List (HloOp τ sig (Elt F))).Forall fun op => op.writes ⊆ (outs10.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh10 : (hostOps0_10 : List (HloOp τ sig (Elt F))).Forall fun op => op.fresh = ∅ := by
  simp only [List.Forall]
  rfl

theorem keep10 (V : Valuation τ sig (Elt F)) (r : Ref sig .tc) (h : r ∉ outs10) :
    V10 V (Proc.devRef .tc r) = V9 V (Proc.devRef .tc r) :=
  after_of_writes_sub hostOps0_10 _ writes10 h

/-- The contents after stretch 11. -/
def V11 (V : Valuation τ sig (Elt F)) : Valuation τ sig (Elt F) := after hostOps0_11 (V10 V)

/-- The buffers stretch 11 writes. -/
abbrev outs11 : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v37]

set_option maxRecDepth 8192 in
theorem writes11 : (hostOps0_11 : List (HloOp τ sig (Elt F))).Forall fun op => op.writes ⊆ (outs11.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh11 : (hostOps0_11 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl⟩

theorem keep11 (V : Valuation τ sig (Elt F)) (r : Ref sig .tc) (h : r ∉ outs11) :
    V11 V (Proc.devRef .tc r) = V10 V (Proc.devRef .tc r) :=
  after_of_writes_sub hostOps0_11 _ writes11 h

/-- The contents after stretch 12. -/
def V12 (V : Valuation τ sig (Elt F)) : Valuation τ sig (Elt F) := after hostOps0_12 (V11 V)

/-- The buffers stretch 12 writes. -/
abbrev outs12 : List (Ref sig .tc) := [main_c_8]

set_option maxRecDepth 8192 in
theorem writes12 : (hostOps0_12 : List (HloOp τ sig (Elt F))).Forall fun op => op.writes ⊆ (outs12.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh12 : (hostOps0_12 : List (HloOp τ sig (Elt F))).Forall fun op => op.fresh = ∅ := by
  simp only [List.Forall]
  rfl

theorem keep12 (V : Valuation τ sig (Elt F)) (r : Ref sig .tc) (h : r ∉ outs12) :
    V12 V (Proc.devRef .tc r) = V11 V (Proc.devRef .tc r) :=
  after_of_writes_sub hostOps0_12 _ writes12 h

/-- The contents after stretch 13. -/
def V13 (V : Valuation τ sig (Elt F)) : Valuation τ sig (Elt F) := after hostOps0_13 (V12 V)

/-- The buffers stretch 13 writes. -/
abbrev outs13 : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v38]

set_option maxRecDepth 8192 in
theorem writes13 : (hostOps0_13 : List (HloOp τ sig (Elt F))).Forall fun op => op.writes ⊆ (outs13.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh13 : (hostOps0_13 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl⟩

theorem keep13 (V : Valuation τ sig (Elt F)) (r : Ref sig .tc) (h : r ∉ outs13) :
    V13 V (Proc.devRef .tc r) = V12 V (Proc.devRef .tc r) :=
  after_of_writes_sub hostOps0_13 _ writes13 h

/-- The contents after stretch 14. -/
def V14 (V : Valuation τ sig (Elt F)) : Valuation τ sig (Elt F) := after hostOps0_14 (V13 V)

/-- The buffers stretch 14 writes. -/
abbrev outs14 : List (Ref sig .tc) := [main_c_9]

set_option maxRecDepth 8192 in
theorem writes14 : (hostOps0_14 : List (HloOp τ sig (Elt F))).Forall fun op => op.writes ⊆ (outs14.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh14 : (hostOps0_14 : List (HloOp τ sig (Elt F))).Forall fun op => op.fresh = ∅ := by
  simp only [List.Forall]
  rfl

theorem keep14 (V : Valuation τ sig (Elt F)) (r : Ref sig .tc) (h : r ∉ outs14) :
    V14 V (Proc.devRef .tc r) = V13 V (Proc.devRef .tc r) :=
  after_of_writes_sub hostOps0_14 _ writes14 h

/-- The contents after stretch 15. -/
def V15 (V : Valuation τ sig (Elt F)) : Valuation τ sig (Elt F) := after hostOps0_15 (V14 V)

/-- The buffers stretch 15 writes. -/
abbrev outs15 : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v39]

set_option maxRecDepth 8192 in
theorem writes15 : (hostOps0_15 : List (HloOp τ sig (Elt F))).Forall fun op => op.writes ⊆ (outs15.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh15 : (hostOps0_15 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl⟩

theorem keep15 (V : Valuation τ sig (Elt F)) (r : Ref sig .tc) (h : r ∉ outs15) :
    V15 V (Proc.devRef .tc r) = V14 V (Proc.devRef .tc r) :=
  after_of_writes_sub hostOps0_15 _ writes15 h

/-- The contents after stretch 16. -/
def V16 (V : Valuation τ sig (Elt F)) : Valuation τ sig (Elt F) := after hostOps0_16 (V15 V)

/-- The buffers stretch 16 writes. -/
abbrev outs16 : List (Ref sig .tc) := [main_c_10, main_v40, main_v41, main_c_11, main_v42, main_v43, main_v44, main_c_12, main_v45, main_v46, main_v47, main_v48, main_v49, main_v50, main_v51, main_v52, main_v53, main_v54, main_v55, main_c_13]

set_option maxRecDepth 8192 in
theorem writes16 : (hostOps0_16 : List (HloOp τ sig (Elt F))).Forall fun op => op.writes ⊆ (outs16.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh16 : (hostOps0_16 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl⟩

theorem keep16 (V : Valuation τ sig (Elt F)) (r : Ref sig .tc) (h : r ∉ outs16) :
    V16 V (Proc.devRef .tc r) = V15 V (Proc.devRef .tc r) :=
  after_of_writes_sub hostOps0_16 _ writes16 h

/-- The contents after stretch 17. -/
def V17 (V : Valuation τ sig (Elt F)) : Valuation τ sig (Elt F) := after hostOps0_17 (V16 V)

/-- The buffers stretch 17 writes. -/
abbrev outs17 : List (Ref sig .tc) := [main_call8_v0, main_v56]

set_option maxRecDepth 8192 in
theorem writes17 : (hostOps0_17 : List (HloOp τ sig (Elt F))).Forall fun op => op.writes ⊆ (outs17.map (Proc.devRef (τ := τ) .tc)).toFinset := by
  simp only [List.Forall]
  refine ⟨?_, ?_⟩ <;>
    (simp only [nullary_writes, unary_writes, binary_writes, ternary_writes, reshape_writes, Finset.singleton_subset_iff, List.mem_toFinset]; exact List.mem_map_of_mem (by decide))

theorem fresh17 : (hostOps0_17 : List (HloOp τ sig (Elt F))).Forall fun op => op.fresh = ∅ := by
  simp only [List.Forall]
  exact ⟨rfl, rfl⟩

theorem keep17 (V : Valuation τ sig (Elt F)) (r : Ref sig .tc) (h : r ∉ outs17) :
    V17 V (Proc.devRef .tc r) = V16 V (Proc.devRef .tc r) :=
  after_of_writes_sub hostOps0_17 _ writes17 h

/-- The contents after stretch 18. -/
def V18 (V : Valuation τ sig (Elt F)) : Valuation τ sig (Elt F) := after hostOps0_18 (V17 V)

/-- The buffers stretch 18 writes. -/
abbrev outs18 : List (Ref sig .tc) := [main_v57, main_v58, main_v59, main_v60, main_v61, main_v62, main_v63]

set_option maxRecDepth 8192 in
theorem writes18 : (hostOps0_18 : List (HloOp τ sig (Elt F))).Forall fun op => op.writes ⊆ (outs18.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]; exact List.mem_map_of_mem (by decide))

theorem fresh18 : (hostOps0_18 : List (HloOp τ sig (Elt F))).Forall fun op => op.fresh = ∅ := by
  simp only [List.Forall]
  exact ⟨rfl, rfl, rfl, rfl, rfl, rfl, rfl⟩

theorem keep18 (V : Valuation τ sig (Elt F)) (r : Ref sig .tc) (h : r ∉ outs18) :
    V18 V (Proc.devRef .tc r) = V17 V (Proc.devRef .tc r) :=
  after_of_writes_sub hostOps0_18 _ writes18 h

/-- The contents before the kernel. -/
abbrev val (V : Valuation τ sig (Elt F)) : Valuation τ sig (Elt F) := V18 V

/-- The host's operations, in order. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

theorem after_opss (V : Valuation τ sig (Elt F)) : after opss.flatten V = val V := by
  simp only [opss, List.flatten_cons, List.flatten_nil, List.append_nil, after_append]
  rfl

/-- The buffers the host's operations write. -/
abbrev outs : List (Ref sig .tc) := outs0 ++ outs1 ++ outs2 ++ outs3 ++ outs4 ++ outs5 ++ outs6 ++ outs7 ++ outs8 ++ outs9 ++ outs10 ++ outs11 ++ outs12 ++ outs13 ++ outs14 ++ outs15 ++ outs16 ++ outs17 ++ outs18

theorem keep (V : Valuation τ sig (Elt F)) (r : Ref sig .tc) (h : r ∉ outs) : val V (Proc.devRef .tc r) = V (Proc.devRef .tc r) := by
  simp only [outs, List.mem_append, not_or] at h
  unfold val; rw [keep18 V r (by tauto)]
  rw [keep17 V r (by tauto)]
  rw [keep16 V r (by tauto)]
  rw [keep15 V r (by tauto)]
  rw [keep14 V r (by tauto)]
  rw [keep13 V r (by tauto)]
  rw [keep12 V r (by tauto)]
  rw [keep11 V r (by tauto)]
  rw [keep10 V r (by tauto)]
  rw [keep9 V r (by tauto)]
  rw [keep8 V r (by tauto)]
  rw [keep7 V r (by tauto)]
  rw [keep6 V r (by tauto)]
  rw [keep5 V r (by tauto)]
  rw [keep4 V r (by tauto)]
  rw [keep3 V r (by tauto)]
  rw [keep2 V r (by tauto)]
  rw [keep1 V r (by tauto)]
  rw [keep0 V r (by tauto)]

end Cert.Kernel.Host

end
-- ==== Proof.Bits.Act.lean ====
/-
  The list of used experts the host builds: the count of used experts, and the `s`-th used expert at place `s`.
-/
module

public import proofs.«01_k».proof.Proof.Bits.HostOps
public import Idealize.ShloMosaic.Lib.Routing.Ops

@[expose] public section

noncomputable section

namespace Cert.Kernel.Host

open Cert.Kernel Cert.Kernel.Gen Idealize.ShloMosaic Idealize.ShloMosaic.ValueIdx Idealize.ShloMosaic.Routing

/-- Expert `e` is used. -/
def Used (u : IVec S64 1) (e : Nat) : Prop := ∃ h : e < 64, u (ix1 (⟨e, h⟩ : Fin 64)) = 1#1

instance (u : IVec S64 1) : DecidablePred (Used u) := fun e => by unfold Used; infer_instance

/-- How many experts are used. -/
def cnt (u : IVec S64 1) : Nat := Nat.count (Used u) 64

theorem cnt_le (u : IVec S64 1) : cnt u ≤ 64 := Nat.count_le _

theorem used_iff (u : IVec S64 1) (e : Fin 64) : Used u e.val ↔ u (ix1 e) = 1#1 :=
  ⟨fun ⟨_, h⟩ => h, fun h => ⟨e.isLt, h⟩⟩

theorem sum_range_count (P : Nat → Prop) [DecidablePred P] (n : Nat) :
    ((List.range n).map fun i => if P i then 1 else 0).sum = Nat.count P n := by
  induction n with
  | zero => rfl
  | succ n ih => rw [List.range_succ, List.map_append, List.sum_append, ih, Nat.count_succ]; simp

/-- An expert's place is the number of used experts up to it, less one. -/
theorem rank_apply (u : IVec S64 1) (e : Fin 64) : rank u (ix1 e) = BitVec.ofNat 32 (Nat.count (Used u) (e.val + 1)) - 1#32 := by
  have h := cumsum1 (N := 64) (Nm1 := 63) rfl (extui 32 u natLt_1_32) (fun i => if Used u i then 1 else 0)
    (fun i => by
      have := used_iff u i
      show (u (ix1 i)).setWidth 32 = _
      by_cases hu : u (ix1 i) = 1#1
      · rw [if_pos (this.2 hu), hu]; rfl
      · rw [if_neg (fun h => hu (this.1 h))]
        have h0 : u (ix1 i) = 0#1 := by
          generalize u (ix1 i) = b at hu; revert hu; revert b; decide
        rw [h0]; rfl)
    (broadcastInDim S_ ![] bcast_S_S_ (constantI S_ 32 0#32)) rfl reduceWindows_S64_S64_w64s1p63_0 h_S_ e
  rw [sum_range_count] at h
  exact congrArg (fun x => x - 1#32) h

/-- The number of used experts, as the host computes it. -/
theorem nAct_apply (u : IVec S64 1) (i : S1.Idx) : nAct u i = BitVec.ofNat 32 (cnt u) := by
  have h : nAct u i = rank u (ix1 (63 : Fin 64)) + 1#32 := by
    refine congrArg (fun x => x + 1#32) ?_
    show rank u _ = _
    refine congrArg (rank u) (funext fun a => Fin.ext ?_)
    match a with
    | ⟨0, _⟩ =>
      have := (i 0).isLt
      have h1 : (i 0).val = 0 := Nat.lt_one_iff.1 this
      show 63 + (i 0).val = 63
      rw [h1]
  rw [h, rank_apply, BitVec.sub_add_cancel]
  rfl

/-- Expert `e` is marked at place `s` exactly when it is used and `s` used experts come before it. -/
theorem hit_apply (u : IVec S64 1) (s e : Fin 64) :
    hit u (ix2 s e) = 1#1 ↔ Used u e.val ∧ Nat.count (Used u) e.val = s.val := by
  have h : hit u (ix2 s e) = IntOp.andi (u (ix1 e)) (IntOp.cmpi .eq (rank u (ix1 e)) (BitVec.ofNat 32 s.val)) := by
    unfold hit andi cmpi
    rw [show broadcastInDim S64x64 ![0, 1] bcast_S1x64_S64x64_0_1 (broadcastInDim S1x64 ![1] bcast_S64_S1x64_1 u) (ix2 s e) = u (ix1 e)
        from bcCols (n := 64) (m := 64) bcast_S64_S1x64_1 bcast_S1x64_S64x64_0_1 u s e,
      show broadcastInDim S64x64 ![0, 1] bcast_S1x64_S64x64_0_1 (broadcastInDim S1x64 ![1] bcast_S64_S1x64_1 (rank u)) (ix2 s e) = rank u (ix1 e)
        from bcCols (n := 64) (m := 64) bcast_S64_S1x64_1 bcast_S1x64_S64x64_0_1 (rank u) s e,
      show broadcastInDim S64x64 ![0, 1] bcast_S64x1_S64x64_0_1 (broadcastInDim S64x1 ![0] bcast_S64_S64x1_0 (iotaInDim S64 32 0)) (ix2 s e)
          = BitVec.ofNat 32 s.val
        from bcRows (n := 64) (m := 64) bcast_S64_S64x1_0 bcast_S64x1_S64x64_0_1 (iotaInDim S64 32 0) s e]
  have hand : ∀ a b : BitVec 1, IntOp.andi a b = 1#1 ↔ a = 1#1 ∧ b = 1#1 := by decide
  have hcmp : ∀ x y : BitVec 32, IntOp.cmpi .eq x y = 1#1 ↔ x = y := fun x y => by
    show BitVec.ofBool (x == y) = 1#1 ↔ _
    by_cases hxy : x = y
    · simp [hxy]
    · rw [beq_false_of_ne hxy]; simp only [hxy, iff_false]; decide
  rw [h, hand, hcmp, rank_apply, ← used_iff]
  refine and_congr_right fun hu => ?_
  rw [Nat.count_succ, if_pos hu]
  have hc : Nat.count (Used u) e.val ≤ 64 := (Nat.count_le _).trans e.isLt.le
  have hs := s.isLt
  generalize Nat.count (Used u) e.val = n at hc
  constructor
  · intro hh
    have := congrArg BitVec.toNat hh
    simp only [BitVec.toNat_sub, BitVec.toNat_ofNat] at this
    omega
  · rintro rfl
    apply BitVec.eq_of_toNat_eq
    simp only [BitVec.toNat_sub, BitVec.toNat_ofNat]
    omega

/-- What row `s` of the marked experts sums. -/
def entry (u : IVec S64 1) (s e : Fin 64) : BitVec 32 := if Used u e.val ∧ Nat.count (Used u) e.val = s.val then BitVec.ofNat 32 e.val else 0#32

theorem act_sum (u : IVec S64 1) (s : Fin 64) : act u (ix1 s) = ∑ e : Fin 64, entry u s e := by
  have hred : S64x64.Reduces [1] S64 := by decide
  unfold act
  rw [Host.reduce_eq_fold_single IntOp.addi _ _ reducesTo_S64x64_S64_d1 hred h_S_ (ix1 s)]
  show Finset.fold (fun a b : BitVec 32 => a + b) 0#32 _ _ = _
  refine (Finset.sum_eq_fold (M := BitVec 32) _ _).symm.trans (Finset.sum_congr rfl fun e _ => ?_)
  have hl : hred.lift (ix1 s) e = ix2 s e := by
    funext a
    match a with
    | ⟨0, _⟩ => rfl
    | ⟨1, _⟩ => rfl
  show Function.comp _ (hred.lift (ix1 s)) e = _
  rw [Function.comp_apply, hl]
  unfold entry
  show (if hit u (ix2 s e) = 1#1 then broadcastInDim S64x64 ![0, 1] bcast_S1x64_S64x64_0_1 (broadcastInDim S1x64 ![1] bcast_S64_S1x64_1 (iotaInDim S64 32 0)) (ix2 s e) else _) = _
  rw [show broadcastInDim S64x64 ![0, 1] bcast_S1x64_S64x64_0_1 (broadcastInDim S1x64 ![1] bcast_S64_S1x64_1 (iotaInDim S64 32 0)) (ix2 s e)
      = BitVec.ofNat 32 e.val from bcCols (n := 64) (m := 64) bcast_S64_S1x64_1 bcast_S1x64_S64x64_0_1 (iotaInDim S64 32 0) s e]
  by_cases hh : Used u e.val ∧ Nat.count (Used u) e.val = s.val
  · rw [if_pos ((hit_apply u s e).2 hh), if_pos hh]
  · rw [if_neg (fun h => hh ((hit_apply u s e).1 h)), if_neg hh]; rfl

/-- A used expert with `s` used ones before it is the one listed at place `s`. -/
theorem act_of_used (u : IVec S64 1) (s e : Fin 64) (hu : Used u e.val) (hc : Nat.count (Used u) e.val = s.val) :
    act u (ix1 s) = BitVec.ofNat 32 e.val := by
  rw [act_sum, Finset.sum_eq_single e]
  · exact if_pos ⟨hu, hc⟩
  · intro e' _ hne
    refine if_neg fun ⟨hu', hc'⟩ => hne (Fin.ext ?_)
    exact Nat.count_injective hu' hu (hc'.trans hc.symm)
  · intro h; exact absurd (Finset.mem_univ e) h

/-- Every listed word is an expert. -/
theorem act_lt (u : IVec S64 1) (s : Fin 64) : (act u (ix1 s)).toNat < 64 := by
  by_cases h : ∃ e : Fin 64, Used u e.val ∧ Nat.count (Used u) e.val = s.val
  · obtain ⟨e, hu, hc⟩ := h
    rw [act_of_used u s e hu hc, BitVec.toNat_ofNat]
    have := e.isLt
    omega
  · rw [act_sum, Finset.sum_eq_zero (fun e _ => show entry u s e = 0 from if_neg fun hh => h ⟨e, hh⟩)]
    decide

end Cert.Kernel.Host

end
-- ==== Proof.Bits.HostVals.lean ====
/-
  What the buffers the kernel reads hold after the host's operations, as functions of the arguments.
-/
module

public import proofs.«01_k».proof.Proof.Bits.HostOps
public import Idealize.ShloMosaic.Lib.StableHlo.Run
public import Idealize.ShloMosaic.Lib.Pipeline.Frame

@[expose] public section

set_option Elab.async false

noncomputable section

namespace Cert.Kernel.Host

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 1400000 in
theorem at_main_v0 (V : Valuation τ sig (Elt F)) : V0 V (Proc.devRef .tc main_v0) = shapeCast S96x6 (V (Proc.devRef .tc main_arg1)) shapeCasts_S96x1x6_S96x6 := by
  unfold V0
  after_results_simp
  rfl

set_option maxRecDepth 8192 in
set_option maxHeartbeats 1400000 in
theorem at_main_v1 (V : Valuation τ sig (Elt F)) : V0 V (Proc.devRef .tc main_v1) = shapeCast S96x6 (V (Proc.devRef .tc main_arg2)) shapeCasts_S96x1x6_S96x6 := by
  unfold V0
  after_results_simp
  rfl

set_option maxRecDepth 8192 in
set_option maxHeartbeats 1400000 in
theorem at_main_v9 (V : Valuation τ sig (Elt F)) : V0 V (Proc.devRef .tc main_v9) = used (V (Proc.devRef .tc main_arg1)) := by
  unfold V0
  after_results_simp
  rfl

set_option maxRecDepth 8192 in
set_option maxHeartbeats 1400000 in
theorem at_main_cst (V : Valuation τ sig (Elt F)) : V0 V (Proc.devRef .tc main_cst) = ((fun i => FloatOps.ofBits .f32 (lit0 (S16.rowMajor i))) : FVec F S16 .f32) := by
  unfold V0
  after_results_simp
  rfl

set_option maxRecDepth 8192 in
set_option maxHeartbeats 1400000 in
theorem at_main_v10 (V : Valuation τ sig (Elt F)) : V0 V (Proc.devRef .tc main_v10) = extui 32 (used (V (Proc.devRef .tc main_arg1))) natLt_1_32 := by
  unfold V0
  after_results_simp
  rfl

set_option maxRecDepth 8192 in
set_option maxHeartbeats 1400000 in
theorem at_main_v11 (V : Valuation τ sig (Elt F)) : V1 V (Proc.devRef .tc main_v11) = Host.reduceWindow IntOp.addi ![64] ![1] ![63] ![0] (extui 32 (used (V (Proc.devRef .tc main_arg1))) natLt_1_32) (broadcastInDim S_ ![] bcast_S_S_ (constantI S_ 32 0#32)) reduceWindows_S64_S64_w64s1p63_0 h_S_ := by
  unfold V1
  simp only [hostOps0_1, TRef.nullary, TRef.unary, TRef.binary, TRef.ternary, TRef.toBuf, TRef.ofBuf, cast_eq]
  after_results_simp
  rw [at_main_v10] <;> rfl

set_option maxRecDepth 8192 in
set_option maxHeartbeats 1400000 in
theorem at_main_v16 (V : Valuation τ sig (Elt F)) : V2 V (Proc.devRef .tc main_v16) = nAct (used (V (Proc.devRef .tc main_arg1))) := by
  unfold V2
  after_results_simp
  rw [at_main_v11] <;> rfl

set_option maxRecDepth 8192 in
set_option maxHeartbeats 1400000 in
theorem at_main_v25 (V : Valuation τ sig (Elt F)) : V2 V (Proc.devRef .tc main_v25) = hit (used (V (Proc.devRef .tc main_arg1))) := by
  unfold V2
  after_results_simp
  rw [at_main_v11, keep1 _ main_v9 (by decide), at_main_v9] <;> rfl

set_option maxRecDepth 8192 in
set_option maxHeartbeats 1400000 in
theorem at_main_v27 (V : Valuation τ sig (Elt F)) : V2 V (Proc.devRef .tc main_v27) = broadcastInDim S1x64 ![1] bcast_S64_S1x64_1 (iotaInDim S64 32 0) := by
  unfold V2
  after_results_simp

set_option maxRecDepth 8192 in
set_option maxHeartbeats 1400000 in
theorem at_main_c_2 (V : Valuation τ sig (Elt F)) : V2 V (Proc.devRef .tc main_c_2) = constantI S_ 32 0#32 := by
  unfold V2
  after_results_simp

set_option maxRecDepth 8192 in
set_option maxHeartbeats 1400000 in
theorem at_main_v28 (V : Valuation τ sig (Elt F)) : V3 V (Proc.devRef .tc main_v28) = select (hit (used (V (Proc.devRef .tc main_arg1)))) (broadcastInDim S64x64 ![0, 1] bcast_S1x64_S64x64_0_1 (broadcastInDim S1x64 ![1] bcast_S64_S1x64_1 (iotaInDim S64 32 0))) (broadcastInDim S64x64 ![] bcast_S_S64x64 (id (constantI S_ 32 0#32))) := by
  unfold V3
  simp only [hostOps0_3, TRef.nullary, TRef.unary, TRef.binary, TRef.ternary, TRef.toBuf, TRef.ofBuf, cast_eq]
  after_results_simp
  rw [at_main_v25, at_main_v27, at_main_c_2] <;> rfl

set_option maxRecDepth 8192 in
set_option maxHeartbeats 1400000 in
theorem at_main_v29 (V : Valuation τ sig (Elt F)) : V4 V (Proc.devRef .tc main_v29) = act (used (V (Proc.devRef .tc main_arg1))) := by
  unfold V4
  after_results_simp
  rw [at_main_v28] <;> rfl

set_option maxRecDepth 8192 in
set_option maxHeartbeats 1400000 in
theorem at_main_v32 (V : Valuation τ sig (Elt F)) : V4 V (Proc.devRef .tc main_v32) = xPerm (V (Proc.devRef .tc main_arg0)) := by
  unfold V4
  after_results_simp
  rw [keep3 _ main_arg0 (by decide), keep2 _ main_arg0 (by decide), keep1 _ main_arg0 (by decide), keep0 _ main_arg0 (by decide)] <;> rfl

set_option maxRecDepth 8192 in
set_option maxHeartbeats 1400000 in
theorem at_main_v33 (V : Valuation τ sig (Elt F)) : V4 V (Proc.devRef .tc main_v33) = iotaInDim S128 32 0 := by
  unfold V4
  after_results_simp

set_option maxRecDepth 8192 in
set_option maxHeartbeats 1400000 in
theorem at_main_c_4 (V : Valuation τ sig (Elt F)) : V4 V (Proc.devRef .tc main_c_4) = constantI S_ 32 64#32 := by
  unfold V4
  after_results_simp

set_option maxRecDepth 8192 in
set_option maxHeartbeats 1400000 in
theorem at_main_v34 (V : Valuation τ sig (Elt F)) : V5 V (Proc.devRef .tc main_v34) = floorDiv (iotaInDim S128 32 0) (constantI S_ 32 64#32) := by
  unfold V5
  simp only [hostOps0_5, TRef.nullary, TRef.unary, TRef.binary, TRef.ternary, TRef.toBuf, TRef.ofBuf, cast_eq]
  after_results_simp
  rw [at_main_v33, at_main_c_4] <;> rfl

set_option maxRecDepth 8192 in
set_option maxHeartbeats 1400000 in
theorem at_main_c_5 (V : Valuation τ sig (Elt F)) : V6 V (Proc.devRef .tc main_c_5) = constantI S_ 32 64#32 := by
  unfold V6
  after_results_simp

set_option maxRecDepth 8192 in
set_option maxHeartbeats 1400000 in
theorem at_main_v35 (V : Valuation τ sig (Elt F)) : V7 V (Proc.devRef .tc main_v35) = floorMod (iotaInDim S128 32 0) (constantI S_ 32 64#32) := by
  unfold V7
  simp only [hostOps0_7, TRef.nullary, TRef.unary, TRef.binary, TRef.ternary, TRef.toBuf, TRef.ofBuf, cast_eq]
  after_results_simp
  rw [keep6 _ main_v33 (by decide), keep5 _ main_v33 (by decide), at_main_v33, at_main_c_5] <;> rfl

set_option maxRecDepth 8192 in
set_option maxHeartbeats 1400000 in
theorem at_main_c_6 (V : Valuation τ sig (Elt F)) : V8 V (Proc.devRef .tc main_c_6) = constantI S_ 32 16#32 := by
  unfold V8
  after_results_simp

set_option maxRecDepth 8192 in
set_option maxHeartbeats 1400000 in
theorem at_main_v36 (V : Valuation τ sig (Elt F)) : V9 V (Proc.devRef .tc main_v36) = floorDiv (floorMod (iotaInDim S128 32 0) (constantI S_ 32 64#32)) (constantI S_ 32 16#32) := by
  unfold V9
  simp only [hostOps0_9, TRef.nullary, TRef.unary, TRef.binary, TRef.ternary, TRef.toBuf, TRef.ofBuf, cast_eq]
  after_results_simp
  rw [keep8 _ main_v35 (by decide), at_main_v35, at_main_c_6] <;> rfl

set_option maxRecDepth 8192 in
set_option maxHeartbeats 1400000 in
theorem at_main_c_7 (V : Valuation τ sig (Elt F)) : V10 V (Proc.devRef .tc main_c_7) = constantI S_ 32 16#32 := by
  unfold V10
  after_results_simp

set_option maxRecDepth 8192 in
set_option maxHeartbeats 1400000 in
theorem at_main_v37 (V : Valuation τ sig (Elt F)) : V11 V (Proc.devRef .tc main_v37) = floorMod (iotaInDim S128 32 0) (constantI S_ 32 16#32) := by
  unfold V11
  simp only [hostOps0_11, TRef.nullary, TRef.unary, TRef.binary, TRef.ternary, TRef.toBuf, TRef.ofBuf, cast_eq]
  after_results_simp
  rw [keep10 _ main_v33 (by decide), keep9 _ main_v33 (by decide), keep8 _ main_v33 (by decide), keep7 _ main_v33 (by decide), keep6 _ main_v33 (by decide), keep5 _ main_v33 (by decide), at_main_v33, at_main_c_7] <;> rfl

set_option maxRecDepth 8192 in
set_option maxHeartbeats 1400000 in
theorem at_main_c_8 (V : Valuation τ sig (Elt F)) : V12 V (Proc.devRef .tc main_c_8) = constantI S_ 32 2#32 := by
  unfold V12
  after_results_simp

set_option maxRecDepth 8192 in
set_option maxHeartbeats 1400000 in
theorem at_main_v38 (V : Valuation τ sig (Elt F)) : V13 V (Proc.devRef .tc main_v38) = floorDiv (floorMod (iotaInDim S128 32 0) (constantI S_ 32 16#32)) (constantI S_ 32 2#32) := by
  unfold V13
  simp only [hostOps0_13, TRef.nullary, TRef.unary, TRef.binary, TRef.ternary, TRef.toBuf, TRef.ofBuf, cast_eq]
  after_results_simp
  rw [keep12 _ main_v37 (by decide), at_main_v37, at_main_c_8] <;> rfl

set_option maxRecDepth 8192 in
set_option maxHeartbeats 1400000 in
theorem at_main_c_9 (V : Valuation τ sig (Elt F)) : V14 V (Proc.devRef .tc main_c_9) = constantI S_ 32 2#32 := by
  unfold V14
  after_results_simp

set_option maxRecDepth 8192 in
set_option maxHeartbeats 1400000 in
theorem at_main_v39 (V : Valuation τ sig (Elt F)) : V15 V (Proc.devRef .tc main_v39) = floorMod (iotaInDim S128 32 0) (constantI S_ 32 2#32) := by
  unfold V15
  simp only [hostOps0_15, TRef.nullary, TRef.unary, TRef.binary, TRef.ternary, TRef.toBuf, TRef.ofBuf, cast_eq]
  after_results_simp
  rw [keep14 _ main_v33 (by decide), keep13 _ main_v33 (by decide), keep12 _ main_v33 (by decide), keep11 _ main_v33 (by decide), keep10 _ main_v33 (by decide), keep9 _ main_v33 (by decide), keep8 _ main_v33 (by decide), keep7 _ main_v33 (by decide), keep6 _ main_v33 (by decide), keep5 _ main_v33 (by decide), at_main_v33, at_main_c_9] <;> rfl

set_option maxRecDepth 8192 in
set_option maxHeartbeats 1400000 in
theorem at_main_v55 (V : Valuation τ sig (Elt F)) : V16 V (Proc.devRef .tc main_v55) = perm (F := F) := by
  unfold V16
  after_results_simp
  rw [keep15 _ main_v34 (by decide), keep14 _ main_v34 (by decide), keep13 _ main_v34 (by decide), keep12 _ main_v34 (by decide), keep11 _ main_v34 (by decide), keep10 _ main_v34 (by decide), keep9 _ main_v34 (by decide), keep8 _ main_v34 (by decide), keep7 _ main_v34 (by decide), keep6 _ main_v34 (by decide), at_main_v34, keep15 _ main_v38 (by decide), keep14 _ main_v38 (by decide), at_main_v38, at_main_v39, keep15 _ main_v36 (by decide), keep14 _ main_v36 (by decide), keep13 _ main_v36 (by decide), keep12 _ main_v36 (by decide), keep11 _ main_v36 (by decide), keep10 _ main_v36 (by decide), at_main_v36] <;> rfl

set_option maxRecDepth 8192 in
set_option maxHeartbeats 1400000 in
theorem at_main_c_13 (V : Valuation τ sig (Elt F)) : V16 V (Proc.devRef .tc main_c_13) = constantI S_ 32 0#32 := by
  unfold V16
  after_results_simp

set_option maxRecDepth 8192 in
set_option maxHeartbeats 1400000 in
theorem at_main_v56 (V : Valuation τ sig (Elt F)) : V17 V (Proc.devRef .tc main_v56) = pad S128 ![0] ![112] ![0] ((fun i => FloatOps.ofBits .f32 (lit0 (S16.rowMajor i))) : FVec F S16 .f32) (sitofp .f32 (constantI S_ 32 0#32) : FVec F S_ .f32) pads_S16_S128_01120 h_S_ := by
  unfold V17
  simp only [hostOps0_17, TRef.nullary, TRef.unary, TRef.binary, TRef.ternary, TRef.toBuf, TRef.ofBuf, cast_eq]
  after_results_simp
  rw [keep16 _ main_cst (by decide), keep15 _ main_cst (by decide), keep14 _ main_cst (by decide), keep13 _ main_cst (by decide), keep12 _ main_cst (by decide), keep11 _ main_cst (by decide), keep10 _ main_cst (by decide), keep9 _ main_cst (by decide), keep8 _ main_cst (by decide), keep7 _ main_cst (by decide), keep6 _ main_cst (by decide), keep5 _ main_cst (by decide), keep4 _ main_cst (by decide), keep3 _ main_cst (by decide), keep2 _ main_cst (by decide), keep1 _ main_cst (by decide), at_main_cst, at_main_c_13] <;> rfl

set_option maxRecDepth 8192 in
set_option maxHeartbeats 1400000 in
theorem at_main_v58 (V : Valuation τ sig (Elt F)) : V18 V (Proc.devRef .tc main_v58) = table (F := F) := by
  unfold V18
  after_results_simp
  rw [at_main_v56] <;> rfl

set_option maxRecDepth 8192 in
set_option maxHeartbeats 1400000 in
theorem at_main_v59 (V : Valuation τ sig (Elt F)) : V18 V (Proc.devRef .tc main_v59) = shapeCast S_ (nAct (used (V (Proc.devRef .tc main_arg1)))) shapeCasts_S1_S_ := by
  unfold V18
  after_results_simp
  rw [keep17 _ main_v16 (by decide), keep16 _ main_v16 (by decide), keep15 _ main_v16 (by decide), keep14 _ main_v16 (by decide), keep13 _ main_v16 (by decide), keep12 _ main_v16 (by decide), keep11 _ main_v16 (by decide), keep10 _ main_v16 (by decide), keep9 _ main_v16 (by decide), keep8 _ main_v16 (by decide), keep7 _ main_v16 (by decide), keep6 _ main_v16 (by decide), keep5 _ main_v16 (by decide), keep4 _ main_v16 (by decide), keep3 _ main_v16 (by decide), at_main_v16] <;> rfl

set_option maxRecDepth 8192 in
set_option maxHeartbeats 1400000 in
theorem at_main_v60 (V : Valuation τ sig (Elt F)) : V18 V (Proc.devRef .tc main_v60) = transpose S64x32x1408 [0, 2, 1] (V (Proc.devRef .tc main_arg4)) transposes_S64x1408x32_S64x32x1408_0_2_1 := by
  unfold V18
  after_results_simp
  rw [keep17 _ main_arg4 (by decide), keep16 _ main_arg4 (by decide), keep15 _ main_arg4 (by decide), keep14 _ main_arg4 (by decide), keep13 _ main_arg4 (by decide), keep12 _ main_arg4 (by decide), keep11 _ main_arg4 (by decide), keep10 _ main_arg4 (by decide), keep9 _ main_arg4 (by decide), keep8 _ main_arg4 (by decide), keep7 _ main_arg4 (by decide), keep6 _ main_arg4 (by decide), keep5 _ main_arg4 (by decide), keep4 _ main_arg4 (by decide), keep3 _ main_arg4 (by decide), keep2 _ main_arg4 (by decide), keep1 _ main_arg4 (by decide), keep0 _ main_arg4 (by decide)] <;> rfl

set_option maxRecDepth 8192 in
set_option maxHeartbeats 1400000 in
theorem at_main_v61 (V : Valuation τ sig (Elt F)) : V18 V (Proc.devRef .tc main_v61) = transpose S64x32x1408 [0, 2, 1] (V (Proc.devRef .tc main_arg6)) transposes_S64x1408x32_S64x32x1408_0_2_1 := by
  unfold V18
  after_results_simp
  rw [keep17 _ main_arg6 (by decide), keep16 _ main_arg6 (by decide), keep15 _ main_arg6 (by decide), keep14 _ main_arg6 (by decide), keep13 _ main_arg6 (by decide), keep12 _ main_arg6 (by decide), keep11 _ main_arg6 (by decide), keep10 _ main_arg6 (by decide), keep9 _ main_arg6 (by decide), keep8 _ main_arg6 (by decide), keep7 _ main_arg6 (by decide), keep6 _ main_arg6 (by decide), keep5 _ main_arg6 (by decide), keep4 _ main_arg6 (by decide), keep3 _ main_arg6 (by decide), keep2 _ main_arg6 (by decide), keep1 _ main_arg6 (by decide), keep0 _ main_arg6 (by decide)] <;> rfl

set_option maxRecDepth 8192 in
set_option maxHeartbeats 1400000 in
theorem at_main_v62 (V : Valuation τ sig (Elt F)) : V18 V (Proc.devRef .tc main_v62) = transpose S64x704x2048 [0, 2, 1] (V (Proc.devRef .tc main_arg7)) transposes_S64x2048x704_S64x704x2048_0_2_1 := by
  unfold V18
  after_results_simp
  rw [keep17 _ main_arg7 (by decide), keep16 _ main_arg7 (by decide), keep15 _ main_arg7 (by decide), keep14 _ main_arg7 (by decide), keep13 _ main_arg7 (by decide), keep12 _ main_arg7 (by decide), keep11 _ main_arg7 (by decide), keep10 _ main_arg7 (by decide), keep9 _ main_arg7 (by decide), keep8 _ main_arg7 (by decide), keep7 _ main_arg7 (by decide), keep6 _ main_arg7 (by decide), keep5 _ main_arg7 (by decide), keep4 _ main_arg7 (by decide), keep3 _ main_arg7 (by decide), keep2 _ main_arg7 (by decide), keep1 _ main_arg7 (by decide), keep0 _ main_arg7 (by decide)] <;> rfl

set_option maxRecDepth 8192 in
set_option maxHeartbeats 1400000 in
theorem at_main_v63 (V : Valuation τ sig (Elt F)) : V18 V (Proc.devRef .tc main_v63) = transpose S22x64x2048 [2, 0, 1] (V (Proc.devRef .tc main_arg8)) transposes_S64x2048x22_S22x64x2048_2_0_1 := by
  unfold V18
  after_results_simp
  rw [keep17 _ main_arg8 (by decide), keep16 _ main_arg8 (by decide), keep15 _ main_arg8 (by decide), keep14 _ main_arg8 (by decide), keep13 _ main_arg8 (by decide), keep12 _ main_arg8 (by decide), keep11 _ main_arg8 (by decide), keep10 _ main_arg8 (by decide), keep9 _ main_arg8 (by decide), keep8 _ main_arg8 (by decide), keep7 _ main_arg8 (by decide), keep6 _ main_arg8 (by decide), keep5 _ main_arg8 (by decide), keep4 _ main_arg8 (by decide), keep3 _ main_arg8 (by decide), keep2 _ main_arg8 (by decide), keep1 _ main_arg8 (by decide), keep0 _ main_arg8 (by decide)] <;> rfl

theorem val_main_v0 (V : Valuation τ sig (Elt F)) : val V (Proc.devRef .tc main_v0) = shapeCast S96x6 (V (Proc.devRef .tc main_arg1)) shapeCasts_S96x1x6_S96x6 :=
  (keep18 V main_v0 (by decide)).trans <| (keep17 V main_v0 (by decide)).trans <| (keep16 V main_v0 (by decide)).trans <| (keep15 V main_v0 (by decide)).trans <| (keep14 V main_v0 (by decide)).trans <| (keep13 V main_v0 (by decide)).trans <| (keep12 V main_v0 (by decide)).trans <| (keep11 V main_v0 (by decide)).trans <| (keep10 V main_v0 (by decide)).trans <| (keep9 V main_v0 (by decide)).trans <| (keep8 V main_v0 (by decide)).trans <| (keep7 V main_v0 (by decide)).trans <| (keep6 V main_v0 (by decide)).trans <| (keep5 V main_v0 (by decide)).trans <| (keep4 V main_v0 (by decide)).trans <| (keep3 V main_v0 (by decide)).trans <| (keep2 V main_v0 (by decide)).trans <| (keep1 V main_v0 (by decide)).trans <| at_main_v0 V

theorem val_main_v1 (V : Valuation τ sig (Elt F)) : val V (Proc.devRef .tc main_v1) = shapeCast S96x6 (V (Proc.devRef .tc main_arg2)) shapeCasts_S96x1x6_S96x6 :=
  (keep18 V main_v1 (by decide)).trans <| (keep17 V main_v1 (by decide)).trans <| (keep16 V main_v1 (by decide)).trans <| (keep15 V main_v1 (by decide)).trans <| (keep14 V main_v1 (by decide)).trans <| (keep13 V main_v1 (by decide)).trans <| (keep12 V main_v1 (by decide)).trans <| (keep11 V main_v1 (by decide)).trans <| (keep10 V main_v1 (by decide)).trans <| (keep9 V main_v1 (by decide)).trans <| (keep8 V main_v1 (by decide)).trans <| (keep7 V main_v1 (by decide)).trans <| (keep6 V main_v1 (by decide)).trans <| (keep5 V main_v1 (by decide)).trans <| (keep4 V main_v1 (by decide)).trans <| (keep3 V main_v1 (by decide)).trans <| (keep2 V main_v1 (by decide)).trans <| (keep1 V main_v1 (by decide)).trans <| at_main_v1 V

theorem val_main_v16 (V : Valuation τ sig (Elt F)) : val V (Proc.devRef .tc main_v16) = nAct (used (V (Proc.devRef .tc main_arg1))) :=
  (keep18 V main_v16 (by decide)).trans <| (keep17 V main_v16 (by decide)).trans <| (keep16 V main_v16 (by decide)).trans <| (keep15 V main_v16 (by decide)).trans <| (keep14 V main_v16 (by decide)).trans <| (keep13 V main_v16 (by decide)).trans <| (keep12 V main_v16 (by decide)).trans <| (keep11 V main_v16 (by decide)).trans <| (keep10 V main_v16 (by decide)).trans <| (keep9 V main_v16 (by decide)).trans <| (keep8 V main_v16 (by decide)).trans <| (keep7 V main_v16 (by decide)).trans <| (keep6 V main_v16 (by decide)).trans <| (keep5 V main_v16 (by decide)).trans <| (keep4 V main_v16 (by decide)).trans <| (keep3 V main_v16 (by decide)).trans <| at_main_v16 V

theorem val_main_v29 (V : Valuation τ sig (Elt F)) : val V (Proc.devRef .tc main_v29) = act (used (V (Proc.devRef .tc main_arg1))) :=
  (keep18 V main_v29 (by decide)).trans <| (keep17 V main_v29 (by decide)).trans <| (keep16 V main_v29 (by decide)).trans <| (keep15 V main_v29 (by decide)).trans <| (keep14 V main_v29 (by decide)).trans <| (keep13 V main_v29 (by decide)).trans <| (keep12 V main_v29 (by decide)).trans <| (keep11 V main_v29 (by decide)).trans <| (keep10 V main_v29 (by decide)).trans <| (keep9 V main_v29 (by decide)).trans <| (keep8 V main_v29 (by decide)).trans <| (keep7 V main_v29 (by decide)).trans <| (keep6 V main_v29 (by decide)).trans <| (keep5 V main_v29 (by decide)).trans <| at_main_v29 V

theorem val_main_v32 (V : Valuation τ sig (Elt F)) : val V (Proc.devRef .tc main_v32) = xPerm (V (Proc.devRef .tc main_arg0)) :=
  (keep18 V main_v32 (by decide)).trans <| (keep17 V main_v32 (by decide)).trans <| (keep16 V main_v32 (by decide)).trans <| (keep15 V main_v32 (by decide)).trans <| (keep14 V main_v32 (by decide)).trans <| (keep13 V main_v32 (by decide)).trans <| (keep12 V main_v32 (by decide)).trans <| (keep11 V main_v32 (by decide)).trans <| (keep10 V main_v32 (by decide)).trans <| (keep9 V main_v32 (by decide)).trans <| (keep8 V main_v32 (by decide)).trans <| (keep7 V main_v32 (by decide)).trans <| (keep6 V main_v32 (by decide)).trans <| (keep5 V main_v32 (by decide)).trans <| at_main_v32 V

theorem val_main_v55 (V : Valuation τ sig (Elt F)) : val V (Proc.devRef .tc main_v55) = perm (F := F) :=
  (keep18 V main_v55 (by decide)).trans <| (keep17 V main_v55 (by decide)).trans <| at_main_v55 V

theorem val_main_v58 (V : Valuation τ sig (Elt F)) : val V (Proc.devRef .tc main_v58) = table (F := F) :=
  at_main_v58 V

theorem val_main_v59 (V : Valuation τ sig (Elt F)) : val V (Proc.devRef .tc main_v59) = shapeCast S_ (nAct (used (V (Proc.devRef .tc main_arg1)))) shapeCasts_S1_S_ :=
  at_main_v59 V

theorem val_main_v60 (V : Valuation τ sig (Elt F)) : val V (Proc.devRef .tc main_v60) = transpose S64x32x1408 [0, 2, 1] (V (Proc.devRef .tc main_arg4)) transposes_S64x1408x32_S64x32x1408_0_2_1 :=
  at_main_v60 V

theorem val_main_v61 (V : Valuation τ sig (Elt F)) : val V (Proc.devRef .tc main_v61) = transpose S64x32x1408 [0, 2, 1] (V (Proc.devRef .tc main_arg6)) transposes_S64x1408x32_S64x32x1408_0_2_1 :=
  at_main_v61 V

theorem val_main_v62 (V : Valuation τ sig (Elt F)) : val V (Proc.devRef .tc main_v62) = transpose S64x704x2048 [0, 2, 1] (V (Proc.devRef .tc main_arg7)) transposes_S64x2048x704_S64x704x2048_0_2_1 :=
  at_main_v62 V

theorem val_main_v63 (V : Valuation τ sig (Elt F)) : val V (Proc.devRef .tc main_v63) = transpose S22x64x2048 [2, 0, 1] (V (Proc.devRef .tc main_arg8)) transposes_S64x2048x22_S22x64x2048_2_0_1 :=
  at_main_v63 V

end Cert.Kernel.Host

end
-- ==== Proof.Bits.Adm.lean ====
/-
  The tables the kernel prefetches, and the side condition the pipeline runs under: the grid has as many points as there
  are used experts, and every listed expert's blocks lie within their arrays.
-/
module

public import proofs.«01_k».proof.Proof.Bits.Act
public import proofs.«01_k».proof.Proof.Bits.HostVals

@[expose] public section

noncomputable section

namespace Cert.Kernel.Host

open Cert.Kernel Cert.Kernel.Gen Idealize.ShloMosaic Idealize.ShloMosaic.TcCoe Idealize.ShloMosaic.ValueIdx

variable {F : FTy → Type} [FloatOps F]

/-- A block map's expert divided by eight is below eight. -/
theorem group_lt : ∀ e : Fin 64,
    (let v1 : BitVec 32 := BitVec.ofNat 32 e.val
     Scalar.select (Scalar.andi (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32) : BitVec 32)))
        (Scalar.cmpi .ne (Scalar.remsi v1 8#32) 0#32)) (Scalar.subi (Scalar.divsi v1 8#32) 1#32) (Scalar.divsi v1 8#32)).toNat = e.val / 8 := by
  decide +kernel

/-- The tables: the point count, the list, and the count again. -/
structure Tables (pf : pre0.Contents (Elt F)) (n : Nat) (e : Fin 64 → Fin 64) : Prop where
  count : (pf 0 fun a => a.elim0 : BitVec 32) = BitVec.ofNat 32 n
  le : n ≤ 64
  list : ∀ s : Fin 64, (pf 1 (ix1 s) : BitVec 32) = BitVec.ofNat 32 (e s).val
  count' : ∀ i, (pf 2 i : BitVec 32) = BitVec.ofNat 32 n

variable {pf : pre0.Contents (Elt F)} {n : Nat} {e : Fin 64 → Fin 64}

theorem Tables.dynb (h : Tables pf n e) : dynb0 pf = ![n] := by
  unfold dynb0
  rw [h.count, BitVec.toNat_ofNat, Nat.mod_eq_of_lt (by have := h.le; omega)]

theorem Tables.bound (h : Tables pf n e) : (grid0.at (dynb0 pf)).bound 0 = n := by
  show grid0.boundAt (dynb0 pf) 0 = n
  rw [Pipeline.Grid.boundAt_of_dyn_true _ rfl, h.dynb]
  rfl

theorem Tables.N_eq (h : Tables pf n e) : (grid0.at (dynb0 pf)).N = n := by
  show (List.ofFn (grid0.at (dynb0 pf)).bound).prod = n
  rw [show List.ofFn (grid0.at (dynb0 pf)).bound = [(grid0.at (dynb0 pf)).bound 0] from rfl, h.bound]
  simp

theorem Tables.coord_lt (h : Tables pf n e) (i : (grid0.at (dynb0 pf)).Coords) : (i 0).val < n := by
  exact lt_of_lt_of_eq (i 0).isLt h.bound

/-- The listed word at a point. -/
theorem Tables.at (h : Tables pf n e) (i : (grid0.at (dynb0 pf)).Coords) (h64 : (i 0).val < 64) :
    (pf.atD 1 ![(Scalar.indexCast (BitVec.ofNat 32 (i 0).val) : Index).toNat] : BitVec 32) = BitVec.ofNat 32 (e ⟨(i 0).val, h64⟩).val := by
  have hk : (Scalar.indexCast (BitVec.ofNat 32 (i 0).val) : Index).toNat = (i 0).val := by
    show (BitVec.ofNat 32 (i 0).val).toNat = _
    rw [BitVec.toNat_ofNat, Nat.mod_eq_of_lt (by omega)]
  rw [hk]
  refine (dif_pos (show ∀ a : Fin (pre0.ref 1).ty.shape.rank, (![(i 0).val] : Fin 1 → Nat) a + 1 ≤ (pre0.ref 1).ty.shape.size a from fun a => by
    match a with
    | ⟨0, _⟩ => exact h64)).trans ?_
  refine Eq.trans ?_ (h.list ⟨(i 0).val, h64⟩)
  refine congrArg (pf 1) (funext fun a => ?_)
  match a with
  | ⟨0, _⟩ => rfl

theorem Tables.map5 (h : Tables pf n e) (i : (grid0.at (dynb0 pf)).Coords) (h64 : (i 0).val < 64) :
    cc0_transform_5 pf (dynb0 pf) i = ![(e ⟨(i 0).val, h64⟩).val, 0, 0] := by
  have := (e ⟨(i 0).val, h64⟩).isLt
  unfold cc0_transform_5
  dsimp only
  rw [h.at i h64, BitVec.toNat_ofNat, Nat.mod_eq_of_lt (by omega)]
  rfl

theorem Tables.map6 (h : Tables pf n e) (i : (grid0.at (dynb0 pf)).Coords) (h64 : (i 0).val < 64) :
    cc0_transform_6 pf (dynb0 pf) i = ![(e ⟨(i 0).val, h64⟩).val, 0, 0] := h.map5 i h64

theorem Tables.map7 (h : Tables pf n e) (i : (grid0.at (dynb0 pf)).Coords) (h64 : (i 0).val < 64) :
    cc0_transform_7 pf (dynb0 pf) i = ![(e ⟨(i 0).val, h64⟩).val, 0, 0] := h.map5 i h64

theorem Tables.map8 (h : Tables pf n e) (i : (grid0.at (dynb0 pf)).Coords) (h64 : (i 0).val < 64) :
    cc0_transform_8 pf (dynb0 pf) i = ![(e ⟨(i 0).val, h64⟩).val, 0, 0] := h.map5 i h64

theorem Tables.map9 (h : Tables pf n e) (i : (grid0.at (dynb0 pf)).Coords) (h64 : (i 0).val < 64) :
    cc0_transform_9 pf (dynb0 pf) i = ![(e ⟨(i 0).val, h64⟩).val, 0, 0] := h.map5 i h64

theorem Tables.map10 (h : Tables pf n e) (i : (grid0.at (dynb0 pf)).Coords) (h64 : (i 0).val < 64) :
    cc0_transform_10 pf (dynb0 pf) i = ![0, (e ⟨(i 0).val, h64⟩).val / 8, 0] := by
  unfold cc0_transform_10
  dsimp only
  rw [h.at i h64, group_lt (e ⟨(i 0).val, h64⟩)]
  rfl

/-- The side condition the pipeline runs under holds of the tables. -/
theorem Tables.ok (h : Tables pf n e) : ok0 pf := by
  have hn := h.le
  have h64 : ∀ i : (grid0.at (dynb0 pf)).Coords, (i 0).val < 64 := fun i => lt_of_lt_of_le (h.coord_lt i) hn
  unfold ok0
  refine ⟨?_, ?_, ?_, ?_, ?_, ?_, ?_, ?_, ?_, ?_, ?_, ?_, ?_, ?_⟩
  · show (grid0.at (dynb0 pf)).N + 2 < 2 ^ 31
    rw [h.N_eq]; omega
  · intro i a
    have := h64 i
    match a with
    | ⟨0, _⟩ =>
      show (BitVec.ofNat 32 (i 0).val).toNat + 1 ≤ 64
      rw [BitVec.toNat_ofNat, Nat.mod_eq_of_lt (by omega)]; omega
  · exact fun i => ⟨show ∀ a : Fin 2, ((![0, 0] : Fin 2 → Nat) a + 1) * S96x2048.size a ≤ S96x2048.size a from by decide, .inr (.inl (.inl fun a => by
      match a with
      | ⟨0, _⟩ => exact ⟨rfl, rfl, rfl⟩
      | ⟨1, _⟩ => exact ⟨rfl, rfl, rfl⟩))⟩
  · exact fun i => ⟨show ∀ a : Fin 2, ((![0, 0] : Fin 2 → Nat) a + 1) * S96x6.size a ≤ S96x6.size a from by decide, .inl rfl⟩
  · exact fun i => ⟨show ∀ a : Fin 2, ((![0, 0] : Fin 2 → Nat) a + 1) * S96x6.size a ≤ S96x6.size a from by decide, .inl rfl⟩
  · exact fun i => ⟨show ∀ a : Fin 2, ((![0, 0] : Fin 2 → Nat) a + 1) * S128x128.size a ≤ S128x128.size a from by decide, .inr (.inl (.inl fun a => by
      match a with
      | ⟨0, _⟩ => exact ⟨rfl, rfl, rfl⟩
      | ⟨1, _⟩ => exact ⟨rfl, rfl, rfl⟩))⟩
  · exact fun i => ⟨show ∀ a : Fin 2, ((![0, 0] : Fin 2 → Nat) a + 1) * S64x128.size a ≤ S64x128.size a from by decide, .inl rfl⟩
  · intro i
    rw [h.map5 i (h64 i)]
    have := (e ⟨(i 0).val, h64 i⟩).isLt
    refine ⟨fun a => ?_, .inr (.inr ⟨by decide, rfl, rfl, rfl⟩)⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map6 i (h64 i)]
    have := (e ⟨(i 0).val, h64 i⟩).isLt
    refine ⟨fun a => ?_, .inl rfl⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map7 i (h64 i)]
    have := (e ⟨(i 0).val, h64 i⟩).isLt
    refine ⟨fun a => ?_, .inr (.inr ⟨by decide, rfl, rfl, rfl⟩)⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map8 i (h64 i)]
    have := (e ⟨(i 0).val, h64 i⟩).isLt
    refine ⟨fun a => ?_, .inl rfl⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map9 i (h64 i)]
    have := (e ⟨(i 0).val, h64 i⟩).isLt
    refine ⟨fun a => ?_, .inr (.inr ⟨by decide, rfl, rfl, rfl⟩)⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map10 i (h64 i)]
    have := (e ⟨(i 0).val, h64 i⟩).isLt
    refine ⟨fun a => ?_, .inl rfl⟩
    match a with
    | ⟨0, _⟩ => exact Nat.le_of_eq (Nat.one_mul _)
    | ⟨1, _⟩ => show ((e _).val / 8 + 1) * 8 ≤ 64; omega
    | ⟨2, _⟩ => exact Nat.le_of_eq (Nat.one_mul _)
  · exact fun i => ⟨show ∀ a : Fin 2, ((![0, 0] : Fin 2 → Nat) a + 1) * S96x2048.size a ≤ S96x2048.size a from by decide, .inr (.inl (.inl fun a => by
      match a with
      | ⟨0, _⟩ => exact ⟨rfl, rfl, rfl⟩
      | ⟨1, _⟩ => exact ⟨rfl, rfl, rfl⟩))⟩

/-! ## The tables at launch -/

/-- The expert listed at place `s`. -/
def expert (u : IVec S64 1) (s : Fin 64) : Fin 64 := ⟨(act u (ix1 s)).toNat, act_lt u s⟩

/-- The tables the host leaves. -/
def pfOf (V : Valuation τ sig (Elt F)) : pre0.Contents (Elt F) := fun k => val V (Proc.devRef .tc (pre0.ref k))

theorem tables (V : Valuation τ sig (Elt F)) :
    Tables (pfOf V) (cnt (used (V (Proc.devRef .tc main_arg1)))) (expert (used (V (Proc.devRef .tc main_arg1)))) where
  count := (congrFun (val_main_v59 V) _).trans (nAct_apply _ _)
  le := cnt_le _
  list s := (congrFun (val_main_v29 V) (ix1 s)).trans (by
    unfold expert
    rw [BitVec.ofNat_toNat, BitVec.setWidth_eq])
  count' i := (congrFun (val_main_v16 V) i).trans (nAct_apply _ _)

/-- The tables are admissible. -/
def adm (V : Valuation τ sig (Elt F)) : (pcfg0 (F := F)).Adm := ⟨pfOf V, (tables V).ok⟩

end Cert.Kernel.Host

end
-- ==== Proof.Bits.Run.lean ====
/-
  The kernel region's proof data: what the accumulator holds before each grid point, what every window's staging buffer
  holds, and the body's obligation at a point.
-/
module

public import proofs.«01_k».proof.Proof.Bits.StepOwns
public import proofs.«01_k».proof.Proof.Bits.Adm
public import Idealize.ShloMosaic.Lib.Pipeline.Frame
public import Idealize.ShloMosaic.Lib.Pipeline.FrameBody

@[expose] public section

set_option maxRecDepth 100000
set_option maxHeartbeats 4000000

noncomputable section

namespace Cert.Kernel.Step

open Cert.Kernel Cert.Kernel.Gen Cert.Kernel.Tile Cert.Kernel.Host
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] accNew Tile.hidden added k0_pay6 k0_pay2

variable {F : FTy → Type} [FloatOps F]

local notation "𝕄" => MT nD τ sig Unit (Elt F) ℕ (UR sig nD τ) ℕ

variable (a : (pcfg0 (F := F)).Adm) (V : (c : Dev nD) → (b : Ref sig .tc) → Buf (Elt F) ((c : Thread nD τ).loc b))

/-- The block of window `w`'s array at point `t`. -/
def blk (c : Dev nD) (w : Fin 12) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The grid coordinate of a point, as the word the body is handed. -/
def coordW (t : Fin (cfg0 a).N) : BitVec 32 := BitVec.ofNat 32 ((cfg0 a).grid.coords t 0).val

/-- The step's new accumulator of the tables and the blocks at point `t`. -/
def accStep (c : Dev nD) (t : Fin (cfg0 a).N) (old : Vec F S96x2048 .f32) : Vec F S96x2048 .f32 :=
  accNew (coordW a t == 0#32) (a.1 1 (ValueIdx.ix1 ⟨(coordW a t).toNat % 64, Nat.mod_lt _ (by decide)⟩)) (blk a V c 0 t) (blk a V c 1 t) (blk a V c 2 t) (blk a V c 3 t) (blk a V c 4 t) (blk a V c 5 t) (blk a V c 6 t) (blk a V c 7 t) (blk a V c 8 t) (blk a V c 9 t) (blk a V c 10 t) old

/-- The accumulator before point `n`. -/
def accAt (c : Dev nD) : Nat → Vec F S96x2048 .f32
  | 0 => k0_pay2
  | n + 1 => if h : n < (cfg0 a).N then accStep a V c ⟨n, h⟩ (accAt c n) else accAt c n

theorem accAt_succ (c : Dev nD) (t : Fin (cfg0 a).N) : accAt a V c (t.val + 1) = accStep a V c t (accAt a V c t.val) :=
  dif_pos t.isLt

/-- The invariant before point `n`: the scratch block at something, the accumulator as computed once a point has run, the tables
    and the generator register. -/
def Φat (c : Dev nD) (n : Nat) : sProp 𝕄 :=
  iprop((∃ f, (c : Thread nD τ).loc cc0_scratch0 ↦{fullShare} f)
    ∗ (∃ f, ⌜n ≠ 0 → f = accAt a V c n⌝ ∗ (c : Thread nD τ).loc cc0_scratch1 ↦{fullShare} f)
    ∗ Pipeline.ΦT (U := UR sig nD τ) pre0 a.1 c ∗ ∃ r, prngReg c r)

/-- The proof data on core `c`. -/
def dats (_ : Fin 1) (c : Dev nD) : Dat τ (Elt F) Unit ℕ (UR sig nD τ) ℕ (cfg0 a) c where
  A w := V c (Pipeline.arrRef spec0 w)
  after w t := match w with
    | ⟨0, _⟩ => blk a V c 0 t
    | ⟨1, _⟩ => blk a V c 1 t
    | ⟨2, _⟩ => blk a V c 2 t
    | ⟨3, _⟩ => blk a V c 3 t
    | ⟨4, _⟩ => blk a V c 4 t
    | ⟨5, _⟩ => blk a V c 5 t
    | ⟨6, _⟩ => blk a V c 6 t
    | ⟨7, _⟩ => blk a V c 7 t
    | ⟨8, _⟩ => blk a V c 8 t
    | ⟨9, _⟩ => blk a V c 9 t
    | ⟨10, _⟩ => blk a V c 10 t
    | ⟨11, _⟩ => k0_pay6 (accAt a V c (t.val + 1))
    | ⟨_ + 12, h⟩ => absurd h (Nat.not_lt.2 (Nat.le_add_left _ _))
  Φ t := Φat a V c t.val
  q _ := fullShare
  owed _ := 0

theorem A_eq (c : Dev nD) (w : Fin 12) : (dats a V 0 c).A w = V c (Pipeline.arrRef spec0 w) := by
  dsimp only [dats]

theorem before_0 (c : Dev nD) (t : Fin (cfg0 a).N) (d) : (dats a V 0 c).before 0 t d = blk a V c 0 t :=
  (dats a V 0 c).before_in_eq_fetched 0 rfl (fun _ => rfl) (fun _ _ _ => rfl) (fun _ => rfl) t d

theorem before_1 (c : Dev nD) (t : Fin (cfg0 a).N) (d) : (dats a V 0 c).before 1 t d = blk a V c 1 t :=
  (dats a V 0 c).before_in_eq_fetched 1 rfl (fun _ => rfl) (fun _ _ _ => rfl) (fun _ => rfl) t d

theorem before_2 (c : Dev nD) (t : Fin (cfg0 a).N) (d) : (dats a V 0 c).before 2 t d = blk a V c 2 t :=
  (dats a V 0 c).before_in_eq_fetched 2 rfl (fun _ => rfl) (fun _ _ _ => rfl) (fun _ => rfl) t d

theorem before_3 (c : Dev nD) (t : Fin (cfg0 a).N) (d) : (dats a V 0 c).before 3 t d = blk a V c 3 t :=
  (dats a V 0 c).before_in_eq_fetched 3 rfl (fun _ => rfl) (fun _ _ _ => rfl) (fun _ => rfl) t d

theorem before_4 (c : Dev nD) (t : Fin (cfg0 a).N) (d) : (dats a V 0 c).before 4 t d = blk a V c 4 t :=
  (dats a V 0 c).before_in_eq_fetched 4 rfl (fun _ => rfl) (fun _ _ _ => rfl) (fun _ => rfl) t d

theorem before_5 (c : Dev nD) (t : Fin (cfg0 a).N) (d) : (dats a V 0 c).before 5 t d = blk a V c 5 t :=
  (dats a V 0 c).before_in_eq_fetched 5 rfl (fun _ => rfl) (fun _ _ _ => rfl) (fun _ => rfl) t d

theorem before_6 (c : Dev nD) (t : Fin (cfg0 a).N) (d) : (dats a V 0 c).before 6 t d = blk a V c 6 t :=
  (dats a V 0 c).before_in_eq_fetched 6 rfl (fun _ => rfl) (fun _ _ _ => rfl) (fun _ => rfl) t d

theorem before_7 (c : Dev nD) (t : Fin (cfg0 a).N) (d) : (dats a V 0 c).before 7 t d = blk a V c 7 t :=
  (dats a V 0 c).before_in_eq_fetched 7 rfl (fun _ => rfl) (fun _ _ _ => rfl) (fun _ => rfl) t d

theorem before_8 (c : Dev nD) (t : Fin (cfg0 a).N) (d) : (dats a V 0 c).before 8 t d = blk a V c 8 t :=
  (dats a V 0 c).before_in_eq_fetched 8 rfl (fun _ => rfl) (fun _ _ _ => rfl) (fun _ => rfl) t d

theorem before_9 (c : Dev nD) (t : Fin (cfg0 a).N) (d) : (dats a V 0 c).before 9 t d = blk a V c 9 t :=
  (dats a V 0 c).before_in_eq_fetched 9 rfl (fun _ => rfl) (fun _ _ _ => rfl) (fun _ => rfl) t d

theorem before_10 (c : Dev nD) (t : Fin (cfg0 a).N) (d) : (dats a V 0 c).before 10 t d = blk a V c 10 t :=
  (dats a V 0 c).before_in_eq_fetched 10 rfl (fun _ => rfl) (fun _ _ _ => rfl) (fun _ => rfl) t d

/-- The three tables, each at half. -/
theorem tables_eq (c : Dev nD) : (Pipeline.ΦT (U := UR sig nD τ) pre0 a.1 c : sProp 𝕄)
    = iprop(((c : Thread nD τ).loc main_v59 ↦{fullShare.right} a.1 0) ∗ ((c : Thread nD τ).loc main_v29 ↦{fullShare.right} a.1 1) ∗ ((c : Thread nD τ).loc main_v16 ↦{fullShare.right} a.1 2)) := by
  unfold Pipeline.ΦT Pipeline.prefHeld
  exact bigSep_univ_eq_bigSepL [(0 : Fin 3), (1 : Fin 3), (2 : Fin 3)] (by decide) (by decide) _

variable {a} {n : Nat} {e : Fin 64 → Fin 64} (ht : Tables a.1 n e)
include ht

omit ht in
/-- A test for equality of two words, as the body writes it. -/
theorem eqTest (x z : BitVec 32) : Scalar.cmpi .ne (Scalar.extui (Scalar.cmpi .eq x z)) 0#32 = 1#1 ↔ x = z := by
  by_cases h : x = z
  · have e : Scalar.cmpi .eq x z = 1#1 := by
      show BitVec.ofBool (x == z) = 1#1
      rw [beq_iff_eq.mpr h]; rfl
    rw [e]; exact ⟨fun _ => h, fun _ => by decide⟩
  · have e : Scalar.cmpi .eq x z = 0#1 := by
      show BitVec.ofBool (x == z) = 0#1
      rw [beq_eq_false_iff_ne.mpr h]; rfl
    rw [e]; exact ⟨fun h' => absurd h' (by decide), fun h' => absurd h' h⟩

theorem N_eq : (cfg0 a).N = n := ht.N_eq

/-- A point's coordinate is the point. -/
theorem coord_val (t : Fin (cfg0 a).N) : ((cfg0 a).grid.coords t 0).val = t.val := by
  refine (Pipeline.Grid.coords_val t 0 (S := 1) (B := n) ?_ ht.bound).trans ?_
  · rfl
  · rw [Nat.div_one, Nat.mod_eq_of_lt (lt_of_lt_of_eq t.isLt ht.N_eq)]

theorem coordW_toNat (t : Fin (cfg0 a).N) : (coordW a t).toNat = t.val := by
  unfold coordW
  rw [coord_val ht, BitVec.toNat_ofNat, Nat.mod_eq_of_lt]
  have := lt_of_lt_of_eq t.isLt ht.N_eq
  have := ht.le
  omega

theorem chk (t : Fin (cfg0 a).N) : k0_chk1 (coordW a t) := by
  have h1 := coordW_toNat ht t
  have h2 := lt_of_lt_of_eq t.isLt ht.N_eq
  have h3 := ht.le
  intro b
  match b with
  | ⟨0, _⟩ =>
    show (coordW a t).toNat + 1 ≤ 64
    omega

/-- The body's test for the last point. -/
theorem last_iff (t : Fin (cfg0 a).N) : k0_cond2 (coordW a t) (a.1 2 (ValueIdx.ix1 0)) = 1#1 ↔ t.val + 1 = n := by
  have h1 := coordW_toNat ht t
  have h2 := lt_of_lt_of_eq t.isLt ht.N_eq
  have h3 := ht.le
  have h4 : (a.1 2 (ValueIdx.ix1 0) : BitVec 32) = BitVec.ofNat 32 n := ht.count' _
  rw [h4]
  have key : ∀ (x y : BitVec 32), k0_cond2 x y = 1#1 ↔ x = y - 1#32 := by
    intro x y
    exact eqTest x (y - 1#32)
  rw [key]
  constructor
  · intro h
    have := congrArg BitVec.toNat h
    rw [h1, BitVec.toNat_sub, BitVec.toNat_ofNat] at this
    simp at this
    omega
  · intro h
    apply BitVec.eq_of_toNat_eq
    rw [h1, BitVec.toNat_sub, BitVec.toNat_ofNat]
    simp
    omega

omit ht in
/-- The output window is idle away from the last point. -/
theorem idle11 (t : Fin (cfg0 a).N) : (cfg0 a).idle 11 ((cfg0 a).grid.coords t) = !(k0_cond2 (coordW a t) (a.1 2 (ValueIdx.ix1 0)) == 1#1) := by
  have h : a.1.atD 2 ![0] = a.1 2 (ValueIdx.ix1 0) := by
    refine (dif_pos (show ∀ b : Fin (pre0.ref 2).ty.shape.rank, (![0] : Fin 1 → Nat) b + 1 ≤ (pre0.ref 2).ty.shape.size b from fun b => by
      match b with
      | ⟨0, _⟩ => exact Nat.le_refl 1)).trans ?_
    refine congrArg (a.1 2) (funext fun b => ?_)
    match b with
    | ⟨0, _⟩ => rfl
  show (!(k0_cond2 (coordW a t) (a.1.atD 2 ![0]) == 1#1)) = _
  rw [h]

theorem flush11 (t : Fin (cfg0 a).N) : ((cfg0 a).win 11).flush t = true ↔ t.val + 1 = n := by
  have hlt := lt_of_lt_of_eq t.isLt ht.N_eq
  refine (Pipeline.Window.flush_const ((cfg0 a).win 11) rfl (fun _ _ => rfl) (n := n) (m := n - 1) ht.N_eq (by omega) t).trans ?_
  rw [Nat.mod_eq_of_lt hlt]
  omega

omit ht in
/-- At the first point the old contents do not matter. -/
theorem accStep_first (c : Dev nD) (t : Fin (cfg0 a).N) (h : coordW a t = 0#32) (f g : Vec F S96x2048 .f32) : accStep a V c t f = accStep a V c t g := by
  have hb : (coordW a t == 0#32) = true := beq_iff_eq.mpr h
  unfold accStep
  rw [hb]
  unfold accNew
  rfl

/-- The step from what the invariant holds is the next accumulator. -/
theorem accStep_eq (c : Dev nD) (t : Fin (cfg0 a).N) (f : Vec F S96x2048 .f32) (hf : t.val ≠ 0 → f = accAt a V c t.val) : accStep a V c t f = accAt a V c (t.val + 1) := by
  rw [accAt_succ]
  by_cases h : t.val = 0
  · refine accStep_first V c t ?_ _ _
    apply BitVec.eq_of_toNat_eq
    rw [coordW_toNat ht, h]; rfl
  · rw [hf h]

/-- What the step leaves in the output window's buffer is what the pipeline wants there. -/
theorem leaves11 (c : Dev nD) (t : Fin (cfg0 a).N) (d) (f : Vec F S96x2048 .f32) (hf : t.val ≠ 0 → f = accAt a V c t.val)
    (X : Vec F S96x2048 .bf16) (hX : X = if k0_cond2 (coordW a t) (a.1 2 (ValueIdx.ix1 0)) = 1#1 then k0_pay6 (accStep a V c t f) else (dats a V 0 c).before 11 t d) :
    owns (c : Thread nD τ) (((cfg0 a).win 11).stage ((cfg0 a).slots t 11)) fullShare X ⊢ ((dats a V 0 c).leavesExact 11 t : sProp 𝕄) := by
  by_cases h : k0_cond2 (coordW a t) (a.1 2 (ValueIdx.ix1 0)) = 1#1
  · have hX' : X = (dats a V 0 c).after 11 t := (hX.trans (if_pos h)).trans (congrArg k0_pay6 (accStep_eq V ht c t f hf))
    subst hX'
    unfold Dat.leavesExact
    rw [idle11, h]
    exact .rfl
  · have hi : (cfg0 a).idle 11 ((cfg0 a).grid.coords t) = true := by
      rw [idle11, beq_eq_false_iff_ne.mpr h]; rfl
    have hfl : ((cfg0 a).win 11).flush t = false := by
      rw [← Bool.not_eq_true, flush11 ht, ← last_iff ht]; exact h
    have hX' : X = (dats a V 0 c).before 11 t d := hX.trans (if_neg h)
    subst hX'
    rw [Dat.leavesExact_idle _ 11 t hi hfl]
    iintro H; iexists d; iexact H

set_option backward.isDefEq.respectTransparency.types false in
/-- The body's obligation at every point. -/
theorem body_obligation (c : Dev nD) : BodyObligation (dats a V 0 c) (defs₀ (F := F)) Variants.none () Set.univ := fun t => by
  rw [bigSep_W0, bigSep_W0]
  rw [show (dats a V 0 c).Φ t.castSucc = Φat a V c t.val from rfl, show (dats a V 0 c).Φ t.succ = Φat a V c (t.val + 1) from rfl]
  unfold Φat Dat.owesAt Pipeline.owesWithin
  rw [tables_eq]
  rw [show (dats a V 0 c).owed t.castSucc = 0 from rfl, show (dats a V 0 c).owed t.succ = 0 from rfl]
  have e0 : (a.1 1 (ValueIdx.ix1 ⟨(coordW a t).toNat, inRange (chk ht t)⟩)) = a.1 1 (ValueIdx.ix1 ⟨(coordW a t).toNat % 64, Nat.mod_lt _ (by decide)⟩) :=
    congrArg (fun k => a.1 1 (ValueIdx.ix1 k)) (Fin.ext (Nat.mod_eq_of_lt (inRange (chk ht t))).symm)
  iintro ⟨⟨⟨%f15, H15⟩, ⟨%f16, %hf16, H16⟩, ⟨T0, T1, T2⟩, Hprng⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0]
  rw [before_1]
  rw [before_2]
  rw [before_3]
  rw [before_4]
  rw [before_5]
  rw [before_6]
  rw [before_7]
  rw [before_8]
  rw [before_9]
  rw [before_10]
  iapply (stepRun c (dynb0 a.1) (Pipeline.Grid.Coords.static grid0 ((cfg0 a).grid.coords t)) (coordW a t) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (a.1 1) (a.1 2) (blk a V c 0 t) (blk a V c 1 t) (blk a V c 2 t) (blk a V c 3 t) (blk a V c 4 t) (blk a V c 5 t) (blk a V c 6 t) (blk a V c 7 t) (blk a V c 8 t) (blk a V c 9 t) (blk a V c 10 t) ((dats a V 0 c).before 11 t d11) f15 f16 W (chk ht t))
  rw [e0]
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H15]; · iexact H15
  isplitl [H16]; · iexact H16
  isplitl [HO]; · iexact HO
  iintro ⟨T1, T2, H0, H1, H2, H3, H4, H5, H6, H7, H8, H9, H10, H11, H15, H16, HO⟩
  isplitl [H15 H16 T0 T1 T2 Hprng]
  · isplitl [H15]; · iexact H15
    isplitl [H16]
    · iexists _; isplitr; swap; (· iexact H16); ipureintro; exact fun _ => accStep_eq V ht c t f16 hf16
    isplitl [T0 T1 T2]
    · isplitl [T0]; · iexact T0
      isplitl [T1]; · iexact T1
      iexact T2
    iexact Hprng
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (leaves11 V ht c t d11 f16 hf16 _ rfl)
  iexact H11

end Cert.Kernel.Step

end
-- ==== Proof.Bits.RunMain.lean ====
/-
  The kernel's run: after the host operations and the region, the output array holds what the pipeline computes, and every
  other array is as the host operations left it.
-/
module

public import proofs.«01_k».proof.Proof.Bits.Run

@[expose] public section

set_option maxRecDepth 100000
set_option maxHeartbeats 4000000

noncomputable section

namespace Cert.Kernel.Step

open Cert.Kernel Cert.Kernel.Gen Cert.Kernel.Tile Cert.Kernel.Host
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch; -/
abbrev V₀ (c : Dev nD) : Valuation τ sig (Elt F) := fun b => m (c, b)
/-- and when the region is entered. -/
def Vr (c : Dev nD) (b : Ref sig .tc) : Buf (Elt F) ((c : Thread nD τ).loc b) := val (V₀ m c) (Proc.devRef .tc b)

/-- The tables the region is entered at. -/
def tabs : (p : Fin 1) → (pcfgs (F := F) p).Adm := fun _ => adm (V₀ m 0)

/-- The mask of used experts at launch. -/
abbrev usedM : IVec S64 1 := used (m ((0 : Dev nD), Proc.devRef .tc main_arg1))

theorem tabsOk : Tables (tabs (F := F) m 0).1 (cnt (usedM m)) (expert (usedM m)) := tables (V₀ m 0)

theorem hostFresh : (opss (F := F)).Forall fun ops => ops.Forall fun op => op.fresh = ∅ :=
  ⟨fresh0, fresh1, fresh2, fresh3, fresh4, fresh5, fresh6, fresh7, fresh8, fresh9, fresh10, fresh11, fresh12, fresh13, fresh14, fresh15, fresh16, fresh17, fresh18⟩

theorem hostSub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

set_option backward.isDefEq.respectTransparency.types false in
theorem hmain : Pipeline.HMainP (Ix := Unit) (Name := ℕ) (U := UR sig nD τ) (Lvl := ℕ) (pcfgs (F := F)) 0 defs₀ Variants.none m (main (F := F)) (Vr m) := by
  have h := Pipeline.hmainP_prefixes (Ix := Unit) (Name := ℕ) (U := UR sig nD τ) (Lvl := ℕ) (pcfgs (F := F)) 0 defs₀ Variants.none m (main (F := F)) opss hostSub hostFresh
    (fun c => main_chain c)
  rw [show (fun (c : Dev nD) (b : Ref sig .tc) => StableHlo.after (opss (F := F)).flatten (fun b => m (c, b)) b) = Vr m from
    funext fun c => funext fun b => congrFun (after_opss (V₀ m c)) (Proc.devRef .tc b)] at h
  exact h

/-- What the run ends in: every window's array as the pipeline computes it, every other unscoped buffer as the host
    operations left it. -/
theorem run : θ_run defs (onTc (τ := τ) (main (F := F))) (s₀ m ρ) (fun r =>
    Pipeline.FramePost (Pipeline.pin (pcfgs (F := F)) (tabs m)) (dats (tabs m 0) (Vr m)) 0 (Vr m) r ∧ r.2.sem = fun _ => 0) :=
  Pipeline.θ_run_frameP_track (pcfgs (F := F)) (tabs m) (dats (tabs m 0) (Vr m)) 0 Gen.launch0 defs₀ Variants.none m ρ main
    (fun c => (body_obligation (Vr m) (tabsOk m) c).loose)
    (fun c => (dats (tabs m 0) (Vr m) 0 c).share_full fun _ => rfl) (fun _ _ => rfl) (Vr m) (hmain m)
    (fun c w => A_eq (tabs m 0) (Vr m) c w)
    (fun c k => by rw [Subsingleton.elim c 0]; rfl)
    (fun c => by
      rw [show (dats (tabs m 0) (Vr m) 0 c).Φ 0 = Φat (tabs m 0) (Vr m) c 0 from rfl]
      unfold Φat Pipeline.ΦA
      rw [scopedRest0_eq]
      iintro ⟨⟨⟨H15, ⟨%f, H16⟩⟩, Hp⟩, HT⟩
      isplitl [H15]; · iexact H15
      isplitl [H16]
      · iexists f; isplitr; swap; (· iexact H16); ipureintro; exact fun h => absurd rfl h
      isplitl [HT]; · iexact HT
      iexact Hp)
    (fun c => by
      rw [show (dats (tabs m 0) (Vr m) 0 c).Φ (Fin.last _) = Φat (tabs m 0) (Vr m) c (cfg0 (tabs m 0)).N from rfl]
      unfold Φat Pipeline.ΦA
      rw [scopedRest0_eq]
      iintro ⟨H15, ⟨%f, %hf, H16⟩, HT, Hp⟩
      isplitr [Hp]; swap; · iexact Hp
      isplitl [H15]; · iexact H15
      iexists f; iexact H16)
    _ (fun _ h => h)

end Cert.Kernel.Step

end
-- ==== Proof.Bits.Frame.lean ====
/-
  The kernel terminates, leaves every argument as it found it and every semaphore at zero; and the result array ends at what
  the pipeline's last write-back put there.
-/
module

public import proofs.«01_k».proof.Proof.Bits.RunMain

@[expose] public section

set_option maxRecDepth 100000
set_option maxHeartbeats 4000000

noncomputable section

namespace Cert.Kernel.Step

open Cert.Kernel Cert.Kernel.Gen Cert.Kernel.Host
open Idealize.ShloMosaic
open Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- What the run ends in. -/
abbrev Post (r : PUnit × MemSt nD τ sig (Elt F)) : Prop :=
  Pipeline.FramePost (Pipeline.pin (pcfgs (F := F)) (tabs m)) (dats (tabs m 0) (Vr m)) 0 (Vr m) r ∧ r.2.sem = fun _ => 0

/-- An array no window is over ends as it was. -/
theorem rest {r : PUnit × MemSt nD τ sig (Elt F)} (h : Post m r) (c : Dev nD) (b : Ref sig .tc) (hs : b.isScoped = false)
    (ha : ∀ w, (spec0 w).arr.view.ref ≠ b) (ho : b ∉ outs) : r.2.mem ((c : Thread nD τ).loc b) = m ((c : Thread nD τ).loc b) :=
  ((h.1 c).2 b (Pipeline.mem_restRefs_of b hs ha)).trans (keep (V₀ m c) b ho)

theorem in5 {r : PUnit × MemSt nD τ sig (Elt F)} (h : Post m r) (c : Dev nD) : r.2.mem ((c : Thread nD τ).loc main_arg3) = m ((c : Thread nD τ).loc main_arg3) :=
  ((h.1 c).1 5).trans (((dats (tabs m 0) (Vr m) 0 c).arrAt_in 5 rfl _).trans (keep (V₀ m c) main_arg3 (by decide +kernel)))

theorem in7 {r : PUnit × MemSt nD τ sig (Elt F)} (h : Post m r) (c : Dev nD) : r.2.mem ((c : Thread nD τ).loc main_arg5) = m ((c : Thread nD τ).loc main_arg5) :=
  ((h.1 c).1 7).trans (((dats (tabs m 0) (Vr m) 0 c).arrAt_in 7 rfl _).trans (keep (V₀ m c) main_arg5 (by decide +kernel)))

theorem args {r : PUnit × MemSt nD τ sig (Elt F)} (h : Post m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨rest m h c main_arg0 rfl (by decide) (by decide +kernel), rest m h c main_arg1 rfl (by decide) (by decide +kernel),
    rest m h c main_arg2 rfl (by decide) (by decide +kernel), in5 m h c, rest m h c main_arg4 rfl (by decide) (by decide +kernel),
    in7 m h c, rest m h c main_arg6 rfl (by decide) (by decide +kernel), rest m h c main_arg7 rfl (by decide) (by decide +kernel),
    rest m h c main_arg8 rfl (by decide) (by decide +kernel)⟩

end Cert.Kernel.Step

end
-- ==== Proof.Tile.lean ====
/-
  One pass of each loop of the kernel, written as a function of what it loads: the decoding of a block of 64 packed
  codes, the 256 rows by 128 columns of decoded weights a pass multiplies by, the partial products, and what is stored.
-/
module

public import proofs.«01_k».proof.Proof.Gen.KernelIdeal.Loops

@[expose] public section

noncomputable section

namespace Cert.KernelIdeal.Tile

open Idealize.ShloMosaic Idealize.ShloMosaic.TcCoe Idealize.ShloMosaic.Tactic
open Cert.KernelIdeal Cert.KernelIdeal.Gen

variable {F : FTy → Type} [FloatOps F]

/-- The 64 codes of eight rows of words: each half-word gives four, at shifts 4, 0, 12 and 8, in four runs of 16 rows. -/
def codes (w : IVec S8x128 32) : IVec S64x128 32 :=
  have h : IVec S16x128 32 := extsi 32 (bitcast S16x128 16 w bitcasts_S8x128_w32_S16x128_w16) natLt_16_32
  andi (concatenate S64x128 0 [⟨S16x128, shrsi h (broadcast S16x128 4#32)⟩, ⟨S16x128, shrsi h (broadcast S16x128 0#32)⟩,
      ⟨S16x128, shrsi h (broadcast S16x128 12#32)⟩, ⟨S16x128, shrsi h (broadcast S16x128 8#32)⟩]
      concatenates_S16x128_S16x128_S16x128_S16x128_S64x128_d0) (broadcast S64x128 15#32)

/-- The decoded values of eight rows of words: the table at each code, times the scale of its column, in bf16. -/
def decode (tab : FVec F S64x128 .f32) (w : IVec S8x128 32) (a : FVec F S64x128 .f32) : FVec F S64x128 .bf16 :=
  truncf .bf16 (mulf (dynamicGather 1 tab (shapeCast S64x128 (shapeCast S64x128x1 (codes w) shapeCasts_S64x128_S64x128x1)
    shapeCasts_S64x128x1_S64x128)) a) bitsLt_bf16_f32

/-- A scale per column, laid over 64 rows. -/
def scale1 (a : Vec F S1x1x128 .f32) : FVec F S64x128 .f32 :=
  broadcastTo S64x128 (shapeCast S1x128 a shapeCasts_S1x1x128_S1x128) broadcasts_S1x128_S64x128

/-- 256 rows by 128 columns of decoded gate or up weights: four blocks of 64 rows, each with its scale. -/
def half1 (tab : FVec F S64x128 .f32) (w : Vec F S1x128x128 .i8) (a : Fin 4 → Vec F S1x1x128 .f32) : FVec F S256x128 .bf16 :=
  concatenate S256x128 0
    [⟨S64x128, decode tab (extractStridedSlice S8x128 ![0, 0] (k0_pay8 w) slices_S32x128_o0_0_S8x128) (scale1 (a 0))⟩,
     ⟨S64x128, decode tab (extractStridedSlice S8x128 ![8, 0] (k0_pay8 w) slices_S32x128_o8_0_S8x128) (scale1 (a 1))⟩,
     ⟨S64x128, decode tab (extractStridedSlice S8x128 ![16, 0] (k0_pay8 w) slices_S32x128_o16_0_S8x128) (scale1 (a 2))⟩,
     ⟨S64x128, decode tab (extractStridedSlice S8x128 ![24, 0] (k0_pay8 w) slices_S32x128_o24_0_S8x128) (scale1 (a 3))⟩]
    concatenates_S64x128_S64x128_S64x128_S64x128_S256x128_d0

/-- One partial product of the gate and up columns, added to the ones before. -/
def step1 (tab : FVec F S64x128 .f32) (acc : FVec F S96x256 .f32) (x : Vec F S96x256 .bf16)
    (wg wu : Vec F S1x128x128 .i8) (ag au : Fin 4 → Vec F S1x1x128 .f32) : FVec F S96x256 .f32 :=
  addf acc (matmul dot_S96x256_S256x256_S96x256_1_0_0_1_n_n none (shapeCast S96x256 x shapeCasts_S96x256_S96x256)
    (concatenate S256x256 1 [⟨S256x128, half1 tab wg ag⟩, ⟨S256x128, half1 tab wu au⟩] concatenates_S256x128_S256x128_S256x256_d1)
    (constant S96x256 .f32 0x00000000#32))

/-- The gate and up columns of one pass: the sum of the eight partial products. -/
def acc1 (tab : FVec F S64x128 .f32) (x : Fin 8 → Vec F S96x256 .bf16)
    (wg wu : Fin 8 → Vec F S1x128x128 .i8) (ag au : Fin 8 → Fin 4 → Vec F S1x1x128 .f32) : FVec F S96x256 .f32 :=
  step1 tab (step1 tab (step1 tab (step1 tab (step1 tab (step1 tab (step1 tab (step1 tab k0_pay7
    (x 0) (wg 0) (wu 0) (ag 0) (au 0)) (x 1) (wg 1) (wu 1) (ag 1) (au 1)) (x 2) (wg 2) (wu 2) (ag 2) (au 2))
    (x 3) (wg 3) (wu 3) (ag 3) (au 3)) (x 4) (wg 4) (wu 4) (ag 4) (au 4)) (x 5) (wg 5) (wu 5) (ag 5) (au 5))
    (x 6) (wg 6) (wu 6) (ag 6) (au 6)) (x 7) (wg 7) (wu 7) (ag 7) (au 7)

/-- silu of the gate columns times the up columns, in bf16. -/
def swiglu (g : FVec F S96x256 .f32) : FVec F S96x128 .bf16 :=
  have gate := extractStridedSlice S96x128 ![0, 0] g slices_S96x256_o0_0_S96x128
  have up := extractStridedSlice S96x128 ![0, 128] g slices_S96x256_o0_128_S96x128
  truncf .bf16 (mulf (mulf gate (logistic gate)) up) bitsLt_bf16_f32

/-- What a pass of the first loop stores: the 128 columns of the hidden layer, their order permuted. -/
def tile1 (tab : Vec F S64x128 .f32) (perm : Vec F S128x128 .bf16) (x : Fin 8 → Vec F S96x256 .bf16)
    (wg wu : Fin 8 → Vec F S1x128x128 .i8) (ag au : Fin 8 → Fin 4 → Vec F S1x1x128 .f32) : FVec F S96x128 .bf16 :=
  k0_pay3 (swiglu (acc1 (k0_pay1 tab) x wg wu ag au)) perm

/-- The scales of the down weights: of eight experts' rows the one wanted, laid over 64 rows. -/
def scale2 (sub : IVec S8x128 32) (a : Vec F S1x8x128 .f32) : FVec F S64x128 .f32 :=
  have g : FVec F S8x128 .f32 := dynamicGather 0 (shapeCast S8x128 a shapeCasts_S1x8x128_S8x128)
    (shapeCast S8x128 (shapeCast S8x128x1 sub shapeCasts_S8x128_S8x128x1) shapeCasts_S8x128x1_S8x128)
  concatenate S64x128 0 [⟨S8x128, g⟩, ⟨S8x128, g⟩, ⟨S8x128, g⟩, ⟨S8x128, g⟩, ⟨S8x128, g⟩, ⟨S8x128, g⟩, ⟨S8x128, g⟩, ⟨S8x128, g⟩]
    concatenates_S8x128_S8x128_S8x128_S8x128_S8x128_S8x128_S8x128_S8x128_S64x128_d0

/-- 128 rows by 128 columns of decoded down weights: two blocks of 64 rows, each with its scale. -/
def half2 (tab : FVec F S64x128 .f32) (sub : IVec S8x128 32) (w : Vec F S1x64x128 .i8) (a : Fin 2 → Vec F S1x8x128 .f32) :
    FVec F S128x128 .bf16 :=
  concatenate S128x128 0
    [⟨S64x128, decode tab (extractStridedSlice S8x128 ![0, 0] (k0_pay167 w) slices_S16x128_o0_0_S8x128) (scale2 sub (a 0))⟩,
     ⟨S64x128, decode tab (extractStridedSlice S8x128 ![8, 0] (k0_pay167 w) slices_S16x128_o8_0_S8x128) (scale2 sub (a 1))⟩]
    concatenates_S64x128_S64x128_S128x128_d0

/-- One partial product of the down columns, added to the ones before. -/
def step2 (tab : FVec F S64x128 .f32) (sub : IVec S8x128 32) (acc : FVec F S96x256 .f32) (h : Vec F S96x128 .bf16)
    (w : Fin 2 → Vec F S1x64x128 .i8) (a : Fin 2 → Fin 2 → Vec F S1x8x128 .f32) : FVec F S96x256 .f32 :=
  addf acc (matmul dot_S96x128_S128x256_S96x256_1_0_0_1_n_n none h
    (concatenate S128x256 1 [⟨S128x128, half2 tab sub (w 0) (a 0)⟩, ⟨S128x128, half2 tab sub (w 1) (a 1)⟩] concatenates_S128x128_S128x128_S128x256_d1)
    (constant S96x256 .f32 0x00000000#32))

/-- The down columns of one pass: the sum of the eleven partial products. -/
def acc2 (tab : FVec F S64x128 .f32) (sub : IVec S8x128 32) (h : Fin 11 → Vec F S96x128 .bf16)
    (w : Fin 11 → Fin 2 → Vec F S1x64x128 .i8) (a : Fin 11 → Fin 2 → Fin 2 → Vec F S1x8x128 .f32) : FVec F S96x256 .f32 :=
  have s := step2 tab sub
  s (s (s (s (s (s (s (s (s (s (s k0_pay166 (h 0) (w 0) (a 0)) (h 1) (w 1) (a 1)) (h 2) (w 2) (a 2)) (h 3) (w 3) (a 3))
    (h 4) (w 4) (a 4)) (h 5) (w 5) (a 5)) (h 6) (w 6) (a 6)) (h 7) (w 7) (a 7)) (h 8) (w 8) (a 8)) (h 9) (w 9) (a 9))
    (h 10) (w 10) (a 10)

/-- What a pass of the second loop stores: the columns found there, plus the down columns weighted by the expert's
    combine weight of each token. -/
def tile2 (tab : Vec F S64x128 .f32) (e : Elt F .i32) (ids : Vec F S96x6 .i32) (cw : Vec F S96x6 .f32)
    (h : Fin 11 → Vec F S96x128 .bf16) (w : Fin 11 → Fin 2 → Vec F S1x64x128 .i8)
    (a : Fin 11 → Fin 2 → Fin 2 → Vec F S1x8x128 .f32) (old : Vec F S96x256 .f32) : FVec F S96x256 .f32 :=
  k0_pay5 e ids cw (acc2 (k0_pay1 tab) (k0_pay4 (F := F) e) h w a) old

end Cert.KernelIdeal.Tile
-- ==== Proof.Trip.lean ====
/-
  What one pass of each loop of the kernel writes, as the functions of Tile.lean of what it reads.
-/
module

public import proofs.«01_k».proof.Proof.Tile

@[expose] public section

set_option maxRecDepth 100000
set_option maxHeartbeats 4000000

noncomputable section

namespace Cert.KernelIdeal.Tile

open Idealize.ShloMosaic Idealize.ShloMosaic.TcCoe Idealize.ShloMosaic.Tactic
open Cert.KernelIdeal Cert.KernelIdeal.Gen

variable {F : FTy → Type} [FloatOps F]

/-- A pass of the first loop writes one piece: 128 columns of the hidden layer. -/
theorem tripL1  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v2 : Vec F S64x128 .f32) (X_arg3 : BufTy.Contents (Elt F) arg3.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips) :
    tripL_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 k = [⟨Rect.unit (s := S96x1408) (k0_off43 k) S96x128.size (k0_off43_inb k),
      tile1 v2 (View.readAt (Elt F) arg6.view (Rect.unit (s := S128x128) ![0, 0] S128x128.size inb_S128x128_S128x128_0_0).toLoadRect X_arg6)
        ![View.readAt (Elt F) arg3.view (Rect.unit (s := S96x2048) (![0, 0]) S96x256.size (inb_S96x2048_S96x256_0_0)).toLoadRect X_arg3, View.readAt (Elt F) arg3.view (Rect.unit (s := S96x2048) (![0, 256]) S96x256.size (inb_S96x2048_S96x256_0_256)).toLoadRect X_arg3, View.readAt (Elt F) arg3.view (Rect.unit (s := S96x2048) (![0, 512]) S96x256.size (inb_S96x2048_S96x256_0_512)).toLoadRect X_arg3, View.readAt (Elt F) arg3.view (Rect.unit (s := S96x2048) (![0, 768]) S96x256.size (inb_S96x2048_S96x256_0_768)).toLoadRect X_arg3, View.readAt (Elt F) arg3.view (Rect.unit (s := S96x2048) (![0, 1024]) S96x256.size (inb_S96x2048_S96x256_0_1024)).toLoadRect X_arg3, View.readAt (Elt F) arg3.view (Rect.unit (s := S96x2048) (![0, 1280]) S96x256.size (inb_S96x2048_S96x256_0_1280)).toLoadRect X_arg3, View.readAt (Elt F) arg3.view (Rect.unit (s := S96x2048) (![0, 1536]) S96x256.size (inb_S96x2048_S96x256_0_1536)).toLoadRect X_arg3, View.readAt (Elt F) arg3.view (Rect.unit (s := S96x2048) (![0, 1792]) S96x256.size (inb_S96x2048_S96x256_0_1792)).toLoadRect X_arg3]
        ![View.readAt (Elt F) arg8.view (Rect.unit (s := S1x1408x1024) (k0_off3 k) S1x128x128.size (k0_off3_inb k)).toLoadRect X_arg8, View.readAt (Elt F) arg8.view (Rect.unit (s := S1x1408x1024) (k0_off8 k) S1x128x128.size (k0_off8_inb k)).toLoadRect X_arg8, View.readAt (Elt F) arg8.view (Rect.unit (s := S1x1408x1024) (k0_off13 k) S1x128x128.size (k0_off13_inb k)).toLoadRect X_arg8, View.readAt (Elt F) arg8.view (Rect.unit (s := S1x1408x1024) (k0_off18 k) S1x128x128.size (k0_off18_inb k)).toLoadRect X_arg8, View.readAt (Elt F) arg8.view (Rect.unit (s := S1x1408x1024) (k0_off23 k) S1x128x128.size (k0_off23_inb k)).toLoadRect X_arg8, View.readAt (Elt F) arg8.view (Rect.unit (s := S1x1408x1024) (k0_off28 k) S1x128x128.size (k0_off28_inb k)).toLoadRect X_arg8, View.readAt (Elt F) arg8.view (Rect.unit (s := S1x1408x1024) (k0_off33 k) S1x128x128.size (k0_off33_inb k)).toLoadRect X_arg8, View.readAt (Elt F) arg8.view (Rect.unit (s := S1x1408x1024) (k0_off38 k) S1x128x128.size (k0_off38_inb k)).toLoadRect X_arg8]
        ![View.readAt (Elt F) arg10.view (Rect.unit (s := S1x1408x1024) (k0_off3 k) S1x128x128.size (k0_off3_inb k)).toLoadRect X_arg10, View.readAt (Elt F) arg10.view (Rect.unit (s := S1x1408x1024) (k0_off8 k) S1x128x128.size (k0_off8_inb k)).toLoadRect X_arg10, View.readAt (Elt F) arg10.view (Rect.unit (s := S1x1408x1024) (k0_off13 k) S1x128x128.size (k0_off13_inb k)).toLoadRect X_arg10, View.readAt (Elt F) arg10.view (Rect.unit (s := S1x1408x1024) (k0_off18 k) S1x128x128.size (k0_off18_inb k)).toLoadRect X_arg10, View.readAt (Elt F) arg10.view (Rect.unit (s := S1x1408x1024) (k0_off23 k) S1x128x128.size (k0_off23_inb k)).toLoadRect X_arg10, View.readAt (Elt F) arg10.view (Rect.unit (s := S1x1408x1024) (k0_off28 k) S1x128x128.size (k0_off28_inb k)).toLoadRect X_arg10, View.readAt (Elt F) arg10.view (Rect.unit (s := S1x1408x1024) (k0_off33 k) S1x128x128.size (k0_off33_inb k)).toLoadRect X_arg10, View.readAt (Elt F) arg10.view (Rect.unit (s := S1x1408x1024) (k0_off38 k) S1x128x128.size (k0_off38_inb k)).toLoadRect X_arg10]
        ![![View.readAt (Elt F) arg9.view (Rect.unit (s := S1x32x1408) (k0_off4 k) S1x1x128.size (k0_off4_inb k)).toLoadRect X_arg9, View.readAt (Elt F) arg9.view (Rect.unit (s := S1x32x1408) (k0_off5 k) S1x1x128.size (k0_off5_inb k)).toLoadRect X_arg9, View.readAt (Elt F) arg9.view (Rect.unit (s := S1x32x1408) (k0_off6 k) S1x1x128.size (k0_off6_inb k)).toLoadRect X_arg9, View.readAt (Elt F) arg9.view (Rect.unit (s := S1x32x1408) (k0_off7 k) S1x1x128.size (k0_off7_inb k)).toLoadRect X_arg9], ![View.readAt (Elt F) arg9.view (Rect.unit (s := S1x32x1408) (k0_off9 k) S1x1x128.size (k0_off9_inb k)).toLoadRect X_arg9, View.readAt (Elt F) arg9.view (Rect.unit (s := S1x32x1408) (k0_off10 k) S1x1x128.size (k0_off10_inb k)).toLoadRect X_arg9, View.readAt (Elt F) arg9.view (Rect.unit (s := S1x32x1408) (k0_off11 k) S1x1x128.size (k0_off11_inb k)).toLoadRect X_arg9, View.readAt (Elt F) arg9.view (Rect.unit (s := S1x32x1408) (k0_off12 k) S1x1x128.size (k0_off12_inb k)).toLoadRect X_arg9], ![View.readAt (Elt F) arg9.view (Rect.unit (s := S1x32x1408) (k0_off14 k) S1x1x128.size (k0_off14_inb k)).toLoadRect X_arg9, View.readAt (Elt F) arg9.view (Rect.unit (s := S1x32x1408) (k0_off15 k) S1x1x128.size (k0_off15_inb k)).toLoadRect X_arg9, View.readAt (Elt F) arg9.view (Rect.unit (s := S1x32x1408) (k0_off16 k) S1x1x128.size (k0_off16_inb k)).toLoadRect X_arg9, View.readAt (Elt F) arg9.view (Rect.unit (s := S1x32x1408) (k0_off17 k) S1x1x128.size (k0_off17_inb k)).toLoadRect X_arg9], ![View.readAt (Elt F) arg9.view (Rect.unit (s := S1x32x1408) (k0_off19 k) S1x1x128.size (k0_off19_inb k)).toLoadRect X_arg9, View.readAt (Elt F) arg9.view (Rect.unit (s := S1x32x1408) (k0_off20 k) S1x1x128.size (k0_off20_inb k)).toLoadRect X_arg9, View.readAt (Elt F) arg9.view (Rect.unit (s := S1x32x1408) (k0_off21 k) S1x1x128.size (k0_off21_inb k)).toLoadRect X_arg9, View.readAt (Elt F) arg9.view (Rect.unit (s := S1x32x1408) (k0_off22 k) S1x1x128.size (k0_off22_inb k)).toLoadRect X_arg9], ![View.readAt (Elt F) arg9.view (Rect.unit (s := S1x32x1408) (k0_off24 k) S1x1x128.size (k0_off24_inb k)).toLoadRect X_arg9, View.readAt (Elt F) arg9.view (Rect.unit (s := S1x32x1408) (k0_off25 k) S1x1x128.size (k0_off25_inb k)).toLoadRect X_arg9, View.readAt (Elt F) arg9.view (Rect.unit (s := S1x32x1408) (k0_off26 k) S1x1x128.size (k0_off26_inb k)).toLoadRect X_arg9, View.readAt (Elt F) arg9.view (Rect.unit (s := S1x32x1408) (k0_off27 k) S1x1x128.size (k0_off27_inb k)).toLoadRect X_arg9], ![View.readAt (Elt F) arg9.view (Rect.unit (s := S1x32x1408) (k0_off29 k) S1x1x128.size (k0_off29_inb k)).toLoadRect X_arg9, View.readAt (Elt F) arg9.view (Rect.unit (s := S1x32x1408) (k0_off30 k) S1x1x128.size (k0_off30_inb k)).toLoadRect X_arg9, View.readAt (Elt F) arg9.view (Rect.unit (s := S1x32x1408) (k0_off31 k) S1x1x128.size (k0_off31_inb k)).toLoadRect X_arg9, View.readAt (Elt F) arg9.view (Rect.unit (s := S1x32x1408) (k0_off32 k) S1x1x128.size (k0_off32_inb k)).toLoadRect X_arg9], ![View.readAt (Elt F) arg9.view (Rect.unit (s := S1x32x1408) (k0_off34 k) S1x1x128.size (k0_off34_inb k)).toLoadRect X_arg9, View.readAt (Elt F) arg9.view (Rect.unit (s := S1x32x1408) (k0_off35 k) S1x1x128.size (k0_off35_inb k)).toLoadRect X_arg9, View.readAt (Elt F) arg9.view (Rect.unit (s := S1x32x1408) (k0_off36 k) S1x1x128.size (k0_off36_inb k)).toLoadRect X_arg9, View.readAt (Elt F) arg9.view (Rect.unit (s := S1x32x1408) (k0_off37 k) S1x1x128.size (k0_off37_inb k)).toLoadRect X_arg9], ![View.readAt (Elt F) arg9.view (Rect.unit (s := S1x32x1408) (k0_off39 k) S1x1x128.size (k0_off39_inb k)).toLoadRect X_arg9, View.readAt (Elt F) arg9.view (Rect.unit (s := S1x32x1408) (k0_off40 k) S1x1x128.size (k0_off40_inb k)).toLoadRect X_arg9, View.readAt (Elt F) arg9.view (Rect.unit (s := S1x32x1408) (k0_off41 k) S1x1x128.size (k0_off41_inb k)).toLoadRect X_arg9, View.readAt (Elt F) arg9.view (Rect.unit (s := S1x32x1408) (k0_off42 k) S1x1x128.size (k0_off42_inb k)).toLoadRect X_arg9]]
        ![![View.readAt (Elt F) arg11.view (Rect.unit (s := S1x32x1408) (k0_off4 k) S1x1x128.size (k0_off4_inb k)).toLoadRect X_arg11, View.readAt (Elt F) arg11.view (Rect.unit (s := S1x32x1408) (k0_off5 k) S1x1x128.size (k0_off5_inb k)).toLoadRect X_arg11, View.readAt (Elt F) arg11.view (Rect.unit (s := S1x32x1408) (k0_off6 k) S1x1x128.size (k0_off6_inb k)).toLoadRect X_arg11, View.readAt (Elt F) arg11.view (Rect.unit (s := S1x32x1408) (k0_off7 k) S1x1x128.size (k0_off7_inb k)).toLoadRect X_arg11], ![View.readAt (Elt F) arg11.view (Rect.unit (s := S1x32x1408) (k0_off9 k) S1x1x128.size (k0_off9_inb k)).toLoadRect X_arg11, View.readAt (Elt F) arg11.view (Rect.unit (s := S1x32x1408) (k0_off10 k) S1x1x128.size (k0_off10_inb k)).toLoadRect X_arg11, View.readAt (Elt F) arg11.view (Rect.unit (s := S1x32x1408) (k0_off11 k) S1x1x128.size (k0_off11_inb k)).toLoadRect X_arg11, View.readAt (Elt F) arg11.view (Rect.unit (s := S1x32x1408) (k0_off12 k) S1x1x128.size (k0_off12_inb k)).toLoadRect X_arg11], ![View.readAt (Elt F) arg11.view (Rect.unit (s := S1x32x1408) (k0_off14 k) S1x1x128.size (k0_off14_inb k)).toLoadRect X_arg11, View.readAt (Elt F) arg11.view (Rect.unit (s := S1x32x1408) (k0_off15 k) S1x1x128.size (k0_off15_inb k)).toLoadRect X_arg11, View.readAt (Elt F) arg11.view (Rect.unit (s := S1x32x1408) (k0_off16 k) S1x1x128.size (k0_off16_inb k)).toLoadRect X_arg11, View.readAt (Elt F) arg11.view (Rect.unit (s := S1x32x1408) (k0_off17 k) S1x1x128.size (k0_off17_inb k)).toLoadRect X_arg11], ![View.readAt (Elt F) arg11.view (Rect.unit (s := S1x32x1408) (k0_off19 k) S1x1x128.size (k0_off19_inb k)).toLoadRect X_arg11, View.readAt (Elt F) arg11.view (Rect.unit (s := S1x32x1408) (k0_off20 k) S1x1x128.size (k0_off20_inb k)).toLoadRect X_arg11, View.readAt (Elt F) arg11.view (Rect.unit (s := S1x32x1408) (k0_off21 k) S1x1x128.size (k0_off21_inb k)).toLoadRect X_arg11, View.readAt (Elt F) arg11.view (Rect.unit (s := S1x32x1408) (k0_off22 k) S1x1x128.size (k0_off22_inb k)).toLoadRect X_arg11], ![View.readAt (Elt F) arg11.view (Rect.unit (s := S1x32x1408) (k0_off24 k) S1x1x128.size (k0_off24_inb k)).toLoadRect X_arg11, View.readAt (Elt F) arg11.view (Rect.unit (s := S1x32x1408) (k0_off25 k) S1x1x128.size (k0_off25_inb k)).toLoadRect X_arg11, View.readAt (Elt F) arg11.view (Rect.unit (s := S1x32x1408) (k0_off26 k) S1x1x128.size (k0_off26_inb k)).toLoadRect X_arg11, View.readAt (Elt F) arg11.view (Rect.unit (s := S1x32x1408) (k0_off27 k) S1x1x128.size (k0_off27_inb k)).toLoadRect X_arg11], ![View.readAt (Elt F) arg11.view (Rect.unit (s := S1x32x1408) (k0_off29 k) S1x1x128.size (k0_off29_inb k)).toLoadRect X_arg11, View.readAt (Elt F) arg11.view (Rect.unit (s := S1x32x1408) (k0_off30 k) S1x1x128.size (k0_off30_inb k)).toLoadRect X_arg11, View.readAt (Elt F) arg11.view (Rect.unit (s := S1x32x1408) (k0_off31 k) S1x1x128.size (k0_off31_inb k)).toLoadRect X_arg11, View.readAt (Elt F) arg11.view (Rect.unit (s := S1x32x1408) (k0_off32 k) S1x1x128.size (k0_off32_inb k)).toLoadRect X_arg11], ![View.readAt (Elt F) arg11.view (Rect.unit (s := S1x32x1408) (k0_off34 k) S1x1x128.size (k0_off34_inb k)).toLoadRect X_arg11, View.readAt (Elt F) arg11.view (Rect.unit (s := S1x32x1408) (k0_off35 k) S1x1x128.size (k0_off35_inb k)).toLoadRect X_arg11, View.readAt (Elt F) arg11.view (Rect.unit (s := S1x32x1408) (k0_off36 k) S1x1x128.size (k0_off36_inb k)).toLoadRect X_arg11, View.readAt (Elt F) arg11.view (Rect.unit (s := S1x32x1408) (k0_off37 k) S1x1x128.size (k0_off37_inb k)).toLoadRect X_arg11], ![View.readAt (Elt F) arg11.view (Rect.unit (s := S1x32x1408) (k0_off39 k) S1x1x128.size (k0_off39_inb k)).toLoadRect X_arg11, View.readAt (Elt F) arg11.view (Rect.unit (s := S1x32x1408) (k0_off40 k) S1x1x128.size (k0_off40_inb k)).toLoadRect X_arg11, View.readAt (Elt F) arg11.view (Rect.unit (s := S1x32x1408) (k0_off41 k) S1x1x128.size (k0_off41_inb k)).toLoadRect X_arg11, View.readAt (Elt F) arg11.view (Rect.unit (s := S1x32x1408) (k0_off42 k) S1x1x128.size (k0_off42_inb k)).toLoadRect X_arg11]]⟩] := by
  unfold tripL_k0_t1 trip_k0_t1; rfl

/-- A pass of the second loop writes one piece: 256 columns of the accumulator. -/
theorem tripL2  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v1 : Elt F .i32) (v2 : Vec F S64x128 .f32) (v8 : Vec F S96x6 .i32) (v12 : Vec F S96x6 .f32) (X_arg12 : BufTy.Contents (Elt F) arg12.view.ty) (X_arg13 : BufTy.Contents (Elt F) arg13.view.ty) (X_arg15 : BufTy.Contents (Elt F) arg15.view.ty) (k : Fin k0_t2_loop.trips) (f_arg16 : BufTy.Contents (Elt F) arg16.view.ty) :
    tripL_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 k f_arg16 = [⟨Rect.unit (s := S96x2048) (k0_off77 k) S96x256.size (k0_off77_inb k),
      tile2 v2 v1 v8 v12
        ![View.readAt (Elt F) arg15.view (Rect.unit (s := S96x1408) (![0, 0]) S96x128.size (inb_S96x1408_S96x128_0_0)).toLoadRect X_arg15, View.readAt (Elt F) arg15.view (Rect.unit (s := S96x1408) (![0, 128]) S96x128.size (inb_S96x1408_S96x128_0_128)).toLoadRect X_arg15, View.readAt (Elt F) arg15.view (Rect.unit (s := S96x1408) (![0, 256]) S96x128.size (inb_S96x1408_S96x128_0_256)).toLoadRect X_arg15, View.readAt (Elt F) arg15.view (Rect.unit (s := S96x1408) (![0, 384]) S96x128.size (inb_S96x1408_S96x128_0_384)).toLoadRect X_arg15, View.readAt (Elt F) arg15.view (Rect.unit (s := S96x1408) (![0, 512]) S96x128.size (inb_S96x1408_S96x128_0_512)).toLoadRect X_arg15, View.readAt (Elt F) arg15.view (Rect.unit (s := S96x1408) (![0, 640]) S96x128.size (inb_S96x1408_S96x128_0_640)).toLoadRect X_arg15, View.readAt (Elt F) arg15.view (Rect.unit (s := S96x1408) (![0, 768]) S96x128.size (inb_S96x1408_S96x128_0_768)).toLoadRect X_arg15, View.readAt (Elt F) arg15.view (Rect.unit (s := S96x1408) (![0, 896]) S96x128.size (inb_S96x1408_S96x128_0_896)).toLoadRect X_arg15, View.readAt (Elt F) arg15.view (Rect.unit (s := S96x1408) (![0, 1024]) S96x128.size (inb_S96x1408_S96x128_0_1024)).toLoadRect X_arg15, View.readAt (Elt F) arg15.view (Rect.unit (s := S96x1408) (![0, 1152]) S96x128.size (inb_S96x1408_S96x128_0_1152)).toLoadRect X_arg15, View.readAt (Elt F) arg15.view (Rect.unit (s := S96x1408) (![0, 1280]) S96x128.size (inb_S96x1408_S96x128_0_1280)).toLoadRect X_arg15]
        ![![View.readAt (Elt F) arg12.view (Rect.unit (s := S1x704x2048) (k0_off44 k 0#32) S1x64x128.size (k0_off44_inb k 0)).toLoadRect X_arg12, View.readAt (Elt F) arg12.view (Rect.unit (s := S1x704x2048) (k0_off44 k 128#32) S1x64x128.size (k0_off44_inb k 1)).toLoadRect X_arg12], ![View.readAt (Elt F) arg12.view (Rect.unit (s := S1x704x2048) (k0_off47 k 0#32) S1x64x128.size (k0_off47_inb k 0)).toLoadRect X_arg12, View.readAt (Elt F) arg12.view (Rect.unit (s := S1x704x2048) (k0_off47 k 128#32) S1x64x128.size (k0_off47_inb k 1)).toLoadRect X_arg12], ![View.readAt (Elt F) arg12.view (Rect.unit (s := S1x704x2048) (k0_off50 k 0#32) S1x64x128.size (k0_off50_inb k 0)).toLoadRect X_arg12, View.readAt (Elt F) arg12.view (Rect.unit (s := S1x704x2048) (k0_off50 k 128#32) S1x64x128.size (k0_off50_inb k 1)).toLoadRect X_arg12], ![View.readAt (Elt F) arg12.view (Rect.unit (s := S1x704x2048) (k0_off53 k 0#32) S1x64x128.size (k0_off53_inb k 0)).toLoadRect X_arg12, View.readAt (Elt F) arg12.view (Rect.unit (s := S1x704x2048) (k0_off53 k 128#32) S1x64x128.size (k0_off53_inb k 1)).toLoadRect X_arg12], ![View.readAt (Elt F) arg12.view (Rect.unit (s := S1x704x2048) (k0_off56 k 0#32) S1x64x128.size (k0_off56_inb k 0)).toLoadRect X_arg12, View.readAt (Elt F) arg12.view (Rect.unit (s := S1x704x2048) (k0_off56 k 128#32) S1x64x128.size (k0_off56_inb k 1)).toLoadRect X_arg12], ![View.readAt (Elt F) arg12.view (Rect.unit (s := S1x704x2048) (k0_off59 k 0#32) S1x64x128.size (k0_off59_inb k 0)).toLoadRect X_arg12, View.readAt (Elt F) arg12.view (Rect.unit (s := S1x704x2048) (k0_off59 k 128#32) S1x64x128.size (k0_off59_inb k 1)).toLoadRect X_arg12], ![View.readAt (Elt F) arg12.view (Rect.unit (s := S1x704x2048) (k0_off62 k 0#32) S1x64x128.size (k0_off62_inb k 0)).toLoadRect X_arg12, View.readAt (Elt F) arg12.view (Rect.unit (s := S1x704x2048) (k0_off62 k 128#32) S1x64x128.size (k0_off62_inb k 1)).toLoadRect X_arg12], ![View.readAt (Elt F) arg12.view (Rect.unit (s := S1x704x2048) (k0_off65 k 0#32) S1x64x128.size (k0_off65_inb k 0)).toLoadRect X_arg12, View.readAt (Elt F) arg12.view (Rect.unit (s := S1x704x2048) (k0_off65 k 128#32) S1x64x128.size (k0_off65_inb k 1)).toLoadRect X_arg12], ![View.readAt (Elt F) arg12.view (Rect.unit (s := S1x704x2048) (k0_off68 k 0#32) S1x64x128.size (k0_off68_inb k 0)).toLoadRect X_arg12, View.readAt (Elt F) arg12.view (Rect.unit (s := S1x704x2048) (k0_off68 k 128#32) S1x64x128.size (k0_off68_inb k 1)).toLoadRect X_arg12], ![View.readAt (Elt F) arg12.view (Rect.unit (s := S1x704x2048) (k0_off71 k 0#32) S1x64x128.size (k0_off71_inb k 0)).toLoadRect X_arg12, View.readAt (Elt F) arg12.view (Rect.unit (s := S1x704x2048) (k0_off71 k 128#32) S1x64x128.size (k0_off71_inb k 1)).toLoadRect X_arg12], ![View.readAt (Elt F) arg12.view (Rect.unit (s := S1x704x2048) (k0_off74 k 0#32) S1x64x128.size (k0_off74_inb k 0)).toLoadRect X_arg12, View.readAt (Elt F) arg12.view (Rect.unit (s := S1x704x2048) (k0_off74 k 128#32) S1x64x128.size (k0_off74_inb k 1)).toLoadRect X_arg12]]
        ![![![View.readAt (Elt F) arg13.view (Rect.unit (s := S22x8x2048) (k0_off45 k 0#32) S1x8x128.size (k0_off45_inb k 0)).toLoadRect X_arg13, View.readAt (Elt F) arg13.view (Rect.unit (s := S22x8x2048) (k0_off46 k 0#32) S1x8x128.size (k0_off46_inb k 0)).toLoadRect X_arg13], ![View.readAt (Elt F) arg13.view (Rect.unit (s := S22x8x2048) (k0_off45 k 128#32) S1x8x128.size (k0_off45_inb k 1)).toLoadRect X_arg13, View.readAt (Elt F) arg13.view (Rect.unit (s := S22x8x2048) (k0_off46 k 128#32) S1x8x128.size (k0_off46_inb k 1)).toLoadRect X_arg13]], ![![View.readAt (Elt F) arg13.view (Rect.unit (s := S22x8x2048) (k0_off48 k 0#32) S1x8x128.size (k0_off48_inb k 0)).toLoadRect X_arg13, View.readAt (Elt F) arg13.view (Rect.unit (s := S22x8x2048) (k0_off49 k 0#32) S1x8x128.size (k0_off49_inb k 0)).toLoadRect X_arg13], ![View.readAt (Elt F) arg13.view (Rect.unit (s := S22x8x2048) (k0_off48 k 128#32) S1x8x128.size (k0_off48_inb k 1)).toLoadRect X_arg13, View.readAt (Elt F) arg13.view (Rect.unit (s := S22x8x2048) (k0_off49 k 128#32) S1x8x128.size (k0_off49_inb k 1)).toLoadRect X_arg13]], ![![View.readAt (Elt F) arg13.view (Rect.unit (s := S22x8x2048) (k0_off51 k 0#32) S1x8x128.size (k0_off51_inb k 0)).toLoadRect X_arg13, View.readAt (Elt F) arg13.view (Rect.unit (s := S22x8x2048) (k0_off52 k 0#32) S1x8x128.size (k0_off52_inb k 0)).toLoadRect X_arg13], ![View.readAt (Elt F) arg13.view (Rect.unit (s := S22x8x2048) (k0_off51 k 128#32) S1x8x128.size (k0_off51_inb k 1)).toLoadRect X_arg13, View.readAt (Elt F) arg13.view (Rect.unit (s := S22x8x2048) (k0_off52 k 128#32) S1x8x128.size (k0_off52_inb k 1)).toLoadRect X_arg13]], ![![View.readAt (Elt F) arg13.view (Rect.unit (s := S22x8x2048) (k0_off54 k 0#32) S1x8x128.size (k0_off54_inb k 0)).toLoadRect X_arg13, View.readAt (Elt F) arg13.view (Rect.unit (s := S22x8x2048) (k0_off55 k 0#32) S1x8x128.size (k0_off55_inb k 0)).toLoadRect X_arg13], ![View.readAt (Elt F) arg13.view (Rect.unit (s := S22x8x2048) (k0_off54 k 128#32) S1x8x128.size (k0_off54_inb k 1)).toLoadRect X_arg13, View.readAt (Elt F) arg13.view (Rect.unit (s := S22x8x2048) (k0_off55 k 128#32) S1x8x128.size (k0_off55_inb k 1)).toLoadRect X_arg13]], ![![View.readAt (Elt F) arg13.view (Rect.unit (s := S22x8x2048) (k0_off57 k 0#32) S1x8x128.size (k0_off57_inb k 0)).toLoadRect X_arg13, View.readAt (Elt F) arg13.view (Rect.unit (s := S22x8x2048) (k0_off58 k 0#32) S1x8x128.size (k0_off58_inb k 0)).toLoadRect X_arg13], ![View.readAt (Elt F) arg13.view (Rect.unit (s := S22x8x2048) (k0_off57 k 128#32) S1x8x128.size (k0_off57_inb k 1)).toLoadRect X_arg13, View.readAt (Elt F) arg13.view (Rect.unit (s := S22x8x2048) (k0_off58 k 128#32) S1x8x128.size (k0_off58_inb k 1)).toLoadRect X_arg13]], ![![View.readAt (Elt F) arg13.view (Rect.unit (s := S22x8x2048) (k0_off60 k 0#32) S1x8x128.size (k0_off60_inb k 0)).toLoadRect X_arg13, View.readAt (Elt F) arg13.view (Rect.unit (s := S22x8x2048) (k0_off61 k 0#32) S1x8x128.size (k0_off61_inb k 0)).toLoadRect X_arg13], ![View.readAt (Elt F) arg13.view (Rect.unit (s := S22x8x2048) (k0_off60 k 128#32) S1x8x128.size (k0_off60_inb k 1)).toLoadRect X_arg13, View.readAt (Elt F) arg13.view (Rect.unit (s := S22x8x2048) (k0_off61 k 128#32) S1x8x128.size (k0_off61_inb k 1)).toLoadRect X_arg13]], ![![View.readAt (Elt F) arg13.view (Rect.unit (s := S22x8x2048) (k0_off63 k 0#32) S1x8x128.size (k0_off63_inb k 0)).toLoadRect X_arg13, View.readAt (Elt F) arg13.view (Rect.unit (s := S22x8x2048) (k0_off64 k 0#32) S1x8x128.size (k0_off64_inb k 0)).toLoadRect X_arg13], ![View.readAt (Elt F) arg13.view (Rect.unit (s := S22x8x2048) (k0_off63 k 128#32) S1x8x128.size (k0_off63_inb k 1)).toLoadRect X_arg13, View.readAt (Elt F) arg13.view (Rect.unit (s := S22x8x2048) (k0_off64 k 128#32) S1x8x128.size (k0_off64_inb k 1)).toLoadRect X_arg13]], ![![View.readAt (Elt F) arg13.view (Rect.unit (s := S22x8x2048) (k0_off66 k 0#32) S1x8x128.size (k0_off66_inb k 0)).toLoadRect X_arg13, View.readAt (Elt F) arg13.view (Rect.unit (s := S22x8x2048) (k0_off67 k 0#32) S1x8x128.size (k0_off67_inb k 0)).toLoadRect X_arg13], ![View.readAt (Elt F) arg13.view (Rect.unit (s := S22x8x2048) (k0_off66 k 128#32) S1x8x128.size (k0_off66_inb k 1)).toLoadRect X_arg13, View.readAt (Elt F) arg13.view (Rect.unit (s := S22x8x2048) (k0_off67 k 128#32) S1x8x128.size (k0_off67_inb k 1)).toLoadRect X_arg13]], ![![View.readAt (Elt F) arg13.view (Rect.unit (s := S22x8x2048) (k0_off69 k 0#32) S1x8x128.size (k0_off69_inb k 0)).toLoadRect X_arg13, View.readAt (Elt F) arg13.view (Rect.unit (s := S22x8x2048) (k0_off70 k 0#32) S1x8x128.size (k0_off70_inb k 0)).toLoadRect X_arg13], ![View.readAt (Elt F) arg13.view (Rect.unit (s := S22x8x2048) (k0_off69 k 128#32) S1x8x128.size (k0_off69_inb k 1)).toLoadRect X_arg13, View.readAt (Elt F) arg13.view (Rect.unit (s := S22x8x2048) (k0_off70 k 128#32) S1x8x128.size (k0_off70_inb k 1)).toLoadRect X_arg13]], ![![View.readAt (Elt F) arg13.view (Rect.unit (s := S22x8x2048) (k0_off72 k 0#32) S1x8x128.size (k0_off72_inb k 0)).toLoadRect X_arg13, View.readAt (Elt F) arg13.view (Rect.unit (s := S22x8x2048) (k0_off73 k 0#32) S1x8x128.size (k0_off73_inb k 0)).toLoadRect X_arg13], ![View.readAt (Elt F) arg13.view (Rect.unit (s := S22x8x2048) (k0_off72 k 128#32) S1x8x128.size (k0_off72_inb k 1)).toLoadRect X_arg13, View.readAt (Elt F) arg13.view (Rect.unit (s := S22x8x2048) (k0_off73 k 128#32) S1x8x128.size (k0_off73_inb k 1)).toLoadRect X_arg13]], ![![View.readAt (Elt F) arg13.view (Rect.unit (s := S22x8x2048) (k0_off75 k 0#32) S1x8x128.size (k0_off75_inb k 0)).toLoadRect X_arg13, View.readAt (Elt F) arg13.view (Rect.unit (s := S22x8x2048) (k0_off76 k 0#32) S1x8x128.size (k0_off76_inb k 0)).toLoadRect X_arg13], ![View.readAt (Elt F) arg13.view (Rect.unit (s := S22x8x2048) (k0_off75 k 128#32) S1x8x128.size (k0_off75_inb k 1)).toLoadRect X_arg13, View.readAt (Elt F) arg13.view (Rect.unit (s := S22x8x2048) (k0_off76 k 128#32) S1x8x128.size (k0_off76_inb k 1)).toLoadRect X_arg13]]]
        (View.readAt (Elt F) arg16.view (Rect.unit (s := S96x2048) (k0_off77 k) S96x256.size (k0_off77_inb k)).toLoadRect f_arg16)⟩] := by
  unfold tripL_k0_t2 trip_k0_t2; rfl

end Cert.KernelIdeal.Tile
-- ==== Proof.Blocks.lean ====
/-
  What one pass of each loop reads and writes, with every offset in closed form; and the whole of what the two loops
  leave: the hidden layer of one expert, and the accumulator with that expert's contribution added.
-/
module

public import proofs.«01_k».proof.Proof.Trip
public import Idealize.ShloMosaic.Lib.VecWindow
public import Idealize.ShloMosaic.Lib.ValueIdx

@[expose] public section

set_option maxRecDepth 100000
set_option maxHeartbeats 4000000

noncomputable section

namespace Cert.KernelIdeal.Tile

open Idealize.ShloMosaic Idealize.ShloMosaic.TcCoe Idealize.ShloMosaic.Tactic
open Cert.KernelIdeal Cert.KernelIdeal.Gen

variable {F : FTy → Type} [FloatOps F]

/-- The eight column blocks of the tokens; -/
def xB (x : Vec F S96x2048 .bf16) (j : Fin 8) : Vec F S96x256 .bf16 :=
  VecWindow.window x ![0, 256 * j.val] S96x256.size (by revert j; decide)
/-- the gate (or up) codes of one pass, block by block; -/
def wB (w : Vec F S1x1408x1024 .i8) (k : Fin 11) (j : Fin 8) : Vec F S1x128x128 .i8 :=
  VecWindow.window w ![0, 128 * k.val, 128 * j.val] S1x128x128.size (by revert k j; decide)
/-- and their scales, four to a block; -/
def aB (a : Vec F S1x32x1408 .f32) (k : Fin 11) (j : Fin 8) (g : Fin 4) : Vec F S1x1x128 .f32 :=
  VecWindow.window a ![0, 4 * j.val + g.val, 128 * k.val] S1x1x128.size (by revert k j g; decide)
/-- the eleven column blocks of the hidden layer; -/
def hB (h : Vec F S96x1408 .bf16) (c : Fin 11) : Vec F S96x128 .bf16 :=
  VecWindow.window h ![0, 128 * c.val] S96x128.size (by revert c; decide)
/-- the down codes of one pass, block by block, left and right half; -/
def dB (w : Vec F S1x704x2048 .i8) (k : Fin 8) (c : Fin 11) (l : Fin 2) : Vec F S1x64x128 .i8 :=
  VecWindow.window w ![0, 64 * c.val, 256 * k.val + 128 * l.val] S1x64x128.size (by revert k c l; decide)
/-- and their scales, two to a block, of eight experts each; -/
def sB (a : Vec F S22x8x2048 .f32) (k : Fin 8) (c : Fin 11) (l g : Fin 2) : Vec F S1x8x128 .f32 :=
  VecWindow.window a ![2 * c.val + g.val, 0, 256 * k.val + 128 * l.val] S1x8x128.size (by revert k c l g; decide)
/-- one pass's columns of the accumulator. -/
def oB (o : Vec F S96x2048 .f32) (k : Fin 8) : Vec F S96x256 .f32 :=
  VecWindow.window o ![0, 256 * k.val] S96x256.size (by revert k; decide)

/-- The 128 columns of the hidden layer a pass of the first loop computes, of the whole operands; -/
def hidTile (tab : Vec F S64x128 .f32) (perm : Vec F S128x128 .bf16) (x : Vec F S96x2048 .bf16) (wg : Vec F S1x1408x1024 .i8)
    (ag : Vec F S1x32x1408 .f32) (wu : Vec F S1x1408x1024 .i8) (au : Vec F S1x32x1408 .f32) (k : Fin 11) : FVec F S96x128 .bf16 :=
  tile1 tab perm (xB x) (wB (F := F) wg k) (wB (F := F) wu k) (aB ag k) (aB au k)
/-- all of its columns. -/
def hidden (tab : Vec F S64x128 .f32) (perm : Vec F S128x128 .bf16) (x : Vec F S96x2048 .bf16) (wg : Vec F S1x1408x1024 .i8)
    (ag : Vec F S1x32x1408 .f32) (wu : Vec F S1x1408x1024 .i8) (au : Vec F S1x32x1408 .f32) : Vec F S96x1408 .bf16 := fun i =>
  hidTile tab perm x wg ag wu au ⟨(i 1).val / 128, Nat.div_lt_of_lt_mul (i 1).isLt⟩ (ValueIdx.ix2 (i 0) ⟨(i 1).val % 128, Nat.mod_lt _ (by decide)⟩)

/-- The 256 columns of the accumulator a pass of the second loop leaves, of the whole operands; -/
def outTile (tab : Vec F S64x128 .f32) (e : Elt F .i32) (ids : Vec F S96x6 .i32) (cw : Vec F S96x6 .f32) (h : Vec F S96x1408 .bf16)
    (wd : Vec F S1x704x2048 .i8) (ad : Vec F S22x8x2048 .f32) (old : Vec F S96x2048 .f32) (k : Fin 8) : FVec F S96x256 .f32 :=
  tile2 tab e ids cw (hB h) (dB (F := F) wd k) (sB ad k) (oB old k)
/-- all of its columns. -/
def added (tab : Vec F S64x128 .f32) (e : Elt F .i32) (ids : Vec F S96x6 .i32) (cw : Vec F S96x6 .f32) (h : Vec F S96x1408 .bf16)
    (wd : Vec F S1x704x2048 .i8) (ad : Vec F S22x8x2048 .f32) (old : Vec F S96x2048 .f32) : Vec F S96x2048 .f32 := fun i =>
  outTile tab e ids cw h wd ad old ⟨(i 1).val / 256, Nat.div_lt_of_lt_mul (i 1).isLt⟩ (ValueIdx.ix2 (i 0) ⟨(i 1).val % 256, Nat.mod_lt _ (by decide)⟩)

theorem xB_at (v : View sig .tc .vmem S96x2048 .bf16) (f : v.ty.Contents (Elt F)) {off : Fin S96x2048.rank → ℕ} (j : Fin 8) (h : off = ![0, 256 * j.val])
    (inb : ∀ a, off a + S96x256.size a ≤ S96x2048.size a) :
    v.readAt (Elt F) (Rect.unit (s := S96x2048) off S96x256.size inb).toLoadRect f = xB (F := F) (v.read (Elt F) f) j :=
  View.readAt_unit v f inb h _

theorem wB_at (v : View sig .tc .vmem S1x1408x1024 .i8) (f : v.ty.Contents (Elt F)) {off : Fin S1x1408x1024.rank → ℕ} (k : Fin 11) (j : Fin 8) (h : off = ![0, 128 * k.val, 128 * j.val])
    (inb : ∀ a, off a + S1x128x128.size a ≤ S1x1408x1024.size a) :
    v.readAt (Elt F) (Rect.unit (s := S1x1408x1024) off S1x128x128.size inb).toLoadRect f = wB (F := F) (v.read (Elt F) f) k j :=
  View.readAt_unit v f inb h _

theorem aB_at (v : View sig .tc .vmem S1x32x1408 .f32) (f : v.ty.Contents (Elt F)) {off : Fin S1x32x1408.rank → ℕ} (k : Fin 11) (j : Fin 8) (g : Fin 4) (h : off = ![0, 4 * j.val + g.val, 128 * k.val])
    (inb : ∀ a, off a + S1x1x128.size a ≤ S1x32x1408.size a) :
    v.readAt (Elt F) (Rect.unit (s := S1x32x1408) off S1x1x128.size inb).toLoadRect f = aB (F := F) (v.read (Elt F) f) k j g :=
  View.readAt_unit v f inb h _

theorem hB_at (v : View sig .tc .vmem S96x1408 .bf16) (f : v.ty.Contents (Elt F)) {off : Fin S96x1408.rank → ℕ} (c : Fin 11) (h : off = ![0, 128 * c.val])
    (inb : ∀ a, off a + S96x128.size a ≤ S96x1408.size a) :
    v.readAt (Elt F) (Rect.unit (s := S96x1408) off S96x128.size inb).toLoadRect f = hB (F := F) (v.read (Elt F) f) c :=
  View.readAt_unit v f inb h _

theorem dB_at (v : View sig .tc .vmem S1x704x2048 .i8) (f : v.ty.Contents (Elt F)) {off : Fin S1x704x2048.rank → ℕ} (k : Fin 8) (c : Fin 11) (l : Fin 2) (h : off = ![0, 64 * c.val, 256 * k.val + 128 * l.val])
    (inb : ∀ a, off a + S1x64x128.size a ≤ S1x704x2048.size a) :
    v.readAt (Elt F) (Rect.unit (s := S1x704x2048) off S1x64x128.size inb).toLoadRect f = dB (F := F) (v.read (Elt F) f) k c l :=
  View.readAt_unit v f inb h _

theorem sB_at (v : View sig .tc .vmem S22x8x2048 .f32) (f : v.ty.Contents (Elt F)) {off : Fin S22x8x2048.rank → ℕ} (k : Fin 8) (c : Fin 11) (l : Fin 2) (g : Fin 2) (h : off = ![2 * c.val + g.val, 0, 256 * k.val + 128 * l.val])
    (inb : ∀ a, off a + S1x8x128.size a ≤ S22x8x2048.size a) :
    v.readAt (Elt F) (Rect.unit (s := S22x8x2048) off S1x8x128.size inb).toLoadRect f = sB (F := F) (v.read (Elt F) f) k c l g :=
  View.readAt_unit v f inb h _

theorem oB_at (v : View sig .tc .vmem S96x2048 .f32) (f : v.ty.Contents (Elt F)) {off : Fin S96x2048.rank → ℕ} (k : Fin 8) (h : off = ![0, 256 * k.val])
    (inb : ∀ a, off a + S96x256.size a ≤ S96x2048.size a) :
    v.readAt (Elt F) (Rect.unit (s := S96x2048) off S96x256.size inb).toLoadRect f = oB (F := F) (v.read (Elt F) f) k :=
  View.readAt_unit v f inb h _

/-! The offsets of the first loop's reads and of its store. -/

theorem off3_eq : ∀ k : Fin k0_t1_loop.trips, k0_off3 k = ![0, 128 * k.val, 0] := by decide +kernel
theorem off8_eq : ∀ k : Fin k0_t1_loop.trips, k0_off8 k = ![0, 128 * k.val, 128] := by decide +kernel
theorem off13_eq : ∀ k : Fin k0_t1_loop.trips, k0_off13 k = ![0, 128 * k.val, 256] := by decide +kernel
theorem off18_eq : ∀ k : Fin k0_t1_loop.trips, k0_off18 k = ![0, 128 * k.val, 384] := by decide +kernel
theorem off23_eq : ∀ k : Fin k0_t1_loop.trips, k0_off23 k = ![0, 128 * k.val, 512] := by decide +kernel
theorem off28_eq : ∀ k : Fin k0_t1_loop.trips, k0_off28 k = ![0, 128 * k.val, 640] := by decide +kernel
theorem off33_eq : ∀ k : Fin k0_t1_loop.trips, k0_off33 k = ![0, 128 * k.val, 768] := by decide +kernel
theorem off38_eq : ∀ k : Fin k0_t1_loop.trips, k0_off38 k = ![0, 128 * k.val, 896] := by decide +kernel
theorem off4_eq : ∀ k : Fin k0_t1_loop.trips, k0_off4 k = ![0, 0, 128 * k.val] := by decide +kernel
theorem off5_eq : ∀ k : Fin k0_t1_loop.trips, k0_off5 k = ![0, 1, 128 * k.val] := by decide +kernel
theorem off6_eq : ∀ k : Fin k0_t1_loop.trips, k0_off6 k = ![0, 2, 128 * k.val] := by decide +kernel
theorem off7_eq : ∀ k : Fin k0_t1_loop.trips, k0_off7 k = ![0, 3, 128 * k.val] := by decide +kernel
theorem off9_eq : ∀ k : Fin k0_t1_loop.trips, k0_off9 k = ![0, 4, 128 * k.val] := by decide +kernel
theorem off10_eq : ∀ k : Fin k0_t1_loop.trips, k0_off10 k = ![0, 5, 128 * k.val] := by decide +kernel
theorem off11_eq : ∀ k : Fin k0_t1_loop.trips, k0_off11 k = ![0, 6, 128 * k.val] := by decide +kernel
theorem off12_eq : ∀ k : Fin k0_t1_loop.trips, k0_off12 k = ![0, 7, 128 * k.val] := by decide +kernel
theorem off14_eq : ∀ k : Fin k0_t1_loop.trips, k0_off14 k = ![0, 8, 128 * k.val] := by decide +kernel
theorem off15_eq : ∀ k : Fin k0_t1_loop.trips, k0_off15 k = ![0, 9, 128 * k.val] := by decide +kernel
theorem off16_eq : ∀ k : Fin k0_t1_loop.trips, k0_off16 k = ![0, 10, 128 * k.val] := by decide +kernel
theorem off17_eq : ∀ k : Fin k0_t1_loop.trips, k0_off17 k = ![0, 11, 128 * k.val] := by decide +kernel
theorem off19_eq : ∀ k : Fin k0_t1_loop.trips, k0_off19 k = ![0, 12, 128 * k.val] := by decide +kernel
theorem off20_eq : ∀ k : Fin k0_t1_loop.trips, k0_off20 k = ![0, 13, 128 * k.val] := by decide +kernel
theorem off21_eq : ∀ k : Fin k0_t1_loop.trips, k0_off21 k = ![0, 14, 128 * k.val] := by decide +kernel
theorem off22_eq : ∀ k : Fin k0_t1_loop.trips, k0_off22 k = ![0, 15, 128 * k.val] := by decide +kernel
theorem off24_eq : ∀ k : Fin k0_t1_loop.trips, k0_off24 k = ![0, 16, 128 * k.val] := by decide +kernel
theorem off25_eq : ∀ k : Fin k0_t1_loop.trips, k0_off25 k = ![0, 17, 128 * k.val] := by decide +kernel
theorem off26_eq : ∀ k : Fin k0_t1_loop.trips, k0_off26 k = ![0, 18, 128 * k.val] := by decide +kernel
theorem off27_eq : ∀ k : Fin k0_t1_loop.trips, k0_off27 k = ![0, 19, 128 * k.val] := by decide +kernel
theorem off29_eq : ∀ k : Fin k0_t1_loop.trips, k0_off29 k = ![0, 20, 128 * k.val] := by decide +kernel
theorem off30_eq : ∀ k : Fin k0_t1_loop.trips, k0_off30 k = ![0, 21, 128 * k.val] := by decide +kernel
theorem off31_eq : ∀ k : Fin k0_t1_loop.trips, k0_off31 k = ![0, 22, 128 * k.val] := by decide +kernel
theorem off32_eq : ∀ k : Fin k0_t1_loop.trips, k0_off32 k = ![0, 23, 128 * k.val] := by decide +kernel
theorem off34_eq : ∀ k : Fin k0_t1_loop.trips, k0_off34 k = ![0, 24, 128 * k.val] := by decide +kernel
theorem off35_eq : ∀ k : Fin k0_t1_loop.trips, k0_off35 k = ![0, 25, 128 * k.val] := by decide +kernel
theorem off36_eq : ∀ k : Fin k0_t1_loop.trips, k0_off36 k = ![0, 26, 128 * k.val] := by decide +kernel
theorem off37_eq : ∀ k : Fin k0_t1_loop.trips, k0_off37 k = ![0, 27, 128 * k.val] := by decide +kernel
theorem off39_eq : ∀ k : Fin k0_t1_loop.trips, k0_off39 k = ![0, 28, 128 * k.val] := by decide +kernel
theorem off40_eq : ∀ k : Fin k0_t1_loop.trips, k0_off40 k = ![0, 29, 128 * k.val] := by decide +kernel
theorem off41_eq : ∀ k : Fin k0_t1_loop.trips, k0_off41 k = ![0, 30, 128 * k.val] := by decide +kernel
theorem off42_eq : ∀ k : Fin k0_t1_loop.trips, k0_off42 k = ![0, 31, 128 * k.val] := by decide +kernel
theorem off43_eq : ∀ k : Fin k0_t1_loop.trips, k0_off43 k = ![0, 128 * k.val] := by decide +kernel

/-- A pass of the first loop writes its 128 columns of the hidden layer. -/
theorem tripH  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v2 : Vec F S64x128 .f32) (X_arg3 : BufTy.Contents (Elt F) arg3.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips) :
        tripL_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 k  = [⟨Rect.unit (s := S96x1408) (k0_off43 k) S96x128.size (k0_off43_inb k),
      hidTile v2 (arg6.view.read (Elt F) X_arg6) (arg3.view.read (Elt F) X_arg3) (arg8.view.read (Elt F) X_arg8) (arg9.view.read (Elt F) X_arg9) (arg10.view.read (Elt F) X_arg10) (arg11.view.read (Elt F) X_arg11) (⟨k.val, k.isLt⟩ : Fin 11)⟩] := by
  rw [tripL1]
  unfold hidTile
  congr 3
  · exact View.readAt_full arg6.view X_arg6 inb_S128x128_S128x128_0_0
  · funext j; match j with | ⟨0, _⟩ => exact xB_at arg3.view X_arg3 (⟨0, by decide⟩ : Fin 8) (off := ![0, 0]) rfl inb_S96x2048_S96x256_0_0 | ⟨1, _⟩ => exact xB_at arg3.view X_arg3 (⟨1, by decide⟩ : Fin 8) (off := ![0, 256]) rfl inb_S96x2048_S96x256_0_256 | ⟨2, _⟩ => exact xB_at arg3.view X_arg3 (⟨2, by decide⟩ : Fin 8) (off := ![0, 512]) rfl inb_S96x2048_S96x256_0_512 | ⟨3, _⟩ => exact xB_at arg3.view X_arg3 (⟨3, by decide⟩ : Fin 8) (off := ![0, 768]) rfl inb_S96x2048_S96x256_0_768 | ⟨4, _⟩ => exact xB_at arg3.view X_arg3 (⟨4, by decide⟩ : Fin 8) (off := ![0, 1024]) rfl inb_S96x2048_S96x256_0_1024 | ⟨5, _⟩ => exact xB_at arg3.view X_arg3 (⟨5, by decide⟩ : Fin 8) (off := ![0, 1280]) rfl inb_S96x2048_S96x256_0_1280 | ⟨6, _⟩ => exact xB_at arg3.view X_arg3 (⟨6, by decide⟩ : Fin 8) (off := ![0, 1536]) rfl inb_S96x2048_S96x256_0_1536 | ⟨7, _⟩ => exact xB_at arg3.view X_arg3 (⟨7, by decide⟩ : Fin 8) (off := ![0, 1792]) rfl inb_S96x2048_S96x256_0_1792
  · funext j; match j with | ⟨0, _⟩ => exact wB_at arg8.view X_arg8 (⟨k.val, k.isLt⟩ : Fin 11) (⟨0, by decide⟩ : Fin 8) (off3_eq k) (k0_off3_inb k) | ⟨1, _⟩ => exact wB_at arg8.view X_arg8 (⟨k.val, k.isLt⟩ : Fin 11) (⟨1, by decide⟩ : Fin 8) (off8_eq k) (k0_off8_inb k) | ⟨2, _⟩ => exact wB_at arg8.view X_arg8 (⟨k.val, k.isLt⟩ : Fin 11) (⟨2, by decide⟩ : Fin 8) (off13_eq k) (k0_off13_inb k) | ⟨3, _⟩ => exact wB_at arg8.view X_arg8 (⟨k.val, k.isLt⟩ : Fin 11) (⟨3, by decide⟩ : Fin 8) (off18_eq k) (k0_off18_inb k) | ⟨4, _⟩ => exact wB_at arg8.view X_arg8 (⟨k.val, k.isLt⟩ : Fin 11) (⟨4, by decide⟩ : Fin 8) (off23_eq k) (k0_off23_inb k) | ⟨5, _⟩ => exact wB_at arg8.view X_arg8 (⟨k.val, k.isLt⟩ : Fin 11) (⟨5, by decide⟩ : Fin 8) (off28_eq k) (k0_off28_inb k) | ⟨6, _⟩ => exact wB_at arg8.view X_arg8 (⟨k.val, k.isLt⟩ : Fin 11) (⟨6, by decide⟩ : Fin 8) (off33_eq k) (k0_off33_inb k) | ⟨7, _⟩ => exact wB_at arg8.view X_arg8 (⟨k.val, k.isLt⟩ : Fin 11) (⟨7, by decide⟩ : Fin 8) (off38_eq k) (k0_off38_inb k)
  · funext j; match j with | ⟨0, _⟩ => exact wB_at arg10.view X_arg10 (⟨k.val, k.isLt⟩ : Fin 11) (⟨0, by decide⟩ : Fin 8) (off3_eq k) (k0_off3_inb k) | ⟨1, _⟩ => exact wB_at arg10.view X_arg10 (⟨k.val, k.isLt⟩ : Fin 11) (⟨1, by decide⟩ : Fin 8) (off8_eq k) (k0_off8_inb k) | ⟨2, _⟩ => exact wB_at arg10.view X_arg10 (⟨k.val, k.isLt⟩ : Fin 11) (⟨2, by decide⟩ : Fin 8) (off13_eq k) (k0_off13_inb k) | ⟨3, _⟩ => exact wB_at arg10.view X_arg10 (⟨k.val, k.isLt⟩ : Fin 11) (⟨3, by decide⟩ : Fin 8) (off18_eq k) (k0_off18_inb k) | ⟨4, _⟩ => exact wB_at arg10.view X_arg10 (⟨k.val, k.isLt⟩ : Fin 11) (⟨4, by decide⟩ : Fin 8) (off23_eq k) (k0_off23_inb k) | ⟨5, _⟩ => exact wB_at arg10.view X_arg10 (⟨k.val, k.isLt⟩ : Fin 11) (⟨5, by decide⟩ : Fin 8) (off28_eq k) (k0_off28_inb k) | ⟨6, _⟩ => exact wB_at arg10.view X_arg10 (⟨k.val, k.isLt⟩ : Fin 11) (⟨6, by decide⟩ : Fin 8) (off33_eq k) (k0_off33_inb k) | ⟨7, _⟩ => exact wB_at arg10.view X_arg10 (⟨k.val, k.isLt⟩ : Fin 11) (⟨7, by decide⟩ : Fin 8) (off38_eq k) (k0_off38_inb k)
  · funext j g; match j, g with | ⟨0, _⟩, ⟨0, _⟩ => exact aB_at arg9.view X_arg9 (⟨k.val, k.isLt⟩ : Fin 11) (⟨0, by decide⟩ : Fin 8) (⟨0, by decide⟩ : Fin 4) (off4_eq k) (k0_off4_inb k) | ⟨0, _⟩, ⟨1, _⟩ => exact aB_at arg9.view X_arg9 (⟨k.val, k.isLt⟩ : Fin 11) (⟨0, by decide⟩ : Fin 8) (⟨1, by decide⟩ : Fin 4) (off5_eq k) (k0_off5_inb k) | ⟨0, _⟩, ⟨2, _⟩ => exact aB_at arg9.view X_arg9 (⟨k.val, k.isLt⟩ : Fin 11) (⟨0, by decide⟩ : Fin 8) (⟨2, by decide⟩ : Fin 4) (off6_eq k) (k0_off6_inb k) | ⟨0, _⟩, ⟨3, _⟩ => exact aB_at arg9.view X_arg9 (⟨k.val, k.isLt⟩ : Fin 11) (⟨0, by decide⟩ : Fin 8) (⟨3, by decide⟩ : Fin 4) (off7_eq k) (k0_off7_inb k) | ⟨1, _⟩, ⟨0, _⟩ => exact aB_at arg9.view X_arg9 (⟨k.val, k.isLt⟩ : Fin 11) (⟨1, by decide⟩ : Fin 8) (⟨0, by decide⟩ : Fin 4) (off9_eq k) (k0_off9_inb k) | ⟨1, _⟩, ⟨1, _⟩ => exact aB_at arg9.view X_arg9 (⟨k.val, k.isLt⟩ : Fin 11) (⟨1, by decide⟩ : Fin 8) (⟨1, by decide⟩ : Fin 4) (off10_eq k) (k0_off10_inb k) | ⟨1, _⟩, ⟨2, _⟩ => exact aB_at arg9.view X_arg9 (⟨k.val, k.isLt⟩ : Fin 11) (⟨1, by decide⟩ : Fin 8) (⟨2, by decide⟩ : Fin 4) (off11_eq k) (k0_off11_inb k) | ⟨1, _⟩, ⟨3, _⟩ => exact aB_at arg9.view X_arg9 (⟨k.val, k.isLt⟩ : Fin 11) (⟨1, by decide⟩ : Fin 8) (⟨3, by decide⟩ : Fin 4) (off12_eq k) (k0_off12_inb k) | ⟨2, _⟩, ⟨0, _⟩ => exact aB_at arg9.view X_arg9 (⟨k.val, k.isLt⟩ : Fin 11) (⟨2, by decide⟩ : Fin 8) (⟨0, by decide⟩ : Fin 4) (off14_eq k) (k0_off14_inb k) | ⟨2, _⟩, ⟨1, _⟩ => exact aB_at arg9.view X_arg9 (⟨k.val, k.isLt⟩ : Fin 11) (⟨2, by decide⟩ : Fin 8) (⟨1, by decide⟩ : Fin 4) (off15_eq k) (k0_off15_inb k) | ⟨2, _⟩, ⟨2, _⟩ => exact aB_at arg9.view X_arg9 (⟨k.val, k.isLt⟩ : Fin 11) (⟨2, by decide⟩ : Fin 8) (⟨2, by decide⟩ : Fin 4) (off16_eq k) (k0_off16_inb k) | ⟨2, _⟩, ⟨3, _⟩ => exact aB_at arg9.view X_arg9 (⟨k.val, k.isLt⟩ : Fin 11) (⟨2, by decide⟩ : Fin 8) (⟨3, by decide⟩ : Fin 4) (off17_eq k) (k0_off17_inb k) | ⟨3, _⟩, ⟨0, _⟩ => exact aB_at arg9.view X_arg9 (⟨k.val, k.isLt⟩ : Fin 11) (⟨3, by decide⟩ : Fin 8) (⟨0, by decide⟩ : Fin 4) (off19_eq k) (k0_off19_inb k) | ⟨3, _⟩, ⟨1, _⟩ => exact aB_at arg9.view X_arg9 (⟨k.val, k.isLt⟩ : Fin 11) (⟨3, by decide⟩ : Fin 8) (⟨1, by decide⟩ : Fin 4) (off20_eq k) (k0_off20_inb k) | ⟨3, _⟩, ⟨2, _⟩ => exact aB_at arg9.view X_arg9 (⟨k.val, k.isLt⟩ : Fin 11) (⟨3, by decide⟩ : Fin 8) (⟨2, by decide⟩ : Fin 4) (off21_eq k) (k0_off21_inb k) | ⟨3, _⟩, ⟨3, _⟩ => exact aB_at arg9.view X_arg9 (⟨k.val, k.isLt⟩ : Fin 11) (⟨3, by decide⟩ : Fin 8) (⟨3, by decide⟩ : Fin 4) (off22_eq k) (k0_off22_inb k) | ⟨4, _⟩, ⟨0, _⟩ => exact aB_at arg9.view X_arg9 (⟨k.val, k.isLt⟩ : Fin 11) (⟨4, by decide⟩ : Fin 8) (⟨0, by decide⟩ : Fin 4) (off24_eq k) (k0_off24_inb k) | ⟨4, _⟩, ⟨1, _⟩ => exact aB_at arg9.view X_arg9 (⟨k.val, k.isLt⟩ : Fin 11) (⟨4, by decide⟩ : Fin 8) (⟨1, by decide⟩ : Fin 4) (off25_eq k) (k0_off25_inb k) | ⟨4, _⟩, ⟨2, _⟩ => exact aB_at arg9.view X_arg9 (⟨k.val, k.isLt⟩ : Fin 11) (⟨4, by decide⟩ : Fin 8) (⟨2, by decide⟩ : Fin 4) (off26_eq k) (k0_off26_inb k) | ⟨4, _⟩, ⟨3, _⟩ => exact aB_at arg9.view X_arg9 (⟨k.val, k.isLt⟩ : Fin 11) (⟨4, by decide⟩ : Fin 8) (⟨3, by decide⟩ : Fin 4) (off27_eq k) (k0_off27_inb k) | ⟨5, _⟩, ⟨0, _⟩ => exact aB_at arg9.view X_arg9 (⟨k.val, k.isLt⟩ : Fin 11) (⟨5, by decide⟩ : Fin 8) (⟨0, by decide⟩ : Fin 4) (off29_eq k) (k0_off29_inb k) | ⟨5, _⟩, ⟨1, _⟩ => exact aB_at arg9.view X_arg9 (⟨k.val, k.isLt⟩ : Fin 11) (⟨5, by decide⟩ : Fin 8) (⟨1, by decide⟩ : Fin 4) (off30_eq k) (k0_off30_inb k) | ⟨5, _⟩, ⟨2, _⟩ => exact aB_at arg9.view X_arg9 (⟨k.val, k.isLt⟩ : Fin 11) (⟨5, by decide⟩ : Fin 8) (⟨2, by decide⟩ : Fin 4) (off31_eq k) (k0_off31_inb k) | ⟨5, _⟩, ⟨3, _⟩ => exact aB_at arg9.view X_arg9 (⟨k.val, k.isLt⟩ : Fin 11) (⟨5, by decide⟩ : Fin 8) (⟨3, by decide⟩ : Fin 4) (off32_eq k) (k0_off32_inb k) | ⟨6, _⟩, ⟨0, _⟩ => exact aB_at arg9.view X_arg9 (⟨k.val, k.isLt⟩ : Fin 11) (⟨6, by decide⟩ : Fin 8) (⟨0, by decide⟩ : Fin 4) (off34_eq k) (k0_off34_inb k) | ⟨6, _⟩, ⟨1, _⟩ => exact aB_at arg9.view X_arg9 (⟨k.val, k.isLt⟩ : Fin 11) (⟨6, by decide⟩ : Fin 8) (⟨1, by decide⟩ : Fin 4) (off35_eq k) (k0_off35_inb k) | ⟨6, _⟩, ⟨2, _⟩ => exact aB_at arg9.view X_arg9 (⟨k.val, k.isLt⟩ : Fin 11) (⟨6, by decide⟩ : Fin 8) (⟨2, by decide⟩ : Fin 4) (off36_eq k) (k0_off36_inb k) | ⟨6, _⟩, ⟨3, _⟩ => exact aB_at arg9.view X_arg9 (⟨k.val, k.isLt⟩ : Fin 11) (⟨6, by decide⟩ : Fin 8) (⟨3, by decide⟩ : Fin 4) (off37_eq k) (k0_off37_inb k) | ⟨7, _⟩, ⟨0, _⟩ => exact aB_at arg9.view X_arg9 (⟨k.val, k.isLt⟩ : Fin 11) (⟨7, by decide⟩ : Fin 8) (⟨0, by decide⟩ : Fin 4) (off39_eq k) (k0_off39_inb k) | ⟨7, _⟩, ⟨1, _⟩ => exact aB_at arg9.view X_arg9 (⟨k.val, k.isLt⟩ : Fin 11) (⟨7, by decide⟩ : Fin 8) (⟨1, by decide⟩ : Fin 4) (off40_eq k) (k0_off40_inb k) | ⟨7, _⟩, ⟨2, _⟩ => exact aB_at arg9.view X_arg9 (⟨k.val, k.isLt⟩ : Fin 11) (⟨7, by decide⟩ : Fin 8) (⟨2, by decide⟩ : Fin 4) (off41_eq k) (k0_off41_inb k) | ⟨7, _⟩, ⟨3, _⟩ => exact aB_at arg9.view X_arg9 (⟨k.val, k.isLt⟩ : Fin 11) (⟨7, by decide⟩ : Fin 8) (⟨3, by decide⟩ : Fin 4) (off42_eq k) (k0_off42_inb k)
  · funext j g; match j, g with | ⟨0, _⟩, ⟨0, _⟩ => exact aB_at arg11.view X_arg11 (⟨k.val, k.isLt⟩ : Fin 11) (⟨0, by decide⟩ : Fin 8) (⟨0, by decide⟩ : Fin 4) (off4_eq k) (k0_off4_inb k) | ⟨0, _⟩, ⟨1, _⟩ => exact aB_at arg11.view X_arg11 (⟨k.val, k.isLt⟩ : Fin 11) (⟨0, by decide⟩ : Fin 8) (⟨1, by decide⟩ : Fin 4) (off5_eq k) (k0_off5_inb k) | ⟨0, _⟩, ⟨2, _⟩ => exact aB_at arg11.view X_arg11 (⟨k.val, k.isLt⟩ : Fin 11) (⟨0, by decide⟩ : Fin 8) (⟨2, by decide⟩ : Fin 4) (off6_eq k) (k0_off6_inb k) | ⟨0, _⟩, ⟨3, _⟩ => exact aB_at arg11.view X_arg11 (⟨k.val, k.isLt⟩ : Fin 11) (⟨0, by decide⟩ : Fin 8) (⟨3, by decide⟩ : Fin 4) (off7_eq k) (k0_off7_inb k) | ⟨1, _⟩, ⟨0, _⟩ => exact aB_at arg11.view X_arg11 (⟨k.val, k.isLt⟩ : Fin 11) (⟨1, by decide⟩ : Fin 8) (⟨0, by decide⟩ : Fin 4) (off9_eq k) (k0_off9_inb k) | ⟨1, _⟩, ⟨1, _⟩ => exact aB_at arg11.view X_arg11 (⟨k.val, k.isLt⟩ : Fin 11) (⟨1, by decide⟩ : Fin 8) (⟨1, by decide⟩ : Fin 4) (off10_eq k) (k0_off10_inb k) | ⟨1, _⟩, ⟨2, _⟩ => exact aB_at arg11.view X_arg11 (⟨k.val, k.isLt⟩ : Fin 11) (⟨1, by decide⟩ : Fin 8) (⟨2, by decide⟩ : Fin 4) (off11_eq k) (k0_off11_inb k) | ⟨1, _⟩, ⟨3, _⟩ => exact aB_at arg11.view X_arg11 (⟨k.val, k.isLt⟩ : Fin 11) (⟨1, by decide⟩ : Fin 8) (⟨3, by decide⟩ : Fin 4) (off12_eq k) (k0_off12_inb k) | ⟨2, _⟩, ⟨0, _⟩ => exact aB_at arg11.view X_arg11 (⟨k.val, k.isLt⟩ : Fin 11) (⟨2, by decide⟩ : Fin 8) (⟨0, by decide⟩ : Fin 4) (off14_eq k) (k0_off14_inb k) | ⟨2, _⟩, ⟨1, _⟩ => exact aB_at arg11.view X_arg11 (⟨k.val, k.isLt⟩ : Fin 11) (⟨2, by decide⟩ : Fin 8) (⟨1, by decide⟩ : Fin 4) (off15_eq k) (k0_off15_inb k) | ⟨2, _⟩, ⟨2, _⟩ => exact aB_at arg11.view X_arg11 (⟨k.val, k.isLt⟩ : Fin 11) (⟨2, by decide⟩ : Fin 8) (⟨2, by decide⟩ : Fin 4) (off16_eq k) (k0_off16_inb k) | ⟨2, _⟩, ⟨3, _⟩ => exact aB_at arg11.view X_arg11 (⟨k.val, k.isLt⟩ : Fin 11) (⟨2, by decide⟩ : Fin 8) (⟨3, by decide⟩ : Fin 4) (off17_eq k) (k0_off17_inb k) | ⟨3, _⟩, ⟨0, _⟩ => exact aB_at arg11.view X_arg11 (⟨k.val, k.isLt⟩ : Fin 11) (⟨3, by decide⟩ : Fin 8) (⟨0, by decide⟩ : Fin 4) (off19_eq k) (k0_off19_inb k) | ⟨3, _⟩, ⟨1, _⟩ => exact aB_at arg11.view X_arg11 (⟨k.val, k.isLt⟩ : Fin 11) (⟨3, by decide⟩ : Fin 8) (⟨1, by decide⟩ : Fin 4) (off20_eq k) (k0_off20_inb k) | ⟨3, _⟩, ⟨2, _⟩ => exact aB_at arg11.view X_arg11 (⟨k.val, k.isLt⟩ : Fin 11) (⟨3, by decide⟩ : Fin 8) (⟨2, by decide⟩ : Fin 4) (off21_eq k) (k0_off21_inb k) | ⟨3, _⟩, ⟨3, _⟩ => exact aB_at arg11.view X_arg11 (⟨k.val, k.isLt⟩ : Fin 11) (⟨3, by decide⟩ : Fin 8) (⟨3, by decide⟩ : Fin 4) (off22_eq k) (k0_off22_inb k) | ⟨4, _⟩, ⟨0, _⟩ => exact aB_at arg11.view X_arg11 (⟨k.val, k.isLt⟩ : Fin 11) (⟨4, by decide⟩ : Fin 8) (⟨0, by decide⟩ : Fin 4) (off24_eq k) (k0_off24_inb k) | ⟨4, _⟩, ⟨1, _⟩ => exact aB_at arg11.view X_arg11 (⟨k.val, k.isLt⟩ : Fin 11) (⟨4, by decide⟩ : Fin 8) (⟨1, by decide⟩ : Fin 4) (off25_eq k) (k0_off25_inb k) | ⟨4, _⟩, ⟨2, _⟩ => exact aB_at arg11.view X_arg11 (⟨k.val, k.isLt⟩ : Fin 11) (⟨4, by decide⟩ : Fin 8) (⟨2, by decide⟩ : Fin 4) (off26_eq k) (k0_off26_inb k) | ⟨4, _⟩, ⟨3, _⟩ => exact aB_at arg11.view X_arg11 (⟨k.val, k.isLt⟩ : Fin 11) (⟨4, by decide⟩ : Fin 8) (⟨3, by decide⟩ : Fin 4) (off27_eq k) (k0_off27_inb k) | ⟨5, _⟩, ⟨0, _⟩ => exact aB_at arg11.view X_arg11 (⟨k.val, k.isLt⟩ : Fin 11) (⟨5, by decide⟩ : Fin 8) (⟨0, by decide⟩ : Fin 4) (off29_eq k) (k0_off29_inb k) | ⟨5, _⟩, ⟨1, _⟩ => exact aB_at arg11.view X_arg11 (⟨k.val, k.isLt⟩ : Fin 11) (⟨5, by decide⟩ : Fin 8) (⟨1, by decide⟩ : Fin 4) (off30_eq k) (k0_off30_inb k) | ⟨5, _⟩, ⟨2, _⟩ => exact aB_at arg11.view X_arg11 (⟨k.val, k.isLt⟩ : Fin 11) (⟨5, by decide⟩ : Fin 8) (⟨2, by decide⟩ : Fin 4) (off31_eq k) (k0_off31_inb k) | ⟨5, _⟩, ⟨3, _⟩ => exact aB_at arg11.view X_arg11 (⟨k.val, k.isLt⟩ : Fin 11) (⟨5, by decide⟩ : Fin 8) (⟨3, by decide⟩ : Fin 4) (off32_eq k) (k0_off32_inb k) | ⟨6, _⟩, ⟨0, _⟩ => exact aB_at arg11.view X_arg11 (⟨k.val, k.isLt⟩ : Fin 11) (⟨6, by decide⟩ : Fin 8) (⟨0, by decide⟩ : Fin 4) (off34_eq k) (k0_off34_inb k) | ⟨6, _⟩, ⟨1, _⟩ => exact aB_at arg11.view X_arg11 (⟨k.val, k.isLt⟩ : Fin 11) (⟨6, by decide⟩ : Fin 8) (⟨1, by decide⟩ : Fin 4) (off35_eq k) (k0_off35_inb k) | ⟨6, _⟩, ⟨2, _⟩ => exact aB_at arg11.view X_arg11 (⟨k.val, k.isLt⟩ : Fin 11) (⟨6, by decide⟩ : Fin 8) (⟨2, by decide⟩ : Fin 4) (off36_eq k) (k0_off36_inb k) | ⟨6, _⟩, ⟨3, _⟩ => exact aB_at arg11.view X_arg11 (⟨k.val, k.isLt⟩ : Fin 11) (⟨6, by decide⟩ : Fin 8) (⟨3, by decide⟩ : Fin 4) (off37_eq k) (k0_off37_inb k) | ⟨7, _⟩, ⟨0, _⟩ => exact aB_at arg11.view X_arg11 (⟨k.val, k.isLt⟩ : Fin 11) (⟨7, by decide⟩ : Fin 8) (⟨0, by decide⟩ : Fin 4) (off39_eq k) (k0_off39_inb k) | ⟨7, _⟩, ⟨1, _⟩ => exact aB_at arg11.view X_arg11 (⟨k.val, k.isLt⟩ : Fin 11) (⟨7, by decide⟩ : Fin 8) (⟨1, by decide⟩ : Fin 4) (off40_eq k) (k0_off40_inb k) | ⟨7, _⟩, ⟨2, _⟩ => exact aB_at arg11.view X_arg11 (⟨k.val, k.isLt⟩ : Fin 11) (⟨7, by decide⟩ : Fin 8) (⟨2, by decide⟩ : Fin 4) (off41_eq k) (k0_off41_inb k) | ⟨7, _⟩, ⟨3, _⟩ => exact aB_at arg11.view X_arg11 (⟨k.val, k.isLt⟩ : Fin 11) (⟨7, by decide⟩ : Fin 8) (⟨3, by decide⟩ : Fin 4) (off42_eq k) (k0_off42_inb k)

end Cert.KernelIdeal.Tile
-- ==== Proof.BlocksOut.lean ====
/-
  What one pass of the second loop reads and writes, with every offset in closed form.
-/
module

public import proofs.«01_k».proof.Proof.Blocks
public import Idealize.ShloMosaic.Lib.VecWindow
public import Idealize.ShloMosaic.Lib.ValueIdx

@[expose] public section

set_option maxRecDepth 100000
set_option maxHeartbeats 4000000

noncomputable section

namespace Cert.KernelIdeal.Tile

open Idealize.ShloMosaic Idealize.ShloMosaic.TcCoe Idealize.ShloMosaic.Tactic
open Cert.KernelIdeal Cert.KernelIdeal.Gen

variable {F : FTy → Type} [FloatOps F]

/-! The offsets of the second loop's reads and of its store. -/

theorem off44_0_eq : ∀ k : Fin k0_t2_loop.trips, k0_off44 k 0#32 = ![0, 0, 256 * k.val + 0] := by decide +kernel
theorem off44_128_eq : ∀ k : Fin k0_t2_loop.trips, k0_off44 k 128#32 = ![0, 0, 256 * k.val + 128] := by decide +kernel
theorem off47_0_eq : ∀ k : Fin k0_t2_loop.trips, k0_off47 k 0#32 = ![0, 64, 256 * k.val + 0] := by decide +kernel
theorem off47_128_eq : ∀ k : Fin k0_t2_loop.trips, k0_off47 k 128#32 = ![0, 64, 256 * k.val + 128] := by decide +kernel
theorem off50_0_eq : ∀ k : Fin k0_t2_loop.trips, k0_off50 k 0#32 = ![0, 128, 256 * k.val + 0] := by decide +kernel
theorem off50_128_eq : ∀ k : Fin k0_t2_loop.trips, k0_off50 k 128#32 = ![0, 128, 256 * k.val + 128] := by decide +kernel
theorem off53_0_eq : ∀ k : Fin k0_t2_loop.trips, k0_off53 k 0#32 = ![0, 192, 256 * k.val + 0] := by decide +kernel
theorem off53_128_eq : ∀ k : Fin k0_t2_loop.trips, k0_off53 k 128#32 = ![0, 192, 256 * k.val + 128] := by decide +kernel
theorem off56_0_eq : ∀ k : Fin k0_t2_loop.trips, k0_off56 k 0#32 = ![0, 256, 256 * k.val + 0] := by decide +kernel
theorem off56_128_eq : ∀ k : Fin k0_t2_loop.trips, k0_off56 k 128#32 = ![0, 256, 256 * k.val + 128] := by decide +kernel
theorem off59_0_eq : ∀ k : Fin k0_t2_loop.trips, k0_off59 k 0#32 = ![0, 320, 256 * k.val + 0] := by decide +kernel
theorem off59_128_eq : ∀ k : Fin k0_t2_loop.trips, k0_off59 k 128#32 = ![0, 320, 256 * k.val + 128] := by decide +kernel
theorem off62_0_eq : ∀ k : Fin k0_t2_loop.trips, k0_off62 k 0#32 = ![0, 384, 256 * k.val + 0] := by decide +kernel
theorem off62_128_eq : ∀ k : Fin k0_t2_loop.trips, k0_off62 k 128#32 = ![0, 384, 256 * k.val + 128] := by decide +kernel
theorem off65_0_eq : ∀ k : Fin k0_t2_loop.trips, k0_off65 k 0#32 = ![0, 448, 256 * k.val + 0] := by decide +kernel
theorem off65_128_eq : ∀ k : Fin k0_t2_loop.trips, k0_off65 k 128#32 = ![0, 448, 256 * k.val + 128] := by decide +kernel
theorem off68_0_eq : ∀ k : Fin k0_t2_loop.trips, k0_off68 k 0#32 = ![0, 512, 256 * k.val + 0] := by decide +kernel
theorem off68_128_eq : ∀ k : Fin k0_t2_loop.trips, k0_off68 k 128#32 = ![0, 512, 256 * k.val + 128] := by decide +kernel
theorem off71_0_eq : ∀ k : Fin k0_t2_loop.trips, k0_off71 k 0#32 = ![0, 576, 256 * k.val + 0] := by decide +kernel
theorem off71_128_eq : ∀ k : Fin k0_t2_loop.trips, k0_off71 k 128#32 = ![0, 576, 256 * k.val + 128] := by decide +kernel
theorem off74_0_eq : ∀ k : Fin k0_t2_loop.trips, k0_off74 k 0#32 = ![0, 640, 256 * k.val + 0] := by decide +kernel
theorem off74_128_eq : ∀ k : Fin k0_t2_loop.trips, k0_off74 k 128#32 = ![0, 640, 256 * k.val + 128] := by decide +kernel
theorem off45_0_eq : ∀ k : Fin k0_t2_loop.trips, k0_off45 k 0#32 = ![0, 0, 256 * k.val + 0] := by decide +kernel
theorem off46_0_eq : ∀ k : Fin k0_t2_loop.trips, k0_off46 k 0#32 = ![1, 0, 256 * k.val + 0] := by decide +kernel
theorem off45_128_eq : ∀ k : Fin k0_t2_loop.trips, k0_off45 k 128#32 = ![0, 0, 256 * k.val + 128] := by decide +kernel
theorem off46_128_eq : ∀ k : Fin k0_t2_loop.trips, k0_off46 k 128#32 = ![1, 0, 256 * k.val + 128] := by decide +kernel
theorem off48_0_eq : ∀ k : Fin k0_t2_loop.trips, k0_off48 k 0#32 = ![2, 0, 256 * k.val + 0] := by decide +kernel
theorem off49_0_eq : ∀ k : Fin k0_t2_loop.trips, k0_off49 k 0#32 = ![3, 0, 256 * k.val + 0] := by decide +kernel
theorem off48_128_eq : ∀ k : Fin k0_t2_loop.trips, k0_off48 k 128#32 = ![2, 0, 256 * k.val + 128] := by decide +kernel
theorem off49_128_eq : ∀ k : Fin k0_t2_loop.trips, k0_off49 k 128#32 = ![3, 0, 256 * k.val + 128] := by decide +kernel
theorem off51_0_eq : ∀ k : Fin k0_t2_loop.trips, k0_off51 k 0#32 = ![4, 0, 256 * k.val + 0] := by decide +kernel
theorem off52_0_eq : ∀ k : Fin k0_t2_loop.trips, k0_off52 k 0#32 = ![5, 0, 256 * k.val + 0] := by decide +kernel
theorem off51_128_eq : ∀ k : Fin k0_t2_loop.trips, k0_off51 k 128#32 = ![4, 0, 256 * k.val + 128] := by decide +kernel
theorem off52_128_eq : ∀ k : Fin k0_t2_loop.trips, k0_off52 k 128#32 = ![5, 0, 256 * k.val + 128] := by decide +kernel
theorem off54_0_eq : ∀ k : Fin k0_t2_loop.trips, k0_off54 k 0#32 = ![6, 0, 256 * k.val + 0] := by decide +kernel
theorem off55_0_eq : ∀ k : Fin k0_t2_loop.trips, k0_off55 k 0#32 = ![7, 0, 256 * k.val + 0] := by decide +kernel
theorem off54_128_eq : ∀ k : Fin k0_t2_loop.trips, k0_off54 k 128#32 = ![6, 0, 256 * k.val + 128] := by decide +kernel
theorem off55_128_eq : ∀ k : Fin k0_t2_loop.trips, k0_off55 k 128#32 = ![7, 0, 256 * k.val + 128] := by decide +kernel
theorem off57_0_eq : ∀ k : Fin k0_t2_loop.trips, k0_off57 k 0#32 = ![8, 0, 256 * k.val + 0] := by decide +kernel
theorem off58_0_eq : ∀ k : Fin k0_t2_loop.trips, k0_off58 k 0#32 = ![9, 0, 256 * k.val + 0] := by decide +kernel
theorem off57_128_eq : ∀ k : Fin k0_t2_loop.trips, k0_off57 k 128#32 = ![8, 0, 256 * k.val + 128] := by decide +kernel
theorem off58_128_eq : ∀ k : Fin k0_t2_loop.trips, k0_off58 k 128#32 = ![9, 0, 256 * k.val + 128] := by decide +kernel
theorem off60_0_eq : ∀ k : Fin k0_t2_loop.trips, k0_off60 k 0#32 = ![10, 0, 256 * k.val + 0] := by decide +kernel
theorem off61_0_eq : ∀ k : Fin k0_t2_loop.trips, k0_off61 k 0#32 = ![11, 0, 256 * k.val + 0] := by decide +kernel
theorem off60_128_eq : ∀ k : Fin k0_t2_loop.trips, k0_off60 k 128#32 = ![10, 0, 256 * k.val + 128] := by decide +kernel
theorem off61_128_eq : ∀ k : Fin k0_t2_loop.trips, k0_off61 k 128#32 = ![11, 0, 256 * k.val + 128] := by decide +kernel
theorem off63_0_eq : ∀ k : Fin k0_t2_loop.trips, k0_off63 k 0#32 = ![12, 0, 256 * k.val + 0] := by decide +kernel
theorem off64_0_eq : ∀ k : Fin k0_t2_loop.trips, k0_off64 k 0#32 = ![13, 0, 256 * k.val + 0] := by decide +kernel
theorem off63_128_eq : ∀ k : Fin k0_t2_loop.trips, k0_off63 k 128#32 = ![12, 0, 256 * k.val + 128] := by decide +kernel
theorem off64_128_eq : ∀ k : Fin k0_t2_loop.trips, k0_off64 k 128#32 = ![13, 0, 256 * k.val + 128] := by decide +kernel
theorem off66_0_eq : ∀ k : Fin k0_t2_loop.trips, k0_off66 k 0#32 = ![14, 0, 256 * k.val + 0] := by decide +kernel
theorem off67_0_eq : ∀ k : Fin k0_t2_loop.trips, k0_off67 k 0#32 = ![15, 0, 256 * k.val + 0] := by decide +kernel
theorem off66_128_eq : ∀ k : Fin k0_t2_loop.trips, k0_off66 k 128#32 = ![14, 0, 256 * k.val + 128] := by decide +kernel
theorem off67_128_eq : ∀ k : Fin k0_t2_loop.trips, k0_off67 k 128#32 = ![15, 0, 256 * k.val + 128] := by decide +kernel
theorem off69_0_eq : ∀ k : Fin k0_t2_loop.trips, k0_off69 k 0#32 = ![16, 0, 256 * k.val + 0] := by decide +kernel
theorem off70_0_eq : ∀ k : Fin k0_t2_loop.trips, k0_off70 k 0#32 = ![17, 0, 256 * k.val + 0] := by decide +kernel
theorem off69_128_eq : ∀ k : Fin k0_t2_loop.trips, k0_off69 k 128#32 = ![16, 0, 256 * k.val + 128] := by decide +kernel
theorem off70_128_eq : ∀ k : Fin k0_t2_loop.trips, k0_off70 k 128#32 = ![17, 0, 256 * k.val + 128] := by decide +kernel
theorem off72_0_eq : ∀ k : Fin k0_t2_loop.trips, k0_off72 k 0#32 = ![18, 0, 256 * k.val + 0] := by decide +kernel
theorem off73_0_eq : ∀ k : Fin k0_t2_loop.trips, k0_off73 k 0#32 = ![19, 0, 256 * k.val + 0] := by decide +kernel
theorem off72_128_eq : ∀ k : Fin k0_t2_loop.trips, k0_off72 k 128#32 = ![18, 0, 256 * k.val + 128] := by decide +kernel
theorem off73_128_eq : ∀ k : Fin k0_t2_loop.trips, k0_off73 k 128#32 = ![19, 0, 256 * k.val + 128] := by decide +kernel
theorem off75_0_eq : ∀ k : Fin k0_t2_loop.trips, k0_off75 k 0#32 = ![20, 0, 256 * k.val + 0] := by decide +kernel
theorem off76_0_eq : ∀ k : Fin k0_t2_loop.trips, k0_off76 k 0#32 = ![21, 0, 256 * k.val + 0] := by decide +kernel
theorem off75_128_eq : ∀ k : Fin k0_t2_loop.trips, k0_off75 k 128#32 = ![20, 0, 256 * k.val + 128] := by decide +kernel
theorem off76_128_eq : ∀ k : Fin k0_t2_loop.trips, k0_off76 k 128#32 = ![21, 0, 256 * k.val + 128] := by decide +kernel
theorem off77_eq : ∀ k : Fin k0_t2_loop.trips, k0_off77 k = ![0, 256 * k.val] := by decide +kernel

/-- A pass of the second loop writes its 256 columns of the accumulator. -/
theorem tripO  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v1 : Elt F .i32) (v2 : Vec F S64x128 .f32) (v8 : Vec F S96x6 .i32) (v12 : Vec F S96x6 .f32) (X_arg12 : BufTy.Contents (Elt F) arg12.view.ty) (X_arg13 : BufTy.Contents (Elt F) arg13.view.ty) (X_arg15 : BufTy.Contents (Elt F) arg15.view.ty) (k : Fin k0_t2_loop.trips) (f_arg16 : BufTy.Contents (Elt F) arg16.view.ty) :
        tripL_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 k f_arg16  = [⟨Rect.unit (s := S96x2048) (k0_off77 k) S96x256.size (k0_off77_inb k),
      outTile v2 v1 v8 v12 (arg15.view.read (Elt F) X_arg15) (arg12.view.read (Elt F) X_arg12) (arg13.view.read (Elt F) X_arg13) (arg16.view.read (Elt F) f_arg16) (⟨k.val, k.isLt⟩ : Fin 8)⟩] := by
  rw [tripL2]
  unfold outTile
  congr 3
  · funext j; match j with | ⟨0, _⟩ => exact hB_at arg15.view X_arg15 (⟨0, by decide⟩ : Fin 11) (off := ![0, 0]) rfl inb_S96x1408_S96x128_0_0 | ⟨1, _⟩ => exact hB_at arg15.view X_arg15 (⟨1, by decide⟩ : Fin 11) (off := ![0, 128]) rfl inb_S96x1408_S96x128_0_128 | ⟨2, _⟩ => exact hB_at arg15.view X_arg15 (⟨2, by decide⟩ : Fin 11) (off := ![0, 256]) rfl inb_S96x1408_S96x128_0_256 | ⟨3, _⟩ => exact hB_at arg15.view X_arg15 (⟨3, by decide⟩ : Fin 11) (off := ![0, 384]) rfl inb_S96x1408_S96x128_0_384 | ⟨4, _⟩ => exact hB_at arg15.view X_arg15 (⟨4, by decide⟩ : Fin 11) (off := ![0, 512]) rfl inb_S96x1408_S96x128_0_512 | ⟨5, _⟩ => exact hB_at arg15.view X_arg15 (⟨5, by decide⟩ : Fin 11) (off := ![0, 640]) rfl inb_S96x1408_S96x128_0_640 | ⟨6, _⟩ => exact hB_at arg15.view X_arg15 (⟨6, by decide⟩ : Fin 11) (off := ![0, 768]) rfl inb_S96x1408_S96x128_0_768 | ⟨7, _⟩ => exact hB_at arg15.view X_arg15 (⟨7, by decide⟩ : Fin 11) (off := ![0, 896]) rfl inb_S96x1408_S96x128_0_896 | ⟨8, _⟩ => exact hB_at arg15.view X_arg15 (⟨8, by decide⟩ : Fin 11) (off := ![0, 1024]) rfl inb_S96x1408_S96x128_0_1024 | ⟨9, _⟩ => exact hB_at arg15.view X_arg15 (⟨9, by decide⟩ : Fin 11) (off := ![0, 1152]) rfl inb_S96x1408_S96x128_0_1152 | ⟨10, _⟩ => exact hB_at arg15.view X_arg15 (⟨10, by decide⟩ : Fin 11) (off := ![0, 1280]) rfl inb_S96x1408_S96x128_0_1280
  · funext c l; match c, l with | ⟨0, _⟩, ⟨0, _⟩ => exact dB_at arg12.view X_arg12 (⟨k.val, k.isLt⟩ : Fin 8) (⟨0, by decide⟩ : Fin 11) (⟨0, by decide⟩ : Fin 2) (off44_0_eq k) (k0_off44_inb k 0) | ⟨0, _⟩, ⟨1, _⟩ => exact dB_at arg12.view X_arg12 (⟨k.val, k.isLt⟩ : Fin 8) (⟨0, by decide⟩ : Fin 11) (⟨1, by decide⟩ : Fin 2) (off44_128_eq k) (k0_off44_inb k 1) | ⟨1, _⟩, ⟨0, _⟩ => exact dB_at arg12.view X_arg12 (⟨k.val, k.isLt⟩ : Fin 8) (⟨1, by decide⟩ : Fin 11) (⟨0, by decide⟩ : Fin 2) (off47_0_eq k) (k0_off47_inb k 0) | ⟨1, _⟩, ⟨1, _⟩ => exact dB_at arg12.view X_arg12 (⟨k.val, k.isLt⟩ : Fin 8) (⟨1, by decide⟩ : Fin 11) (⟨1, by decide⟩ : Fin 2) (off47_128_eq k) (k0_off47_inb k 1) | ⟨2, _⟩, ⟨0, _⟩ => exact dB_at arg12.view X_arg12 (⟨k.val, k.isLt⟩ : Fin 8) (⟨2, by decide⟩ : Fin 11) (⟨0, by decide⟩ : Fin 2) (off50_0_eq k) (k0_off50_inb k 0) | ⟨2, _⟩, ⟨1, _⟩ => exact dB_at arg12.view X_arg12 (⟨k.val, k.isLt⟩ : Fin 8) (⟨2, by decide⟩ : Fin 11) (⟨1, by decide⟩ : Fin 2) (off50_128_eq k) (k0_off50_inb k 1) | ⟨3, _⟩, ⟨0, _⟩ => exact dB_at arg12.view X_arg12 (⟨k.val, k.isLt⟩ : Fin 8) (⟨3, by decide⟩ : Fin 11) (⟨0, by decide⟩ : Fin 2) (off53_0_eq k) (k0_off53_inb k 0) | ⟨3, _⟩, ⟨1, _⟩ => exact dB_at arg12.view X_arg12 (⟨k.val, k.isLt⟩ : Fin 8) (⟨3, by decide⟩ : Fin 11) (⟨1, by decide⟩ : Fin 2) (off53_128_eq k) (k0_off53_inb k 1) | ⟨4, _⟩, ⟨0, _⟩ => exact dB_at arg12.view X_arg12 (⟨k.val, k.isLt⟩ : Fin 8) (⟨4, by decide⟩ : Fin 11) (⟨0, by decide⟩ : Fin 2) (off56_0_eq k) (k0_off56_inb k 0) | ⟨4, _⟩, ⟨1, _⟩ => exact dB_at arg12.view X_arg12 (⟨k.val, k.isLt⟩ : Fin 8) (⟨4, by decide⟩ : Fin 11) (⟨1, by decide⟩ : Fin 2) (off56_128_eq k) (k0_off56_inb k 1) | ⟨5, _⟩, ⟨0, _⟩ => exact dB_at arg12.view X_arg12 (⟨k.val, k.isLt⟩ : Fin 8) (⟨5, by decide⟩ : Fin 11) (⟨0, by decide⟩ : Fin 2) (off59_0_eq k) (k0_off59_inb k 0) | ⟨5, _⟩, ⟨1, _⟩ => exact dB_at arg12.view X_arg12 (⟨k.val, k.isLt⟩ : Fin 8) (⟨5, by decide⟩ : Fin 11) (⟨1, by decide⟩ : Fin 2) (off59_128_eq k) (k0_off59_inb k 1) | ⟨6, _⟩, ⟨0, _⟩ => exact dB_at arg12.view X_arg12 (⟨k.val, k.isLt⟩ : Fin 8) (⟨6, by decide⟩ : Fin 11) (⟨0, by decide⟩ : Fin 2) (off62_0_eq k) (k0_off62_inb k 0) | ⟨6, _⟩, ⟨1, _⟩ => exact dB_at arg12.view X_arg12 (⟨k.val, k.isLt⟩ : Fin 8) (⟨6, by decide⟩ : Fin 11) (⟨1, by decide⟩ : Fin 2) (off62_128_eq k) (k0_off62_inb k 1) | ⟨7, _⟩, ⟨0, _⟩ => exact dB_at arg12.view X_arg12 (⟨k.val, k.isLt⟩ : Fin 8) (⟨7, by decide⟩ : Fin 11) (⟨0, by decide⟩ : Fin 2) (off65_0_eq k) (k0_off65_inb k 0) | ⟨7, _⟩, ⟨1, _⟩ => exact dB_at arg12.view X_arg12 (⟨k.val, k.isLt⟩ : Fin 8) (⟨7, by decide⟩ : Fin 11) (⟨1, by decide⟩ : Fin 2) (off65_128_eq k) (k0_off65_inb k 1) | ⟨8, _⟩, ⟨0, _⟩ => exact dB_at arg12.view X_arg12 (⟨k.val, k.isLt⟩ : Fin 8) (⟨8, by decide⟩ : Fin 11) (⟨0, by decide⟩ : Fin 2) (off68_0_eq k) (k0_off68_inb k 0) | ⟨8, _⟩, ⟨1, _⟩ => exact dB_at arg12.view X_arg12 (⟨k.val, k.isLt⟩ : Fin 8) (⟨8, by decide⟩ : Fin 11) (⟨1, by decide⟩ : Fin 2) (off68_128_eq k) (k0_off68_inb k 1) | ⟨9, _⟩, ⟨0, _⟩ => exact dB_at arg12.view X_arg12 (⟨k.val, k.isLt⟩ : Fin 8) (⟨9, by decide⟩ : Fin 11) (⟨0, by decide⟩ : Fin 2) (off71_0_eq k) (k0_off71_inb k 0) | ⟨9, _⟩, ⟨1, _⟩ => exact dB_at arg12.view X_arg12 (⟨k.val, k.isLt⟩ : Fin 8) (⟨9, by decide⟩ : Fin 11) (⟨1, by decide⟩ : Fin 2) (off71_128_eq k) (k0_off71_inb k 1) | ⟨10, _⟩, ⟨0, _⟩ => exact dB_at arg12.view X_arg12 (⟨k.val, k.isLt⟩ : Fin 8) (⟨10, by decide⟩ : Fin 11) (⟨0, by decide⟩ : Fin 2) (off74_0_eq k) (k0_off74_inb k 0) | ⟨10, _⟩, ⟨1, _⟩ => exact dB_at arg12.view X_arg12 (⟨k.val, k.isLt⟩ : Fin 8) (⟨10, by decide⟩ : Fin 11) (⟨1, by decide⟩ : Fin 2) (off74_128_eq k) (k0_off74_inb k 1)
  · funext c l g; match c, l, g with | ⟨0, _⟩, ⟨0, _⟩, ⟨0, _⟩ => exact sB_at arg13.view X_arg13 (⟨k.val, k.isLt⟩ : Fin 8) (⟨0, by decide⟩ : Fin 11) (⟨0, by decide⟩ : Fin 2) (⟨0, by decide⟩ : Fin 2) (off45_0_eq k) (k0_off45_inb k 0) | ⟨0, _⟩, ⟨0, _⟩, ⟨1, _⟩ => exact sB_at arg13.view X_arg13 (⟨k.val, k.isLt⟩ : Fin 8) (⟨0, by decide⟩ : Fin 11) (⟨0, by decide⟩ : Fin 2) (⟨1, by decide⟩ : Fin 2) (off46_0_eq k) (k0_off46_inb k 0) | ⟨0, _⟩, ⟨1, _⟩, ⟨0, _⟩ => exact sB_at arg13.view X_arg13 (⟨k.val, k.isLt⟩ : Fin 8) (⟨0, by decide⟩ : Fin 11) (⟨1, by decide⟩ : Fin 2) (⟨0, by decide⟩ : Fin 2) (off45_128_eq k) (k0_off45_inb k 1) | ⟨0, _⟩, ⟨1, _⟩, ⟨1, _⟩ => exact sB_at arg13.view X_arg13 (⟨k.val, k.isLt⟩ : Fin 8) (⟨0, by decide⟩ : Fin 11) (⟨1, by decide⟩ : Fin 2) (⟨1, by decide⟩ : Fin 2) (off46_128_eq k) (k0_off46_inb k 1) | ⟨1, _⟩, ⟨0, _⟩, ⟨0, _⟩ => exact sB_at arg13.view X_arg13 (⟨k.val, k.isLt⟩ : Fin 8) (⟨1, by decide⟩ : Fin 11) (⟨0, by decide⟩ : Fin 2) (⟨0, by decide⟩ : Fin 2) (off48_0_eq k) (k0_off48_inb k 0) | ⟨1, _⟩, ⟨0, _⟩, ⟨1, _⟩ => exact sB_at arg13.view X_arg13 (⟨k.val, k.isLt⟩ : Fin 8) (⟨1, by decide⟩ : Fin 11) (⟨0, by decide⟩ : Fin 2) (⟨1, by decide⟩ : Fin 2) (off49_0_eq k) (k0_off49_inb k 0) | ⟨1, _⟩, ⟨1, _⟩, ⟨0, _⟩ => exact sB_at arg13.view X_arg13 (⟨k.val, k.isLt⟩ : Fin 8) (⟨1, by decide⟩ : Fin 11) (⟨1, by decide⟩ : Fin 2) (⟨0, by decide⟩ : Fin 2) (off48_128_eq k) (k0_off48_inb k 1) | ⟨1, _⟩, ⟨1, _⟩, ⟨1, _⟩ => exact sB_at arg13.view X_arg13 (⟨k.val, k.isLt⟩ : Fin 8) (⟨1, by decide⟩ : Fin 11) (⟨1, by decide⟩ : Fin 2) (⟨1, by decide⟩ : Fin 2) (off49_128_eq k) (k0_off49_inb k 1) | ⟨2, _⟩, ⟨0, _⟩, ⟨0, _⟩ => exact sB_at arg13.view X_arg13 (⟨k.val, k.isLt⟩ : Fin 8) (⟨2, by decide⟩ : Fin 11) (⟨0, by decide⟩ : Fin 2) (⟨0, by decide⟩ : Fin 2) (off51_0_eq k) (k0_off51_inb k 0) | ⟨2, _⟩, ⟨0, _⟩, ⟨1, _⟩ => exact sB_at arg13.view X_arg13 (⟨k.val, k.isLt⟩ : Fin 8) (⟨2, by decide⟩ : Fin 11) (⟨0, by decide⟩ : Fin 2) (⟨1, by decide⟩ : Fin 2) (off52_0_eq k) (k0_off52_inb k 0) | ⟨2, _⟩, ⟨1, _⟩, ⟨0, _⟩ => exact sB_at arg13.view X_arg13 (⟨k.val, k.isLt⟩ : Fin 8) (⟨2, by decide⟩ : Fin 11) (⟨1, by decide⟩ : Fin 2) (⟨0, by decide⟩ : Fin 2) (off51_128_eq k) (k0_off51_inb k 1) | ⟨2, _⟩, ⟨1, _⟩, ⟨1, _⟩ => exact sB_at arg13.view X_arg13 (⟨k.val, k.isLt⟩ : Fin 8) (⟨2, by decide⟩ : Fin 11) (⟨1, by decide⟩ : Fin 2) (⟨1, by decide⟩ : Fin 2) (off52_128_eq k) (k0_off52_inb k 1) | ⟨3, _⟩, ⟨0, _⟩, ⟨0, _⟩ => exact sB_at arg13.view X_arg13 (⟨k.val, k.isLt⟩ : Fin 8) (⟨3, by decide⟩ : Fin 11) (⟨0, by decide⟩ : Fin 2) (⟨0, by decide⟩ : Fin 2) (off54_0_eq k) (k0_off54_inb k 0) | ⟨3, _⟩, ⟨0, _⟩, ⟨1, _⟩ => exact sB_at arg13.view X_arg13 (⟨k.val, k.isLt⟩ : Fin 8) (⟨3, by decide⟩ : Fin 11) (⟨0, by decide⟩ : Fin 2) (⟨1, by decide⟩ : Fin 2) (off55_0_eq k) (k0_off55_inb k 0) | ⟨3, _⟩, ⟨1, _⟩, ⟨0, _⟩ => exact sB_at arg13.view X_arg13 (⟨k.val, k.isLt⟩ : Fin 8) (⟨3, by decide⟩ : Fin 11) (⟨1, by decide⟩ : Fin 2) (⟨0, by decide⟩ : Fin 2) (off54_128_eq k) (k0_off54_inb k 1) | ⟨3, _⟩, ⟨1, _⟩, ⟨1, _⟩ => exact sB_at arg13.view X_arg13 (⟨k.val, k.isLt⟩ : Fin 8) (⟨3, by decide⟩ : Fin 11) (⟨1, by decide⟩ : Fin 2) (⟨1, by decide⟩ : Fin 2) (off55_128_eq k) (k0_off55_inb k 1) | ⟨4, _⟩, ⟨0, _⟩, ⟨0, _⟩ => exact sB_at arg13.view X_arg13 (⟨k.val, k.isLt⟩ : Fin 8) (⟨4, by decide⟩ : Fin 11) (⟨0, by decide⟩ : Fin 2) (⟨0, by decide⟩ : Fin 2) (off57_0_eq k) (k0_off57_inb k 0) | ⟨4, _⟩, ⟨0, _⟩, ⟨1, _⟩ => exact sB_at arg13.view X_arg13 (⟨k.val, k.isLt⟩ : Fin 8) (⟨4, by decide⟩ : Fin 11) (⟨0, by decide⟩ : Fin 2) (⟨1, by decide⟩ : Fin 2) (off58_0_eq k) (k0_off58_inb k 0) | ⟨4, _⟩, ⟨1, _⟩, ⟨0, _⟩ => exact sB_at arg13.view X_arg13 (⟨k.val, k.isLt⟩ : Fin 8) (⟨4, by decide⟩ : Fin 11) (⟨1, by decide⟩ : Fin 2) (⟨0, by decide⟩ : Fin 2) (off57_128_eq k) (k0_off57_inb k 1) | ⟨4, _⟩, ⟨1, _⟩, ⟨1, _⟩ => exact sB_at arg13.view X_arg13 (⟨k.val, k.isLt⟩ : Fin 8) (⟨4, by decide⟩ : Fin 11) (⟨1, by decide⟩ : Fin 2) (⟨1, by decide⟩ : Fin 2) (off58_128_eq k) (k0_off58_inb k 1) | ⟨5, _⟩, ⟨0, _⟩, ⟨0, _⟩ => exact sB_at arg13.view X_arg13 (⟨k.val, k.isLt⟩ : Fin 8) (⟨5, by decide⟩ : Fin 11) (⟨0, by decide⟩ : Fin 2) (⟨0, by decide⟩ : Fin 2) (off60_0_eq k) (k0_off60_inb k 0) | ⟨5, _⟩, ⟨0, _⟩, ⟨1, _⟩ => exact sB_at arg13.view X_arg13 (⟨k.val, k.isLt⟩ : Fin 8) (⟨5, by decide⟩ : Fin 11) (⟨0, by decide⟩ : Fin 2) (⟨1, by decide⟩ : Fin 2) (off61_0_eq k) (k0_off61_inb k 0) | ⟨5, _⟩, ⟨1, _⟩, ⟨0, _⟩ => exact sB_at arg13.view X_arg13 (⟨k.val, k.isLt⟩ : Fin 8) (⟨5, by decide⟩ : Fin 11) (⟨1, by decide⟩ : Fin 2) (⟨0, by decide⟩ : Fin 2) (off60_128_eq k) (k0_off60_inb k 1) | ⟨5, _⟩, ⟨1, _⟩, ⟨1, _⟩ => exact sB_at arg13.view X_arg13 (⟨k.val, k.isLt⟩ : Fin 8) (⟨5, by decide⟩ : Fin 11) (⟨1, by decide⟩ : Fin 2) (⟨1, by decide⟩ : Fin 2) (off61_128_eq k) (k0_off61_inb k 1) | ⟨6, _⟩, ⟨0, _⟩, ⟨0, _⟩ => exact sB_at arg13.view X_arg13 (⟨k.val, k.isLt⟩ : Fin 8) (⟨6, by decide⟩ : Fin 11) (⟨0, by decide⟩ : Fin 2) (⟨0, by decide⟩ : Fin 2) (off63_0_eq k) (k0_off63_inb k 0) | ⟨6, _⟩, ⟨0, _⟩, ⟨1, _⟩ => exact sB_at arg13.view X_arg13 (⟨k.val, k.isLt⟩ : Fin 8) (⟨6, by decide⟩ : Fin 11) (⟨0, by decide⟩ : Fin 2) (⟨1, by decide⟩ : Fin 2) (off64_0_eq k) (k0_off64_inb k 0) | ⟨6, _⟩, ⟨1, _⟩, ⟨0, _⟩ => exact sB_at arg13.view X_arg13 (⟨k.val, k.isLt⟩ : Fin 8) (⟨6, by decide⟩ : Fin 11) (⟨1, by decide⟩ : Fin 2) (⟨0, by decide⟩ : Fin 2) (off63_128_eq k) (k0_off63_inb k 1) | ⟨6, _⟩, ⟨1, _⟩, ⟨1, _⟩ => exact sB_at arg13.view X_arg13 (⟨k.val, k.isLt⟩ : Fin 8) (⟨6, by decide⟩ : Fin 11) (⟨1, by decide⟩ : Fin 2) (⟨1, by decide⟩ : Fin 2) (off64_128_eq k) (k0_off64_inb k 1) | ⟨7, _⟩, ⟨0, _⟩, ⟨0, _⟩ => exact sB_at arg13.view X_arg13 (⟨k.val, k.isLt⟩ : Fin 8) (⟨7, by decide⟩ : Fin 11) (⟨0, by decide⟩ : Fin 2) (⟨0, by decide⟩ : Fin 2) (off66_0_eq k) (k0_off66_inb k 0) | ⟨7, _⟩, ⟨0, _⟩, ⟨1, _⟩ => exact sB_at arg13.view X_arg13 (⟨k.val, k.isLt⟩ : Fin 8) (⟨7, by decide⟩ : Fin 11) (⟨0, by decide⟩ : Fin 2) (⟨1, by decide⟩ : Fin 2) (off67_0_eq k) (k0_off67_inb k 0) | ⟨7, _⟩, ⟨1, _⟩, ⟨0, _⟩ => exact sB_at arg13.view X_arg13 (⟨k.val, k.isLt⟩ : Fin 8) (⟨7, by decide⟩ : Fin 11) (⟨1, by decide⟩ : Fin 2) (⟨0, by decide⟩ : Fin 2) (off66_128_eq k) (k0_off66_inb k 1) | ⟨7, _⟩, ⟨1, _⟩, ⟨1, _⟩ => exact sB_at arg13.view X_arg13 (⟨k.val, k.isLt⟩ : Fin 8) (⟨7, by decide⟩ : Fin 11) (⟨1, by decide⟩ : Fin 2) (⟨1, by decide⟩ : Fin 2) (off67_128_eq k) (k0_off67_inb k 1) | ⟨8, _⟩, ⟨0, _⟩, ⟨0, _⟩ => exact sB_at arg13.view X_arg13 (⟨k.val, k.isLt⟩ : Fin 8) (⟨8, by decide⟩ : Fin 11) (⟨0, by decide⟩ : Fin 2) (⟨0, by decide⟩ : Fin 2) (off69_0_eq k) (k0_off69_inb k 0) | ⟨8, _⟩, ⟨0, _⟩, ⟨1, _⟩ => exact sB_at arg13.view X_arg13 (⟨k.val, k.isLt⟩ : Fin 8) (⟨8, by decide⟩ : Fin 11) (⟨0, by decide⟩ : Fin 2) (⟨1, by decide⟩ : Fin 2) (off70_0_eq k) (k0_off70_inb k 0) | ⟨8, _⟩, ⟨1, _⟩, ⟨0, _⟩ => exact sB_at arg13.view X_arg13 (⟨k.val, k.isLt⟩ : Fin 8) (⟨8, by decide⟩ : Fin 11) (⟨1, by decide⟩ : Fin 2) (⟨0, by decide⟩ : Fin 2) (off69_128_eq k) (k0_off69_inb k 1) | ⟨8, _⟩, ⟨1, _⟩, ⟨1, _⟩ => exact sB_at arg13.view X_arg13 (⟨k.val, k.isLt⟩ : Fin 8) (⟨8, by decide⟩ : Fin 11) (⟨1, by decide⟩ : Fin 2) (⟨1, by decide⟩ : Fin 2) (off70_128_eq k) (k0_off70_inb k 1) | ⟨9, _⟩, ⟨0, _⟩, ⟨0, _⟩ => exact sB_at arg13.view X_arg13 (⟨k.val, k.isLt⟩ : Fin 8) (⟨9, by decide⟩ : Fin 11) (⟨0, by decide⟩ : Fin 2) (⟨0, by decide⟩ : Fin 2) (off72_0_eq k) (k0_off72_inb k 0) | ⟨9, _⟩, ⟨0, _⟩, ⟨1, _⟩ => exact sB_at arg13.view X_arg13 (⟨k.val, k.isLt⟩ : Fin 8) (⟨9, by decide⟩ : Fin 11) (⟨0, by decide⟩ : Fin 2) (⟨1, by decide⟩ : Fin 2) (off73_0_eq k) (k0_off73_inb k 0) | ⟨9, _⟩, ⟨1, _⟩, ⟨0, _⟩ => exact sB_at arg13.view X_arg13 (⟨k.val, k.isLt⟩ : Fin 8) (⟨9, by decide⟩ : Fin 11) (⟨1, by decide⟩ : Fin 2) (⟨0, by decide⟩ : Fin 2) (off72_128_eq k) (k0_off72_inb k 1) | ⟨9, _⟩, ⟨1, _⟩, ⟨1, _⟩ => exact sB_at arg13.view X_arg13 (⟨k.val, k.isLt⟩ : Fin 8) (⟨9, by decide⟩ : Fin 11) (⟨1, by decide⟩ : Fin 2) (⟨1, by decide⟩ : Fin 2) (off73_128_eq k) (k0_off73_inb k 1) | ⟨10, _⟩, ⟨0, _⟩, ⟨0, _⟩ => exact sB_at arg13.view X_arg13 (⟨k.val, k.isLt⟩ : Fin 8) (⟨10, by decide⟩ : Fin 11) (⟨0, by decide⟩ : Fin 2) (⟨0, by decide⟩ : Fin 2) (off75_0_eq k) (k0_off75_inb k 0) | ⟨10, _⟩, ⟨0, _⟩, ⟨1, _⟩ => exact sB_at arg13.view X_arg13 (⟨k.val, k.isLt⟩ : Fin 8) (⟨10, by decide⟩ : Fin 11) (⟨0, by decide⟩ : Fin 2) (⟨1, by decide⟩ : Fin 2) (off76_0_eq k) (k0_off76_inb k 0) | ⟨10, _⟩, ⟨1, _⟩, ⟨0, _⟩ => exact sB_at arg13.view X_arg13 (⟨k.val, k.isLt⟩ : Fin 8) (⟨10, by decide⟩ : Fin 11) (⟨1, by decide⟩ : Fin 2) (⟨0, by decide⟩ : Fin 2) (off75_128_eq k) (k0_off75_inb k 1) | ⟨10, _⟩, ⟨1, _⟩, ⟨1, _⟩ => exact sB_at arg13.view X_arg13 (⟨k.val, k.isLt⟩ : Fin 8) (⟨10, by decide⟩ : Fin 11) (⟨1, by decide⟩ : Fin 2) (⟨1, by decide⟩ : Fin 2) (off76_128_eq k) (k0_off76_inb k 1)
  · exact oB_at arg16.view f_arg16 (⟨k.val, k.isLt⟩ : Fin 8) (off77_eq k) (k0_off77_inb k)

end Cert.KernelIdeal.Tile
-- ==== Proof.Reads.lean ====
/-
  What the two loops leave, whatever was in the scratch buffers before: the first the whole hidden layer of the step's
  expert, the second the accumulator with that expert's contribution added.
-/
module

public import proofs.«01_k».proof.Proof.BlocksOut

@[expose] public section

set_option maxRecDepth 100000
set_option maxHeartbeats 4000000

noncomputable section

namespace Cert.KernelIdeal.Tile

open Idealize.ShloMosaic Idealize.ShloMosaic.TcCoe Idealize.ShloMosaic.Tactic
open Cert.KernelIdeal Cert.KernelIdeal.Gen

variable {F : FTy → Type} [FloatOps F]

/-- Eleven stores of 128 columns each, side by side, leave the columns stored. -/
theorem tiled1 (v : View sig .tc .vmem S96x1408 .bf16) (G : v.ty.Contents (Elt F)) (pb : ℕ → List (View.Piece (Elt F) S96x1408 .bf16))
    (T : Fin 11 → Vec F S96x128 .bf16) (h0 : pb 0 = [])
    (hs : ∀ k : Fin 11, ∃ off inb, off = ![0, 128 * k.val] ∧ pb (k.val + 1) = ⟨Rect.unit (s := S96x1408) off S96x128.size inb, T k⟩ :: pb k.val)
    (i : S96x1408.Idx) : v.read (Elt F) (v.writes (Elt F) G (pb 11)) i
      = T ⟨(i 1).val / 128, Nat.div_lt_of_lt_mul (i 1).isLt⟩ (ValueIdx.ix2 (i 0) ⟨(i 1).val % 128, Nat.mod_lt _ (by decide)⟩) := by
  have hi : (i 1).val < 1408 := (i 1).isLt
  have key : ∀ n ≤ 11, (i 1).val < 128 * n → v.read (Elt F) (v.writes (Elt F) G (pb n)) i
      = T ⟨(i 1).val / 128, Nat.div_lt_of_lt_mul (i 1).isLt⟩ (ValueIdx.ix2 (i 0) ⟨(i 1).val % 128, Nat.mod_lt _ (by decide)⟩) := by
    intro n
    induction n with
    | zero => intro _ h; omega
    | succ n ih =>
      intro hn h
      obtain ⟨off, inb, ho, hp⟩ := hs ⟨n, by omega⟩
      rw [show pb (n + 1) = _ from hp]
      by_cases hc : (i 1).val < 128 * n
      · rw [View.read_writes_cons_unit_of_not_mem v G inb _ _ i ho 1 (.inl hc)]
        exact ih (by omega) hc
      · have e : (⟨n, by omega⟩ : Fin 11) = ⟨(i 1).val / 128, Nat.div_lt_of_lt_mul (i 1).isLt⟩ := Fin.ext (by show n = (i 1).val / 128; omega)
        rw [← e]
        refine View.read_writes_cons_unit_of_mem v G inb _ _ i _ ho fun a => ?_
        match a with
        | ⟨0, _⟩ => exact (Nat.zero_add _).symm
        | ⟨1, _⟩ => show (i 1).val = 128 * n + (i 1).val % 128; omega
  exact key 11 (le_refl _) hi

/-- Eight stores of 256 columns each, side by side, each computed from the columns found there, leave the columns
    computed from what was there at first. -/
theorem tiled2 (v : View sig .tc .vmem S96x2048 .f32) (G : v.ty.Contents (Elt F)) (pb : ℕ → List (View.Piece (Elt F) S96x2048 .f32))
    (T : Fin 8 → Vec F S96x256 .f32 → Vec F S96x256 .f32) (h0 : pb 0 = [])
    (hs : ∀ k : Fin 8, ∃ off inb, off = ![0, 256 * k.val]
      ∧ pb (k.val + 1) = ⟨Rect.unit (s := S96x2048) off S96x256.size inb, T k (oB (v.read (Elt F) (v.writes (Elt F) G (pb k.val))) k)⟩ :: pb k.val)
    (i : S96x2048.Idx) : v.read (Elt F) (v.writes (Elt F) G (pb 8)) i
      = T ⟨(i 1).val / 256, Nat.div_lt_of_lt_mul (i 1).isLt⟩ (oB (v.read (Elt F) G) ⟨(i 1).val / 256, Nat.div_lt_of_lt_mul (i 1).isLt⟩)
          (ValueIdx.ix2 (i 0) ⟨(i 1).val % 256, Nat.mod_lt _ (by decide)⟩) := by
  have rest : ∀ n ≤ 8, ∀ i : S96x2048.Idx, 256 * n ≤ (i 1).val → v.read (Elt F) (v.writes (Elt F) G (pb n)) i = v.read (Elt F) G i := by
    intro n
    induction n with
    | zero => intro _ i _; rw [h0]; rfl
    | succ n ih =>
      intro hn i h
      obtain ⟨off, inb, ho, hp⟩ := hs ⟨n, by omega⟩
      rw [show pb (n + 1) = _ from hp,
        View.read_writes_cons_unit_of_not_mem v G inb _ _ i ho 1 (.inr (by show 256 * n + 256 ≤ (i 1).val; omega))]
      exact ih (by omega) i (by omega)
  have hi : (i 1).val < 2048 := (i 1).isLt
  have key : ∀ n ≤ 8, (i 1).val < 256 * n → v.read (Elt F) (v.writes (Elt F) G (pb n)) i
      = T ⟨(i 1).val / 256, Nat.div_lt_of_lt_mul (i 1).isLt⟩ (oB (v.read (Elt F) G) ⟨(i 1).val / 256, Nat.div_lt_of_lt_mul (i 1).isLt⟩)
          (ValueIdx.ix2 (i 0) ⟨(i 1).val % 256, Nat.mod_lt _ (by decide)⟩) := by
    intro n
    induction n with
    | zero => intro _ h; omega
    | succ n ih =>
      intro hn h
      obtain ⟨off, inb, ho, hp⟩ := hs ⟨n, by omega⟩
      rw [show pb (n + 1) = _ from hp]
      by_cases hc : (i 1).val < 256 * n
      · rw [View.read_writes_cons_unit_of_not_mem v G inb _ _ i ho 1 (.inl hc)]
        exact ih (by omega) hc
      · have e : (⟨n, by omega⟩ : Fin 8) = ⟨(i 1).val / 256, Nat.div_lt_of_lt_mul (i 1).isLt⟩ := Fin.ext (by show n = (i 1).val / 256; omega)
        rw [← e]
        have ho' : oB (v.read (Elt F) (v.writes (Elt F) G (pb n))) ⟨n, by omega⟩ = oB (v.read (Elt F) G) ⟨n, by omega⟩ := by
          funext y
          refine rest n (by omega) _ ?_
          show 256 * n ≤ 256 * n + 1 * (y 1).val
          omega
        refine (View.read_writes_cons_unit_of_mem v G inb _ _ i (ValueIdx.ix2 (i 0) ⟨(i 1).val % 256, Nat.mod_lt _ (by decide)⟩) ho fun a => ?_).trans (by rw [ho'])
        match a with
        | ⟨0, _⟩ => exact (Nat.zero_add _).symm
        | ⟨1, _⟩ => show (i 1).val = 256 * n + (i 1).val % 256; omega
  exact key 8 (le_refl _) hi

/-- The hidden layer after the first loop. -/
theorem read_hidden  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v2 : Vec F S64x128 .f32) (X_arg3 : BufTy.Contents (Elt F) arg3.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)  (G : arg15.view.ty.Contents (Elt F)) :
    arg15.view.read (Elt F) (arg15.view.writes (Elt F) G (pb_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 (Scf.trips k0_t1_loop.lb k0_t1_loop.ub k0_t1_loop.st)))
      = hidden v2 (arg6.view.read (Elt F) X_arg6) (arg3.view.read (Elt F) X_arg3) (arg8.view.read (Elt F) X_arg8) (arg9.view.read (Elt F) X_arg9) (arg10.view.read (Elt F) X_arg10) (arg11.view.read (Elt F) X_arg11) := by
  funext y
  refine tiled1 arg15.view G (pb_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11) (hidTile v2 (arg6.view.read (Elt F) X_arg6) (arg3.view.read (Elt F) X_arg3) (arg8.view.read (Elt F) X_arg8) (arg9.view.read (Elt F) X_arg9) (arg10.view.read (Elt F) X_arg10) (arg11.view.read (Elt F) X_arg11)) rfl (fun k => ?_) y
  refine ⟨k0_off43 ⟨k.val, k.isLt⟩, k0_off43_inb _, off43_eq _, ?_⟩
  rw [show pb_k0_t1 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 (k.val + 1) = _ from pb_k0_t1_succ  𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2 X_arg3 X_arg6 X_arg8 X_arg9 X_arg10 X_arg11 ⟨k.val, k.isLt⟩, tripH]
  rfl

/-- The accumulator after the second loop. -/
theorem read_added  (𝒱 : Variants) (c : Dev nD) (bd : Option 𝒱.V) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole) (v1 : Elt F .i32) (v2 : Vec F S64x128 .f32) (v8 : Vec F S96x6 .i32) (v12 : Vec F S96x6 .f32) (X_arg12 : BufTy.Contents (Elt F) arg12.view.ty) (X_arg13 : BufTy.Contents (Elt F) arg13.view.ty) (X_arg15 : BufTy.Contents (Elt F) arg15.view.ty)  (G : arg16.view.ty.Contents (Elt F)) :
    arg16.view.read (Elt F) (arg16.view.writes (Elt F) G (pb_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G (Scf.trips k0_t2_loop.lb k0_t2_loop.ub k0_t2_loop.st)))
      = added v2 v1 v8 v12 (arg15.view.read (Elt F) X_arg15) (arg12.view.read (Elt F) X_arg12) (arg13.view.read (Elt F) X_arg13) (arg16.view.read (Elt F) G) := by
  funext y
  refine tiled2 arg16.view G (pb_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G) (fun k => tile2 v2 v1 v8 v12 (hB (arg15.view.read (Elt F) X_arg15)) (dB (F := F) (arg12.view.read (Elt F) X_arg12) k) (sB (arg13.view.read (Elt F) X_arg13) k)) rfl (fun k => ?_) y
  refine ⟨k0_off77 ⟨k.val, k.isLt⟩, k0_off77_inb _, off77_eq _, ?_⟩
  rw [show pb_k0_t2 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G (k.val + 1) = _ from pb_k0_t2_succ  𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v2 v8 v12 X_arg12 X_arg13 X_arg15 G ⟨k.val, k.isLt⟩, tripO]
  rfl

end Cert.KernelIdeal.Tile
-- ==== Proof.Body.lean ====
/-
  One grid step of the kernel: from its windows, its two tables and its two scratch buffers, it runs to its return
  and hands everything back.
-/
module

public import proofs.«01_k».proof.Proof.Reads

@[expose] public section

set_option maxRecDepth 100000
set_option maxHeartbeats 4000000

noncomputable section

namespace Cert.KernelIdeal.Step

open Cert.KernelIdeal Cert.KernelIdeal.Gen Cert.KernelIdeal.Tile
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- The buffer held whole at `f`; -/
abbrev pt (c : Dev nD) {sp : Space} {S : Shape} {e : EltTy} (M : Memref sig .tc sp S e) (f : Bf (F := F) c M) : sProp 𝕄 :=
  M.view.loc (c : Thread nD τ) ↦[M.view.set]{fullShare} f
/-- or at half, to read. -/
abbrev ptq (c : Dev nD) {sp : Space} {S : Shape} {e : EltTy} (M : Memref sig .tc sp S e) (f : Bf (F := F) c M) : sProp 𝕄 :=
  M.view.loc (c : Thread nD τ) ↦[M.view.set]{fullShare.right} f

/-- The grid coordinate is in the range of the list of used experts. -/
theorem inRange {arg0 : BitVec 32} (h : k0_chk1 arg0) : arg0.toNat < 64 := by
  have h' := h 0
  have e : k0_off2 arg0 0 = arg0.toNat := rfl
  rw [e] at h'
  exact Nat.lt_of_succ_le h'

/-- The kernel's test for the first step. -/
theorem firstIff (arg0 : BitVec 32) : Scalar.cmpi .ne (Scalar.extui (Scalar.cmpi .eq arg0 0#32)) 0#32 = 1#1 ↔ arg0 = 0#32 := by
  by_cases h : arg0 = 0#32
  · subst h; exact ⟨fun _ => rfl, fun _ => by decide⟩
  · have e : Scalar.cmpi .eq arg0 0#32 = 0#1 := by
      show BitVec.ofBool (arg0 == 0#32) = 0#1
      rw [beq_eq_false_iff_ne.mpr h]; rfl
    rw [e]; exact ⟨fun h' => absurd h' (by decide), fun h' => absurd h' h⟩

/-- The accumulator after the step, of what the step reads. -/
def accNew (first : Bool) (e : Elt F .i32) (x : Vec F S96x2048 .bf16) (ids : Vec F S96x6 .i32) (cw : Vec F S96x6 .f32)
    (perm : Vec F S128x128 .bf16) (tab : Vec F S64x128 .f32) (wg : Vec F S1x1408x1024 .i8) (ag : Vec F S1x32x1408 .f32)
    (wu : Vec F S1x1408x1024 .i8) (au : Vec F S1x32x1408 .f32) (wd : Vec F S1x704x2048 .i8) (ad : Vec F S22x8x2048 .f32)
    (old : Vec F S96x2048 .f32) : Vec F S96x2048 .f32 :=
  added tab e ids cw (hidden tab perm x wg ag wu au) wd ad (if first then k0_pay2 else old)

/-- The step runs to its return; the accumulator then holds `accNew`, and the output's buffer is rounded from it at the
    last step and left alone at the others. -/
theorem kernelRun (c : Dev nD) (b : grid0.Bounds) (i : grid0.Static) (arg0 : BitVec 32) (arg1 : Memref sig .tc .smem S64 .i32) (harg1 : arg1.IsWhole) (arg2 : Memref sig .tc .smem S1 .i32) (harg2 : arg2.IsWhole) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole) (arg15 : Memref sig .tc .vmem S96x1408 .bf16) (harg15 : arg15.IsWhole) (arg16 : Memref sig .tc .vmem S96x2048 .f32) (harg16 : arg16.IsWhole)
    (X_arg1 : Bf (F := F) c arg1) (X_arg2 : Bf (F := F) c arg2) (X_arg3 : Bf (F := F) c arg3) (X_arg4 : Bf (F := F) c arg4) (X_arg5 : Bf (F := F) c arg5) (X_arg6 : Bf (F := F) c arg6) (X_arg7 : Bf (F := F) c arg7) (X_arg8 : Bf (F := F) c arg8) (X_arg9 : Bf (F := F) c arg9) (X_arg10 : Bf (F := F) c arg10) (X_arg11 : Bf (F := F) c arg11) (X_arg12 : Bf (F := F) c arg12) (X_arg13 : Bf (F := F) c arg13) (X_arg14 : Bf (F := F) c arg14) (X_arg15 : Bf (F := F) c arg15) (X_arg16 : Bf (F := F) c arg16) (W : Waits sig Unit) (hchk : k0_chk1 arg0) (Q : PUnit → sProp 𝕄) :
    iprop(ptq c arg1 X_arg1 ∗ ptq c arg2 X_arg2 ∗ pt c arg3 X_arg3 ∗ pt c arg4 X_arg4 ∗ pt c arg5 X_arg5 ∗ pt c arg6 X_arg6 ∗ pt c arg7 X_arg7 ∗ pt c arg8 X_arg8 ∗ pt c arg9 X_arg9 ∗ pt c arg10 X_arg10 ∗ pt c arg11 X_arg11 ∗ pt c arg12 X_arg12 ∗ pt c arg13 X_arg13 ∗ pt c arg14 X_arg14 ∗ pt c arg15 X_arg15 ∗ pt c arg16 X_arg16 ∗ owes (c : Thread nD τ) 0 W
      ∗ (iprop(ptq c arg1 X_arg1 ∗ ptq c arg2 X_arg2 ∗ pt c arg3 X_arg3 ∗ pt c arg4 X_arg4 ∗ pt c arg5 X_arg5 ∗ pt c arg6 X_arg6 ∗ pt c arg7 X_arg7 ∗ pt c arg8 X_arg8 ∗ pt c arg9 X_arg9 ∗ pt c arg10 X_arg10 ∗ pt c arg11 X_arg11 ∗ pt c arg12 X_arg12 ∗ pt c arg13 X_arg13 ∗ (∃ f, pt c arg15 f)
          ∗ (∃ f g, ⌜arg16.view.read (Elt F) f = accNew (arg0 == 0#32) (arg1.view.read (Elt F) X_arg1 (ValueIdx.ix1 ⟨arg0.toNat, inRange hchk⟩)) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg12.view.read (Elt F) X_arg12) (arg13.view.read (Elt F) X_arg13) (arg16.view.read (Elt F) X_arg16)
              ∧ arg14.view.read (Elt F) g = if k0_cond2 arg0 (arg2.view.read (Elt F) X_arg2 (ValueIdx.ix1 0)) = 1#1 then k0_pay6 (arg16.view.read (Elt F) f) else arg14.view.read (Elt F) X_arg14⌝
            ∗ pt c arg16 f ∗ pt c arg14 g)
          ∗ owes (c : Thread nD τ) 0 W) -∗ Q ⟨⟩))
    ⊢ wp frame (wpE (defs₀ (F := F)) Variants.none c none) Set.univ (cc0_moe_nf4 (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_moe_nf4_eq_skeleton]; unfold cc0_moe_nf4_skel
  iintro ⟨Harg1, Harg2, Harg3, Harg4, Harg5, Harg6, Harg7, Harg8, Harg9, Harg10, Harg11, Harg12, Harg13, Harg14, Harg15, Harg16, HO, Hk⟩
  by_cases h1 : Scalar.cmpi .ne (Scalar.extui (Scalar.cmpi .eq arg0 0#32)) 0#32 = 1#1
  · sl_exec
    sl_step
    iapply Hk
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg15]; · iexists _; iexact Harg15
    isplitr [HO]; swap; · iexact HO
    iexists _, _
    isplitr
    rotate_left
    · isplitl [Harg16]; · iexact Harg16
      iexact Harg14
    ipureintro
    have ha : kernelRun.sl.r c arg0 arg1 X_arg1 hchk = arg1.view.read (Elt F) X_arg1 (ValueIdx.ix1 ⟨arg0.toNat, inRange hchk⟩) := by
      unfold kernelRun.sl.r
      refine congrArg (arg1.view.read (Elt F) X_arg1) (funext fun a => Fin.ext ?_)
      match a with
      | ⟨0, _⟩ => rfl
    have hn : kernelRun.sl.r_1 c arg2 X_arg2 = arg2.view.read (Elt F) X_arg2 (ValueIdx.ix1 0) := by
      unfold kernelRun.sl.r_1
      refine congrArg (arg2.view.read (Elt F) X_arg2) (funext fun a => Fin.ext ?_)
      match a with
      | ⟨0, _⟩ => rfl
    rw [ha, hn]
    refine ⟨?_, ?_⟩
    · rw [View.writes_append, read_added, read_hidden, View.readAt_full, View.readAt_full, View.readAt_full]
      unfold accNew
      have hz : arg16.view.read (Elt F) (arg16.view.writes (Elt F) arg16.view.junk (kernelRun.sl.Harg16_1 (F := F))) = k0_pay2 (F := F) := by
        unfold kernelRun.sl.Harg16_1
        exact View.read_writes_full _ _ _ _ _
      rw [hz, if_pos (by simpa using (firstIff arg0).mp h1)]
    · by_cases hl : k0_cond2 arg0 (arg2.view.read (Elt F) X_arg2 (ValueIdx.ix1 0)) = 1#1
      · rw [dif_pos hl, if_pos hl, View.read_writes_full]
        congr 1
        unfold kernelRun.sl.v26
        first | exact View.readAt_full _ _ _ | (unfold View.readCov; exact (View.readAt_full _ _ _).trans (by rw [ha]))
      · rw [dif_neg hl, if_neg hl]
  · sl_exec
    sl_step
    iapply Hk
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg15]; · iexists _; iexact Harg15
    isplitr [HO]; swap; · iexact HO
    iexists _, _
    isplitr
    rotate_left
    · isplitl [Harg16]; · iexact Harg16
      iexact Harg14
    ipureintro
    have ha : kernelRun.sl.r_2 c arg0 arg1 X_arg1 hchk = arg1.view.read (Elt F) X_arg1 (ValueIdx.ix1 ⟨arg0.toNat, inRange hchk⟩) := by
      unfold kernelRun.sl.r_2
      refine congrArg (arg1.view.read (Elt F) X_arg1) (funext fun a => Fin.ext ?_)
      match a with
      | ⟨0, _⟩ => rfl
    have hn : kernelRun.sl.r_3 c arg2 X_arg2 = arg2.view.read (Elt F) X_arg2 (ValueIdx.ix1 0) := by
      unfold kernelRun.sl.r_3
      refine congrArg (arg2.view.read (Elt F) X_arg2) (funext fun a => Fin.ext ?_)
      match a with
      | ⟨0, _⟩ => rfl
    rw [ha, hn]
    refine ⟨?_, ?_⟩
    · rw [read_added, read_hidden, View.readAt_full, View.readAt_full, View.readAt_full]
      unfold accNew
      rw [if_neg (by simpa using fun h => h1 ((firstIff arg0).mpr h))]
    · by_cases hl : k0_cond2 arg0 (arg2.view.read (Elt F) X_arg2 (ValueIdx.ix1 0)) = 1#1
      · rw [dif_pos hl, if_pos hl, View.read_writes_full]
        congr 1
        unfold kernelRun.sl.v26_1
        first | (rw [View.readAt_full, ha])
      · rw [dif_neg hl, if_neg hl]

end Cert.KernelIdeal.Step

end
-- ==== Proof.StepOwns.lean ====
/-
  One grid step, of the values its windows' buffers hold: the accumulator becomes `accNew` of them, and the output window
  is stored on the last step only.
-/
module

public import proofs.«01_k».proof.Proof.Body

@[expose] public section

set_option maxRecDepth 100000
set_option maxHeartbeats 4000000

noncomputable section

namespace Cert.KernelIdeal.Step

open Cert.KernelIdeal Cert.KernelIdeal.Gen Cert.KernelIdeal.Tile
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] accNew Tile.hidden added k0_pay6 k0_pay2

variable {F : FTy → Type} [FloatOps F]

local notation "𝕄" => MT nD τ sig Unit (Elt F) ℕ (UR sig nD τ) ℕ

set_option backward.isDefEq.respectTransparency.types false in
/-- The step at the two tables `T1`, `T2`, the windows' values `X3` … `X14` and the scratch buffers' contents. -/
theorem stepRun (c : Dev nD) (b : grid0.Bounds) (i : grid0.Static) (arg0 : BitVec 32) (arg3 : Memref sig .tc .vmem S96x2048 .bf16) (harg3 : arg3.IsWhole) (arg4 : Memref sig .tc .vmem S96x6 .i32) (harg4 : arg4.IsWhole) (arg5 : Memref sig .tc .vmem S96x6 .f32) (harg5 : arg5.IsWhole) (arg6 : Memref sig .tc .vmem S128x128 .bf16) (harg6 : arg6.IsWhole) (arg7 : Memref sig .tc .vmem S64x128 .f32) (harg7 : arg7.IsWhole) (arg8 : Memref sig .tc .vmem S1x1408x1024 .i8) (harg8 : arg8.IsWhole) (arg9 : Memref sig .tc .vmem S1x32x1408 .f32) (harg9 : arg9.IsWhole) (arg10 : Memref sig .tc .vmem S1x1408x1024 .i8) (harg10 : arg10.IsWhole) (arg11 : Memref sig .tc .vmem S1x32x1408 .f32) (harg11 : arg11.IsWhole) (arg12 : Memref sig .tc .vmem S1x704x2048 .i8) (harg12 : arg12.IsWhole) (arg13 : Memref sig .tc .vmem S22x8x2048 .f32) (harg13 : arg13.IsWhole) (arg14 : Memref sig .tc .vmem S96x2048 .bf16) (harg14 : arg14.IsWhole)
    (T1 : Buf (Elt F) ((c : Thread nD τ).loc main_v29)) (T2 : Buf (Elt F) ((c : Thread nD τ).loc main_v16))
    (X3 : Vec F S96x2048 .bf16) (X4 : Vec F S96x6 .i32) (X5 : Vec F S96x6 .f32) (X6 : Vec F S128x128 .bf16) (X7 : Vec F S64x128 .f32) (X8 : Vec F S1x1408x1024 .i8) (X9 : Vec F S1x32x1408 .f32) (X10 : Vec F S1x1408x1024 .i8) (X11 : Vec F S1x32x1408 .f32) (X12 : Vec F S1x704x2048 .i8) (X13 : Vec F S22x8x2048 .f32) (X14 : Vec F S96x2048 .bf16)
    (f15 : Buf (Elt F) ((c : Thread nD τ).loc cc0_scratch0)) (f16 : Buf (Elt F) ((c : Thread nD τ).loc cc0_scratch1))
    (W : Waits sig Unit) (hchk : k0_chk1 arg0) (Q : PUnit → sProp 𝕄) :
    iprop(((c : Thread nD τ).loc main_v29 ↦{fullShare.right} T1) ∗ ((c : Thread nD τ).loc main_v16 ↦{fullShare.right} T2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14
      ∗ ((c : Thread nD τ).loc cc0_scratch0 ↦{fullShare} f15) ∗ ((c : Thread nD τ).loc cc0_scratch1 ↦{fullShare} f16) ∗ owes (c : Thread nD τ) 0 W
      ∗ (iprop(((c : Thread nD τ).loc main_v29 ↦{fullShare.right} T1) ∗ ((c : Thread nD τ).loc main_v16 ↦{fullShare.right} T2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13
          ∗ owns (c : Thread nD τ) arg14 fullShare (if k0_cond2 arg0 (T2 (ValueIdx.ix1 0)) = 1#1 then k0_pay6 (accNew (arg0 == 0#32) (T1 (ValueIdx.ix1 ⟨arg0.toNat, inRange hchk⟩)) X3 X4 X5 X6 X7 X8 X9 X10 X11 X12 X13 f16) else X14)
          ∗ (∃ f, (c : Thread nD τ).loc cc0_scratch0 ↦{fullShare} f)
          ∗ ((c : Thread nD τ).loc cc0_scratch1 ↦{fullShare} accNew (arg0 == 0#32) (T1 (ValueIdx.ix1 ⟨arg0.toNat, inRange hchk⟩)) X3 X4 X5 X6 X7 X8 X9 X10 X11 X12 X13 f16)
          ∗ owes (c : Thread nD τ) 0 W) -∗ Q ⟨⟩))
    ⊢ wp frame (wpE (defs₀ (F := F)) Variants.none c none) Set.univ (cc0_moe_nf4 (F := F) b i arg0 (Memref.whole main_v29) (Memref.isWhole_whole _) (Memref.whole main_v16) (Memref.isWhole_whole _) arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) Q := by
  unfold owns
  iintro ⟨HT1, HT2, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%g11, %hg11, H11⟩, ⟨%g12, %hg12, H12⟩, ⟨%g13, %hg13, H13⟩, ⟨%g14, %hg14, H14⟩, H15, H16, HO, Hk⟩
  subst hg3
  subst hg4
  subst hg5
  subst hg6
  subst hg7
  subst hg8
  subst hg9
  subst hg10
  subst hg11
  subst hg12
  subst hg13
  subst hg14
  iapply (kernelRun c b i arg0 (Memref.whole main_v29) (Memref.isWhole_whole _) (Memref.whole main_v16) (Memref.isWhole_whole _) arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _) T1 T2 g3 g4 g5 g6 g7 g8 g9 g10 g11 g12 g13 g14 f15 f16 W hchk)
  unfold ptq pt
  simp only [Memref.view_whole, View.set_whole, View.read_whole]
  isplitl [HT1]; · iexact HT1
  isplitl [HT2]; · iexact HT2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HO]; · iexact HO
  iintro ⟨HT1, HT2, H3, H4, H5, H6, H7, H8, H9, H10, H11, H12, H13, H15, ⟨%f, %g, %hfg, H16, H14⟩, HO⟩
  obtain ⟨hf, hg⟩ := hfg

  iapply Hk
  isplitl [HT1]; · iexact HT1
  isplitl [HT2]; · iexact HT2
  isplitl [H3]; · (iexists _; isplitr; swap; (· iexact H3); ipureintro; rfl)
  isplitl [H4]; · (iexists _; isplitr; swap; (· iexact H4); ipureintro; rfl)
  isplitl [H5]; · (iexists _; isplitr; swap; (· iexact H5); ipureintro; rfl)
  isplitl [H6]; · (iexists _; isplitr; swap; (· iexact H6); ipureintro; rfl)
  isplitl [H7]; · (iexists _; isplitr; swap; (· iexact H7); ipureintro; rfl)
  isplitl [H8]; · (iexists _; isplitr; swap; (· iexact H8); ipureintro; rfl)
  isplitl [H9]; · (iexists _; isplitr; swap; (· iexact H9); ipureintro; rfl)
  isplitl [H10]; · (iexists _; isplitr; swap; (· iexact H10); ipureintro; rfl)
  isplitl [H11]; · (iexists _; isplitr; swap; (· iexact H11); ipureintro; rfl)
  isplitl [H12]; · (iexists _; isplitr; swap; (· iexact H12); ipureintro; rfl)
  isplitl [H13]; · (iexists _; isplitr; swap; (· iexact H13); ipureintro; rfl)
  isplitl [H14]
  · iexists _; isplitr; swap; (· iexact H14); ipureintro; rw [hg, hf]
  isplitl [H15]; · iexact H15
  isplitl [H16]; · rw [← hf]; iexact H16
  iexact HO

end Cert.KernelIdeal.Step

end
-- ==== Proof.HostOps.lean ====
/-
  The host's operations before the kernel, stretch by stretch: which buffers each stretch writes, and the functions of
  the arguments that they compute.
-/
module

public import proofs.«01_k».proof.Proof.Gen.KernelIdeal.Launch
public import Idealize.ShloMosaic.Lib.StableHlo.Run
public import Idealize.ShloMosaic.Lib.Pipeline.Frame

@[expose] public section

set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## The functions the host computes -/

/-- Which experts some token picks. -/
def used (ids : IVec S96x1x6 32) : IVec S64 1 :=
  Host.reduce IntOp.ori (cmpi .eq (broadcastInDim S576x64 ![0, 1] bcast_S576x1_S576x64_0_1
      (broadcastInDim S576x1 ![0] bcast_S576_S576x1_0 (shapeCast S576 (shapeCast S96x6 ids shapeCasts_S96x1x6_S96x6) shapeCasts_S96x6_S576)))
    (broadcastInDim S576x64 ![0, 1] bcast_S1x64_S576x64_0_1 (broadcastInDim S1x64 ![1] bcast_S64_S1x64_1 (iotaInDim S64 32 0))))
    (constantI S_ 1 0#1) reducesTo_S576x64_S64_d0 h_S_

/-- A used expert's place among the used ones (the running count, less one). -/
def rank (u : IVec S64 1) : IVec S64 32 :=
  subi (Host.reduceWindow IntOp.addi ![64] ![1] ![63] ![0] (extui 32 u natLt_1_32)
      (broadcastInDim S_ ![] bcast_S_S_ (constantI S_ 32 0#32)) reduceWindows_S64_S64_w64s1p63_0 h_S_)
    (broadcastInDim S64 ![] bcast_S_S64 (constantI S_ 32 1#32))

/-- How many experts are used. -/
def nAct (u : IVec S64 1) : IVec S1 32 :=
  addi (extractStridedSlice S1 ![63] (rank u) slices_S64_S1_63) (broadcastInDim S1 ![] bcast_S_S1 (constantI S_ 32 1#32))

/-- Row `s`, column `e`: expert `e` is the `s`-th of the used ones. -/
def hit (u : IVec S64 1) : IVec S64x64 1 :=
  andi (broadcastInDim S64x64 ![0, 1] bcast_S1x64_S64x64_0_1 (broadcastInDim S1x64 ![1] bcast_S64_S1x64_1 u))
    (cmpi .eq (broadcastInDim S64x64 ![0, 1] bcast_S1x64_S64x64_0_1 (broadcastInDim S1x64 ![1] bcast_S64_S1x64_1 (rank u)))
      (broadcastInDim S64x64 ![0, 1] bcast_S64x1_S64x64_0_1 (broadcastInDim S64x1 ![0] bcast_S64_S64x1_0 (iotaInDim S64 32 0))))

/-- The used experts in increasing order, then zeros. -/
def act (u : IVec S64 1) : IVec S64 32 :=
  Host.reduce IntOp.addi (select (hit u)
      (broadcastInDim S64x64 ![0, 1] bcast_S1x64_S64x64_0_1 (broadcastInDim S1x64 ![1] bcast_S64_S1x64_1 (iotaInDim S64 32 0)))
      (broadcastInDim S64x64 ![] bcast_S_S64x64 (id (constantI S_ 32 0#32))))
    (constantI S_ 32 0#32) reducesTo_S64x64_S64_d1 h_S_

/-- Each entry divided by `c`, rounded down. -/
def floorDiv (x : IVec S128 32) (c : IVec S_ 32) : IVec S128 32 :=
  select (andi (cmpi .ne (signi x) (broadcastInDim S128 ![] bcast_S_S128 (signi c)))
      (cmpi .ne (Host.remsi x (broadcastInDim S128 ![] bcast_S_S128 c)) (broadcastInDim S128 ![] bcast_S_S128 (constantI S_ 32 0#32))))
    (subi (Host.divsi x (broadcastInDim S128 ![] bcast_S_S128 c)) (broadcastInDim S128 ![] bcast_S_S128 (constantI S_ 32 1#32)))
    (Host.divsi x (broadcastInDim S128 ![] bcast_S_S128 c))

/-- Each entry's remainder by `c`, of the sign of `c` (by 1 where `c` is 0). -/
def floorMod (x : IVec S128 32) (c : IVec S_ 32) : IVec S128 32 :=
  have c' : IVec S_ 32 := select (cmpi .eq c (constantI S_ 32 0#32)) (constantI S_ 32 1#32) c
  have r : IVec S128 32 := Host.remsi x (broadcastInDim S128 ![] bcast_S_S128 c')
  select (andi (cmpi .ne (cmpi .slt r (broadcastInDim S128 ![] bcast_S_S128 (constantI S_ 32 0#32)))
        (broadcastInDim S128 ![] bcast_S_S128 (cmpi .slt c' (constantI S_ 32 0#32))))
      (cmpi .ne r (broadcastInDim S128 ![] bcast_S_S128 (constantI S_ 32 0#32))))
    (addi r (broadcastInDim S128 ![] bcast_S_S128 c')) r

/-- The place, among 128 codes, of each row of decoded weights. -/
def order : IVec S128 32 :=
  addi (addi (addi
      (muli (broadcastInDim S128 ![] bcast_S_S128 (constantI S_ 32 64#32)) (floorDiv (iotaInDim S128 32 0) (constantI S_ 32 64#32)))
      (muli (broadcastInDim S128 ![] bcast_S_S128 (constantI S_ 32 8#32))
        (floorDiv (floorMod (iotaInDim S128 32 0) (constantI S_ 32 16#32)) (constantI S_ 32 2#32))))
      (muli (broadcastInDim S128 ![] bcast_S_S128 (constantI S_ 32 4#32)) (floorMod (iotaInDim S128 32 0) (constantI S_ 32 2#32))))
    (floorDiv (floorMod (iotaInDim S128 32 0) (constantI S_ 32 64#32)) (constantI S_ 32 16#32))

/-- The 128 by 128 matrix that takes hidden columns to the order of the decoded rows. -/
def perm : FVec F S128x128 .bf16 :=
  uitofp .bf16 (cmpi .eq
    (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 order)))

/-- The activations, their columns in the order of the decoded rows. -/
def xPerm (x : FVec F S96x1x2048 .bf16) : FVec F S96x2048 .bf16 :=
  shapeCast S96x2048 (transpose S96x32x4x8x2 [0, 1, 4, 2, 3] (shapeCast S96x32x8x2x4 x shapeCasts_S96x1x2048_S96x32x8x2x4)
    transposes_S96x32x8x2x4_S96x32x4x8x2_0_1_4_2_3) shapeCasts_S96x32x4x8x2_S96x2048

/-- The sixteen values, padded to 128 lanes and laid over 64 rows. -/
def table : FVec F S64x128 .f32 :=
  broadcastInDim S64x128 ![0, 1] bcast_S1x128_S64x128_0_1 (broadcastInDim S1x128 ![1] bcast_S128_S1x128_1
    (pad S128 ![0] ![112] ![0] ((fun i => FloatOps.ofBits .f32 (lit0 (S16.rowMajor i))) : FVec F S16 .f32)
      (sitofp .f32 (constantI S_ 32 0#32) : FVec F S_ .f32) pads_S16_S128_01120 h_S_))

/-! ## The stretches -/

/-- The contents after stretch 0. -/
def V0 (V : Valuation τ sig (Elt F)) : Valuation τ sig (Elt F) := after hostOps0 V

/-- The buffers stretch 0 writes. -/
abbrev outs0 : List (Ref sig .tc) := [main_cst, main_v0, main_v1, main_v2, main_v3, main_v4, main_v5, main_v6, main_v7, main_v8, main_c, main_v9, main_v10]

set_option maxRecDepth 8192 in
theorem writes0 : (hostOps0 : List (HloOp τ sig (Elt F))).Forall fun op => op.writes ⊆ (outs0.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh0 : (hostOps0 : List (HloOp τ sig (Elt F))).Forall fun op => op.fresh = ∅ := by
  simp only [List.Forall]
  exact ⟨rfl, rfl, rfl, rfl, rfl, rfl, rfl, rfl, rfl, rfl, rfl, rfl, rfl⟩

theorem keep0 (V : Valuation τ sig (Elt F)) (r : Ref sig .tc) (h : r ∉ outs0) :
    V0 V (Proc.devRef .tc r) = V (Proc.devRef .tc r) :=
  after_of_writes_sub hostOps0 _ writes0 h

/-- The contents after stretch 1. -/
def V1 (V : Valuation τ sig (Elt F)) : Valuation τ sig (Elt F) := after hostOps0_1 (V0 V)

/-- The buffers stretch 1 writes. -/
abbrev outs1 : List (Ref sig .tc) := [main_call0_call0_c, main_call0_call0_v0, main_v11]

set_option maxRecDepth 8192 in
theorem writes1 : (hostOps0_1 : List (HloOp τ sig (Elt F))).Forall fun op => op.writes ⊆ (outs1.map (Proc.devRef (τ := τ) .tc)).toFinset := by
  simp only [List.Forall]
  refine ⟨?_, ?_, ?_⟩ <;>
    (simp only [nullary_writes, unary_writes, binary_writes, ternary_writes, reshape_writes, Finset.singleton_subset_iff, List.mem_toFinset]; exact List.mem_map_of_mem (by decide))

theorem fresh1 : (hostOps0_1 : List (HloOp τ sig (Elt F))).Forall fun op => op.fresh = ∅ := by
  simp only [List.Forall]
  exact ⟨rfl, rfl, rfl⟩

theorem keep1 (V : Valuation τ sig (Elt F)) (r : Ref sig .tc) (h : r ∉ outs1) :
    V1 V (Proc.devRef .tc r) = V0 V (Proc.devRef .tc r) :=
  after_of_writes_sub hostOps0_1 _ writes1 h

/-- The contents after stretch 2. -/
def V2 (V : Valuation τ sig (Elt F)) : Valuation τ sig (Elt F) := after hostOps0_2 (V1 V)

/-- The buffers stretch 2 writes. -/
abbrev outs2 : List (Ref sig .tc) := [main_c_0, main_v12, main_v13, main_v14, main_c_1, main_v15, main_v16, main_v17, main_v18, main_v19, main_v20, main_v21, main_v22, main_v23, main_v24, main_v25, main_v26, main_v27, main_c_2]

set_option maxRecDepth 8192 in
theorem writes2 : (hostOps0_2 : List (HloOp τ sig (Elt F))).Forall fun op => op.writes ⊆ (outs2.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh2 : (hostOps0_2 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl⟩

theorem keep2 (V : Valuation τ sig (Elt F)) (r : Ref sig .tc) (h : r ∉ outs2) :
    V2 V (Proc.devRef .tc r) = V1 V (Proc.devRef .tc r) :=
  after_of_writes_sub hostOps0_2 _ writes2 h

/-- The contents after stretch 3. -/
def V3 (V : Valuation τ sig (Elt F)) : Valuation τ sig (Elt F) := after hostOps0_3 (V2 V)

/-- The buffers stretch 3 writes. -/
abbrev outs3 : List (Ref sig .tc) := [main_call1_v0, main_call1_v1, main_call1_v2, main_v28]

set_option maxRecDepth 8192 in
theorem writes3 : (hostOps0_3 : List (HloOp τ sig (Elt F))).Forall fun op => op.writes ⊆ (outs3.map (Proc.devRef (τ := τ) .tc)).toFinset := by
  simp only [List.Forall]
  refine ⟨?_, ?_, ?_, ?_⟩ <;>
    (simp only [nullary_writes, unary_writes, binary_writes, ternary_writes, reshape_writes, Finset.singleton_subset_iff, List.mem_toFinset]; exact List.mem_map_of_mem (by decide))

theorem fresh3 : (hostOps0_3 : List (HloOp τ sig (Elt F))).Forall fun op => op.fresh = ∅ := by
  simp only [List.Forall]
  exact ⟨rfl, rfl, rfl, rfl⟩

theorem keep3 (V : Valuation τ sig (Elt F)) (r : Ref sig .tc) (h : r ∉ outs3) :
    V3 V (Proc.devRef .tc r) = V2 V (Proc.devRef .tc r) :=
  after_of_writes_sub hostOps0_3 _ writes3 h

/-- The contents after stretch 4. -/
def V4 (V : Valuation τ sig (Elt F)) : Valuation τ sig (Elt F) := after hostOps0_4 (V3 V)

/-- The buffers stretch 4 writes. -/
abbrev outs4 : List (Ref sig .tc) := [main_c_3, main_v29, main_v30, main_v31, main_v32, main_v33, main_c_4]

set_option maxRecDepth 8192 in
theorem writes4 : (hostOps0_4 : List (HloOp τ sig (Elt F))).Forall fun op => op.writes ⊆ (outs4.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]; exact List.mem_map_of_mem (by decide))

theorem fresh4 : (hostOps0_4 : List (HloOp τ sig (Elt F))).Forall fun op => op.fresh = ∅ := by
  simp only [List.Forall]
  exact ⟨rfl, rfl, rfl, rfl, rfl, rfl, rfl⟩

theorem keep4 (V : Valuation τ sig (Elt F)) (r : Ref sig .tc) (h : r ∉ outs4) :
    V4 V (Proc.devRef .tc r) = V3 V (Proc.devRef .tc r) :=
  after_of_writes_sub hostOps0_4 _ writes4 h

/-- The contents after stretch 5. -/
def V5 (V : Valuation τ sig (Elt F)) : Valuation τ sig (Elt F) := after hostOps0_5 (V4 V)

/-- The buffers stretch 5 writes. -/
abbrev outs5 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v34]

set_option maxRecDepth 8192 in
theorem writes5 : (hostOps0_5 : List (HloOp τ sig (Elt F))).Forall fun op => op.writes ⊆ (outs5.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh5 : (hostOps0_5 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl⟩

theorem keep5 (V : Valuation τ sig (Elt F)) (r : Ref sig .tc) (h : r ∉ outs5) :
    V5 V (Proc.devRef .tc r) = V4 V (Proc.devRef .tc r) :=
  after_of_writes_sub hostOps0_5 _ writes5 h

/-- The contents after stretch 6. -/
def V6 (V : Valuation τ sig (Elt F)) : Valuation τ sig (Elt F) := after hostOps0_6 (V5 V)

/-- The buffers stretch 6 writes. -/
abbrev outs6 : List (Ref sig .tc) := [main_c_5]

set_option maxRecDepth 8192 in
theorem writes6 : (hostOps0_6 : List (HloOp τ sig (Elt F))).Forall fun op => op.writes ⊆ (outs6.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh6 : (hostOps0_6 : List (HloOp τ sig (Elt F))).Forall fun op => op.fresh = ∅ := by
  simp only [List.Forall]
  rfl

theorem keep6 (V : Valuation τ sig (Elt F)) (r : Ref sig .tc) (h : r ∉ outs6) :
    V6 V (Proc.devRef .tc r) = V5 V (Proc.devRef .tc r) :=
  after_of_writes_sub hostOps0_6 _ writes6 h

/-- The contents after stretch 7. -/
def V7 (V : Valuation τ sig (Elt F)) : Valuation τ sig (Elt F) := after hostOps0_7 (V6 V)

/-- The buffers stretch 7 writes. -/
abbrev outs7 : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v35]

set_option maxRecDepth 8192 in
theorem writes7 : (hostOps0_7 : List (HloOp τ sig (Elt F))).Forall fun op => op.writes ⊆ (outs7.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh7 : (hostOps0_7 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl⟩

theorem keep7 (V : Valuation τ sig (Elt F)) (r : Ref sig .tc) (h : r ∉ outs7) :
    V7 V (Proc.devRef .tc r) = V6 V (Proc.devRef .tc r) :=
  after_of_writes_sub hostOps0_7 _ writes7 h

/-- The contents after stretch 8. -/
def V8 (V : Valuation τ sig (Elt F)) : Valuation τ sig (Elt F) := after hostOps0_8 (V7 V)

/-- The buffers stretch 8 writes. -/
abbrev outs8 : List (Ref sig .tc) := [main_c_6]

set_option maxRecDepth 8192 in
theorem writes8 : (hostOps0_8 : List (HloOp τ sig (Elt F))).Forall fun op => op.writes ⊆ (outs8.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh8 : (hostOps0_8 : List (HloOp τ sig (Elt F))).Forall fun op => op.fresh = ∅ := by
  simp only [List.Forall]
  rfl

theorem keep8 (V : Valuation τ sig (Elt F)) (r : Ref sig .tc) (h : r ∉ outs8) :
    V8 V (Proc.devRef .tc r) = V7 V (Proc.devRef .tc r) :=
  after_of_writes_sub hostOps0_8 _ writes8 h

/-- The contents after stretch 9. -/
def V9 (V : Valuation τ sig (Elt F)) : Valuation τ sig (Elt F) := after hostOps0_9 (V8 V)

/-- The buffers stretch 9 writes. -/
abbrev outs9 : List (Ref sig .tc) := [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v36]

set_option maxRecDepth 8192 in
theorem writes9 : (hostOps0_9 : List (HloOp τ sig (Elt F))).Forall fun op => op.writes ⊆ (outs9.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh9 : (hostOps0_9 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl⟩

theorem keep9 (V : Valuation τ sig (Elt F)) (r : Ref sig .tc) (h : r ∉ outs9) :
    V9 V (Proc.devRef .tc r) = V8 V (Proc.devRef .tc r) :=
  after_of_writes_sub hostOps0_9 _ writes9 h

/-- The contents after stretch 10. -/
def V10 (V : Valuation τ sig (Elt F)) : Valuation τ sig (Elt F) := after hostOps0_10 (V9 V)

/-- The buffers stretch 10 writes. -/
abbrev outs10 : List (Ref sig .tc) := [main_c_7]

set_option maxRecDepth 8192 in
theorem writes10 : (hostOps0_10 : List (HloOp τ sig (Elt F))).Forall fun op => op.writes ⊆ (outs10.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh10 : (hostOps0_10 : List (HloOp τ sig (Elt F))).Forall fun op => op.fresh = ∅ := by
  simp only [List.Forall]
  rfl

theorem keep10 (V : Valuation τ sig (Elt F)) (r : Ref sig .tc) (h : r ∉ outs10) :
    V10 V (Proc.devRef .tc r) = V9 V (Proc.devRef .tc r) :=
  after_of_writes_sub hostOps0_10 _ writes10 h

/-- The contents after stretch 11. -/
def V11 (V : Valuation τ sig (Elt F)) : Valuation τ sig (Elt F) := after hostOps0_11 (V10 V)

/-- The buffers stretch 11 writes. -/
abbrev outs11 : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v37]

set_option maxRecDepth 8192 in
theorem writes11 : (hostOps0_11 : List (HloOp τ sig (Elt F))).Forall fun op => op.writes ⊆ (outs11.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh11 : (hostOps0_11 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl⟩

theorem keep11 (V : Valuation τ sig (Elt F)) (r : Ref sig .tc) (h : r ∉ outs11) :
    V11 V (Proc.devRef .tc r) = V10 V (Proc.devRef .tc r) :=
  after_of_writes_sub hostOps0_11 _ writes11 h

/-- The contents after stretch 12. -/
def V12 (V : Valuation τ sig (Elt F)) : Valuation τ sig (Elt F) := after hostOps0_12 (V11 V)

/-- The buffers stretch 12 writes. -/
abbrev outs12 : List (Ref sig .tc) := [main_c_8]

set_option maxRecDepth 8192 in
theorem writes12 : (hostOps0_12 : List (HloOp τ sig (Elt F))).Forall fun op => op.writes ⊆ (outs12.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh12 : (hostOps0_12 : List (HloOp τ sig (Elt F))).Forall fun op => op.fresh = ∅ := by
  simp only [List.Forall]
  rfl

theorem keep12 (V : Valuation τ sig (Elt F)) (r : Ref sig .tc) (h : r ∉ outs12) :
    V12 V (Proc.devRef .tc r) = V11 V (Proc.devRef .tc r) :=
  after_of_writes_sub hostOps0_12 _ writes12 h

/-- The contents after stretch 13. -/
def V13 (V : Valuation τ sig (Elt F)) : Valuation τ sig (Elt F) := after hostOps0_13 (V12 V)

/-- The buffers stretch 13 writes. -/
abbrev outs13 : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v38]

set_option maxRecDepth 8192 in
theorem writes13 : (hostOps0_13 : List (HloOp τ sig (Elt F))).Forall fun op => op.writes ⊆ (outs13.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh13 : (hostOps0_13 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl⟩

theorem keep13 (V : Valuation τ sig (Elt F)) (r : Ref sig .tc) (h : r ∉ outs13) :
    V13 V (Proc.devRef .tc r) = V12 V (Proc.devRef .tc r) :=
  after_of_writes_sub hostOps0_13 _ writes13 h

/-- The contents after stretch 14. -/
def V14 (V : Valuation τ sig (Elt F)) : Valuation τ sig (Elt F) := after hostOps0_14 (V13 V)

/-- The buffers stretch 14 writes. -/
abbrev outs14 : List (Ref sig .tc) := [main_c_9]

set_option maxRecDepth 8192 in
theorem writes14 : (hostOps0_14 : List (HloOp τ sig (Elt F))).Forall fun op => op.writes ⊆ (outs14.map (Proc.devRef (τ := τ) .tc)).toFinset := by
  simp only [List.Forall]
  (simp only [nullary_writes, unary_writes, binary_writes, ternary_writes, reshape_writes, Finset.singleton_subset_iff, List.mem_toFinset]; exact List.mem_map_of_mem (by decide))

theorem fresh14 : (hostOps0_14 : List (HloOp τ sig (Elt F))).Forall fun op => op.fresh = ∅ := by
  simp only [List.Forall]
  rfl

theorem keep14 (V : Valuation τ sig (Elt F)) (r : Ref sig .tc) (h : r ∉ outs14) :
    V14 V (Proc.devRef .tc r) = V13 V (Proc.devRef .tc r) :=
  after_of_writes_sub hostOps0_14 _ writes14 h

/-- The contents after stretch 15. -/
def V15 (V : Valuation τ sig (Elt F)) : Valuation τ sig (Elt F) := after hostOps0_15 (V14 V)

/-- The buffers stretch 15 writes. -/
abbrev outs15 : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v39]

set_option maxRecDepth 8192 in
theorem writes15 : (hostOps0_15 : List (HloOp τ sig (Elt F))).Forall fun op => op.writes ⊆ (outs15.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh15 : (hostOps0_15 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl⟩

theorem keep15 (V : Valuation τ sig (Elt F)) (r : Ref sig .tc) (h : r ∉ outs15) :
    V15 V (Proc.devRef .tc r) = V14 V (Proc.devRef .tc r) :=
  after_of_writes_sub hostOps0_15 _ writes15 h

/-- The contents after stretch 16. -/
def V16 (V : Valuation τ sig (Elt F)) : Valuation τ sig (Elt F) := after hostOps0_16 (V15 V)

/-- The buffers stretch 16 writes. -/
abbrev outs16 : List (Ref sig .tc) := [main_c_10, main_v40, main_v41, main_c_11, main_v42, main_v43, main_v44, main_c_12, main_v45, main_v46, main_v47, main_v48, main_v49, main_v50, main_v51, main_v52, main_v53, main_v54, main_v55, main_c_13]

set_option maxRecDepth 8192 in
theorem writes16 : (hostOps0_16 : List (HloOp τ sig (Elt F))).Forall fun op => op.writes ⊆ (outs16.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

theorem fresh16 : (hostOps0_16 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl⟩

theorem keep16 (V : Valuation τ sig (Elt F)) (r : Ref sig .tc) (h : r ∉ outs16) :
    V16 V (Proc.devRef .tc r) = V15 V (Proc.devRef .tc r) :=
  after_of_writes_sub hostOps0_16 _ writes16 h

/-- The contents after stretch 17. -/
def V17 (V : Valuation τ sig (Elt F)) : Valuation τ sig (Elt F) := after hostOps0_17 (V16 V)

/-- The buffers stretch 17 writes. -/
abbrev outs17 : List (Ref sig .tc) := [main_call8_v0, main_v56]

set_option maxRecDepth 8192 in
theorem writes17 : (hostOps0_17 : List (HloOp τ sig (Elt F))).Forall fun op => op.writes ⊆ (outs17.map (Proc.devRef (τ := τ) .tc)).toFinset := by
  simp only [List.Forall]
  refine ⟨?_, ?_⟩ <;>
    (simp only [nullary_writes, unary_writes, binary_writes, ternary_writes, reshape_writes, Finset.singleton_subset_iff, List.mem_toFinset]; exact List.mem_map_of_mem (by decide))

theorem fresh17 : (hostOps0_17 : List (HloOp τ sig (Elt F))).Forall fun op => op.fresh = ∅ := by
  simp only [List.Forall]
  exact ⟨rfl, rfl⟩

theorem keep17 (V : Valuation τ sig (Elt F)) (r : Ref sig .tc) (h : r ∉ outs17) :
    V17 V (Proc.devRef .tc r) = V16 V (Proc.devRef .tc r) :=
  after_of_writes_sub hostOps0_17 _ writes17 h

/-- The contents after stretch 18. -/
def V18 (V : Valuation τ sig (Elt F)) : Valuation τ sig (Elt F) := after hostOps0_18 (V17 V)

/-- The buffers stretch 18 writes. -/
abbrev outs18 : List (Ref sig .tc) := [main_v57, main_v58, main_v59, main_v60, main_v61, main_v62, main_v63]

set_option maxRecDepth 8192 in
theorem writes18 : (hostOps0_18 : List (HloOp τ sig (Elt F))).Forall fun op => op.writes ⊆ (outs18.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]; exact List.mem_map_of_mem (by decide))

theorem fresh18 : (hostOps0_18 : List (HloOp τ sig (Elt F))).Forall fun op => op.fresh = ∅ := by
  simp only [List.Forall]
  exact ⟨rfl, rfl, rfl, rfl, rfl, rfl, rfl⟩

theorem keep18 (V : Valuation τ sig (Elt F)) (r : Ref sig .tc) (h : r ∉ outs18) :
    V18 V (Proc.devRef .tc r) = V17 V (Proc.devRef .tc r) :=
  after_of_writes_sub hostOps0_18 _ writes18 h

/-- The contents before the kernel. -/
abbrev val (V : Valuation τ sig (Elt F)) : Valuation τ sig (Elt F) := V18 V

/-- The host's operations, in order. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

theorem after_opss (V : Valuation τ sig (Elt F)) : after opss.flatten V = val V := by
  simp only [opss, List.flatten_cons, List.flatten_nil, List.append_nil, after_append]
  rfl

/-- The buffers the host's operations write. -/
abbrev outs : List (Ref sig .tc) := outs0 ++ outs1 ++ outs2 ++ outs3 ++ outs4 ++ outs5 ++ outs6 ++ outs7 ++ outs8 ++ outs9 ++ outs10 ++ outs11 ++ outs12 ++ outs13 ++ outs14 ++ outs15 ++ outs16 ++ outs17 ++ outs18

theorem keep (V : Valuation τ sig (Elt F)) (r : Ref sig .tc) (h : r ∉ outs) : val V (Proc.devRef .tc r) = V (Proc.devRef .tc r) := by
  simp only [outs, List.mem_append, not_or] at h
  unfold val; rw [keep18 V r (by tauto)]
  rw [keep17 V r (by tauto)]
  rw [keep16 V r (by tauto)]
  rw [keep15 V r (by tauto)]
  rw [keep14 V r (by tauto)]
  rw [keep13 V r (by tauto)]
  rw [keep12 V r (by tauto)]
  rw [keep11 V r (by tauto)]
  rw [keep10 V r (by tauto)]
  rw [keep9 V r (by tauto)]
  rw [keep8 V r (by tauto)]
  rw [keep7 V r (by tauto)]
  rw [keep6 V r (by tauto)]
  rw [keep5 V r (by tauto)]
  rw [keep4 V r (by tauto)]
  rw [keep3 V r (by tauto)]
  rw [keep2 V r (by tauto)]
  rw [keep1 V r (by tauto)]
  rw [keep0 V r (by tauto)]

end Cert.KernelIdeal.Host

end
-- ==== Proof.Act.lean ====
/-
  The list of used experts the host builds: the count of used experts, and the `s`-th used expert at place `s`.
-/
module

public import proofs.«01_k».proof.Proof.HostOps
public import Idealize.ShloMosaic.Lib.Routing.Ops

@[expose] public section

noncomputable section

namespace Cert.KernelIdeal.Host

open Cert.KernelIdeal Cert.KernelIdeal.Gen Idealize.ShloMosaic Idealize.ShloMosaic.ValueIdx Idealize.ShloMosaic.Routing

/-- Expert `e` is used. -/
def Used (u : IVec S64 1) (e : Nat) : Prop := ∃ h : e < 64, u (ix1 (⟨e, h⟩ : Fin 64)) = 1#1

instance (u : IVec S64 1) : DecidablePred (Used u) := fun e => by unfold Used; infer_instance

/-- How many experts are used. -/
def cnt (u : IVec S64 1) : Nat := Nat.count (Used u) 64

theorem cnt_le (u : IVec S64 1) : cnt u ≤ 64 := Nat.count_le _

theorem used_iff (u : IVec S64 1) (e : Fin 64) : Used u e.val ↔ u (ix1 e) = 1#1 :=
  ⟨fun ⟨_, h⟩ => h, fun h => ⟨e.isLt, h⟩⟩

theorem sum_range_count (P : Nat → Prop) [DecidablePred P] (n : Nat) :
    ((List.range n).map fun i => if P i then 1 else 0).sum = Nat.count P n := by
  induction n with
  | zero => rfl
  | succ n ih => rw [List.range_succ, List.map_append, List.sum_append, ih, Nat.count_succ]; simp

/-- An expert's place is the number of used experts up to it, less one. -/
theorem rank_apply (u : IVec S64 1) (e : Fin 64) : rank u (ix1 e) = BitVec.ofNat 32 (Nat.count (Used u) (e.val + 1)) - 1#32 := by
  have h := cumsum1 (N := 64) (Nm1 := 63) rfl (extui 32 u natLt_1_32) (fun i => if Used u i then 1 else 0)
    (fun i => by
      have := used_iff u i
      show (u (ix1 i)).setWidth 32 = _
      by_cases hu : u (ix1 i) = 1#1
      · rw [if_pos (this.2 hu), hu]; rfl
      · rw [if_neg (fun h => hu (this.1 h))]
        have h0 : u (ix1 i) = 0#1 := by
          generalize u (ix1 i) = b at hu; revert hu; revert b; decide
        rw [h0]; rfl)
    (broadcastInDim S_ ![] bcast_S_S_ (constantI S_ 32 0#32)) rfl reduceWindows_S64_S64_w64s1p63_0 h_S_ e
  rw [sum_range_count] at h
  exact congrArg (fun x => x - 1#32) h

/-- The number of used experts, as the host computes it. -/
theorem nAct_apply (u : IVec S64 1) (i : S1.Idx) : nAct u i = BitVec.ofNat 32 (cnt u) := by
  have h : nAct u i = rank u (ix1 (63 : Fin 64)) + 1#32 := by
    refine congrArg (fun x => x + 1#32) ?_
    show rank u _ = _
    refine congrArg (rank u) (funext fun a => Fin.ext ?_)
    match a with
    | ⟨0, _⟩ =>
      have := (i 0).isLt
      have h1 : (i 0).val = 0 := Nat.lt_one_iff.1 this
      show 63 + (i 0).val = 63
      rw [h1]
  rw [h, rank_apply, BitVec.sub_add_cancel]
  rfl

/-- Expert `e` is marked at place `s` exactly when it is used and `s` used experts come before it. -/
theorem hit_apply (u : IVec S64 1) (s e : Fin 64) :
    hit u (ix2 s e) = 1#1 ↔ Used u e.val ∧ Nat.count (Used u) e.val = s.val := by
  have h : hit u (ix2 s e) = IntOp.andi (u (ix1 e)) (IntOp.cmpi .eq (rank u (ix1 e)) (BitVec.ofNat 32 s.val)) := by
    unfold hit andi cmpi
    rw [show broadcastInDim S64x64 ![0, 1] bcast_S1x64_S64x64_0_1 (broadcastInDim S1x64 ![1] bcast_S64_S1x64_1 u) (ix2 s e) = u (ix1 e)
        from bcCols (n := 64) (m := 64) bcast_S64_S1x64_1 bcast_S1x64_S64x64_0_1 u s e,
      show broadcastInDim S64x64 ![0, 1] bcast_S1x64_S64x64_0_1 (broadcastInDim S1x64 ![1] bcast_S64_S1x64_1 (rank u)) (ix2 s e) = rank u (ix1 e)
        from bcCols (n := 64) (m := 64) bcast_S64_S1x64_1 bcast_S1x64_S64x64_0_1 (rank u) s e,
      show broadcastInDim S64x64 ![0, 1] bcast_S64x1_S64x64_0_1 (broadcastInDim S64x1 ![0] bcast_S64_S64x1_0 (iotaInDim S64 32 0)) (ix2 s e)
          = BitVec.ofNat 32 s.val
        from bcRows (n := 64) (m := 64) bcast_S64_S64x1_0 bcast_S64x1_S64x64_0_1 (iotaInDim S64 32 0) s e]
  have hand : ∀ a b : BitVec 1, IntOp.andi a b = 1#1 ↔ a = 1#1 ∧ b = 1#1 := by decide
  have hcmp : ∀ x y : BitVec 32, IntOp.cmpi .eq x y = 1#1 ↔ x = y := fun x y => by
    show BitVec.ofBool (x == y) = 1#1 ↔ _
    by_cases hxy : x = y
    · simp [hxy]
    · rw [beq_false_of_ne hxy]; simp only [hxy, iff_false]; decide
  rw [h, hand, hcmp, rank_apply, ← used_iff]
  refine and_congr_right fun hu => ?_
  rw [Nat.count_succ, if_pos hu]
  have hc : Nat.count (Used u) e.val ≤ 64 := (Nat.count_le _).trans e.isLt.le
  have hs := s.isLt
  generalize Nat.count (Used u) e.val = n at hc
  constructor
  · intro hh
    have := congrArg BitVec.toNat hh
    simp only [BitVec.toNat_sub, BitVec.toNat_ofNat] at this
    omega
  · rintro rfl
    apply BitVec.eq_of_toNat_eq
    simp only [BitVec.toNat_sub, BitVec.toNat_ofNat]
    omega

/-- What row `s` of the marked experts sums. -/
def entry (u : IVec S64 1) (s e : Fin 64) : BitVec 32 := if Used u e.val ∧ Nat.count (Used u) e.val = s.val then BitVec.ofNat 32 e.val else 0#32

theorem act_sum (u : IVec S64 1) (s : Fin 64) : act u (ix1 s) = ∑ e : Fin 64, entry u s e := by
  have hred : S64x64.Reduces [1] S64 := by decide
  unfold act
  rw [Host.reduce_eq_fold_single IntOp.addi _ _ reducesTo_S64x64_S64_d1 hred h_S_ (ix1 s)]
  show Finset.fold (fun a b : BitVec 32 => a + b) 0#32 _ _ = _
  refine (Finset.sum_eq_fold (M := BitVec 32) _ _).symm.trans (Finset.sum_congr rfl fun e _ => ?_)
  have hl : hred.lift (ix1 s) e = ix2 s e := by
    funext a
    match a with
    | ⟨0, _⟩ => rfl
    | ⟨1, _⟩ => rfl
  show Function.comp _ (hred.lift (ix1 s)) e = _
  rw [Function.comp_apply, hl]
  unfold entry
  show (if hit u (ix2 s e) = 1#1 then broadcastInDim S64x64 ![0, 1] bcast_S1x64_S64x64_0_1 (broadcastInDim S1x64 ![1] bcast_S64_S1x64_1 (iotaInDim S64 32 0)) (ix2 s e) else _) = _
  rw [show broadcastInDim S64x64 ![0, 1] bcast_S1x64_S64x64_0_1 (broadcastInDim S1x64 ![1] bcast_S64_S1x64_1 (iotaInDim S64 32 0)) (ix2 s e)
      = BitVec.ofNat 32 e.val from bcCols (n := 64) (m := 64) bcast_S64_S1x64_1 bcast_S1x64_S64x64_0_1 (iotaInDim S64 32 0) s e]
  by_cases hh : Used u e.val ∧ Nat.count (Used u) e.val = s.val
  · rw [if_pos ((hit_apply u s e).2 hh), if_pos hh]
  · rw [if_neg (fun h => hh ((hit_apply u s e).1 h)), if_neg hh]; rfl

/-- A used expert with `s` used ones before it is the one listed at place `s`. -/
theorem act_of_used (u : IVec S64 1) (s e : Fin 64) (hu : Used u e.val) (hc : Nat.count (Used u) e.val = s.val) :
    act u (ix1 s) = BitVec.ofNat 32 e.val := by
  rw [act_sum, Finset.sum_eq_single e]
  · exact if_pos ⟨hu, hc⟩
  · intro e' _ hne
    refine if_neg fun ⟨hu', hc'⟩ => hne (Fin.ext ?_)
    exact Nat.count_injective hu' hu (hc'.trans hc.symm)
  · intro h; exact absurd (Finset.mem_univ e) h

/-- Every listed word is an expert. -/
theorem act_lt (u : IVec S64 1) (s : Fin 64) : (act u (ix1 s)).toNat < 64 := by
  by_cases h : ∃ e : Fin 64, Used u e.val ∧ Nat.count (Used u) e.val = s.val
  · obtain ⟨e, hu, hc⟩ := h
    rw [act_of_used u s e hu hc, BitVec.toNat_ofNat]
    have := e.isLt
    omega
  · rw [act_sum, Finset.sum_eq_zero (fun e _ => show entry u s e = 0 from if_neg fun hh => h ⟨e, hh⟩)]
    decide

end Cert.KernelIdeal.Host

end
-- ==== Proof.HostVals.lean ====
/-
  What the buffers the kernel reads hold after the host's operations, as functions of the arguments.
-/
module

public import proofs.«01_k».proof.Proof.HostOps
public import Idealize.ShloMosaic.Lib.StableHlo.Run
public import Idealize.ShloMosaic.Lib.Pipeline.Frame

@[expose] public section

set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 1400000 in
theorem at_main_v0 (V : Valuation τ sig (Elt F)) : V0 V (Proc.devRef .tc main_v0) = shapeCast S96x6 (V (Proc.devRef .tc main_arg1)) shapeCasts_S96x1x6_S96x6 := by
  unfold V0
  after_results_simp
  rfl

set_option maxRecDepth 8192 in
set_option maxHeartbeats 1400000 in
theorem at_main_v1 (V : Valuation τ sig (Elt F)) : V0 V (Proc.devRef .tc main_v1) = shapeCast S96x6 (V (Proc.devRef .tc main_arg2)) shapeCasts_S96x1x6_S96x6 := by
  unfold V0
  after_results_simp
  rfl

set_option maxRecDepth 8192 in
set_option maxHeartbeats 1400000 in
theorem at_main_v9 (V : Valuation τ sig (Elt F)) : V0 V (Proc.devRef .tc main_v9) = used (V (Proc.devRef .tc main_arg1)) := by
  unfold V0
  after_results_simp
  rfl

set_option maxRecDepth 8192 in
set_option maxHeartbeats 1400000 in
theorem at_main_cst (V : Valuation τ sig (Elt F)) : V0 V (Proc.devRef .tc main_cst) = ((fun i => FloatOps.ofBits .f32 (lit0 (S16.rowMajor i))) : FVec F S16 .f32) := by
  unfold V0
  after_results_simp
  rfl

set_option maxRecDepth 8192 in
set_option maxHeartbeats 1400000 in
theorem at_main_v10 (V : Valuation τ sig (Elt F)) : V0 V (Proc.devRef .tc main_v10) = extui 32 (used (V (Proc.devRef .tc main_arg1))) natLt_1_32 := by
  unfold V0
  after_results_simp
  rfl

set_option maxRecDepth 8192 in
set_option maxHeartbeats 1400000 in
theorem at_main_v11 (V : Valuation τ sig (Elt F)) : V1 V (Proc.devRef .tc main_v11) = Host.reduceWindow IntOp.addi ![64] ![1] ![63] ![0] (extui 32 (used (V (Proc.devRef .tc main_arg1))) natLt_1_32) (broadcastInDim S_ ![] bcast_S_S_ (constantI S_ 32 0#32)) reduceWindows_S64_S64_w64s1p63_0 h_S_ := by
  unfold V1
  simp only [hostOps0_1, TRef.nullary, TRef.unary, TRef.binary, TRef.ternary, TRef.toBuf, TRef.ofBuf, cast_eq]
  after_results_simp
  rw [at_main_v10] <;> rfl

set_option maxRecDepth 8192 in
set_option maxHeartbeats 1400000 in
theorem at_main_v16 (V : Valuation τ sig (Elt F)) : V2 V (Proc.devRef .tc main_v16) = nAct (used (V (Proc.devRef .tc main_arg1))) := by
  unfold V2
  after_results_simp
  rw [at_main_v11] <;> rfl

set_option maxRecDepth 8192 in
set_option maxHeartbeats 1400000 in
theorem at_main_v25 (V : Valuation τ sig (Elt F)) : V2 V (Proc.devRef .tc main_v25) = hit (used (V (Proc.devRef .tc main_arg1))) := by
  unfold V2
  after_results_simp
  rw [at_main_v11, keep1 _ main_v9 (by decide), at_main_v9] <;> rfl

set_option maxRecDepth 8192 in
set_option maxHeartbeats 1400000 in
theorem at_main_v27 (V : Valuation τ sig (Elt F)) : V2 V (Proc.devRef .tc main_v27) = broadcastInDim S1x64 ![1] bcast_S64_S1x64_1 (iotaInDim S64 32 0) := by
  unfold V2
  after_results_simp

set_option maxRecDepth 8192 in
set_option maxHeartbeats 1400000 in
theorem at_main_c_2 (V : Valuation τ sig (Elt F)) : V2 V (Proc.devRef .tc main_c_2) = constantI S_ 32 0#32 := by
  unfold V2
  after_results_simp

set_option maxRecDepth 8192 in
set_option maxHeartbeats 1400000 in
theorem at_main_v28 (V : Valuation τ sig (Elt F)) : V3 V (Proc.devRef .tc main_v28) = select (hit (used (V (Proc.devRef .tc main_arg1)))) (broadcastInDim S64x64 ![0, 1] bcast_S1x64_S64x64_0_1 (broadcastInDim S1x64 ![1] bcast_S64_S1x64_1 (iotaInDim S64 32 0))) (broadcastInDim S64x64 ![] bcast_S_S64x64 (id (constantI S_ 32 0#32))) := by
  unfold V3
  simp only [hostOps0_3, TRef.nullary, TRef.unary, TRef.binary, TRef.ternary, TRef.toBuf, TRef.ofBuf, cast_eq]
  after_results_simp
  rw [at_main_v25, at_main_v27, at_main_c_2] <;> rfl

set_option maxRecDepth 8192 in
set_option maxHeartbeats 1400000 in
theorem at_main_v29 (V : Valuation τ sig (Elt F)) : V4 V (Proc.devRef .tc main_v29) = act (used (V (Proc.devRef .tc main_arg1))) := by
  unfold V4
  after_results_simp
  rw [at_main_v28] <;> rfl

set_option maxRecDepth 8192 in
set_option maxHeartbeats 1400000 in
theorem at_main_v32 (V : Valuation τ sig (Elt F)) : V4 V (Proc.devRef .tc main_v32) = xPerm (V (Proc.devRef .tc main_arg0)) := by
  unfold V4
  after_results_simp
  rw [keep3 _ main_arg0 (by decide), keep2 _ main_arg0 (by decide), keep1 _ main_arg0 (by decide), keep0 _ main_arg0 (by decide)] <;> rfl

set_option maxRecDepth 8192 in
set_option maxHeartbeats 1400000 in
theorem at_main_v33 (V : Valuation τ sig (Elt F)) : V4 V (Proc.devRef .tc main_v33) = iotaInDim S128 32 0 := by
  unfold V4
  after_results_simp

set_option maxRecDepth 8192 in
set_option maxHeartbeats 1400000 in
theorem at_main_c_4 (V : Valuation τ sig (Elt F)) : V4 V (Proc.devRef .tc main_c_4) = constantI S_ 32 64#32 := by
  unfold V4
  after_results_simp

set_option maxRecDepth 8192 in
set_option maxHeartbeats 1400000 in
theorem at_main_v34 (V : Valuation τ sig (Elt F)) : V5 V (Proc.devRef .tc main_v34) = floorDiv (iotaInDim S128 32 0) (constantI S_ 32 64#32) := by
  unfold V5
  simp only [hostOps0_5, TRef.nullary, TRef.unary, TRef.binary, TRef.ternary, TRef.toBuf, TRef.ofBuf, cast_eq]
  after_results_simp
  rw [at_main_v33, at_main_c_4] <;> rfl

set_option maxRecDepth 8192 in
set_option maxHeartbeats 1400000 in
theorem at_main_c_5 (V : Valuation τ sig (Elt F)) : V6 V (Proc.devRef .tc main_c_5) = constantI S_ 32 64#32 := by
  unfold V6
  after_results_simp

set_option maxRecDepth 8192 in
set_option maxHeartbeats 1400000 in
theorem at_main_v35 (V : Valuation τ sig (Elt F)) : V7 V (Proc.devRef .tc main_v35) = floorMod (iotaInDim S128 32 0) (constantI S_ 32 64#32) := by
  unfold V7
  simp only [hostOps0_7, TRef.nullary, TRef.unary, TRef.binary, TRef.ternary, TRef.toBuf, TRef.ofBuf, cast_eq]
  after_results_simp
  rw [keep6 _ main_v33 (by decide), keep5 _ main_v33 (by decide), at_main_v33, at_main_c_5] <;> rfl

set_option maxRecDepth 8192 in
set_option maxHeartbeats 1400000 in
theorem at_main_c_6 (V : Valuation τ sig (Elt F)) : V8 V (Proc.devRef .tc main_c_6) = constantI S_ 32 16#32 := by
  unfold V8
  after_results_simp

set_option maxRecDepth 8192 in
set_option maxHeartbeats 1400000 in
theorem at_main_v36 (V : Valuation τ sig (Elt F)) : V9 V (Proc.devRef .tc main_v36) = floorDiv (floorMod (iotaInDim S128 32 0) (constantI S_ 32 64#32)) (constantI S_ 32 16#32) := by
  unfold V9
  simp only [hostOps0_9, TRef.nullary, TRef.unary, TRef.binary, TRef.ternary, TRef.toBuf, TRef.ofBuf, cast_eq]
  after_results_simp
  rw [keep8 _ main_v35 (by decide), at_main_v35, at_main_c_6] <;> rfl

set_option maxRecDepth 8192 in
set_option maxHeartbeats 1400000 in
theorem at_main_c_7 (V : Valuation τ sig (Elt F)) : V10 V (Proc.devRef .tc main_c_7) = constantI S_ 32 16#32 := by
  unfold V10
  after_results_simp

set_option maxRecDepth 8192 in
set_option maxHeartbeats 1400000 in
theorem at_main_v37 (V : Valuation τ sig (Elt F)) : V11 V (Proc.devRef .tc main_v37) = floorMod (iotaInDim S128 32 0) (constantI S_ 32 16#32) := by
  unfold V11
  simp only [hostOps0_11, TRef.nullary, TRef.unary, TRef.binary, TRef.ternary, TRef.toBuf, TRef.ofBuf, cast_eq]
  after_results_simp
  rw [keep10 _ main_v33 (by decide), keep9 _ main_v33 (by decide), keep8 _ main_v33 (by decide), keep7 _ main_v33 (by decide), keep6 _ main_v33 (by decide), keep5 _ main_v33 (by decide), at_main_v33, at_main_c_7] <;> rfl

set_option maxRecDepth 8192 in
set_option maxHeartbeats 1400000 in
theorem at_main_c_8 (V : Valuation τ sig (Elt F)) : V12 V (Proc.devRef .tc main_c_8) = constantI S_ 32 2#32 := by
  unfold V12
  after_results_simp

set_option maxRecDepth 8192 in
set_option maxHeartbeats 1400000 in
theorem at_main_v38 (V : Valuation τ sig (Elt F)) : V13 V (Proc.devRef .tc main_v38) = floorDiv (floorMod (iotaInDim S128 32 0) (constantI S_ 32 16#32)) (constantI S_ 32 2#32) := by
  unfold V13
  simp only [hostOps0_13, TRef.nullary, TRef.unary, TRef.binary, TRef.ternary, TRef.toBuf, TRef.ofBuf, cast_eq]
  after_results_simp
  rw [keep12 _ main_v37 (by decide), at_main_v37, at_main_c_8] <;> rfl

set_option maxRecDepth 8192 in
set_option maxHeartbeats 1400000 in
theorem at_main_c_9 (V : Valuation τ sig (Elt F)) : V14 V (Proc.devRef .tc main_c_9) = constantI S_ 32 2#32 := by
  unfold V14
  after_results_simp

set_option maxRecDepth 8192 in
set_option maxHeartbeats 1400000 in
theorem at_main_v39 (V : Valuation τ sig (Elt F)) : V15 V (Proc.devRef .tc main_v39) = floorMod (iotaInDim S128 32 0) (constantI S_ 32 2#32) := by
  unfold V15
  simp only [hostOps0_15, TRef.nullary, TRef.unary, TRef.binary, TRef.ternary, TRef.toBuf, TRef.ofBuf, cast_eq]
  after_results_simp
  rw [keep14 _ main_v33 (by decide), keep13 _ main_v33 (by decide), keep12 _ main_v33 (by decide), keep11 _ main_v33 (by decide), keep10 _ main_v33 (by decide), keep9 _ main_v33 (by decide), keep8 _ main_v33 (by decide), keep7 _ main_v33 (by decide), keep6 _ main_v33 (by decide), keep5 _ main_v33 (by decide), at_main_v33, at_main_c_9] <;> rfl

set_option maxRecDepth 8192 in
set_option maxHeartbeats 1400000 in
theorem at_main_v55 (V : Valuation τ sig (Elt F)) : V16 V (Proc.devRef .tc main_v55) = perm (F := F) := by
  unfold V16
  after_results_simp
  rw [keep15 _ main_v34 (by decide), keep14 _ main_v34 (by decide), keep13 _ main_v34 (by decide), keep12 _ main_v34 (by decide), keep11 _ main_v34 (by decide), keep10 _ main_v34 (by decide), keep9 _ main_v34 (by decide), keep8 _ main_v34 (by decide), keep7 _ main_v34 (by decide), keep6 _ main_v34 (by decide), at_main_v34, keep15 _ main_v38 (by decide), keep14 _ main_v38 (by decide), at_main_v38, at_main_v39, keep15 _ main_v36 (by decide), keep14 _ main_v36 (by decide), keep13 _ main_v36 (by decide), keep12 _ main_v36 (by decide), keep11 _ main_v36 (by decide), keep10 _ main_v36 (by decide), at_main_v36] <;> rfl

set_option maxRecDepth 8192 in
set_option maxHeartbeats 1400000 in
theorem at_main_c_13 (V : Valuation τ sig (Elt F)) : V16 V (Proc.devRef .tc main_c_13) = constantI S_ 32 0#32 := by
  unfold V16
  after_results_simp

set_option maxRecDepth 8192 in
set_option maxHeartbeats 1400000 in
theorem at_main_v56 (V : Valuation τ sig (Elt F)) : V17 V (Proc.devRef .tc main_v56) = pad S128 ![0] ![112] ![0] ((fun i => FloatOps.ofBits .f32 (lit0 (S16.rowMajor i))) : FVec F S16 .f32) (sitofp .f32 (constantI S_ 32 0#32) : FVec F S_ .f32) pads_S16_S128_01120 h_S_ := by
  unfold V17
  simp only [hostOps0_17, TRef.nullary, TRef.unary, TRef.binary, TRef.ternary, TRef.toBuf, TRef.ofBuf, cast_eq]
  after_results_simp
  rw [keep16 _ main_cst (by decide), keep15 _ main_cst (by decide), keep14 _ main_cst (by decide), keep13 _ main_cst (by decide), keep12 _ main_cst (by decide), keep11 _ main_cst (by decide), keep10 _ main_cst (by decide), keep9 _ main_cst (by decide), keep8 _ main_cst (by decide), keep7 _ main_cst (by decide), keep6 _ main_cst (by decide), keep5 _ main_cst (by decide), keep4 _ main_cst (by decide), keep3 _ main_cst (by decide), keep2 _ main_cst (by decide), keep1 _ main_cst (by decide), at_main_cst, at_main_c_13] <;> rfl

set_option maxRecDepth 8192 in
set_option maxHeartbeats 1400000 in
theorem at_main_v58 (V : Valuation τ sig (Elt F)) : V18 V (Proc.devRef .tc main_v58) = table (F := F) := by
  unfold V18
  after_results_simp
  rw [at_main_v56] <;> rfl

set_option maxRecDepth 8192 in
set_option maxHeartbeats 1400000 in
theorem at_main_v59 (V : Valuation τ sig (Elt F)) : V18 V (Proc.devRef .tc main_v59) = shapeCast S_ (nAct (used (V (Proc.devRef .tc main_arg1)))) shapeCasts_S1_S_ := by
  unfold V18
  after_results_simp
  rw [keep17 _ main_v16 (by decide), keep16 _ main_v16 (by decide), keep15 _ main_v16 (by decide), keep14 _ main_v16 (by decide), keep13 _ main_v16 (by decide), keep12 _ main_v16 (by decide), keep11 _ main_v16 (by decide), keep10 _ main_v16 (by decide), keep9 _ main_v16 (by decide), keep8 _ main_v16 (by decide), keep7 _ main_v16 (by decide), keep6 _ main_v16 (by decide), keep5 _ main_v16 (by decide), keep4 _ main_v16 (by decide), keep3 _ main_v16 (by decide), at_main_v16] <;> rfl

set_option maxRecDepth 8192 in
set_option maxHeartbeats 1400000 in
theorem at_main_v60 (V : Valuation τ sig (Elt F)) : V18 V (Proc.devRef .tc main_v60) = transpose S64x32x1408 [0, 2, 1] (V (Proc.devRef .tc main_arg4)) transposes_S64x1408x32_S64x32x1408_0_2_1 := by
  unfold V18
  after_results_simp
  rw [keep17 _ main_arg4 (by decide), keep16 _ main_arg4 (by decide), keep15 _ main_arg4 (by decide), keep14 _ main_arg4 (by decide), keep13 _ main_arg4 (by decide), keep12 _ main_arg4 (by decide), keep11 _ main_arg4 (by decide), keep10 _ main_arg4 (by decide), keep9 _ main_arg4 (by decide), keep8 _ main_arg4 (by decide), keep7 _ main_arg4 (by decide), keep6 _ main_arg4 (by decide), keep5 _ main_arg4 (by decide), keep4 _ main_arg4 (by decide), keep3 _ main_arg4 (by decide), keep2 _ main_arg4 (by decide), keep1 _ main_arg4 (by decide), keep0 _ main_arg4 (by decide)] <;> rfl

set_option maxRecDepth 8192 in
set_option maxHeartbeats 1400000 in
theorem at_main_v61 (V : Valuation τ sig (Elt F)) : V18 V (Proc.devRef .tc main_v61) = transpose S64x32x1408 [0, 2, 1] (V (Proc.devRef .tc main_arg6)) transposes_S64x1408x32_S64x32x1408_0_2_1 := by
  unfold V18
  after_results_simp
  rw [keep17 _ main_arg6 (by decide), keep16 _ main_arg6 (by decide), keep15 _ main_arg6 (by decide), keep14 _ main_arg6 (by decide), keep13 _ main_arg6 (by decide), keep12 _ main_arg6 (by decide), keep11 _ main_arg6 (by decide), keep10 _ main_arg6 (by decide), keep9 _ main_arg6 (by decide), keep8 _ main_arg6 (by decide), keep7 _ main_arg6 (by decide), keep6 _ main_arg6 (by decide), keep5 _ main_arg6 (by decide), keep4 _ main_arg6 (by decide), keep3 _ main_arg6 (by decide), keep2 _ main_arg6 (by decide), keep1 _ main_arg6 (by decide), keep0 _ main_arg6 (by decide)] <;> rfl

set_option maxRecDepth 8192 in
set_option maxHeartbeats 1400000 in
theorem at_main_v62 (V : Valuation τ sig (Elt F)) : V18 V (Proc.devRef .tc main_v62) = transpose S64x704x2048 [0, 2, 1] (V (Proc.devRef .tc main_arg7)) transposes_S64x2048x704_S64x704x2048_0_2_1 := by
  unfold V18
  after_results_simp
  rw [keep17 _ main_arg7 (by decide), keep16 _ main_arg7 (by decide), keep15 _ main_arg7 (by decide), keep14 _ main_arg7 (by decide), keep13 _ main_arg7 (by decide), keep12 _ main_arg7 (by decide), keep11 _ main_arg7 (by decide), keep10 _ main_arg7 (by decide), keep9 _ main_arg7 (by decide), keep8 _ main_arg7 (by decide), keep7 _ main_arg7 (by decide), keep6 _ main_arg7 (by decide), keep5 _ main_arg7 (by decide), keep4 _ main_arg7 (by decide), keep3 _ main_arg7 (by decide), keep2 _ main_arg7 (by decide), keep1 _ main_arg7 (by decide), keep0 _ main_arg7 (by decide)] <;> rfl

set_option maxRecDepth 8192 in
set_option maxHeartbeats 1400000 in
theorem at_main_v63 (V : Valuation τ sig (Elt F)) : V18 V (Proc.devRef .tc main_v63) = transpose S22x64x2048 [2, 0, 1] (V (Proc.devRef .tc main_arg8)) transposes_S64x2048x22_S22x64x2048_2_0_1 := by
  unfold V18
  after_results_simp
  rw [keep17 _ main_arg8 (by decide), keep16 _ main_arg8 (by decide), keep15 _ main_arg8 (by decide), keep14 _ main_arg8 (by decide), keep13 _ main_arg8 (by decide), keep12 _ main_arg8 (by decide), keep11 _ main_arg8 (by decide), keep10 _ main_arg8 (by decide), keep9 _ main_arg8 (by decide), keep8 _ main_arg8 (by decide), keep7 _ main_arg8 (by decide), keep6 _ main_arg8 (by decide), keep5 _ main_arg8 (by decide), keep4 _ main_arg8 (by decide), keep3 _ main_arg8 (by decide), keep2 _ main_arg8 (by decide), keep1 _ main_arg8 (by decide), keep0 _ main_arg8 (by decide)] <;> rfl

theorem val_main_v0 (V : Valuation τ sig (Elt F)) : val V (Proc.devRef .tc main_v0) = shapeCast S96x6 (V (Proc.devRef .tc main_arg1)) shapeCasts_S96x1x6_S96x6 :=
  (keep18 V main_v0 (by decide)).trans <| (keep17 V main_v0 (by decide)).trans <| (keep16 V main_v0 (by decide)).trans <| (keep15 V main_v0 (by decide)).trans <| (keep14 V main_v0 (by decide)).trans <| (keep13 V main_v0 (by decide)).trans <| (keep12 V main_v0 (by decide)).trans <| (keep11 V main_v0 (by decide)).trans <| (keep10 V main_v0 (by decide)).trans <| (keep9 V main_v0 (by decide)).trans <| (keep8 V main_v0 (by decide)).trans <| (keep7 V main_v0 (by decide)).trans <| (keep6 V main_v0 (by decide)).trans <| (keep5 V main_v0 (by decide)).trans <| (keep4 V main_v0 (by decide)).trans <| (keep3 V main_v0 (by decide)).trans <| (keep2 V main_v0 (by decide)).trans <| (keep1 V main_v0 (by decide)).trans <| at_main_v0 V

theorem val_main_v1 (V : Valuation τ sig (Elt F)) : val V (Proc.devRef .tc main_v1) = shapeCast S96x6 (V (Proc.devRef .tc main_arg2)) shapeCasts_S96x1x6_S96x6 :=
  (keep18 V main_v1 (by decide)).trans <| (keep17 V main_v1 (by decide)).trans <| (keep16 V main_v1 (by decide)).trans <| (keep15 V main_v1 (by decide)).trans <| (keep14 V main_v1 (by decide)).trans <| (keep13 V main_v1 (by decide)).trans <| (keep12 V main_v1 (by decide)).trans <| (keep11 V main_v1 (by decide)).trans <| (keep10 V main_v1 (by decide)).trans <| (keep9 V main_v1 (by decide)).trans <| (keep8 V main_v1 (by decide)).trans <| (keep7 V main_v1 (by decide)).trans <| (keep6 V main_v1 (by decide)).trans <| (keep5 V main_v1 (by decide)).trans <| (keep4 V main_v1 (by decide)).trans <| (keep3 V main_v1 (by decide)).trans <| (keep2 V main_v1 (by decide)).trans <| (keep1 V main_v1 (by decide)).trans <| at_main_v1 V

theorem val_main_v16 (V : Valuation τ sig (Elt F)) : val V (Proc.devRef .tc main_v16) = nAct (used (V (Proc.devRef .tc main_arg1))) :=
  (keep18 V main_v16 (by decide)).trans <| (keep17 V main_v16 (by decide)).trans <| (keep16 V main_v16 (by decide)).trans <| (keep15 V main_v16 (by decide)).trans <| (keep14 V main_v16 (by decide)).trans <| (keep13 V main_v16 (by decide)).trans <| (keep12 V main_v16 (by decide)).trans <| (keep11 V main_v16 (by decide)).trans <| (keep10 V main_v16 (by decide)).trans <| (keep9 V main_v16 (by decide)).trans <| (keep8 V main_v16 (by decide)).trans <| (keep7 V main_v16 (by decide)).trans <| (keep6 V main_v16 (by decide)).trans <| (keep5 V main_v16 (by decide)).trans <| (keep4 V main_v16 (by decide)).trans <| (keep3 V main_v16 (by decide)).trans <| at_main_v16 V

theorem val_main_v29 (V : Valuation τ sig (Elt F)) : val V (Proc.devRef .tc main_v29) = act (used (V (Proc.devRef .tc main_arg1))) :=
  (keep18 V main_v29 (by decide)).trans <| (keep17 V main_v29 (by decide)).trans <| (keep16 V main_v29 (by decide)).trans <| (keep15 V main_v29 (by decide)).trans <| (keep14 V main_v29 (by decide)).trans <| (keep13 V main_v29 (by decide)).trans <| (keep12 V main_v29 (by decide)).trans <| (keep11 V main_v29 (by decide)).trans <| (keep10 V main_v29 (by decide)).trans <| (keep9 V main_v29 (by decide)).trans <| (keep8 V main_v29 (by decide)).trans <| (keep7 V main_v29 (by decide)).trans <| (keep6 V main_v29 (by decide)).trans <| (keep5 V main_v29 (by decide)).trans <| at_main_v29 V

theorem val_main_v32 (V : Valuation τ sig (Elt F)) : val V (Proc.devRef .tc main_v32) = xPerm (V (Proc.devRef .tc main_arg0)) :=
  (keep18 V main_v32 (by decide)).trans <| (keep17 V main_v32 (by decide)).trans <| (keep16 V main_v32 (by decide)).trans <| (keep15 V main_v32 (by decide)).trans <| (keep14 V main_v32 (by decide)).trans <| (keep13 V main_v32 (by decide)).trans <| (keep12 V main_v32 (by decide)).trans <| (keep11 V main_v32 (by decide)).trans <| (keep10 V main_v32 (by decide)).trans <| (keep9 V main_v32 (by decide)).trans <| (keep8 V main_v32 (by decide)).trans <| (keep7 V main_v32 (by decide)).trans <| (keep6 V main_v32 (by decide)).trans <| (keep5 V main_v32 (by decide)).trans <| at_main_v32 V

theorem val_main_v55 (V : Valuation τ sig (Elt F)) : val V (Proc.devRef .tc main_v55) = perm (F := F) :=
  (keep18 V main_v55 (by decide)).trans <| (keep17 V main_v55 (by decide)).trans <| at_main_v55 V

theorem val_main_v58 (V : Valuation τ sig (Elt F)) : val V (Proc.devRef .tc main_v58) = table (F := F) :=
  at_main_v58 V

theorem val_main_v59 (V : Valuation τ sig (Elt F)) : val V (Proc.devRef .tc main_v59) = shapeCast S_ (nAct (used (V (Proc.devRef .tc main_arg1)))) shapeCasts_S1_S_ :=
  at_main_v59 V

theorem val_main_v60 (V : Valuation τ sig (Elt F)) : val V (Proc.devRef .tc main_v60) = transpose S64x32x1408 [0, 2, 1] (V (Proc.devRef .tc main_arg4)) transposes_S64x1408x32_S64x32x1408_0_2_1 :=
  at_main_v60 V

theorem val_main_v61 (V : Valuation τ sig (Elt F)) : val V (Proc.devRef .tc main_v61) = transpose S64x32x1408 [0, 2, 1] (V (Proc.devRef .tc main_arg6)) transposes_S64x1408x32_S64x32x1408_0_2_1 :=
  at_main_v61 V

theorem val_main_v62 (V : Valuation τ sig (Elt F)) : val V (Proc.devRef .tc main_v62) = transpose S64x704x2048 [0, 2, 1] (V (Proc.devRef .tc main_arg7)) transposes_S64x2048x704_S64x704x2048_0_2_1 :=
  at_main_v62 V

theorem val_main_v63 (V : Valuation τ sig (Elt F)) : val V (Proc.devRef .tc main_v63) = transpose S22x64x2048 [2, 0, 1] (V (Proc.devRef .tc main_arg8)) transposes_S64x2048x22_S22x64x2048_2_0_1 :=
  at_main_v63 V

end Cert.KernelIdeal.Host

end
-- ==== Proof.Adm.lean ====
/-
  The tables the kernel prefetches, and the side condition the pipeline runs under: the grid has as many points as there
  are used experts, and every listed expert's blocks lie within their arrays.
-/
module

public import proofs.«01_k».proof.Proof.Act
public import proofs.«01_k».proof.Proof.HostVals

@[expose] public section

noncomputable section

namespace Cert.KernelIdeal.Host

open Cert.KernelIdeal Cert.KernelIdeal.Gen Idealize.ShloMosaic Idealize.ShloMosaic.TcCoe Idealize.ShloMosaic.ValueIdx

variable {F : FTy → Type} [FloatOps F]

/-- A block map's expert divided by eight is below eight. -/
theorem group_lt : ∀ e : Fin 64,
    (let v1 : BitVec 32 := BitVec.ofNat 32 e.val
     Scalar.select (Scalar.andi (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32) : BitVec 32)))
        (Scalar.cmpi .ne (Scalar.remsi v1 8#32) 0#32)) (Scalar.subi (Scalar.divsi v1 8#32) 1#32) (Scalar.divsi v1 8#32)).toNat = e.val / 8 := by
  decide +kernel

/-- The tables: the point count, the list, and the count again. -/
structure Tables (pf : pre0.Contents (Elt F)) (n : Nat) (e : Fin 64 → Fin 64) : Prop where
  count : (pf 0 fun a => a.elim0 : BitVec 32) = BitVec.ofNat 32 n
  le : n ≤ 64
  list : ∀ s : Fin 64, (pf 1 (ix1 s) : BitVec 32) = BitVec.ofNat 32 (e s).val
  count' : ∀ i, (pf 2 i : BitVec 32) = BitVec.ofNat 32 n

variable {pf : pre0.Contents (Elt F)} {n : Nat} {e : Fin 64 → Fin 64}

theorem Tables.dynb (h : Tables pf n e) : dynb0 pf = ![n] := by
  unfold dynb0
  rw [h.count, BitVec.toNat_ofNat, Nat.mod_eq_of_lt (by have := h.le; omega)]

theorem Tables.bound (h : Tables pf n e) : (grid0.at (dynb0 pf)).bound 0 = n := by
  show grid0.boundAt (dynb0 pf) 0 = n
  rw [Pipeline.Grid.boundAt_of_dyn_true _ rfl, h.dynb]
  rfl

theorem Tables.N_eq (h : Tables pf n e) : (grid0.at (dynb0 pf)).N = n := by
  show (List.ofFn (grid0.at (dynb0 pf)).bound).prod = n
  rw [show List.ofFn (grid0.at (dynb0 pf)).bound = [(grid0.at (dynb0 pf)).bound 0] from rfl, h.bound]
  simp

theorem Tables.coord_lt (h : Tables pf n e) (i : (grid0.at (dynb0 pf)).Coords) : (i 0).val < n := by
  exact lt_of_lt_of_eq (i 0).isLt h.bound

/-- The listed word at a point. -/
theorem Tables.at (h : Tables pf n e) (i : (grid0.at (dynb0 pf)).Coords) (h64 : (i 0).val < 64) :
    (pf.atD 1 ![(Scalar.indexCast (BitVec.ofNat 32 (i 0).val) : Index).toNat] : BitVec 32) = BitVec.ofNat 32 (e ⟨(i 0).val, h64⟩).val := by
  have hk : (Scalar.indexCast (BitVec.ofNat 32 (i 0).val) : Index).toNat = (i 0).val := by
    show (BitVec.ofNat 32 (i 0).val).toNat = _
    rw [BitVec.toNat_ofNat, Nat.mod_eq_of_lt (by omega)]
  rw [hk]
  refine (dif_pos (show ∀ a : Fin (pre0.ref 1).ty.shape.rank, (![(i 0).val] : Fin 1 → Nat) a + 1 ≤ (pre0.ref 1).ty.shape.size a from fun a => by
    match a with
    | ⟨0, _⟩ => exact h64)).trans ?_
  refine Eq.trans ?_ (h.list ⟨(i 0).val, h64⟩)
  refine congrArg (pf 1) (funext fun a => ?_)
  match a with
  | ⟨0, _⟩ => rfl

theorem Tables.map5 (h : Tables pf n e) (i : (grid0.at (dynb0 pf)).Coords) (h64 : (i 0).val < 64) :
    cc0_transform_5 pf (dynb0 pf) i = ![(e ⟨(i 0).val, h64⟩).val, 0, 0] := by
  have := (e ⟨(i 0).val, h64⟩).isLt
  unfold cc0_transform_5
  dsimp only
  rw [h.at i h64, BitVec.toNat_ofNat, Nat.mod_eq_of_lt (by omega)]
  rfl

theorem Tables.map6 (h : Tables pf n e) (i : (grid0.at (dynb0 pf)).Coords) (h64 : (i 0).val < 64) :
    cc0_transform_6 pf (dynb0 pf) i = ![(e ⟨(i 0).val, h64⟩).val, 0, 0] := h.map5 i h64

theorem Tables.map7 (h : Tables pf n e) (i : (grid0.at (dynb0 pf)).Coords) (h64 : (i 0).val < 64) :
    cc0_transform_7 pf (dynb0 pf) i = ![(e ⟨(i 0).val, h64⟩).val, 0, 0] := h.map5 i h64

theorem Tables.map8 (h : Tables pf n e) (i : (grid0.at (dynb0 pf)).Coords) (h64 : (i 0).val < 64) :
    cc0_transform_8 pf (dynb0 pf) i = ![(e ⟨(i 0).val, h64⟩).val, 0, 0] := h.map5 i h64

theorem Tables.map9 (h : Tables pf n e) (i : (grid0.at (dynb0 pf)).Coords) (h64 : (i 0).val < 64) :
    cc0_transform_9 pf (dynb0 pf) i = ![(e ⟨(i 0).val, h64⟩).val, 0, 0] := h.map5 i h64

theorem Tables.map10 (h : Tables pf n e) (i : (grid0.at (dynb0 pf)).Coords) (h64 : (i 0).val < 64) :
    cc0_transform_10 pf (dynb0 pf) i = ![0, (e ⟨(i 0).val, h64⟩).val / 8, 0] := by
  unfold cc0_transform_10
  dsimp only
  rw [h.at i h64, group_lt (e ⟨(i 0).val, h64⟩)]
  rfl

/-- The side condition the pipeline runs under holds of the tables. -/
theorem Tables.ok (h : Tables pf n e) : ok0 pf := by
  have hn := h.le
  have h64 : ∀ i : (grid0.at (dynb0 pf)).Coords, (i 0).val < 64 := fun i => lt_of_lt_of_le (h.coord_lt i) hn
  unfold ok0
  refine ⟨?_, ?_, ?_, ?_, ?_, ?_, ?_, ?_, ?_, ?_, ?_, ?_, ?_, ?_⟩
  · show (grid0.at (dynb0 pf)).N + 2 < 2 ^ 31
    rw [h.N_eq]; omega
  · intro i a
    have := h64 i
    match a with
    | ⟨0, _⟩ =>
      show (BitVec.ofNat 32 (i 0).val).toNat + 1 ≤ 64
      rw [BitVec.toNat_ofNat, Nat.mod_eq_of_lt (by omega)]; omega
  · exact fun i => ⟨show ∀ a : Fin 2, ((![0, 0] : Fin 2 → Nat) a + 1) * S96x2048.size a ≤ S96x2048.size a from by decide, .inr (.inl (.inl fun a => by
      match a with
      | ⟨0, _⟩ => exact ⟨rfl, rfl, rfl⟩
      | ⟨1, _⟩ => exact ⟨rfl, rfl, rfl⟩))⟩
  · exact fun i => ⟨show ∀ a : Fin 2, ((![0, 0] : Fin 2 → Nat) a + 1) * S96x6.size a ≤ S96x6.size a from by decide, .inl rfl⟩
  · exact fun i => ⟨show ∀ a : Fin 2, ((![0, 0] : Fin 2 → Nat) a + 1) * S96x6.size a ≤ S96x6.size a from by decide, .inl rfl⟩
  · exact fun i => ⟨show ∀ a : Fin 2, ((![0, 0] : Fin 2 → Nat) a + 1) * S128x128.size a ≤ S128x128.size a from by decide, .inr (.inl (.inl fun a => by
      match a with
      | ⟨0, _⟩ => exact ⟨rfl, rfl, rfl⟩
      | ⟨1, _⟩ => exact ⟨rfl, rfl, rfl⟩))⟩
  · exact fun i => ⟨show ∀ a : Fin 2, ((![0, 0] : Fin 2 → Nat) a + 1) * S64x128.size a ≤ S64x128.size a from by decide, .inl rfl⟩
  · intro i
    rw [h.map5 i (h64 i)]
    have := (e ⟨(i 0).val, h64 i⟩).isLt
    refine ⟨fun a => ?_, .inr (.inr ⟨by decide, rfl, rfl, rfl⟩)⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map6 i (h64 i)]
    have := (e ⟨(i 0).val, h64 i⟩).isLt
    refine ⟨fun a => ?_, .inl rfl⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map7 i (h64 i)]
    have := (e ⟨(i 0).val, h64 i⟩).isLt
    refine ⟨fun a => ?_, .inr (.inr ⟨by decide, rfl, rfl, rfl⟩)⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map8 i (h64 i)]
    have := (e ⟨(i 0).val, h64 i⟩).isLt
    refine ⟨fun a => ?_, .inl rfl⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map9 i (h64 i)]
    have := (e ⟨(i 0).val, h64 i⟩).isLt
    refine ⟨fun a => ?_, .inr (.inr ⟨by decide, rfl, rfl, rfl⟩)⟩
    match a with
    | ⟨0, _⟩ => show ((e _).val + 1) * 1 ≤ 64; omega
    | ⟨1, _⟩ => exact Nat.le_of_eq (Nat.one_mul _)
    | ⟨2, _⟩ => exact Nat.le_of_eq (Nat.one_mul _)
  · intro i
    rw [h.map10 i (h64 i)]
    have := (e ⟨(i 0).val, h64 i⟩).isLt
    refine ⟨fun a => ?_, .inl rfl⟩
    match a with
    | ⟨0, _⟩ => exact Nat.le_of_eq (Nat.one_mul _)
    | ⟨1, _⟩ => show ((e _).val / 8 + 1) * 8 ≤ 64; omega
    | ⟨2, _⟩ => exact Nat.le_of_eq (Nat.one_mul _)
  · exact fun i => ⟨show ∀ a : Fin 2, ((![0, 0] : Fin 2 → Nat) a + 1) * S96x2048.size a ≤ S96x2048.size a from by decide, .inr (.inl (.inl fun a => by
      match a with
      | ⟨0, _⟩ => exact ⟨rfl, rfl, rfl⟩
      | ⟨1, _⟩ => exact ⟨rfl, rfl, rfl⟩))⟩

/-! ## The tables at launch -/

/-- The expert listed at place `s`. -/
def expert (u : IVec S64 1) (s : Fin 64) : Fin 64 := ⟨(act u (ix1 s)).toNat, act_lt u s⟩

/-- The tables the host leaves. -/
def pfOf (V : Valuation τ sig (Elt F)) : pre0.Contents (Elt F) := fun k => val V (Proc.devRef .tc (pre0.ref k))

theorem tables (V : Valuation τ sig (Elt F)) :
    Tables (pfOf V) (cnt (used (V (Proc.devRef .tc main_arg1)))) (expert (used (V (Proc.devRef .tc main_arg1)))) where
  count := (congrFun (val_main_v59 V) _).trans (nAct_apply _ _)
  le := cnt_le _
  list s := (congrFun (val_main_v29 V) (ix1 s)).trans (by
    unfold expert
    rw [BitVec.ofNat_toNat, BitVec.setWidth_eq])
  count' i := (congrFun (val_main_v16 V) i).trans (nAct_apply _ _)

/-- The tables are admissible. -/
def adm (V : Valuation τ sig (Elt F)) : (pcfg0 (F := F)).Adm := ⟨pfOf V, (tables V).ok⟩

end Cert.KernelIdeal.Host

end
-- ==== Proof.Run.lean ====
/-
  The kernel region's proof data: what the accumulator holds before each grid point, what every window's staging buffer
  holds, and the body's obligation at a point.
-/
module

public import proofs.«01_k».proof.Proof.StepOwns
public import proofs.«01_k».proof.Proof.Adm
public import Idealize.ShloMosaic.Lib.Pipeline.Frame
public import Idealize.ShloMosaic.Lib.Pipeline.FrameBody

@[expose] public section

set_option maxRecDepth 100000
set_option maxHeartbeats 4000000

noncomputable section

namespace Cert.KernelIdeal.Step

open Cert.KernelIdeal Cert.KernelIdeal.Gen Cert.KernelIdeal.Tile Cert.KernelIdeal.Host
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] accNew Tile.hidden added k0_pay6 k0_pay2

variable {F : FTy → Type} [FloatOps F]

local notation "𝕄" => MT nD τ sig Unit (Elt F) ℕ (UR sig nD τ) ℕ

variable (a : (pcfg0 (F := F)).Adm) (V : (c : Dev nD) → (b : Ref sig .tc) → Buf (Elt F) ((c : Thread nD τ).loc b))

/-- The block of window `w`'s array at point `t`. -/
def blk (c : Dev nD) (w : Fin 12) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The grid coordinate of a point, as the word the body is handed. -/
def coordW (t : Fin (cfg0 a).N) : BitVec 32 := BitVec.ofNat 32 ((cfg0 a).grid.coords t 0).val

/-- The step's new accumulator of the tables and the blocks at point `t`. -/
def accStep (c : Dev nD) (t : Fin (cfg0 a).N) (old : Vec F S96x2048 .f32) : Vec F S96x2048 .f32 :=
  accNew (coordW a t == 0#32) (a.1 1 (ValueIdx.ix1 ⟨(coordW a t).toNat % 64, Nat.mod_lt _ (by decide)⟩)) (blk a V c 0 t) (blk a V c 1 t) (blk a V c 2 t) (blk a V c 3 t) (blk a V c 4 t) (blk a V c 5 t) (blk a V c 6 t) (blk a V c 7 t) (blk a V c 8 t) (blk a V c 9 t) (blk a V c 10 t) old

/-- The accumulator before point `n`. -/
def accAt (c : Dev nD) : Nat → Vec F S96x2048 .f32
  | 0 => k0_pay2
  | n + 1 => if h : n < (cfg0 a).N then accStep a V c ⟨n, h⟩ (accAt c n) else accAt c n

theorem accAt_succ (c : Dev nD) (t : Fin (cfg0 a).N) : accAt a V c (t.val + 1) = accStep a V c t (accAt a V c t.val) :=
  dif_pos t.isLt

/-- The invariant before point `n`: the scratch block at something, the accumulator as computed once a point has run, the tables
    and the generator register. -/
def Φat (c : Dev nD) (n : Nat) : sProp 𝕄 :=
  iprop((∃ f, (c : Thread nD τ).loc cc0_scratch0 ↦{fullShare} f)
    ∗ (∃ f, ⌜n ≠ 0 → f = accAt a V c n⌝ ∗ (c : Thread nD τ).loc cc0_scratch1 ↦{fullShare} f)
    ∗ Pipeline.ΦT (U := UR sig nD τ) pre0 a.1 c ∗ ∃ r, prngReg c r)

/-- The proof data on core `c`. -/
def dats (_ : Fin 1) (c : Dev nD) : Dat τ (Elt F) Unit ℕ (UR sig nD τ) ℕ (cfg0 a) c where
  A w := V c (Pipeline.arrRef spec0 w)
  after w t := match w with
    | ⟨0, _⟩ => blk a V c 0 t
    | ⟨1, _⟩ => blk a V c 1 t
    | ⟨2, _⟩ => blk a V c 2 t
    | ⟨3, _⟩ => blk a V c 3 t
    | ⟨4, _⟩ => blk a V c 4 t
    | ⟨5, _⟩ => blk a V c 5 t
    | ⟨6, _⟩ => blk a V c 6 t
    | ⟨7, _⟩ => blk a V c 7 t
    | ⟨8, _⟩ => blk a V c 8 t
    | ⟨9, _⟩ => blk a V c 9 t
    | ⟨10, _⟩ => blk a V c 10 t
    | ⟨11, _⟩ => k0_pay6 (accAt a V c (t.val + 1))
    | ⟨_ + 12, h⟩ => absurd h (Nat.not_lt.2 (Nat.le_add_left _ _))
  Φ t := Φat a V c t.val
  q _ := fullShare
  owed _ := 0

theorem A_eq (c : Dev nD) (w : Fin 12) : (dats a V 0 c).A w = V c (Pipeline.arrRef spec0 w) := by
  dsimp only [dats]

theorem before_0 (c : Dev nD) (t : Fin (cfg0 a).N) (d) : (dats a V 0 c).before 0 t d = blk a V c 0 t :=
  (dats a V 0 c).before_in_eq_fetched 0 rfl (fun _ => rfl) (fun _ _ _ => rfl) (fun _ => rfl) t d

theorem before_1 (c : Dev nD) (t : Fin (cfg0 a).N) (d) : (dats a V 0 c).before 1 t d = blk a V c 1 t :=
  (dats a V 0 c).before_in_eq_fetched 1 rfl (fun _ => rfl) (fun _ _ _ => rfl) (fun _ => rfl) t d

theorem before_2 (c : Dev nD) (t : Fin (cfg0 a).N) (d) : (dats a V 0 c).before 2 t d = blk a V c 2 t :=
  (dats a V 0 c).before_in_eq_fetched 2 rfl (fun _ => rfl) (fun _ _ _ => rfl) (fun _ => rfl) t d

theorem before_3 (c : Dev nD) (t : Fin (cfg0 a).N) (d) : (dats a V 0 c).before 3 t d = blk a V c 3 t :=
  (dats a V 0 c).before_in_eq_fetched 3 rfl (fun _ => rfl) (fun _ _ _ => rfl) (fun _ => rfl) t d

theorem before_4 (c : Dev nD) (t : Fin (cfg0 a).N) (d) : (dats a V 0 c).before 4 t d = blk a V c 4 t :=
  (dats a V 0 c).before_in_eq_fetched 4 rfl (fun _ => rfl) (fun _ _ _ => rfl) (fun _ => rfl) t d

theorem before_5 (c : Dev nD) (t : Fin (cfg0 a).N) (d) : (dats a V 0 c).before 5 t d = blk a V c 5 t :=
  (dats a V 0 c).before_in_eq_fetched 5 rfl (fun _ => rfl) (fun _ _ _ => rfl) (fun _ => rfl) t d

theorem before_6 (c : Dev nD) (t : Fin (cfg0 a).N) (d) : (dats a V 0 c).before 6 t d = blk a V c 6 t :=
  (dats a V 0 c).before_in_eq_fetched 6 rfl (fun _ => rfl) (fun _ _ _ => rfl) (fun _ => rfl) t d

theorem before_7 (c : Dev nD) (t : Fin (cfg0 a).N) (d) : (dats a V 0 c).before 7 t d = blk a V c 7 t :=
  (dats a V 0 c).before_in_eq_fetched 7 rfl (fun _ => rfl) (fun _ _ _ => rfl) (fun _ => rfl) t d

theorem before_8 (c : Dev nD) (t : Fin (cfg0 a).N) (d) : (dats a V 0 c).before 8 t d = blk a V c 8 t :=
  (dats a V 0 c).before_in_eq_fetched 8 rfl (fun _ => rfl) (fun _ _ _ => rfl) (fun _ => rfl) t d

theorem before_9 (c : Dev nD) (t : Fin (cfg0 a).N) (d) : (dats a V 0 c).before 9 t d = blk a V c 9 t :=
  (dats a V 0 c).before_in_eq_fetched 9 rfl (fun _ => rfl) (fun _ _ _ => rfl) (fun _ => rfl) t d

theorem before_10 (c : Dev nD) (t : Fin (cfg0 a).N) (d) : (dats a V 0 c).before 10 t d = blk a V c 10 t :=
  (dats a V 0 c).before_in_eq_fetched 10 rfl (fun _ => rfl) (fun _ _ _ => rfl) (fun _ => rfl) t d

/-- The three tables, each at half. -/
theorem tables_eq (c : Dev nD) : (Pipeline.ΦT (U := UR sig nD τ) pre0 a.1 c : sProp 𝕄)
    = iprop(((c : Thread nD τ).loc main_v59 ↦{fullShare.right} a.1 0) ∗ ((c : Thread nD τ).loc main_v29 ↦{fullShare.right} a.1 1) ∗ ((c : Thread nD τ).loc main_v16 ↦{fullShare.right} a.1 2)) := by
  unfold Pipeline.ΦT Pipeline.prefHeld
  exact bigSep_univ_eq_bigSepL [(0 : Fin 3), (1 : Fin 3), (2 : Fin 3)] (by decide) (by decide) _

variable {a} {n : Nat} {e : Fin 64 → Fin 64} (ht : Tables a.1 n e)
include ht

omit ht in
/-- A test for equality of two words, as the body writes it. -/
theorem eqTest (x z : BitVec 32) : Scalar.cmpi .ne (Scalar.extui (Scalar.cmpi .eq x z)) 0#32 = 1#1 ↔ x = z := by
  by_cases h : x = z
  · have e : Scalar.cmpi .eq x z = 1#1 := by
      show BitVec.ofBool (x == z) = 1#1
      rw [beq_iff_eq.mpr h]; rfl
    rw [e]; exact ⟨fun _ => h, fun _ => by decide⟩
  · have e : Scalar.cmpi .eq x z = 0#1 := by
      show BitVec.ofBool (x == z) = 0#1
      rw [beq_eq_false_iff_ne.mpr h]; rfl
    rw [e]; exact ⟨fun h' => absurd h' (by decide), fun h' => absurd h' h⟩

theorem N_eq : (cfg0 a).N = n := ht.N_eq

/-- A point's coordinate is the point. -/
theorem coord_val (t : Fin (cfg0 a).N) : ((cfg0 a).grid.coords t 0).val = t.val := by
  refine (Pipeline.Grid.coords_val t 0 (S := 1) (B := n) ?_ ht.bound).trans ?_
  · rfl
  · rw [Nat.div_one, Nat.mod_eq_of_lt (lt_of_lt_of_eq t.isLt ht.N_eq)]

theorem coordW_toNat (t : Fin (cfg0 a).N) : (coordW a t).toNat = t.val := by
  unfold coordW
  rw [coord_val ht, BitVec.toNat_ofNat, Nat.mod_eq_of_lt]
  have := lt_of_lt_of_eq t.isLt ht.N_eq
  have := ht.le
  omega

theorem chk (t : Fin (cfg0 a).N) : k0_chk1 (coordW a t) := by
  have h1 := coordW_toNat ht t
  have h2 := lt_of_lt_of_eq t.isLt ht.N_eq
  have h3 := ht.le
  intro b
  match b with
  | ⟨0, _⟩ =>
    show (coordW a t).toNat + 1 ≤ 64
    omega

/-- The body's test for the last point. -/
theorem last_iff (t : Fin (cfg0 a).N) : k0_cond2 (coordW a t) (a.1 2 (ValueIdx.ix1 0)) = 1#1 ↔ t.val + 1 = n := by
  have h1 := coordW_toNat ht t
  have h2 := lt_of_lt_of_eq t.isLt ht.N_eq
  have h3 := ht.le
  have h4 : (a.1 2 (ValueIdx.ix1 0) : BitVec 32) = BitVec.ofNat 32 n := ht.count' _
  rw [h4]
  have key : ∀ (x y : BitVec 32), k0_cond2 x y = 1#1 ↔ x = y - 1#32 := by
    intro x y
    exact eqTest x (y - 1#32)
  rw [key]
  constructor
  · intro h
    have := congrArg BitVec.toNat h
    rw [h1, BitVec.toNat_sub, BitVec.toNat_ofNat] at this
    simp at this
    omega
  · intro h
    apply BitVec.eq_of_toNat_eq
    rw [h1, BitVec.toNat_sub, BitVec.toNat_ofNat]
    simp
    omega

omit ht in
/-- The output window is idle away from the last point. -/
theorem idle11 (t : Fin (cfg0 a).N) : (cfg0 a).idle 11 ((cfg0 a).grid.coords t) = !(k0_cond2 (coordW a t) (a.1 2 (ValueIdx.ix1 0)) == 1#1) := by
  have h : a.1.atD 2 ![0] = a.1 2 (ValueIdx.ix1 0) := by
    refine (dif_pos (show ∀ b : Fin (pre0.ref 2).ty.shape.rank, (![0] : Fin 1 → Nat) b + 1 ≤ (pre0.ref 2).ty.shape.size b from fun b => by
      match b with
      | ⟨0, _⟩ => exact Nat.le_refl 1)).trans ?_
    refine congrArg (a.1 2) (funext fun b => ?_)
    match b with
    | ⟨0, _⟩ => rfl
  show (!(k0_cond2 (coordW a t) (a.1.atD 2 ![0]) == 1#1)) = _
  rw [h]

theorem flush11 (t : Fin (cfg0 a).N) : ((cfg0 a).win 11).flush t = true ↔ t.val + 1 = n := by
  have hlt := lt_of_lt_of_eq t.isLt ht.N_eq
  refine (Pipeline.Window.flush_const ((cfg0 a).win 11) rfl (fun _ _ => rfl) (n := n) (m := n - 1) ht.N_eq (by omega) t).trans ?_
  rw [Nat.mod_eq_of_lt hlt]
  omega

omit ht in
/-- At the first point the old contents do not matter. -/
theorem accStep_first (c : Dev nD) (t : Fin (cfg0 a).N) (h : coordW a t = 0#32) (f g : Vec F S96x2048 .f32) : accStep a V c t f = accStep a V c t g := by
  have hb : (coordW a t == 0#32) = true := beq_iff_eq.mpr h
  unfold accStep
  rw [hb]
  unfold accNew
  rfl

/-- The step from what the invariant holds is the next accumulator. -/
theorem accStep_eq (c : Dev nD) (t : Fin (cfg0 a).N) (f : Vec F S96x2048 .f32) (hf : t.val ≠ 0 → f = accAt a V c t.val) : accStep a V c t f = accAt a V c (t.val + 1) := by
  rw [accAt_succ]
  by_cases h : t.val = 0
  · refine accStep_first V c t ?_ _ _
    apply BitVec.eq_of_toNat_eq
    rw [coordW_toNat ht, h]; rfl
  · rw [hf h]

/-- What the step leaves in the output window's buffer is what the pipeline wants there. -/
theorem leaves11 (c : Dev nD) (t : Fin (cfg0 a).N) (d) (f : Vec F S96x2048 .f32) (hf : t.val ≠ 0 → f = accAt a V c t.val)
    (X : Vec F S96x2048 .bf16) (hX : X = if k0_cond2 (coordW a t) (a.1 2 (ValueIdx.ix1 0)) = 1#1 then k0_pay6 (accStep a V c t f) else (dats a V 0 c).before 11 t d) :
    owns (c : Thread nD τ) (((cfg0 a).win 11).stage ((cfg0 a).slots t 11)) fullShare X ⊢ ((dats a V 0 c).leavesExact 11 t : sProp 𝕄) := by
  by_cases h : k0_cond2 (coordW a t) (a.1 2 (ValueIdx.ix1 0)) = 1#1
  · have hX' : X = (dats a V 0 c).after 11 t := (hX.trans (if_pos h)).trans (congrArg k0_pay6 (accStep_eq V ht c t f hf))
    subst hX'
    unfold Dat.leavesExact
    rw [idle11, h]
    exact .rfl
  · have hi : (cfg0 a).idle 11 ((cfg0 a).grid.coords t) = true := by
      rw [idle11, beq_eq_false_iff_ne.mpr h]; rfl
    have hfl : ((cfg0 a).win 11).flush t = false := by
      rw [← Bool.not_eq_true, flush11 ht, ← last_iff ht]; exact h
    have hX' : X = (dats a V 0 c).before 11 t d := hX.trans (if_neg h)
    subst hX'
    rw [Dat.leavesExact_idle _ 11 t hi hfl]
    iintro H; iexists d; iexact H

set_option backward.isDefEq.respectTransparency.types false in
/-- The body's obligation at every point. -/
theorem body_obligation (c : Dev nD) : BodyObligation (dats a V 0 c) (defs₀ (F := F)) Variants.none () Set.univ := fun t => by
  rw [bigSep_W0, bigSep_W0]
  rw [show (dats a V 0 c).Φ t.castSucc = Φat a V c t.val from rfl, show (dats a V 0 c).Φ t.succ = Φat a V c (t.val + 1) from rfl]
  unfold Φat Dat.owesAt Pipeline.owesWithin
  rw [tables_eq]
  rw [show (dats a V 0 c).owed t.castSucc = 0 from rfl, show (dats a V 0 c).owed t.succ = 0 from rfl]
  have e0 : (a.1 1 (ValueIdx.ix1 ⟨(coordW a t).toNat, inRange (chk ht t)⟩)) = a.1 1 (ValueIdx.ix1 ⟨(coordW a t).toNat % 64, Nat.mod_lt _ (by decide)⟩) :=
    congrArg (fun k => a.1 1 (ValueIdx.ix1 k)) (Fin.ext (Nat.mod_eq_of_lt (inRange (chk ht t))).symm)
  iintro ⟨⟨⟨%f15, H15⟩, ⟨%f16, %hf16, H16⟩, ⟨T0, T1, T2⟩, Hprng⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0]
  rw [before_1]
  rw [before_2]
  rw [before_3]
  rw [before_4]
  rw [before_5]
  rw [before_6]
  rw [before_7]
  rw [before_8]
  rw [before_9]
  rw [before_10]
  iapply (stepRun c (dynb0 a.1) (Pipeline.Grid.Coords.static grid0 ((cfg0 a).grid.coords t)) (coordW a t) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (a.1 1) (a.1 2) (blk a V c 0 t) (blk a V c 1 t) (blk a V c 2 t) (blk a V c 3 t) (blk a V c 4 t) (blk a V c 5 t) (blk a V c 6 t) (blk a V c 7 t) (blk a V c 8 t) (blk a V c 9 t) (blk a V c 10 t) ((dats a V 0 c).before 11 t d11) f15 f16 W (chk ht t))
  rw [e0]
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H15]; · iexact H15
  isplitl [H16]; · iexact H16
  isplitl [HO]; · iexact HO
  iintro ⟨T1, T2, H0, H1, H2, H3, H4, H5, H6, H7, H8, H9, H10, H11, H15, H16, HO⟩
  isplitl [H15 H16 T0 T1 T2 Hprng]
  · isplitl [H15]; · iexact H15
    isplitl [H16]
    · iexists _; isplitr; swap; (· iexact H16); ipureintro; exact fun _ => accStep_eq V ht c t f16 hf16
    isplitl [T0 T1 T2]
    · isplitl [T0]; · iexact T0
      isplitl [T1]; · iexact T1
      iexact T2
    iexact Hprng
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (leaves11 V ht c t d11 f16 hf16 _ rfl)
  iexact H11

end Cert.KernelIdeal.Step

end
-- ==== Proof.RunMain.lean ====
/-
  The kernel's run: after the host operations and the region, the output array holds what the pipeline computes, and every
  other array is as the host operations left it.
-/
module

public import proofs.«01_k».proof.Proof.Run

@[expose] public section

set_option maxRecDepth 100000
set_option maxHeartbeats 4000000

noncomputable section

namespace Cert.KernelIdeal.Step

open Cert.KernelIdeal Cert.KernelIdeal.Gen Cert.KernelIdeal.Tile Cert.KernelIdeal.Host
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch; -/
abbrev V₀ (c : Dev nD) : Valuation τ sig (Elt F) := fun b => m (c, b)
/-- and when the region is entered. -/
def Vr (c : Dev nD) (b : Ref sig .tc) : Buf (Elt F) ((c : Thread nD τ).loc b) := val (V₀ m c) (Proc.devRef .tc b)

/-- The tables the region is entered at. -/
def tabs : (p : Fin 1) → (pcfgs (F := F) p).Adm := fun _ => adm (V₀ m 0)

/-- The mask of used experts at launch. -/
abbrev usedM : IVec S64 1 := used (m ((0 : Dev nD), Proc.devRef .tc main_arg1))

theorem tabsOk : Tables (tabs (F := F) m 0).1 (cnt (usedM m)) (expert (usedM m)) := tables (V₀ m 0)

theorem hostFresh : (opss (F := F)).Forall fun ops => ops.Forall fun op => op.fresh = ∅ :=
  ⟨fresh0, fresh1, fresh2, fresh3, fresh4, fresh5, fresh6, fresh7, fresh8, fresh9, fresh10, fresh11, fresh12, fresh13, fresh14, fresh15, fresh16, fresh17, fresh18⟩

theorem hostSub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

set_option backward.isDefEq.respectTransparency.types false in
theorem hmain : Pipeline.HMainP (Ix := Unit) (Name := ℕ) (U := UR sig nD τ) (Lvl := ℕ) (pcfgs (F := F)) 0 defs₀ Variants.none m (main (F := F)) (Vr m) := by
  have h := Pipeline.hmainP_prefixes (Ix := Unit) (Name := ℕ) (U := UR sig nD τ) (Lvl := ℕ) (pcfgs (F := F)) 0 defs₀ Variants.none m (main (F := F)) opss hostSub hostFresh
    (fun c => main_chain c)
  rw [show (fun (c : Dev nD) (b : Ref sig .tc) => StableHlo.after (opss (F := F)).flatten (fun b => m (c, b)) b) = Vr m from
    funext fun c => funext fun b => congrFun (after_opss (V₀ m c)) (Proc.devRef .tc b)] at h
  exact h

/-- What the run ends in: every window's array as the pipeline computes it, every other unscoped buffer as the host
    operations left it. -/
theorem run : θ_run defs (onTc (τ := τ) (main (F := F))) (s₀ m ρ) (fun r =>
    Pipeline.FramePost (Pipeline.pin (pcfgs (F := F)) (tabs m)) (dats (tabs m 0) (Vr m)) 0 (Vr m) r ∧ r.2.sem = fun _ => 0) :=
  Pipeline.θ_run_frameP_track (pcfgs (F := F)) (tabs m) (dats (tabs m 0) (Vr m)) 0 Gen.launch0 defs₀ Variants.none m ρ main
    (fun c => (body_obligation (Vr m) (tabsOk m) c).loose)
    (fun c => (dats (tabs m 0) (Vr m) 0 c).share_full fun _ => rfl) (fun _ _ => rfl) (Vr m) (hmain m)
    (fun c w => A_eq (tabs m 0) (Vr m) c w)
    (fun c k => by rw [Subsingleton.elim c 0]; rfl)
    (fun c => by
      rw [show (dats (tabs m 0) (Vr m) 0 c).Φ 0 = Φat (tabs m 0) (Vr m) c 0 from rfl]
      unfold Φat Pipeline.ΦA
      rw [scopedRest0_eq]
      iintro ⟨⟨⟨H15, ⟨%f, H16⟩⟩, Hp⟩, HT⟩
      isplitl [H15]; · iexact H15
      isplitl [H16]
      · iexists f; isplitr; swap; (· iexact H16); ipureintro; exact fun h => absurd rfl h
      isplitl [HT]; · iexact HT
      iexact Hp)
    (fun c => by
      rw [show (dats (tabs m 0) (Vr m) 0 c).Φ (Fin.last _) = Φat (tabs m 0) (Vr m) c (cfg0 (tabs m 0)).N from rfl]
      unfold Φat Pipeline.ΦA
      rw [scopedRest0_eq]
      iintro ⟨H15, ⟨%f, %hf, H16⟩, HT, Hp⟩
      isplitr [Hp]; swap; · iexact Hp
      isplitl [H15]; · iexact H15
      iexists f; iexact H16)
    _ (fun _ h => h)

end Cert.KernelIdeal.Step

end
-- ==== Proof.Frame.lean ====
/-
  The kernel terminates, leaves every argument as it found it and every semaphore at zero; and the result array ends at what
  the pipeline's last write-back put there.
-/
module

public import proofs.«01_k».proof.Proof.RunMain

@[expose] public section

set_option maxRecDepth 100000
set_option maxHeartbeats 4000000

noncomputable section

namespace Cert.KernelIdeal.Step

open Cert.KernelIdeal Cert.KernelIdeal.Gen Cert.KernelIdeal.Host
open Idealize.ShloMosaic
open Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- What the run ends in. -/
abbrev Post (r : PUnit × MemSt nD τ sig (Elt F)) : Prop :=
  Pipeline.FramePost (Pipeline.pin (pcfgs (F := F)) (tabs m)) (dats (tabs m 0) (Vr m)) 0 (Vr m) r ∧ r.2.sem = fun _ => 0

/-- An array no window is over ends as it was. -/
theorem rest {r : PUnit × MemSt nD τ sig (Elt F)} (h : Post m r) (c : Dev nD) (b : Ref sig .tc) (hs : b.isScoped = false)
    (ha : ∀ w, (spec0 w).arr.view.ref ≠ b) (ho : b ∉ outs) : r.2.mem ((c : Thread nD τ).loc b) = m ((c : Thread nD τ).loc b) :=
  ((h.1 c).2 b (Pipeline.mem_restRefs_of b hs ha)).trans (keep (V₀ m c) b ho)

theorem in5 {r : PUnit × MemSt nD τ sig (Elt F)} (h : Post m r) (c : Dev nD) : r.2.mem ((c : Thread nD τ).loc main_arg3) = m ((c : Thread nD τ).loc main_arg3) :=
  ((h.1 c).1 5).trans (((dats (tabs m 0) (Vr m) 0 c).arrAt_in 5 rfl _).trans (keep (V₀ m c) main_arg3 (by decide +kernel)))

theorem in7 {r : PUnit × MemSt nD τ sig (Elt F)} (h : Post m r) (c : Dev nD) : r.2.mem ((c : Thread nD τ).loc main_arg5) = m ((c : Thread nD τ).loc main_arg5) :=
  ((h.1 c).1 7).trans (((dats (tabs m 0) (Vr m) 0 c).arrAt_in 7 rfl _).trans (keep (V₀ m c) main_arg5 (by decide +kernel)))

theorem args {r : PUnit × MemSt nD τ sig (Elt F)} (h : Post m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨rest m h c main_arg0 rfl (by decide) (by decide +kernel), rest m h c main_arg1 rfl (by decide) (by decide +kernel),
    rest m h c main_arg2 rfl (by decide) (by decide +kernel), in5 m h c, rest m h c main_arg4 rfl (by decide) (by decide +kernel),
    in7 m h c, rest m h c main_arg6 rfl (by decide) (by decide +kernel), rest m h c main_arg7 rfl (by decide) (by decide +kernel),
    rest m h c main_arg8 rfl (by decide) (by decide +kernel)⟩

end Cert.KernelIdeal.Step

end
-- ==== Proof.Value.Decode.lean ====
/-
  The decoding at ideal values, read at an index: row `p` of a block of 64 codes is code `4 (p mod 16) + p / 16`, the high half
  of its byte for even codes and the low half for odd ones, looked up in the table and multiplied by the column's scale.
-/
module

public import proofs.«01_k».proof.Proof.Tile
public import Idealize.ShloMosaic.Lib.ValueIdx
public import Idealize.ShloMosaic.Lib.BitcastFour
public import Idealize.ShloMosaic.Lib.BitcastPair
public import Idealize.ShloMosaic.Lib.MatmulPlain
public import Idealize.ShloMosaic.Lib.Pipeline.Value
public import Idealize.ShloMosaic.Lib.Pointwise

@[expose] public section

set_option maxRecDepth 100000
set_option maxHeartbeats 1000000

noncomputable section

namespace Cert.KernelIdeal.Value

open Cert.KernelIdeal Cert.KernelIdeal.Tile
open Idealize.ShloMosaic hiding ix0 ix1 ix2 ix3 ix4
open Idealize.ShloMosaic.ValueIdx

/-- Where row `n` of the decoded weights comes from: within its block of 64, code `4 (n mod 16) + (n mod 64) / 16`. -/
def src (n : Nat) : Nat := 64 * (n / 64) + (4 * (n % 16) + n % 64 / 16)

/-- The code in a byte: its high half, or (`odd`) its low half. -/
def nib (b : BitVec 8) (odd : Bool) : BitVec 32 := IntOp.andi ((b.setWidth 32) >>> (if odd then 0 else 4)) 15#32

/-- Four bits of a half-word at a shift are a half of a byte. -/
theorem nib_of_bits (h : BitVec 16) (b : BitVec 8) (sh : Nat) (odd : Bool) (hsh : sh + 4 ≤ 16)
    (hb : ∀ q, q < 4 → h.getLsbD (sh + q) = b.getLsbD ((if odd then 0 else 4) + q)) :
    IntOp.andi ((h.signExtend 32).sshiftRight sh) 15#32 = nib b odd := by
  have key : ∀ x : BitVec 32, ∀ q, (IntOp.andi x 15#32).getLsbD q = (x.getLsbD q && decide (q < 4)) := by
    intro x q
    show (x &&& 15#32).getLsbD q = _
    rw [BitVec.getLsbD_and]
    congr 1
    rw [show (15#32 : BitVec 32) = BitVec.ofNat 32 (2 ^ 4 - 1) from rfl, BitVec.getLsbD_ofNat, Nat.testBit_two_pow_sub_one]
    by_cases hq : q < 4
    · simp [hq]; omega
    · simp [hq]
  apply BitVec.eq_of_getLsbD_eq
  intro q hq
  unfold nib
  rw [key, key]
  by_cases h4 : q < 4
  · simp only [h4, decide_true, Bool.and_true]
    rw [BitVec.getLsbD_sshiftRight, BitVec.getLsbD_signExtend, BitVec.getLsbD_ushiftRight, BitVec.getLsbD_setWidth, ← hb q h4]
    have e1 : sh + q < 32 := by omega
    have e2 : sh + q < 16 := by omega
    have e3 : (if odd = true then 0 else 4) + q < 32 := by split <;> omega
    simp [e1, e2, hq, e3, hb q h4]
    try omega
  · simp [h4]

/-- Half-word `rr` of a column of words is half of word `rr / 2`. -/
theorem half_apply (w : IVec S8x128 32) (rr : Fin 16) (l : Fin 128) :
    bitcast S16x128 16 w Gen.facts.toFacts₀.bitcasts_S8x128_w32_S16x128_w16 (ix2 rr l) = (w (ix2 ⟨rr.val / 2, by omega⟩ l)).extractLsb' (16 * (rr.val % 2)) 16 := by
  rw [bitcast_32_16]
  congr 2
  funext a
  match a with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

/-- Four pieces laid one under another, read at a row of piece `k`. -/
theorem concat4 {α : Type} {N R C : Nat} (x0 x1 x2 x3 : (⟨2, ![R, C]⟩ : Shape).Idx → α)
    (h : Shape.Concatenates ([(⟨2, ![R, C]⟩ : Shape), ⟨2, ![R, C]⟩, ⟨2, ![R, C]⟩, ⟨2, ![R, C]⟩]) (⟨2, ![N, C]⟩ : Shape) 0)
    (p : Fin N) (r : Fin R) (c : Fin C) (k : Fin 4) (hp : p.val = R * k.val + r.val) :
    concatenate (⟨2, ![N, C]⟩ : Shape) 0 [⟨⟨2, ![R, C]⟩, x0⟩, ⟨⟨2, ![R, C]⟩, x1⟩, ⟨⟨2, ![R, C]⟩, x2⟩, ⟨⟨2, ![R, C]⟩, x3⟩] h (ix2 p c) = ![x0, x1, x2, x3] k (ix2 r c) := by
  have off : ∀ b : Fin 2, b ≠ 0 → (ix2 r c b).val = (ix2 p c b).val := by
    intro b hb
    match b with
    | ⟨0, _⟩ => exact absurd rfl hb
    | ⟨1, _⟩ => rfl
  match k with
  | ⟨0, _⟩ => exact concatenate_apply_piece (t := (⟨2, ![N, C]⟩ : Shape)) 0 [⟨⟨2, ![R, C]⟩, x0⟩, ⟨⟨2, ![R, C]⟩, x1⟩, ⟨⟨2, ![R, C]⟩, x2⟩, ⟨⟨2, ![R, C]⟩, x3⟩] h (ix2 p c) 0 (show 0 < 4 by omega) ⟨2, ![R, C]⟩ x0 rfl rfl 0 rfl (ix2 r c) off (by show 0 + r.val = p.val; simp only at hp; omega)
  | ⟨1, _⟩ => exact concatenate_apply_piece (t := (⟨2, ![N, C]⟩ : Shape)) 0 [⟨⟨2, ![R, C]⟩, x0⟩, ⟨⟨2, ![R, C]⟩, x1⟩, ⟨⟨2, ![R, C]⟩, x2⟩, ⟨⟨2, ![R, C]⟩, x3⟩] h (ix2 p c) 1 (show 1 < 4 by omega) ⟨2, ![R, C]⟩ x1 rfl rfl R (Nat.add_zero _) (ix2 r c) off (by show R + r.val = p.val; simp only at hp; omega)
  | ⟨2, _⟩ => exact concatenate_apply_piece (t := (⟨2, ![N, C]⟩ : Shape)) 0 [⟨⟨2, ![R, C]⟩, x0⟩, ⟨⟨2, ![R, C]⟩, x1⟩, ⟨⟨2, ![R, C]⟩, x2⟩, ⟨⟨2, ![R, C]⟩, x3⟩] h (ix2 p c) 2 (show 2 < 4 by omega) ⟨2, ![R, C]⟩ x2 rfl rfl (R + R) (by show R + (R + 0) = _; omega) (ix2 r c) off (by show R + R + r.val = p.val; simp only at hp; omega)
  | ⟨3, _⟩ => exact concatenate_apply_piece (t := (⟨2, ![N, C]⟩ : Shape)) 0 [⟨⟨2, ![R, C]⟩, x0⟩, ⟨⟨2, ![R, C]⟩, x1⟩, ⟨⟨2, ![R, C]⟩, x2⟩, ⟨⟨2, ![R, C]⟩, x3⟩] h (ix2 p c) 3 (show 3 < 4 by omega) ⟨2, ![R, C]⟩ x3 rfl rfl (R + R + R) (by show R + (R + (R + 0)) = _; omega) (ix2 r c) off (by show R + R + R + r.val = p.val; simp only at hp; omega)

/-- Two pieces laid one under another. -/
theorem concat2 {α : Type} {N R C : Nat} (x0 x1 : (⟨2, ![R, C]⟩ : Shape).Idx → α)
    (h : Shape.Concatenates ([(⟨2, ![R, C]⟩ : Shape), ⟨2, ![R, C]⟩]) (⟨2, ![N, C]⟩ : Shape) 0)
    (p : Fin N) (r : Fin R) (c : Fin C) (k : Fin 2) (hp : p.val = R * k.val + r.val) :
    concatenate (⟨2, ![N, C]⟩ : Shape) 0 [⟨⟨2, ![R, C]⟩, x0⟩, ⟨⟨2, ![R, C]⟩, x1⟩] h (ix2 p c) = ![x0, x1] k (ix2 r c) := by
  have off : ∀ b : Fin 2, b ≠ 0 → (ix2 r c b).val = (ix2 p c b).val := by
    intro b hb
    match b with
    | ⟨0, _⟩ => exact absurd rfl hb
    | ⟨1, _⟩ => rfl
  match k with
  | ⟨0, _⟩ => exact concatenate_apply_piece (t := (⟨2, ![N, C]⟩ : Shape)) 0 [⟨⟨2, ![R, C]⟩, x0⟩, ⟨⟨2, ![R, C]⟩, x1⟩] h (ix2 p c) 0 (show 0 < 2 by omega) ⟨2, ![R, C]⟩ x0 rfl rfl 0 rfl (ix2 r c) off (by show 0 + r.val = p.val; simp only at hp; omega)
  | ⟨1, _⟩ => exact concatenate_apply_piece (t := (⟨2, ![N, C]⟩ : Shape)) 0 [⟨⟨2, ![R, C]⟩, x0⟩, ⟨⟨2, ![R, C]⟩, x1⟩] h (ix2 p c) 1 (show 1 < 2 by omega) ⟨2, ![R, C]⟩ x1 rfl rfl R (Nat.add_zero _) (ix2 r c) off (by show R + r.val = p.val; simp only at hp; omega)

/-- Two pieces laid side by side. -/
theorem concatCols {α : Type} {N R C : Nat} (x0 x1 : (⟨2, ![R, C]⟩ : Shape).Idx → α)
    (h : Shape.Concatenates ([(⟨2, ![R, C]⟩ : Shape), ⟨2, ![R, C]⟩]) (⟨2, ![R, N]⟩ : Shape) 1)
    (r : Fin R) (p : Fin N) (c : Fin C) (k : Fin 2) (hp : p.val = C * k.val + c.val) :
    concatenate (⟨2, ![R, N]⟩ : Shape) 1 [⟨⟨2, ![R, C]⟩, x0⟩, ⟨⟨2, ![R, C]⟩, x1⟩] h (ix2 r p) = ![x0, x1] k (ix2 r c) := by
  have off : ∀ b : Fin 2, b ≠ 1 → (ix2 r c b).val = (ix2 r p b).val := by
    intro b hb
    match b with
    | ⟨1, _⟩ => exact absurd rfl hb
    | ⟨0, _⟩ => rfl
  match k with
  | ⟨0, _⟩ => exact concatenate_apply_piece (t := (⟨2, ![R, N]⟩ : Shape)) 1 [⟨⟨2, ![R, C]⟩, x0⟩, ⟨⟨2, ![R, C]⟩, x1⟩] h (ix2 r p) 0 (show 0 < 2 by omega) ⟨2, ![R, C]⟩ x0 rfl rfl 0 rfl (ix2 r c) off (by show 0 + c.val = p.val; simp only at hp; omega)
  | ⟨1, _⟩ => exact concatenate_apply_piece (t := (⟨2, ![R, N]⟩ : Shape)) 1 [⟨⟨2, ![R, C]⟩, x0⟩, ⟨⟨2, ![R, C]⟩, x1⟩] h (ix2 r p) 1 (show 1 < 2 by omega) ⟨2, ![R, C]⟩ x1 rfl rfl C (Nat.add_zero _) (ix2 r c) off (by show C + c.val = p.val; simp only at hp; omega)

/-- Words hold bytes: byte `p` of a column is a quarter of word `p / 4`. -/
def Holds (w : IVec S8x128 32) (T : Fin 32 → Fin 128 → BitVec 8) : Prop :=
  ∀ (p : Fin 32) (l : Fin 128) (q : Nat), q < 8 → (w (ix2 ⟨p.val / 4, by omega⟩ l)).getLsbD (8 * (p.val % 4) + q) = (T p l).getLsbD q

/-- One of the four runs of codes. -/
theorem run_apply (w : IVec S8x128 32) (T : Fin 32 → Fin 128 → BitVec 8) (hw : Holds w T) (rr : Fin 16) (l : Fin 128) (sh : Nat) (odd : Bool) (k : Fin 2)
    (hk : sh = 8 * k.val + (if odd then 0 else 4)) :
    IntOp.andi (((bitcast S16x128 16 w Gen.facts.toFacts₀.bitcasts_S8x128_w32_S16x128_w16 (ix2 rr l)).signExtend 32).sshiftRight sh) 15#32
      = nib (T ⟨2 * rr.val + k.val, by omega⟩ l) odd := by
  refine nib_of_bits _ _ sh odd (by split at hk <;> omega) fun q hq => ?_
  have h1 : (if odd = true then 0 else 4) + q < 8 := by split <;> omega
  rw [← hw ⟨2 * rr.val + k.val, by omega⟩ l _ h1, half_apply, BitVec.getLsbD_extractLsb']
  have h2 : sh + q < 16 := by split at hk <;> omega
  have h3 : 16 * (rr.val % 2) + (sh + q) = 8 * ((2 * rr.val + k.val) % 4) + ((if odd = true then 0 else 4) + q) := by omega
  have h4 : (⟨rr.val / 2, by omega⟩ : Fin 8) = ⟨(2 * rr.val + k.val) / 4, by omega⟩ := Fin.ext (by show rr.val / 2 = (2 * rr.val + k.val) / 4; omega)
  simp only [h2, decide_true, Bool.true_and, h3, h4]

/-- The half-words, widened and shifted. -/
abbrev run (w : IVec S8x128 32) (sh : BitVec 32) : IVec S16x128 32 :=
  shrsi (extsi 32 (bitcast S16x128 16 w Gen.facts.toFacts₀.bitcasts_S8x128_w32_S16x128_w16) Gen.facts.toFacts₀.natLt_16_32) (broadcast S16x128 sh)

/-- The codes at an index. -/
theorem codes_apply (w : IVec S8x128 32) (T : Fin 32 → Fin 128 → BitVec 8) (hw : Holds w T) (p : Fin 64) (l : Fin 128) :
    codes w (ix2 p l) = nib (T ⟨2 * (p.val % 16) + p.val / 16 / 2, by omega⟩ l) (p.val / 16 % 2 == 1) := by
  have hp : p.val = 16 * (p.val / 16) + p.val % 16 := by omega
  have hlt : p.val / 16 < 4 := by omega
  show IntOp.andi (concatenate S64x128 0 _ _ (ix2 p l)) 15#32 = _
  obtain ⟨o, ho⟩ : ∃ o, o = p.val / 16 := ⟨_, rfl⟩
  have fin : ∀ (sh : Nat) (odd : Bool) (k : Fin 2), sh = 8 * k.val + (if odd then 0 else 4) → p.val / 16 = 2 * k.val + (if odd then 1 else 0) →
      IntOp.andi (((bitcast S16x128 16 w Gen.facts.toFacts₀.bitcasts_S8x128_w32_S16x128_w16 (ix2 ⟨p.val % 16, by omega⟩ l)).signExtend 32).sshiftRight sh) 15#32
        = nib (T ⟨2 * (p.val % 16) + p.val / 16 / 2, by omega⟩ l) (p.val / 16 % 2 == 1) := by
    intro sh odd k hsh hpk
    rw [run_apply w T hw ⟨p.val % 16, by omega⟩ l sh odd k hsh]
    have e2 : (p.val / 16 % 2 == 1) = odd := by
      cases odd
      · simp at hpk ⊢; omega
      · simp at hpk ⊢; omega
    have e1 : (⟨2 * (p.val % 16) + k.val, by omega⟩ : Fin 32) = ⟨2 * (p.val % 16) + p.val / 16 / 2, by omega⟩ :=
      Fin.ext (by show 2 * (p.val % 16) + k.val = 2 * (p.val % 16) + p.val / 16 / 2; have : (if odd = true then 1 else 0) < 2 := by split <;> omega
                  omega)
    rw [e2, e1]
  have hcat := fun (k : Fin 4) (hk : p.val = 16 * k.val + p.val % 16) => concat4 (N := 64) (R := 16) (C := 128) (run w 4#32) (run w 0#32) (run w 12#32) (run w 8#32)
    Gen.facts.toFacts₀.concatenates_S16x128_S16x128_S16x128_S16x128_S64x128_d0 p ⟨p.val % 16, Nat.mod_lt _ (by decide)⟩ l k hk
  match o, ho with
  | 0, ho => exact Eq.trans (congrArg (fun z => IntOp.andi z 15#32) (hcat 0 (by show p.val = 16 * 0 + p.val % 16; omega))) (fin 4 false 0 rfl (by rw [← ho]; rfl))
  | 1, ho => exact Eq.trans (congrArg (fun z => IntOp.andi z 15#32) (hcat 1 (by show p.val = 16 * 1 + p.val % 16; omega))) (fin 0 true 0 rfl (by rw [← ho]; rfl))
  | 2, ho => exact Eq.trans (congrArg (fun z => IntOp.andi z 15#32) (hcat 2 (by show p.val = 16 * 2 + p.val % 16; omega))) (fin 12 false 1 rfl (by rw [← ho]; rfl))
  | 3, ho => exact Eq.trans (congrArg (fun z => IntOp.andi z 15#32) (hcat 3 (by show p.val = 16 * 3 + p.val % 16; omega))) (fin 8 true 1 rfl (by rw [← ho]; rfl))
  | n + 4, ho => omega

theorem nib_lt (b : BitVec 8) (odd : Bool) : (nib b odd).toNat < 16 := by
  show (_ &&& 15#32 : BitVec 32).toNat < 16
  rw [BitVec.toNat_and]
  exact Nat.lt_of_le_of_lt Nat.and_le_right (by decide)

/-- What the table holds: at lane `c < 16`, the level of code `c`. -/
def Levels (tab : FVec Ideal S64x128 .f32) (lev : Nat → EReal) : Prop :=
  ∀ (p : Fin 64) (l : Fin 128), l.val < 16 → tab (ix2 p l) = lev l.val

/-- A decoded value: the level of its code times its scale. -/
theorem decode_apply (tab : FVec Ideal S64x128 .f32) (lev : Nat → EReal) (ht : Levels tab lev) (w : IVec S8x128 32) (T : Fin 32 → Fin 128 → BitVec 8)
    (hw : Holds w T) (a : FVec Ideal S64x128 .f32) (p : Fin 64) (l : Fin 128) :
    decode tab w a (ix2 p l)
      = lev (nib (T ⟨2 * (p.val % 16) + p.val / 16 / 2, by omega⟩ l) (p.val / 16 % 2 == 1)).toNat * a (ix2 p l) := by
  unfold decode
  rw [shapeCast_shapeCast]
  show dynamicGather 1 tab (codes w) (ix2 p l) * a (ix2 p l) = _
  congr 1
  rw [dynamicGather_apply, codes_apply w T hw]
  generalize hn : nib _ _ = c
  have hc : c.toNat < 16 := hn ▸ nib_lt _ _
  rw [← ht p ⟨c.toNat, by omega⟩ hc]
  congr 1
  funext b
  match b with
  | ⟨0, _⟩ => rfl
  | ⟨1, _⟩ => exact Fin.ext (Nat.mod_eq_of_lt (show c.toNat < 128 by omega))

end Cert.KernelIdeal.Value

end
-- ==== Proof.Value.Half.lean ====
/-
  The decoded weights of one block, at an index, and the partial products over them at ideal values.
-/
module

public import proofs.«01_k».proof.Proof.Value.Decode

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4
open Idealize.ShloMosaic.ValueIdx

theorem src_lt (n k : Nat) (h : n < 64 * k) : src n < 64 * k := by unfold src; omega

/-- The words of a transposed block of gate or up codes, bit by bit. -/
theorem pay8_bits (w : Vec Ideal S1x128x128 .i8) (P : Fin 128) (l : Fin 128) (q : Nat) (hq : q < 8) :
    (k0_pay8 (F := Ideal) w (ix2 ⟨P.val / 4, by omega⟩ l)).getLsbD (8 * (P.val % 4) + q) = (w (ix3 0 l P) : BitVec 8).getLsbD q := by
  unfold k0_pay8
  refine (bitcast_8_32_getLsbD_ix2 _ _ _ _ _ (by omega) P (by show P.val = 4 * (P.val / 4) + (8 * (P.val % 4) + q) / 8; omega)).trans ?_
  rw [show (8 * (P.val % 4) + q) % 8 = q by omega]
  refine congrArg (fun b : BitVec 8 => b.getLsbD q) ?_
  refine (transpose_apply [1, 0] _ transposes_S128x128_p1_0_S128x128 (ix2 P l) (ix2 l P) ?_).trans ?_
  · intro b
    match b with
    | ⟨0, _⟩ => rfl
    | ⟨1, _⟩ => rfl
  · refine (shapeCast_dropUnit_apply ![128, 128] w shapeCasts_S1x128x128_S128x128 (ix2 l P)).trans (congrArg w ?_)
    funext a
    match a with
    | ⟨0, _⟩ => rfl
    | ⟨1, _⟩ => rfl
    | ⟨2, _⟩ => rfl

/-- The words of a block of down codes, bit by bit. -/
theorem pay167_bits (w : Vec Ideal S1x64x128 .i8) (P : Fin 64) (l : Fin 128) (q : Nat) (hq : q < 8) :
    (k0_pay167 (F := Ideal) w (ix2 ⟨P.val / 4, by omega⟩ l)).getLsbD (8 * (P.val % 4) + q) = (w (ix3 0 P l) : BitVec 8).getLsbD q := by
  unfold k0_pay167
  refine (bitcast_8_32_getLsbD_ix2 _ _ _ _ _ (by omega) P (by show P.val = 4 * (P.val / 4) + (8 * (P.val % 4) + q) / 8; omega)).trans ?_
  rw [show (8 * (P.val % 4) + q) % 8 = q by omega]
  refine congrArg (fun b : BitVec 8 => b.getLsbD q) ?_
  refine (shapeCast_dropUnit_apply ![64, 128] w shapeCasts_S1x64x128_S64x128 (ix2 P l)).trans (congrArg w ?_)
  funext a
  match a with
  | ⟨0, _⟩ => rfl
  | ⟨1, _⟩ => rfl
  | ⟨2, _⟩ => rfl

/-- Eight rows of words out of more. -/
theorem slice_holds {M : Nat} (x : (⟨2, ![M, 128]⟩ : Shape).Idx → BitVec 32) (o : Nat) (h : (⟨2, ![M, 128]⟩ : Shape).Slices ![o, 0] S8x128)
    (ho : o + 8 ≤ M) (T : Fin 32 → Fin 128 → BitVec 8)
    (hx : ∀ (p : Fin 32) (l : Fin 128) (q : Nat), q < 8 → (x (ix2 ⟨o + p.val / 4, by omega⟩ l)).getLsbD (8 * (p.val % 4) + q) = (T p l).getLsbD q) :
    Holds (extractStridedSlice S8x128 ![o, 0] x h) T := by
  intro p l q hq
  rw [← hx p l q hq]
  congr 1
  refine extractStridedSlice_apply _ _ _ _ _ fun a => ?_
  match a with
  | ⟨0, _⟩ => rfl
  | ⟨1, _⟩ => exact (Nat.zero_add _).symm

theorem scale1_apply (a : Vec Ideal S1x1x128 .f32) (p : Fin 64) (l : Fin 128) : scale1 (F := Ideal) a (ix2 p l) = a (ix3 0 0 l) := by
  unfold scale1
  refine (broadcastTo_apply _ broadcasts_S1x128_S64x128 (ix2 p l) (ix2 0 l) ?_).trans ?_
  · intro b
    match b with
    | ⟨0, _⟩ => rfl
    | ⟨1, _⟩ => rfl
  · refine (shapeCast_dropUnit_apply ![1, 128] a shapeCasts_S1x1x128_S1x128 (ix2 0 l)).trans (congrArg a ?_)
    funext a
    match a with
    | ⟨0, _⟩ => rfl
    | ⟨1, _⟩ => rfl
    | ⟨2, _⟩ => rfl

/-- One decoded block of 64 rows, of a block of bytes `B`. -/
theorem piece_apply (tab : FVec Ideal S64x128 .f32) (lev : Nat → EReal) (ht : Levels tab lev) (w : IVec S8x128 32) (a : FVec Ideal S64x128 .f32) {K : Nat}
    (g : Nat) (hg : 32 * g + 32 ≤ K) (B : Fin K → Fin 128 → BitVec 8) (hw : Holds w fun p l => B ⟨32 * g + p.val, by omega⟩ l)
    (r : Nat) (hr : r / 64 = g) (l : Fin 128) :
    decode tab w a (ix2 ⟨r % 64, Nat.mod_lt _ (by decide)⟩ l)
      = lev (nib (B ⟨src r / 2, by unfold src; omega⟩ l) (src r % 2 == 1)).toNat * a (ix2 ⟨r % 64, Nat.mod_lt _ (by decide)⟩ l) := by
  rw [decode_apply tab lev ht w _ hw]
  have e1 : src r / 2 = 32 * g + (2 * (r % 64 % 16) + r % 64 / 16 / 2) := by unfold src; omega
  have e2 : src r % 2 = r % 64 / 16 % 2 := by unfold src; omega
  simp only [e1, e2]

/-- A block of decoded gate or up weights. -/
theorem half1_apply (tab : FVec Ideal S64x128 .f32) (lev : Nat → EReal) (ht : Levels tab lev) (w : Vec Ideal S1x128x128 .i8) (a : Fin 4 → Vec Ideal S1x1x128 .f32)
    (r : Fin 256) (l : Fin 128) :
    half1 tab w a (ix2 r l)
      = lev (nib (w (ix3 0 l ⟨src r.val / 2, by unfold src; omega⟩)) (src r.val % 2 == 1)).toNat * a ⟨r.val / 64, by omega⟩ (ix3 0 0 l) := by
  have hold : ∀ (g o : Nat) (_ : o = 8 * g) (hg : g < 4) (h : S32x128.Slices ![o, 0] S8x128),
      Holds (extractStridedSlice S8x128 ![o, 0] (k0_pay8 (F := Ideal) w) h) fun p l => w (ix3 0 l ⟨32 * g + p.val, by omega⟩) := by
    intro g o ho hg h
    refine slice_holds (M := 32) _ o h (by omega) _ fun p l q hq => ?_
    refine Eq.trans ?_ (pay8_bits w ⟨32 * g + p.val, by omega⟩ l q hq)
    have e1 : (⟨o + p.val / 4, by omega⟩ : Fin 32) = ⟨(32 * g + p.val) / 4, by omega⟩ := Fin.ext (by show o + p.val / 4 = (32 * g + p.val) / 4; omega)
    have e2 : 8 * (p.val % 4) + q = 8 * ((32 * g + p.val) % 4) + q := by omega
    rw [e1, e2]
  have fin : ∀ (g o : Nat) (ho : o = 8 * g) (hg : g < 4) (h : S32x128.Slices ![o, 0] S8x128), r.val / 64 = g →
      decode tab (extractStridedSlice S8x128 ![o, 0] (k0_pay8 (F := Ideal) w) h) (scale1 (a ⟨g, hg⟩)) (ix2 ⟨r.val % 64, Nat.mod_lt _ (by decide)⟩ l)
        = lev (nib (w (ix3 0 l ⟨src r.val / 2, by unfold src; omega⟩)) (src r.val % 2 == 1)).toNat * a ⟨r.val / 64, by omega⟩ (ix3 0 0 l) := by
    intro g o ho hg h hr
    rw [piece_apply tab lev ht _ _ g (by omega) (fun P l => w (ix3 0 l P)) (hold g o ho hg h) r.val hr l, scale1_apply]
    have e : (⟨g, hg⟩ : Fin 4) = ⟨r.val / 64, by omega⟩ := Fin.ext hr.symm
    rw [e]
  have hcat := fun (k : Fin 4) (hk : r.val = 64 * k.val + r.val % 64) => concat4 (N := 256) (R := 64) (C := 128)
    (decode tab (extractStridedSlice S8x128 ![0, 0] (k0_pay8 (F := Ideal) w) slices_S32x128_o0_0_S8x128) (scale1 (a 0)))
    (decode tab (extractStridedSlice S8x128 ![8, 0] (k0_pay8 (F := Ideal) w) slices_S32x128_o8_0_S8x128) (scale1 (a 1)))
    (decode tab (extractStridedSlice S8x128 ![16, 0] (k0_pay8 (F := Ideal) w) slices_S32x128_o16_0_S8x128) (scale1 (a 2)))
    (decode tab (extractStridedSlice S8x128 ![24, 0] (k0_pay8 (F := Ideal) w) slices_S32x128_o24_0_S8x128) (scale1 (a 3)))
    concatenates_S64x128_S64x128_S64x128_S64x128_S256x128_d0 r ⟨r.val % 64, Nat.mod_lt _ (by decide)⟩ l k hk
  obtain ⟨o, ho⟩ : ∃ o, o = r.val / 64 := ⟨_, rfl⟩
  have : o < 4 := by omega
  match o, ho with
  | 0, ho => exact Eq.trans (hcat 0 (by show r.val = 64 * 0 + r.val % 64; omega)) (fin 0 0 rfl (by decide) _ ho.symm)
  | 1, ho => exact Eq.trans (hcat 1 (by show r.val = 64 * 1 + r.val % 64; omega)) (fin 1 8 rfl (by decide) _ ho.symm)
  | 2, ho => exact Eq.trans (hcat 2 (by show r.val = 64 * 2 + r.val % 64; omega)) (fin 2 16 rfl (by decide) _ ho.symm)
  | 3, ho => exact Eq.trans (hcat 3 (by show r.val = 64 * 3 + r.val % 64; omega)) (fin 3 24 rfl (by decide) _ ho.symm)
  | n + 4, ho => omega

end Cert.KernelIdeal.Value

end
-- ==== Proof.Value.Half2.lean ====
/-
  The decoded down weights of one block, at an index, and the two ways a sum over decoded rows is put in another order.
-/
module

public import proofs.«01_k».proof.Proof.Value.Half

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4
open Idealize.ShloMosaic.ValueIdx

/-- Eight copies of a piece laid one under another. -/
theorem concat8 {α : Type} (x : S8x128.Idx → α) (p : Fin 64) (l : Fin 128) :
    concatenate S64x128 0 [⟨S8x128, x⟩, ⟨S8x128, x⟩, ⟨S8x128, x⟩, ⟨S8x128, x⟩, ⟨S8x128, x⟩, ⟨S8x128, x⟩, ⟨S8x128, x⟩, ⟨S8x128, x⟩]
      concatenates_S8x128_S8x128_S8x128_S8x128_S8x128_S8x128_S8x128_S8x128_S64x128_d0 (ix2 p l) = x (ix2 (⟨p.val % 8, by omega⟩ : Fin 8) l) := by
  have hp : p.val = 8 * (p.val / 8) + p.val % 8 := by omega
  obtain ⟨k, hk⟩ : ∃ k, k = p.val / 8 := ⟨_, rfl⟩
  have hk8 : k < 8 := by omega
  have off : ∀ b : Fin 2, b ≠ 0 → (ix2 (⟨p.val % 8, by omega⟩ : Fin 8) l b).val = (ix2 p l b).val := by
    intro b hb
    match b with
    | ⟨0, _⟩ => exact absurd rfl hb
    | ⟨1, _⟩ => rfl
  match k, hk, hk8 with
  | 0, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 0 (show 0 < 8 by omega) S8x128 x rfl rfl 0 rfl (ix2 (⟨p.val % 8, by omega⟩ : Fin 8) l) off (by show 0 + p.val % 8 = p.val; omega)
  | 1, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 1 (show 1 < 8 by omega) S8x128 x rfl rfl 8 rfl (ix2 (⟨p.val % 8, by omega⟩ : Fin 8) l) off (by show 8 + p.val % 8 = p.val; omega)
  | 2, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 2 (show 2 < 8 by omega) S8x128 x rfl rfl 16 rfl (ix2 (⟨p.val % 8, by omega⟩ : Fin 8) l) off (by show 16 + p.val % 8 = p.val; omega)
  | 3, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 3 (show 3 < 8 by omega) S8x128 x rfl rfl 24 rfl (ix2 (⟨p.val % 8, by omega⟩ : Fin 8) l) off (by show 24 + p.val % 8 = p.val; omega)
  | 4, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 4 (show 4 < 8 by omega) S8x128 x rfl rfl 32 rfl (ix2 (⟨p.val % 8, by omega⟩ : Fin 8) l) off (by show 32 + p.val % 8 = p.val; omega)
  | 5, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 5 (show 5 < 8 by omega) S8x128 x rfl rfl 40 rfl (ix2 (⟨p.val % 8, by omega⟩ : Fin 8) l) off (by show 40 + p.val % 8 = p.val; omega)
  | 6, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 6 (show 6 < 8 by omega) S8x128 x rfl rfl 48 rfl (ix2 (⟨p.val % 8, by omega⟩ : Fin 8) l) off (by show 48 + p.val % 8 = p.val; omega)
  | 7, hk, _ => exact concatenate_apply_piece (t := S64x128) 0 [⟨S8x128, x⟩, ⟨S8x128, x⟩, ⟨S8x128, x⟩, ⟨S8x128, x⟩, ⟨S8x128, x⟩, ⟨S8x128, x⟩, ⟨S8x128, x⟩, ⟨S8x128, x⟩] concatenates_S8x128_S8x128_S8x128_S8x128_S8x128_S8x128_S8x128_S8x128_S64x128_d0 (ix2 p l) 7 (show 7 < 8 by omega) S8x128 x rfl rfl 56 rfl (ix2 (⟨p.val % 8, by omega⟩ : Fin 8) l) off (by show 56 + p.val % 8 = p.val; omega)

/-- The scales of the down weights: row `s` of the eight, on every row. -/
theorem scale2_apply (sub : IVec S8x128 32) (s : Fin 8) (hs : ∀ i, (sub i).toNat = s.val) (a : Vec Ideal S1x8x128 .f32) (p : Fin 64) (l : Fin 128) :
    scale2 (F := Ideal) sub a (ix2 p l) = a (ix3 0 s l) := by
  have g : ∀ q : Fin 8, dynamicGather 0 (shapeCast S8x128 a shapeCasts_S1x8x128_S8x128)
      (shapeCast S8x128 (shapeCast S8x128x1 sub shapeCasts_S8x128_S8x128x1) shapeCasts_S8x128x1_S8x128) (ix2 q l) = a (ix3 0 s l) := by
    intro q
    rw [shapeCast_shapeCast, dynamicGather_apply]
    refine Eq.trans (congrArg (shapeCast S8x128 a shapeCasts_S1x8x128_S8x128) (?_ : _ = ix2 s l)) ?_
    · funext b
      match b with
      | ⟨0, _⟩ => exact Fin.ext ((congrArg (· % 8) (hs (ix2 q l))).trans (Nat.mod_eq_of_lt s.isLt))
      | ⟨1, _⟩ => rfl
    · refine (shapeCast_dropUnit_apply ![8, 128] a shapeCasts_S1x8x128_S8x128 (ix2 s l)).trans (congrArg a ?_)
      funext a
      match a with
      | ⟨0, _⟩ => rfl
      | ⟨1, _⟩ => rfl
      | ⟨2, _⟩ => rfl
  refine Eq.trans ?_ (g ⟨p.val % 8, by omega⟩)
  exact concat8 _ p l

/-- A block of decoded down weights. -/
theorem half2_apply (tab : FVec Ideal S64x128 .f32) (lev : Nat → EReal) (ht : Levels tab lev) (sub : IVec S8x128 32) (s : Fin 8)
    (hs : ∀ i, (sub i).toNat = s.val) (w : Vec Ideal S1x64x128 .i8) (a : Fin 2 → Vec Ideal S1x8x128 .f32) (r : Fin 128) (l : Fin 128) :
    half2 tab sub w a (ix2 r l)
      = lev (nib (w (ix3 0 ⟨src r.val / 2, by unfold src; omega⟩ l)) (src r.val % 2 == 1)).toNat * a ⟨r.val / 64, by omega⟩ (ix3 0 s l) := by
  have hold : ∀ (g o : Nat) (_ : o = 8 * g) (hg : g < 2) (h : S16x128.Slices ![o, 0] S8x128),
      Holds (extractStridedSlice S8x128 ![o, 0] (k0_pay167 (F := Ideal) w) h) fun p l => w (ix3 0 ⟨32 * g + p.val, by omega⟩ l) := by
    intro g o ho hg h
    refine slice_holds (M := 16) _ o h (by omega) _ fun p l q hq => ?_
    refine Eq.trans ?_ (pay167_bits w ⟨32 * g + p.val, by omega⟩ l q hq)
    have e1 : (⟨o + p.val / 4, by omega⟩ : Fin 16) = ⟨(32 * g + p.val) / 4, by omega⟩ := Fin.ext (by show o + p.val / 4 = (32 * g + p.val) / 4; omega)
    have e2 : 8 * (p.val % 4) + q = 8 * ((32 * g + p.val) % 4) + q := by omega
    rw [e1, e2]
  have fin : ∀ (g o : Nat) (ho : o = 8 * g) (hg : g < 2) (h : S16x128.Slices ![o, 0] S8x128), r.val / 64 = g →
      decode tab (extractStridedSlice S8x128 ![o, 0] (k0_pay167 (F := Ideal) w) h) (scale2 sub (a ⟨g, hg⟩)) (ix2 ⟨r.val % 64, Nat.mod_lt _ (by decide)⟩ l)
        = lev (nib (w (ix3 0 ⟨src r.val / 2, by unfold src; omega⟩ l)) (src r.val % 2 == 1)).toNat * a ⟨r.val / 64, by omega⟩ (ix3 0 s l) := by
    intro g o ho hg h hr
    rw [piece_apply tab lev ht _ _ g (by omega) (fun P l => w (ix3 0 P l)) (hold g o ho hg h) r.val hr l, scale2_apply sub s hs]
    have e : (⟨g, hg⟩ : Fin 2) = ⟨r.val / 64, by omega⟩ := Fin.ext hr.symm
    rw [e]
  have hcat := fun (k : Fin 2) (hk : r.val = 64 * k.val + r.val % 64) => concat2 (N := 128) (R := 64) (C := 128)
    (decode tab (extractStridedSlice S8x128 ![0, 0] (k0_pay167 (F := Ideal) w) slices_S16x128_o0_0_S8x128) (scale2 sub (a 0)))
    (decode tab (extractStridedSlice S8x128 ![8, 0] (k0_pay167 (F := Ideal) w) slices_S16x128_o8_0_S8x128) (scale2 sub (a 1)))
    concatenates_S64x128_S64x128_S128x128_d0 r ⟨r.val % 64, Nat.mod_lt _ (by decide)⟩ l k hk
  obtain ⟨o, ho⟩ : ∃ o, o = r.val / 64 := ⟨_, rfl⟩
  match o, ho with
  | 0, ho => exact Eq.trans (hcat 0 (by show r.val = 64 * 0 + r.val % 64; omega)) (fin 0 0 rfl (by decide) _ ho.symm)
  | 1, ho => exact Eq.trans (hcat 1 (by show r.val = 64 * 1 + r.val % 64; omega)) (fin 1 8 rfl (by decide) _ ho.symm)
  | n + 2, ho => omega

/-- The order of the decoded rows is a permutation. -/
def srcEquiv (N k : Nat) (h : N = 64 * k) : Fin N ≃ Fin N where
  toFun n := ⟨src n.val, by have := n.isLt; unfold src; omega⟩
  invFun n := ⟨64 * (n.val / 64) + (16 * (n.val % 4) + n.val % 64 / 4), by have := n.isLt; omega⟩
  left_inv n := Fin.ext (by
    have e : n.val = 64 * (n.val / 64) + (16 * (n.val % 64 / 16) + n.val % 16) := by omega
    have hb : n.val % 16 < 16 := by omega
    have hc : n.val % 64 / 16 < 4 := by omega
    show 64 * (src n.val / 64) + (16 * (src n.val % 4) + src n.val % 64 / 4) = n.val
    unfold src
    generalize n.val % 16 = b at *
    generalize n.val % 64 / 16 = c at *
    generalize n.val / 64 = a at *
    have d1 : (64 * a + (4 * b + c)) / 64 = a := by omega
    have d2 : (64 * a + (4 * b + c)) % 4 = c := by omega
    have d3 : (64 * a + (4 * b + c)) % 64 = 4 * b + c := by omega
    have d4 : (4 * b + c) / 4 = b := by omega
    rw [d1, d2, d3, d4]
    exact e.symm)
  right_inv n := Fin.ext (by
    show src (64 * (n.val / 64) + (16 * (n.val % 4) + n.val % 64 / 4)) = n.val
    obtain ⟨a, ha⟩ : ∃ a, a = 64 * (n.val / 64) + (16 * (n.val % 4) + n.val % 64 / 4) := ⟨_, rfl⟩
    have h1 : a / 64 = n.val / 64 := by omega
    have h2 : a % 16 = n.val % 64 / 4 := by omega
    have h3 : a % 64 / 16 = n.val % 4 := by omega
    rw [← ha]; unfold src; rw [h1, h2, h3]; omega)

/-- A sum over decoded rows is the sum over the codes they come from. -/
theorem sum_src {N : Nat} (k : Nat) (h : N = 64 * k) (f : Fin N → EReal) : ∑ n, f (srcEquiv N k h n) = ∑ n, f n :=
  Equiv.sum_comp (srcEquiv N k h) f

/-- A sum block by block is the whole sum. -/
theorem sum_blocks {N : Nat} (a b : Nat) (h : N = a * b) (f : Fin N → EReal) :
    (∑ j : Fin a, ∑ r : Fin b, f ⟨b * j.val + r.val, by
      have h1 : b * (j.val + 1) ≤ b * a := Nat.mul_le_mul_left b j.isLt
      rw [Nat.mul_add, Nat.mul_one, Nat.mul_comm b a, ← h] at h1
      have := r.isLt
      omega⟩) = ∑ n, f n := by
  subst h
  rw [← Equiv.sum_comp finProdFinEquiv f, Fintype.sum_prod_type]
  refine Finset.sum_congr rfl fun j _ => Finset.sum_congr rfl fun r _ => congrArg f (Fin.ext ?_)
  exact Nat.add_comm _ _

end Cert.KernelIdeal.Value

end
-- ==== Proof.Value.Sums.lean ====
/-
  The projections at an index: the first loop's columns are the sums over the 2048 decoded rows, the second's over the 1408.
-/
module

public import proofs.«01_k».proof.Proof.Value.Half2
public import proofs.«01_k».proof.Proof.Blocks
public import Idealize.ShloMosaic.Lib.Pipeline.ValueKit.Geometry

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4
open Idealize.ShloMosaic.ValueIdx

theorem zero32 : (FloatOps.ofBits (F := Ideal) .f32 0x00000000#32 : EReal) = 0 := Ideal.ofBits_zero_f32

/-- A window read at an index is the array read at the shifted one. -/
theorem window_at {s : Shape} {α : Type} (x : s.Idx → α) (off size : Fin s.rank → ℕ) (inb : ∀ a, off a + size a ≤ s.size a)
    (j : (Rect.unit off size inb).shape.Idx) (i : s.Idx) (h : ∀ a, (i a).val = off a + (j a).val) : VecWindow.window x off size inb j = x i :=
  congrArg x (funext fun a => Fin.ext ((ValueKit.rect_emb_unit_val off size inb j a).trans (h a).symm))

/-- One partial product of gate and up columns, read at a column. -/
theorem step1_apply (tab : FVec Ideal S64x128 .f32) (acc : FVec Ideal S96x256 .f32) (x : Vec Ideal S96x256 .bf16)
    (wg wu : Vec Ideal S1x128x128 .i8) (ag au : Fin 4 → Vec Ideal S1x1x128 .f32) (t : Fin 96) (k : Fin 2) (l : Fin 128) (c : Fin 256)
    (hc : c.val = 128 * k.val + l.val) :
    step1 tab acc x wg wu ag au (ix2 t c)
      = acc (ix2 t c) + ∑ r : Fin 256, (x (ix2 t r) : EReal) * half1 tab (![wg, wu] k) (![ag, au] k) (ix2 r l) := by
  unfold step1
  rw [shapeCast_self]
  show acc (ix2 t c) + FloatOps.matmul (DotDims.plain 96 256 256) none x _ _ (ix2 t c) = _
  rw [Ideal.matmul_plain_apply]
  refine congrArg (acc (ix2 t c) + ·) ?_
  show (FloatOps.ofBits (F := Ideal) .f32 0x00000000#32 : EReal) + _ = _
  rw [zero32, zero_add]
  refine Finset.sum_congr rfl fun r _ => congrArg (x (ix2 t r) * ·) ?_
  refine (concatCols (half1 tab wg ag) (half1 tab wu au) concatenates_S256x128_S256x128_S256x256_d1 r c l k hc).trans ?_
  match k with
  | ⟨0, _⟩ => rfl
  | ⟨1, _⟩ => rfl

/-- The columns a pass of the first loop computes, at an index. -/
theorem acc1_apply (tab : FVec Ideal S64x128 .f32) (x : Fin 8 → Vec Ideal S96x256 .bf16)
    (wg wu : Fin 8 → Vec Ideal S1x128x128 .i8) (ag au : Fin 8 → Fin 4 → Vec Ideal S1x1x128 .f32) (t : Fin 96) (k : Fin 2) (l : Fin 128) (c : Fin 256)
    (hc : c.val = 128 * k.val + l.val) :
    acc1 tab x wg wu ag au (ix2 t c)
      = ∑ j : Fin 8, ∑ r : Fin 256, (x j (ix2 t r) : EReal) * half1 tab (![wg j, wu j] k) (![ag j, au j] k) (ix2 r l) := by
  unfold acc1
  rw [step1_apply _ _ _ _ _ _ _ t k l c hc, step1_apply _ _ _ _ _ _ _ t k l c hc, step1_apply _ _ _ _ _ _ _ t k l c hc, step1_apply _ _ _ _ _ _ _ t k l c hc,
    step1_apply _ _ _ _ _ _ _ t k l c hc, step1_apply _ _ _ _ _ _ _ t k l c hc, step1_apply _ _ _ _ _ _ _ t k l c hc, step1_apply _ _ _ _ _ _ _ t k l c hc]
  rw [show (k0_pay7 (F := Ideal) (ix2 t c) : EReal) = 0 from zero32, zero_add, Fin.sum_univ_eight]

/-- A decoded weight of 64-code blocks: the level of the code in its byte, times its block's scale. -/
def weight (lev : Nat → EReal) (byte : BitVec 8) (n : Nat) (scale : EReal) : EReal := lev (nib byte (n % 2 == 1)).toNat * scale

theorem weight_congr (lev : Nat → EReal) {b b' : BitVec 8} {n n' : Nat} {s s' : EReal} (hb : b = b') (hn : n % 2 = n' % 2) (hs : s = s') :
    weight lev b n s = weight lev b' n' s' := by
  unfold weight
  rw [hb, hn, hs]

/-- A gate or up projection over the decoded rows: hidden unit `o` of token `t`. -/
def proj (lev : Nat → EReal) (x : Vec Ideal S96x2048 .bf16) (w : Vec Ideal S1x1408x1024 .i8) (a : Vec Ideal S1x32x1408 .f32) (t : Fin 96) (o : Fin 1408) : EReal :=
  ∑ n : Fin 2048, (x (ix2 t n) : EReal) * weight lev (w (ix3 0 o ⟨src n.val / 2, by unfold src; omega⟩)) (src n.val) (a (ix3 0 ⟨n.val / 64, by omega⟩ o))

theorem acc1_proj (tab : FVec Ideal S64x128 .f32) (lev : Nat → EReal) (ht : Levels tab lev) (x : Vec Ideal S96x2048 .bf16)
    (wg wu : Vec Ideal S1x1408x1024 .i8) (ag au : Vec Ideal S1x32x1408 .f32) (p : Fin 11) (t : Fin 96) (k : Fin 2) (l : Fin 128) (c : Fin 256)
    (hc : c.val = 128 * k.val + l.val) :
    acc1 tab (xB x) (wB (F := Ideal) wg p) (wB (F := Ideal) wu p) (aB ag p) (aB au p) (ix2 t c)
      = proj lev x (![wg, wu] k) (![ag, au] k) t ⟨128 * p.val + l.val, by omega⟩ := by
  rw [acc1_apply _ _ _ _ _ _ t k l c hc]
  unfold proj
  rw [← sum_blocks (N := 2048) 8 256 rfl]
  refine Finset.sum_congr rfl fun j _ => Finset.sum_congr rfl fun r _ => ?_
  have hx : xB x j (ix2 t r) = x (ix2 t ⟨256 * j.val + r.val, by omega⟩) := window_at x _ _ _ _ _ fun a => by
    match a with
    | ⟨0, _⟩ => exact (Nat.zero_add _).symm
    | ⟨1, _⟩ => rfl
  have hw : ∀ (w : Vec Ideal S1x1408x1024 .i8) (q : Fin 128) (Q : Fin 1024), Q.val = 128 * j.val + q.val →
      wB (F := Ideal) w p j (ix3 0 l q) = w (ix3 0 ⟨128 * p.val + l.val, by omega⟩ Q) := fun w q Q hQ => window_at w _ _ _ _ _ fun a => by
    match a with
    | ⟨0, _⟩ => rfl
    | ⟨1, _⟩ => rfl
    | ⟨2, _⟩ => exact hQ
  have ha : ∀ (a : Vec Ideal S1x32x1408 .f32) (g : Fin 4) (G : Fin 32), G.val = 4 * j.val + g.val →
      aB a p j g (ix3 0 0 l) = a (ix3 0 G ⟨128 * p.val + l.val, by omega⟩) := fun w g G hG => window_at w _ _ _ _ _ fun a => by
    match a with
    | ⟨0, _⟩ => rfl
    | ⟨1, _⟩ => exact hG
    | ⟨2, _⟩ => rfl
  have e1 : src (256 * j.val + r.val) = 256 * j.val + src r.val := by unfold src; omega
  have e2 : src (256 * j.val + r.val) % 2 = src r.val % 2 := by omega
  rw [hx]
  refine congrArg (x (ix2 t ⟨256 * j.val + r.val, by omega⟩) * ·) ?_
  rw [half1_apply tab lev ht]
  match k with
  | ⟨0, _⟩ =>
    refine weight_congr lev (hw wg _ _ ?_) e2.symm (ha ag _ _ ?_)
    · show src (256 * j.val + r.val) / 2 = 128 * j.val + src r.val / 2
      omega
    · show (256 * j.val + r.val) / 64 = 4 * j.val + r.val / 64
      omega
  | ⟨1, _⟩ =>
    refine weight_congr lev (hw wu _ _ ?_) e2.symm (ha au _ _ ?_)
    · show src (256 * j.val + r.val) / 2 = 128 * j.val + src r.val / 2
      omega
    · show (256 * j.val + r.val) / 64 = 4 * j.val + r.val / 64
      omega

/-- One partial product of the down columns, read at a column. -/
theorem step2_apply (tab : FVec Ideal S64x128 .f32) (sub : IVec S8x128 32) (acc : FVec Ideal S96x256 .f32) (h : Vec Ideal S96x128 .bf16)
    (w : Fin 2 → Vec Ideal S1x64x128 .i8) (a : Fin 2 → Fin 2 → Vec Ideal S1x8x128 .f32) (t : Fin 96) (k : Fin 2) (l : Fin 128) (c : Fin 256)
    (hc : c.val = 128 * k.val + l.val) :
    step2 tab sub acc h w a (ix2 t c) = acc (ix2 t c) + ∑ r : Fin 128, (h (ix2 t r) : EReal) * half2 tab sub (w k) (a k) (ix2 r l) := by
  unfold step2
  show acc (ix2 t c) + FloatOps.matmul (DotDims.plain 96 128 256) none h _ _ (ix2 t c) = _
  rw [Ideal.matmul_plain_apply]
  refine congrArg (acc (ix2 t c) + ·) ?_
  show (FloatOps.ofBits (F := Ideal) .f32 0x00000000#32 : EReal) + _ = _
  rw [zero32, zero_add]
  refine Finset.sum_congr rfl fun r _ => congrArg (h (ix2 t r) * ·) ?_
  refine (concatCols (half2 tab sub (w 0) (a 0)) (half2 tab sub (w 1) (a 1)) concatenates_S128x128_S128x128_S128x256_d1 r c l k hc).trans ?_
  match k with
  | ⟨0, _⟩ => rfl
  | ⟨1, _⟩ => rfl

/-- The down columns a pass of the second loop computes, at an index. -/
theorem acc2_apply (tab : FVec Ideal S64x128 .f32) (sub : IVec S8x128 32) (h : Fin 11 → Vec Ideal S96x128 .bf16)
    (w : Fin 11 → Fin 2 → Vec Ideal S1x64x128 .i8) (a : Fin 11 → Fin 2 → Fin 2 → Vec Ideal S1x8x128 .f32) (t : Fin 96) (k : Fin 2) (l : Fin 128) (c : Fin 256)
    (hc : c.val = 128 * k.val + l.val) :
    acc2 tab sub h w a (ix2 t c) = ∑ j : Fin 11, ∑ r : Fin 128, (h j (ix2 t r) : EReal) * half2 tab sub (w j k) (a j k) (ix2 r l) := by
  unfold acc2
  have s := fun acc j => step2_apply tab sub acc (h j) (w j) (a j) t k l c hc
  simp only [s]
  rw [show (k0_pay166 (F := Ideal) (ix2 t c) : EReal) = 0 from zero32, zero_add]
  simp only [Fin.sum_univ_succ (n := 10), Fin.sum_univ_succ (n := 9), Fin.sum_univ_succ (n := 8), Fin.sum_univ_eight, ← add_assoc]
  rfl

/-- The down projection over the decoded rows: column `c` of token `t`, of an expert whose scales are row `s` of eight. -/
def down (lev : Nat → EReal) (h : Vec Ideal S96x1408 .bf16) (w : Vec Ideal S1x704x2048 .i8) (a : Vec Ideal S22x8x2048 .f32) (s : Fin 8) (t : Fin 96) (c : Fin 2048) : EReal :=
  ∑ n : Fin 1408, (h (ix2 t n) : EReal) * weight lev (w (ix3 0 ⟨src n.val / 2, by unfold src; omega⟩ c)) (src n.val) (a (ix3 ⟨n.val / 64, by omega⟩ s c))

theorem acc2_down (tab : FVec Ideal S64x128 .f32) (lev : Nat → EReal) (ht : Levels tab lev) (sub : IVec S8x128 32) (s : Fin 8) (hs : ∀ i, (sub i).toNat = s.val)
    (h : Vec Ideal S96x1408 .bf16) (w : Vec Ideal S1x704x2048 .i8) (a : Vec Ideal S22x8x2048 .f32) (p : Fin 8) (t : Fin 96) (c : Fin 256) :
    acc2 tab sub (hB h) (dB (F := Ideal) w p) (sB a p) (ix2 t c) = down lev h w a s t ⟨256 * p.val + c.val, by omega⟩ := by
  obtain ⟨k, hk⟩ : ∃ k : Fin 2, k.val = c.val / 128 := ⟨⟨c.val / 128, by omega⟩, rfl⟩
  obtain ⟨l, hl⟩ : ∃ l : Fin 128, l.val = c.val % 128 := ⟨⟨c.val % 128, by omega⟩, rfl⟩
  have hc : c.val = 128 * k.val + l.val := by omega
  rw [acc2_apply _ _ _ _ _ t k l c hc]
  unfold down
  rw [← sum_blocks (N := 1408) 11 128 rfl]
  refine Finset.sum_congr rfl fun j _ => Finset.sum_congr rfl fun r _ => ?_
  have hx : hB h j (ix2 t r) = h (ix2 t ⟨128 * j.val + r.val, by omega⟩) := window_at h _ _ _ _ _ fun a => by
    match a with
    | ⟨0, _⟩ => exact (Nat.zero_add _).symm
    | ⟨1, _⟩ => rfl
  have hw : ∀ (q : Fin 64) (Q : Fin 704), Q.val = 64 * j.val + q.val →
      dB (F := Ideal) w p j k (ix3 0 q l) = w (ix3 0 Q ⟨256 * p.val + c.val, by omega⟩) := fun q Q hQ => window_at w _ _ _ _ _ fun a => by
    match a with
    | ⟨0, _⟩ => rfl
    | ⟨1, _⟩ => exact hQ
    | ⟨2, _⟩ => show 256 * p.val + c.val = 256 * p.val + 128 * k.val + l.val; omega
  have ha : ∀ (g : Fin 2) (G : Fin 22), G.val = 2 * j.val + g.val →
      sB a p j k g (ix3 0 s l) = a (ix3 G s ⟨256 * p.val + c.val, by omega⟩) := fun g G hG => window_at a _ _ _ _ _ fun b => by
    match b with
    | ⟨0, _⟩ => exact hG
    | ⟨1, _⟩ => exact (Nat.zero_add _).symm
    | ⟨2, _⟩ => show 256 * p.val + c.val = 256 * p.val + 128 * k.val + l.val; omega
  have e1 : src (128 * j.val + r.val) = 128 * j.val + src r.val := by unfold src; omega
  have e2 : src (128 * j.val + r.val) % 2 = src r.val % 2 := by omega
  rw [hx]
  refine congrArg (h (ix2 t ⟨128 * j.val + r.val, by omega⟩) * ·) ?_
  rw [half2_apply tab lev ht sub s hs]
  refine weight_congr lev (hw _ _ ?_) e2.symm (ha _ _ ?_)
  · show src (128 * j.val + r.val) / 2 = 64 * j.val + src r.val / 2
    omega
  · show (128 * j.val + r.val) / 64 = 2 * j.val + r.val / 64
    omega

end Cert.KernelIdeal.Value

end
-- ==== Proof.Value.Hidden.lean ====
/-
  One step at ideal values: the hidden layer of one expert at an index, and what the step adds to the accumulator.
-/
module

public import proofs.«01_k».proof.Proof.Value.Sums

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4
open Idealize.ShloMosaic.ValueIdx

/-- silu of the gate times the up projection. -/
def act (g u : EReal) : EReal := g * Ideal.logistic g * u

theorem swiglu_apply (g : FVec Ideal S96x256 .f32) (t : Fin 96) (c : Fin 128) :
    swiglu g (ix2 t c) = act (g (ix2 t ⟨c.val, by omega⟩)) (g (ix2 t ⟨128 + c.val, by omega⟩)) := by
  unfold swiglu act
  have e0 : extractStridedSlice S96x128 ![0, 0] g slices_S96x256_o0_0_S96x128 (ix2 t c) = g (ix2 t ⟨c.val, by omega⟩) :=
    extractStridedSlice_apply _ _ _ _ _ fun a => by
      match a with
      | ⟨0, _⟩ => exact (Nat.zero_add _).symm
      | ⟨1, _⟩ => exact (Nat.zero_add _).symm
  have e1 : extractStridedSlice S96x128 ![0, 128] g slices_S96x256_o0_128_S96x128 (ix2 t c) = g (ix2 t ⟨128 + c.val, by omega⟩) :=
    extractStridedSlice_apply _ _ _ _ _ fun a => by
      match a with
      | ⟨0, _⟩ => exact (Nat.zero_add _).symm
      | ⟨1, _⟩ => rfl
  show extractStridedSlice S96x128 ![0, 0] g slices_S96x256_o0_0_S96x128 (ix2 t c)
      * Ideal.logistic (extractStridedSlice S96x128 ![0, 0] g slices_S96x256_o0_0_S96x128 (ix2 t c))
      * extractStridedSlice S96x128 ![0, 128] g slices_S96x256_o0_128_S96x128 (ix2 t c) = _
  rw [e0, e1]

/-- A matrix that takes column `src c` to column `c`. -/
def Permutes (perm : Vec Ideal S128x128 .bf16) : Prop :=
  ∀ k c : Fin 128, (perm (ix2 k c) : EReal) = if k.val = src c.val then 1 else 0

theorem pay3_apply (h : FVec Ideal S96x128 .bf16) (perm : Vec Ideal S128x128 .bf16) (hp : Permutes perm) (t : Fin 96) (c : Fin 128) :
    k0_pay3 h perm (ix2 t c) = h (ix2 t ⟨src c.val, by unfold src; omega⟩) := by
  unfold k0_pay3
  rw [shapeCast_self, shapeCast_self]
  show FloatOps.matmul (φ₁ := .bf16) (φ₂ := .bf16) (DotDims.plain 96 128 128) none h perm _ (ix2 t c) = _
  rw [Ideal.matmul_plain_apply]
  show (FloatOps.ofBits (F := Ideal) .f32 0x00000000#32 : EReal) + _ = _
  rw [zero32, zero_add, Finset.sum_eq_single (⟨src c.val, by unfold src; omega⟩ : Fin 128)]
  · rw [hp, if_pos rfl, mul_one]
  · intro k _ hk
    rw [hp, if_neg fun e => hk (Fin.ext e), mul_zero]
  · intro hn
    exact absurd (Finset.mem_univ _) hn

/-- The hidden layer at an index. -/
theorem hidden_apply (tab : Vec Ideal S64x128 .f32) (lev : Nat → EReal) (ht : Levels tab lev) (perm : Vec Ideal S128x128 .bf16) (hp : Permutes perm)
    (x : Vec Ideal S96x2048 .bf16) (wg wu : Vec Ideal S1x1408x1024 .i8) (ag au : Vec Ideal S1x32x1408 .f32) (t : Fin 96) (n : Fin 1408) :
    Tile.hidden (F := Ideal) tab perm x wg ag wu au (ix2 t n)
      = act (proj lev x wg ag t ⟨src n.val, by unfold src; omega⟩) (proj lev x wu au t ⟨src n.val, by unfold src; omega⟩) := by
  have h128 : src (n.val % 128) < 128 := by unfold src; omega
  show k0_pay3 (swiglu (acc1 (k0_pay1 tab) (xB x) (wB (F := Ideal) wg ⟨n.val / 128, by omega⟩) (wB (F := Ideal) wu ⟨n.val / 128, by omega⟩)
    (aB ag ⟨n.val / 128, by omega⟩) (aB au ⟨n.val / 128, by omega⟩))) perm (ix2 t ⟨n.val % 128, by omega⟩) = _
  rw [pay3_apply _ _ hp, swiglu_apply]
  have h1 : (k0_pay1 (F := Ideal) tab) = tab := shapeCast_self _ _
  have e : src n.val = 128 * (n.val / 128) + src (n.val % 128) := by unfold src; omega
  rw [h1, acc1_proj tab lev ht x wg wu ag au ⟨n.val / 128, by omega⟩ t 0 ⟨src (n.val % 128), h128⟩ _ (by show src (n.val % 128) = 128 * 0 + src (n.val % 128); omega),
    acc1_proj tab lev ht x wg wu ag au ⟨n.val / 128, by omega⟩ t 1 ⟨src (n.val % 128), h128⟩ _ (by show 128 + src (n.val % 128) = 128 * 1 + src (n.val % 128); omega)]
  have e' : (⟨128 * (n.val / 128) + src (n.val % 128), by omega⟩ : Fin 1408) = ⟨src n.val, by unfold src; omega⟩ := Fin.ext e.symm
  show act (proj lev x wg ag t ⟨128 * (n.val / 128) + src (n.val % 128), by omega⟩) (proj lev x wu au t ⟨128 * (n.val / 128) + src (n.val % 128), by omega⟩) = _
  rw [e']

/-- The combine weight expert `e` has for token `t`. -/
def share (ids : Vec Ideal S96x6 .i32) (cw : Vec Ideal S96x6 .f32) (e : BitVec 32) (t : Fin 96) : EReal :=
  ∑ k : Fin 6, if (ids (ix2 t k) : BitVec 32) = e then (cw (ix2 t k) : EReal) else 0

theorem share_sum (ids : Vec Ideal S96x6 .i32) (cw : Vec Ideal S96x6 .f32) (e : BitVec 32) (t : Fin 96) :
    multiReduction .add [1] S96 (select (cmpi .eq ids (broadcast S96x6 e)) cw (broadcast S96x6 (Scalar.ofBits (F := Ideal) .f32 0x00000000#32)))
      0x00000000#32 reduces_S96x6_S96 (.inl rfl) rfl (ix1 t) = share ids cw e t := by
  refine Eq.trans (b := Ideal.reduceAdd reduces_S96x6_S96 _ (ix1 t)) rfl ?_
  refine (Ideal.reduceAdd_r2_a1 reduces_S96x6_S96 _ (ix1 t)).trans (Finset.sum_congr rfl fun k _ => ?_)
  show (if (IntOp.cmpi .eq (ids (ix2 t k)) e) = 1#1 then (cw (ix2 t k) : EReal) else FloatOps.ofBits (F := Ideal) .f32 0x00000000#32) = _
  rw [zero32]
  refine if_congr ?_ rfl rfl
  show (BitVec.ofBool (ids (ix2 t k) == e)) = 1#1 ↔ _
  generalize (ids (ix2 t k) : BitVec 32) = i
  by_cases h : i = e
  · simp [h]
  · simp [h, beq_eq_false_iff_ne.2 h]

/-- Columns added where their row's weight is not zero, times the weight. -/
theorem addWeighted (z : EReal) (hz : z = 0) (v : FVec Ideal S96x1 .f32) (acc old : FVec Ideal S96x256 .f32) (t : Fin 96) (c : Fin 256) :
    addf old (select (broadcastTo S96x256 (cmpf .one v (broadcast S96x1 z)) broadcasts_S96x1_S96x256) (mulf acc (broadcastTo S96x256 v broadcasts_S96x1_S96x256))
      (broadcast S96x256 z)) (ix2 t c) = old (ix2 t c) + acc (ix2 t c) * v (ix2 t 0) := by
  subst hz
  have hb : ∀ {α : Type} (v : S96x1.Idx → α), broadcastTo S96x256 v broadcasts_S96x1_S96x256 (ix2 t c) = v (ix2 t 0) := fun v =>
    broadcastTo_apply v broadcasts_S96x1_S96x256 (ix2 t c) (ix2 t 0) fun a => by
      match a with
      | ⟨0, _⟩ => rfl
      | ⟨1, _⟩ => rfl
  refine congrArg (old (ix2 t c) + ·) ?_
  show (if broadcastTo S96x256 (cmpf .one v (broadcast S96x1 (0 : EReal))) broadcasts_S96x1_S96x256 (ix2 t c) = 1#1
    then acc (ix2 t c) * broadcastTo S96x256 v broadcasts_S96x1_S96x256 (ix2 t c) else (0 : EReal)) = _
  rw [hb, hb]
  show (if Ideal.cmp .one (v (ix2 t 0)) 0 = 1#1 then acc (ix2 t c) * v (ix2 t 0) else (0 : EReal)) = acc (ix2 t c) * v (ix2 t 0)
  generalize (v (ix2 t 0) : EReal) = s
  by_cases h : s = 0
  · rw [h, mul_zero]
    split <;> rfl
  · rw [if_pos]
    simp [Ideal.cmp, h]

/-- What the step's store adds at an index. -/
theorem pay5_apply (e : BitVec 32) (ids : Vec Ideal S96x6 .i32) (cw : Vec Ideal S96x6 .f32) (acc : FVec Ideal S96x256 .f32) (old : Vec Ideal S96x256 .f32)
    (t : Fin 96) (c : Fin 256) : k0_pay5 (F := Ideal) e ids cw acc old (ix2 t c) = old (ix2 t c) + acc (ix2 t c) * share ids cw e t := by
  unfold k0_pay5
  simp only [shapeCast_self]
  refine (addWeighted _ zero32 _ acc old t c).trans ?_
  refine congrArg (fun s : EReal => old (ix2 t c) + acc (ix2 t c) * s) ?_
  refine Eq.trans ?_ (share_sum ids cw e t)
  exact shapeCast_apply _ shapeCasts_S96_S96x1 (ix2 t 0) (ix1 t) (by
    rw [Shape.rowMajor_val_one, Shape.rowMajor_val_two]
    exact (Nat.mul_one _).symm)

theorem sub_val : ∀ e : Fin 64, (Scalar.remsi (BitVec.ofNat 32 e.val) 8#32).toNat = e.val % 8 := by decide +kernel

/-- One step's accumulator at an index: the expert's down columns, times its combine weight, added. -/
theorem added_apply (tab : Vec Ideal S64x128 .f32) (lev : Nat → EReal) (ht : Levels tab lev) (e : Fin 64) (ids : Vec Ideal S96x6 .i32) (cw : Vec Ideal S96x6 .f32)
    (h : Vec Ideal S96x1408 .bf16) (wd : Vec Ideal S1x704x2048 .i8) (ad : Vec Ideal S22x8x2048 .f32) (old : Vec Ideal S96x2048 .f32) (t : Fin 96) (c : Fin 2048) :
    added (F := Ideal) tab (BitVec.ofNat 32 e.val) ids cw h wd ad old (ix2 t c)
      = old (ix2 t c) + down lev h wd ad ⟨e.val % 8, by omega⟩ t c * share ids cw (BitVec.ofNat 32 e.val) t := by
  show k0_pay5 (F := Ideal) (BitVec.ofNat 32 e.val) ids cw (acc2 (k0_pay1 tab) (k0_pay4 (F := Ideal) (BitVec.ofNat 32 e.val)) (hB h) (dB (F := Ideal) wd ⟨c.val / 256, by omega⟩)
    (sB ad ⟨c.val / 256, by omega⟩)) (oB old ⟨c.val / 256, by omega⟩) (ix2 t ⟨c.val % 256, by omega⟩) = _
  have h1 : (k0_pay1 (F := Ideal) tab) = tab := shapeCast_self _ _
  rw [pay5_apply, h1, acc2_down tab lev ht (k0_pay4 (F := Ideal) (BitVec.ofNat 32 e.val)) ⟨e.val % 8, by omega⟩ (fun i => sub_val e)]
  have ho : oB old ⟨c.val / 256, by omega⟩ (ix2 t ⟨c.val % 256, by omega⟩) = old (ix2 t c) := window_at old _ _ _ _ _ fun a => by
    match a with
    | ⟨0, _⟩ => exact (Nat.zero_add _).symm
    | ⟨1, _⟩ => show c.val = 256 * (c.val / 256) + c.val % 256; omega
  have hc : (⟨256 * (c.val / 256) + c.val % 256, by omega⟩ : Fin 2048) = c := Fin.ext (by show 256 * (c.val / 256) + c.val % 256 = c.val; omega)
  rw [ho]
  show old (ix2 t c) + down lev h wd ad ⟨e.val % 8, by omega⟩ t ⟨256 * (c.val / 256) + c.val % 256, by omega⟩ * _ = _
  rw [hc]

end Cert.KernelIdeal.Value

end
-- ==== Proof.Value.Spec.lean ====
/-
  The formulas both programs come to: an expert's gate and up columns over the activations, and its down columns over the
  hidden units, the weights decoded in place. The kernel's sums over the rows as its decoding orders them are these sums.
-/
module

public import proofs.«01_k».proof.Proof.Value.Hidden

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4
open Idealize.ShloMosaic.ValueIdx

/-- The sixteen values of the codes. -/
def levels (n : Nat) : EReal := if h : n < 16 then Ideal.ofBits .f32 (lit0 ⟨n, h⟩) else 0

/-- Column `o` of expert `e`'s projection of token `t`'s activations. -/
def column (x : S96x1x2048.Idx → EReal) (w : S64x1408x1024.Idx → BitVec 8) (a : S64x1408x32.Idx → EReal) (t : Fin 96) (e : Fin 64) (o : Fin 1408) : EReal :=
  ∑ d : Fin 2048, x (ix3 t 0 d) * weight levels (w (ix3 e o ⟨d.val / 2, by omega⟩)) d.val (a (ix3 e o ⟨d.val / 64, by omega⟩))

/-- Hidden unit `f` of expert `e` on token `t`. -/
def unit (x : S96x1x2048.Idx → EReal) (wg wu : S64x1408x1024.Idx → BitVec 8) (ag au : S64x1408x32.Idx → EReal) (t : Fin 96) (e : Fin 64) (f : Fin 1408) : EReal :=
  act (column x wg ag t e f) (column x wu au t e f)

/-- Column `c` of expert `e`'s answer on token `t`. -/
def answer (x : S96x1x2048.Idx → EReal) (wg wu : S64x1408x1024.Idx → BitVec 8) (ag au : S64x1408x32.Idx → EReal) (wd : S64x2048x704.Idx → BitVec 8)
    (ad : S64x2048x22.Idx → EReal) (t : Fin 96) (e : Fin 64) (c : Fin 2048) : EReal :=
  ∑ f : Fin 1408, unit x wg wu ag au t e f * weight levels (wd (ix3 e c ⟨f.val / 2, by omega⟩)) f.val (ad (ix3 e c ⟨f.val / 64, by omega⟩))

theorem src_div (n : Nat) : src n / 64 = n / 64 := by unfold src; omega

theorem proj_eq (x : S96x1x2048.Idx → EReal) (w : S64x1408x1024.Idx → BitVec 8) (a : S64x1408x32.Idx → EReal) (e : Fin 64)
    (xp : Vec Ideal S96x2048 .bf16) (wb : Vec Ideal S1x1408x1024 .i8) (ab : Vec Ideal S1x32x1408 .f32)
    (hx : ∀ t n, xp (ix2 t n) = x (ix3 t 0 (srcEquiv 2048 32 rfl n))) (hw : ∀ o k, wb (ix3 0 o k) = w (ix3 e o k)) (ha : ∀ b o, ab (ix3 0 b o) = a (ix3 e o b))
    (t : Fin 96) (o : Fin 1408) : proj levels xp wb ab t o = column x w a t e o := by
  unfold proj column
  rw [← sum_src 32 rfl (fun d : Fin 2048 => x (ix3 t 0 d) * weight levels (w (ix3 e o ⟨d.val / 2, by omega⟩)) d.val (a (ix3 e o ⟨d.val / 64, by omega⟩)))]
  refine Finset.sum_congr rfl fun n _ => ?_
  rw [hx, hw, ha]
  refine congrArg (x (ix3 t 0 (srcEquiv 2048 32 rfl n)) * ·) (weight_congr levels rfl rfl ?_)
  exact congrArg (fun b => a (ix3 e o b)) (Fin.ext (src_div n.val).symm)

theorem down_eq (u : Fin 1408 → EReal) (wd : S64x2048x704.Idx → BitVec 8) (ad : S64x2048x22.Idx → EReal) (e : Fin 64) (s : Fin 8)
    (h : Vec Ideal S96x1408 .bf16) (wb : Vec Ideal S1x704x2048 .i8) (ab : Vec Ideal S22x8x2048 .f32) (t : Fin 96)
    (hh : ∀ n, h (ix2 t n) = u (srcEquiv 1408 22 rfl n)) (hw : ∀ k c, wb (ix3 0 k c) = wd (ix3 e c k)) (ha : ∀ b c, ab (ix3 b s c) = ad (ix3 e c b))
    (c : Fin 2048) : down levels h wb ab s t c
      = ∑ f : Fin 1408, u f * weight levels (wd (ix3 e c ⟨f.val / 2, by omega⟩)) f.val (ad (ix3 e c ⟨f.val / 64, by omega⟩)) := by
  unfold down
  rw [← sum_src 22 rfl (fun f : Fin 1408 => u f * weight levels (wd (ix3 e c ⟨f.val / 2, by omega⟩)) f.val (ad (ix3 e c ⟨f.val / 64, by omega⟩)))]
  refine Finset.sum_congr rfl fun n _ => ?_
  rw [hh, hw, ha]
  refine congrArg (u (srcEquiv 1408 22 rfl n) * ·) (weight_congr levels rfl rfl ?_)
  exact congrArg (fun b => ad (ix3 e c b)) (Fin.ext (src_div n.val).symm)

end Cert.KernelIdeal.Value

end
-- ==== Proof.Value.HostAt.lean ====
/-
  What the host hands the kernel, read at an index: the table of values, the permutation of the hidden columns, and the
  activations in the order of the decoded rows.
-/
module

public import proofs.«01_k».proof.Proof.Value.Spec
public import proofs.«01_k».proof.Proof.HostOps
public import Idealize.ShloMosaic.Lib.KernelVsHost

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

theorem table_levels : Levels (Host.table (F := Ideal)) levels := by
  intro p l hl
  unfold Host.table levels
  rw [dif_pos hl, broadcastInDim_apply ![0, 1] bcast_S1x128_S64x128_0_1 _ (ix2 p l) (ix2 0 l) (fun a => by
    match a with
    | ⟨0, _⟩ => rfl
    | ⟨1, _⟩ => rfl),
    broadcastInDim_apply ![1] bcast_S128_S1x128_1 _ (ix2 0 l) (ix1 l) (fun a => by
    match a with
    | ⟨0, _⟩ => rfl)]
  refine (pad_apply_of_inside ![0] ![112] ![0] _ _ pads_S16_S128_01120 h_S_ (ix1 l) (ix1 ⟨l.val, hl⟩) (fun a => by
    match a with
    | ⟨0, _⟩ => show l.val = 0 + l.val * (0 + 1); omega)).trans ?_
  show Ideal.ofBits .f32 (lit0 (S16.rowMajor (ix1 ⟨l.val, hl⟩))) = _
  exact congrArg (fun k => Ideal.ofBits .f32 (lit0 k)) (Fin.ext (Shape.rowMajor_val_one _))

theorem order_apply : ∀ c : Fin 128, Host.order (ix1 c) = BitVec.ofNat 32 (src c.val) := by decide +kernel

theorem perm_permutes : Permutes (Host.perm (F := Ideal)) := by
  intro k c
  have hk := k.isLt
  have hs : src c.val < 128 := by have := c.isLt; unfold src; omega
  have h : (Host.perm (F := Ideal)) (ix2 k c) = ((((IntOp.cmpi .eq (BitVec.ofNat 32 k.val) (Host.order (ix1 c))).toNat : ℝ)) : EReal) := rfl
  rw [h, order_apply]
  by_cases e : k.val = src c.val
  · rw [if_pos e, e]
    simp [IntOp.cmpi]
  · have e' : BitVec.ofNat 32 k.val ≠ BitVec.ofNat 32 (src c.val) := fun h => e (by
      have := congrArg BitVec.toNat h
      rw [BitVec.toNat_ofNat, BitVec.toNat_ofNat, Nat.mod_eq_of_lt (by omega), Nat.mod_eq_of_lt (by omega)] at this
      exact this)
    rw [if_neg e]
    simp [IntOp.cmpi, e']

theorem xPerm_apply (x : FVec Ideal S96x1x2048 .bf16) (t : Fin 96) (n : Fin 2048) :
    Host.xPerm x (ix2 t n) = x (ix3 t 0 (srcEquiv 2048 32 rfl n)) := by
  have hn := n.isLt
  unfold Host.xPerm
  rw [shapeCast_apply _ shapeCasts_S96x32x4x8x2_S96x2048 (ix2 t n) (ix5 t ⟨n.val / 64, by omega⟩ ⟨n.val % 64 / 16, by omega⟩ ⟨n.val % 16 / 2, by omega⟩ ⟨n.val % 2, by omega⟩) (by
      rw [Shape.rowMajor_val_five, Shape.rowMajor_val_two]
      show (((t.val * 32 + n.val / 64) * 4 + n.val % 64 / 16) * 8 + n.val % 16 / 2) * 2 + n.val % 2 = t.val * 2048 + n.val
      omega),
    transpose_apply [0, 1, 4, 2, 3] _ transposes_S96x32x8x2x4_S96x32x4x8x2_0_1_4_2_3 _ (ix5 t ⟨n.val / 64, by omega⟩ ⟨n.val % 16 / 2, by omega⟩ ⟨n.val % 2, by omega⟩ ⟨n.val % 64 / 16, by omega⟩) (by
      intro a
      match a with
      | ⟨0, _⟩ => rfl
      | ⟨1, _⟩ => rfl
      | ⟨2, _⟩ => rfl
      | ⟨3, _⟩ => rfl
      | ⟨4, _⟩ => rfl),
    shapeCast_apply _ shapeCasts_S96x1x2048_S96x32x8x2x4 _ (ix3 t 0 (srcEquiv 2048 32 rfl n)) (by
      rw [Shape.rowMajor_val_five, Shape.rowMajor_val_three]
      show (t.val * 1 + 0) * 2048 + src n.val = (((t.val * 32 + n.val / 64) * 8 + n.val % 16 / 2) * 2 + n.val % 2) * 4 + n.val % 64 / 16
      unfold src
      omega)]

end Cert.KernelIdeal.Value

end
-- ==== Proof.Value.StepAt.lean ====
/-
  One step's accumulator at an index: what it held, plus the listed expert's answer times the token's share of it.
-/
module

public import proofs.«01_k».proof.Proof.Value.HostAt
public import proofs.«01_k».proof.Proof.Body

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

open Cert.KernelIdeal.Step Cert.KernelIdeal.Host
open Idealize.ShloMosaic.TcCoe

/-- What the accumulator starts from. -/
theorem pay2_at (i : S96x2048.Idx) : k0_pay2 (F := Ideal) i = (0 : EReal) := by
  unfold k0_pay2
  rw [shapeCast_self]
  exact Ideal.ofBits_zero_f32

/-- One step's new accumulator at an index, over blocks that hold expert `e`'s arrays. -/
theorem accNew_at (first : Bool) (e : Fin 64) (x : S96x1x2048.Idx → EReal) (wg wu : S64x1408x1024.Idx → BitVec 8) (ag au : S64x1408x32.Idx → EReal)
    (wd : S64x2048x704.Idx → BitVec 8) (ad : S64x2048x22.Idx → EReal)
    (xb : Vec Ideal S96x2048 .bf16) (ids : Vec Ideal S96x6 .i32) (cw : Vec Ideal S96x6 .f32) (perm : Vec Ideal S128x128 .bf16) (tab : Vec Ideal S64x128 .f32)
    (wgb : Vec Ideal S1x1408x1024 .i8) (agb : Vec Ideal S1x32x1408 .f32) (wub : Vec Ideal S1x1408x1024 .i8) (aub : Vec Ideal S1x32x1408 .f32)
    (wdb : Vec Ideal S1x704x2048 .i8) (adb : Vec Ideal S22x8x2048 .f32) (old : Vec Ideal S96x2048 .f32)
    (ht : Levels tab levels) (hp : Permutes perm)
    (hx : ∀ t n, xb (ix2 t n) = x (ix3 t 0 (srcEquiv 2048 32 rfl n)))
    (hwg : ∀ o k, wgb (ix3 0 o k) = wg (ix3 e o k)) (hag : ∀ b o, agb (ix3 0 b o) = ag (ix3 e o b))
    (hwu : ∀ o k, wub (ix3 0 o k) = wu (ix3 e o k)) (hau : ∀ b o, aub (ix3 0 b o) = au (ix3 e o b))
    (hwd : ∀ k c, wdb (ix3 0 k c) = wd (ix3 e c k)) (had : ∀ b c, adb (ix3 b ⟨e.val % 8, Nat.mod_lt _ (by decide)⟩ c) = ad (ix3 e c b))
    (t : Fin 96) (c : Fin 2048) :
    accNew first (BitVec.ofNat 32 e.val) xb ids cw perm tab wgb agb wub aub wdb adb old (ix2 t c)
      = (if first then (0 : EReal) else old (ix2 t c)) + answer x wg wu ag au wd ad t e c * share ids cw (BitVec.ofNat 32 e.val) t := by
  unfold accNew
  rw [added_apply tab levels ht e ids cw _ wdb adb _ t c]
  refine congrArg₂ (fun p q : EReal => p + q) ?_ (congrArg (fun p : EReal => p * share ids cw (BitVec.ofNat 32 e.val) t) ?_)
  · cases first
    · rfl
    · exact pay2_at _
  · refine down_eq (unit x wg wu ag au t e) wd ad e ⟨e.val % 8, Nat.mod_lt _ (by decide)⟩ _ wdb adb t (fun n => ?_) hwd had c
    rw [hidden_apply tab levels ht perm hp xb wgb wub agb aub t n]
    exact congrArg₂ act (proj_eq x wg ag e xb wgb agb hx hwg hag t _) (proj_eq x wu au e xb wub aub hx hwu hau t _)

end Cert.KernelIdeal.Value

end
-- ==== Proof.Value.BlkAt.lean ====
/-
  The windows' blocks at a point, read at an index: the whole arrays, the listed expert's slices, and the group of eight experts'
  scales.
-/
module

public import proofs.«01_k».proof.Proof.Value.HostAt
public import proofs.«01_k».proof.Proof.Run
public import Idealize.ShloMosaic.Lib.Pipeline.ValueKit.Geometry

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

open Cert.KernelIdeal.Step Cert.KernelIdeal.Host
open Idealize.ShloMosaic.TcCoe

variable (a : (pcfg0 (F := Ideal)).Adm) (V : (c : Dev nD) → (b : Ref sig .tc) → Buf (Elt Ideal) ((c : Thread nD τ).loc b))

/-- A block's element is the array's element it sits over. -/
theorem whole_at (c : Dev nD) (w : Fin 12) (t : Fin (cfg0 a).N) (j : (((cfg0 a).win w).xblock ((cfg0 a).grid.coords t)).Idx)
    (i : ((cfg0 a).win w).shape.Idx) (h : ∀ q, ((((cfg0 a).win w).rect t).emb j q).val = (i q).val) :
    blk a V c w t j = (((cfg0 a).win w).arr.view.read (Elt Ideal) (V c (Pipeline.arrRef spec0 w))) i := by
  have : (((cfg0 a).win w).rect t).emb j = i := funext fun q => Fin.ext (h q)
  rw [← this]
  rfl

/-- Window 0 is its whole array. -/
theorem blk0_at (c : Dev nD) (t : Fin (cfg0 a).N) (i : S96x2048.Idx) : blk a V c 0 t i = V c main_v32 i :=
  whole_at a V c 0 t i i (fun q => (Pipeline.Window.rect_emb_val_of_index_zero ((cfg0 a).win 0) t q (by
    match q with
    | ⟨0, _⟩ => rfl
    | ⟨1, _⟩ => rfl) i))

/-- Window 1 is its whole array. -/
theorem blk1_at (c : Dev nD) (t : Fin (cfg0 a).N) (i : S96x6.Idx) : blk a V c 1 t i = V c main_v0 i :=
  whole_at a V c 1 t i i (fun q => (Pipeline.Window.rect_emb_val_of_index_zero ((cfg0 a).win 1) t q (by
    match q with
    | ⟨0, _⟩ => rfl
    | ⟨1, _⟩ => rfl) i))

/-- Window 2 is its whole array. -/
theorem blk2_at (c : Dev nD) (t : Fin (cfg0 a).N) (i : S96x6.Idx) : blk a V c 2 t i = V c main_v1 i :=
  whole_at a V c 2 t i i (fun q => (Pipeline.Window.rect_emb_val_of_index_zero ((cfg0 a).win 2) t q (by
    match q with
    | ⟨0, _⟩ => rfl
    | ⟨1, _⟩ => rfl) i))

/-- Window 3 is its whole array. -/
theorem blk3_at (c : Dev nD) (t : Fin (cfg0 a).N) (i : S128x128.Idx) : blk a V c 3 t i = V c main_v55 i :=
  whole_at a V c 3 t i i (fun q => (Pipeline.Window.rect_emb_val_of_index_zero ((cfg0 a).win 3) t q (by
    match q with
    | ⟨0, _⟩ => rfl
    | ⟨1, _⟩ => rfl) i))

/-- Window 4 is its whole array. -/
theorem blk4_at (c : Dev nD) (t : Fin (cfg0 a).N) (i : S64x128.Idx) : blk a V c 4 t i = V c main_v58 i :=
  whole_at a V c 4 t i i (fun q => (Pipeline.Window.rect_emb_val_of_index_zero ((cfg0 a).win 4) t q (by
    match q with
    | ⟨0, _⟩ => rfl
    | ⟨1, _⟩ => rfl) i))

variable {a} {n : Nat} {e : Fin 64 → Fin 64} (ht : Tables a.1 n e)
include ht

theorem point_lt (t : Fin (cfg0 a).N) : t.val < 64 := lt_of_lt_of_le (lt_of_lt_of_eq t.isLt ht.N_eq) ht.le

theorem coord_lt (t : Fin (cfg0 a).N) : ((cfg0 a).grid.coords t 0).val < 64 := by
  rw [coord_val ht]
  exact point_lt ht t

/-- The expert listed at a point. -/
theorem listed (t : Fin (cfg0 a).N) : e ⟨((cfg0 a).grid.coords t 0).val, coord_lt ht t⟩ = e ⟨t.val, point_lt ht t⟩ :=
  congrArg e (Fin.ext (coord_val ht t))

/-- Window 5 is its expert's slice. -/
theorem blk5_at (c : Dev nD) (t : Fin (cfg0 a).N) (o : Fin 1408) (k : Fin 1024) :
    blk a V c 5 t (ix3 0 o k) = V c main_arg3 (ix3 (e ⟨t.val, point_lt ht t⟩) o k) := by
  have hi : ((cfg0 a).win 5).index t = ![(e ⟨t.val, point_lt ht t⟩).val, 0, 0] := by
    refine (ht.map5 ((cfg0 a).grid.coords t) (coord_lt ht t)).trans ?_
    rw [listed ht t]
  refine whole_at a V c 5 t (ix3 0 o k) (ix3 (e ⟨t.val, point_lt ht t⟩) o k) (fun q => (Pipeline.Window.rect_emb_val ((cfg0 a).win 5) t (ix3 0 o k) q rfl).trans ?_)
  rw [hi]
  match q with
  | ⟨0, _⟩ => exact (Nat.add_zero _).trans (Nat.mul_one _)
  | ⟨1, _⟩ => exact (congrArg (· + o.val) (Nat.zero_mul _)).trans (Nat.zero_add _)
  | ⟨2, _⟩ => exact (congrArg (· + k.val) (Nat.zero_mul _)).trans (Nat.zero_add _)

/-- Window 6 is its expert's slice. -/
theorem blk6_at (c : Dev nD) (t : Fin (cfg0 a).N) (o : Fin 32) (k : Fin 1408) :
    blk a V c 6 t (ix3 0 o k) = V c main_v60 (ix3 (e ⟨t.val, point_lt ht t⟩) o k) := by
  have hi : ((cfg0 a).win 6).index t = ![(e ⟨t.val, point_lt ht t⟩).val, 0, 0] := by
    refine (ht.map6 ((cfg0 a).grid.coords t) (coord_lt ht t)).trans ?_
    rw [listed ht t]
  refine whole_at a V c 6 t (ix3 0 o k) (ix3 (e ⟨t.val, point_lt ht t⟩) o k) (fun q => (Pipeline.Window.rect_emb_val ((cfg0 a).win 6) t (ix3 0 o k) q rfl).trans ?_)
  rw [hi]
  match q with
  | ⟨0, _⟩ => exact (Nat.add_zero _).trans (Nat.mul_one _)
  | ⟨1, _⟩ => exact (congrArg (· + o.val) (Nat.zero_mul _)).trans (Nat.zero_add _)
  | ⟨2, _⟩ => exact (congrArg (· + k.val) (Nat.zero_mul _)).trans (Nat.zero_add _)

/-- Window 7 is its expert's slice. -/
theorem blk7_at (c : Dev nD) (t : Fin (cfg0 a).N) (o : Fin 1408) (k : Fin 1024) :
    blk a V c 7 t (ix3 0 o k) = V c main_arg5 (ix3 (e ⟨t.val, point_lt ht t⟩) o k) := by
  have hi : ((cfg0 a).win 7).index t = ![(e ⟨t.val, point_lt ht t⟩).val, 0, 0] := by
    refine (ht.map7 ((cfg0 a).grid.coords t) (coord_lt ht t)).trans ?_
    rw [listed ht t]
  refine whole_at a V c 7 t (ix3 0 o k) (ix3 (e ⟨t.val, point_lt ht t⟩) o k) (fun q => (Pipeline.Window.rect_emb_val ((cfg0 a).win 7) t (ix3 0 o k) q rfl).trans ?_)
  rw [hi]
  match q with
  | ⟨0, _⟩ => exact (Nat.add_zero _).trans (Nat.mul_one _)
  | ⟨1, _⟩ => exact (congrArg (· + o.val) (Nat.zero_mul _)).trans (Nat.zero_add _)
  | ⟨2, _⟩ => exact (congrArg (· + k.val) (Nat.zero_mul _)).trans (Nat.zero_add _)

/-- Window 8 is its expert's slice. -/
theorem blk8_at (c : Dev nD) (t : Fin (cfg0 a).N) (o : Fin 32) (k : Fin 1408) :
    blk a V c 8 t (ix3 0 o k) = V c main_v61 (ix3 (e ⟨t.val, point_lt ht t⟩) o k) := by
  have hi : ((cfg0 a).win 8).index t = ![(e ⟨t.val, point_lt ht t⟩).val, 0, 0] := by
    refine (ht.map8 ((cfg0 a).grid.coords t) (coord_lt ht t)).trans ?_
    rw [listed ht t]
  refine whole_at a V c 8 t (ix3 0 o k) (ix3 (e ⟨t.val, point_lt ht t⟩) o k) (fun q => (Pipeline.Window.rect_emb_val ((cfg0 a).win 8) t (ix3 0 o k) q rfl).trans ?_)
  rw [hi]
  match q with
  | ⟨0, _⟩ => exact (Nat.add_zero _).trans (Nat.mul_one _)
  | ⟨1, _⟩ => exact (congrArg (· + o.val) (Nat.zero_mul _)).trans (Nat.zero_add _)
  | ⟨2, _⟩ => exact (congrArg (· + k.val) (Nat.zero_mul _)).trans (Nat.zero_add _)

/-- Window 9 is its expert's slice. -/
theorem blk9_at (c : Dev nD) (t : Fin (cfg0 a).N) (o : Fin 704) (k : Fin 2048) :
    blk a V c 9 t (ix3 0 o k) = V c main_v62 (ix3 (e ⟨t.val, point_lt ht t⟩) o k) := by
  have hi : ((cfg0 a).win 9).index t = ![(e ⟨t.val, point_lt ht t⟩).val, 0, 0] := by
    refine (ht.map9 ((cfg0 a).grid.coords t) (coord_lt ht t)).trans ?_
    rw [listed ht t]
  refine whole_at a V c 9 t (ix3 0 o k) (ix3 (e ⟨t.val, point_lt ht t⟩) o k) (fun q => (Pipeline.Window.rect_emb_val ((cfg0 a).win 9) t (ix3 0 o k) q rfl).trans ?_)
  rw [hi]
  match q with
  | ⟨0, _⟩ => exact (Nat.add_zero _).trans (Nat.mul_one _)
  | ⟨1, _⟩ => exact (congrArg (· + o.val) (Nat.zero_mul _)).trans (Nat.zero_add _)
  | ⟨2, _⟩ => exact (congrArg (· + k.val) (Nat.zero_mul _)).trans (Nat.zero_add _)

/-- Window 10 is the scales of the eight experts the listed one is among. -/
theorem blk10_at (c : Dev nD) (t : Fin (cfg0 a).N) (b : Fin 22) (k : Fin 2048) :
    blk a V c 10 t (ix3 b ⟨(e ⟨t.val, point_lt ht t⟩).val % 8, Nat.mod_lt _ (by decide)⟩ k) = V c main_v63 (ix3 b (e ⟨t.val, point_lt ht t⟩) k) := by
  have hi : ((cfg0 a).win 10).index t = ![0, (e ⟨t.val, point_lt ht t⟩).val / 8, 0] := by
    refine (ht.map10 ((cfg0 a).grid.coords t) (coord_lt ht t)).trans ?_
    rw [listed ht t]
  refine whole_at a V c 10 t (ix3 b ⟨(e ⟨t.val, point_lt ht t⟩).val % 8, Nat.mod_lt _ (by decide)⟩ k) (ix3 b (e ⟨t.val, point_lt ht t⟩) k)
    (fun q => (Pipeline.Window.rect_emb_val ((cfg0 a).win 10) t (ix3 b ⟨(e ⟨t.val, point_lt ht t⟩).val % 8, Nat.mod_lt _ (by decide)⟩ k) q rfl).trans ?_)
  rw [hi]
  match q with
  | ⟨0, _⟩ => exact (congrArg (· + b.val) (Nat.zero_mul _)).trans (Nat.zero_add _)
  | ⟨1, _⟩ => show (e ⟨t.val, point_lt ht t⟩).val / 8 * 8 + (e ⟨t.val, point_lt ht t⟩).val % 8 = (e ⟨t.val, point_lt ht t⟩).val; omega
  | ⟨2, _⟩ => exact (congrArg (· + k.val) (Nat.zero_mul _)).trans (Nat.zero_add _)

end Cert.KernelIdeal.Value

end
-- ==== Proof.Value.AccAt.lean ====
/-
  The accumulator at an index: the sum of what the experts listed so far add.
-/
module

public import proofs.«01_k».proof.Proof.Value.StepAt
public import proofs.«01_k».proof.Proof.Value.BlkAt
public import proofs.«01_k».proof.Proof.RunMain

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

open Cert.KernelIdeal.Step Cert.KernelIdeal.Host
open Idealize.ShloMosaic.TcCoe

variable (m : (ℓ : Loc nD τ sig) → Buf (Elt Ideal) ℓ)

/-- The experts the tokens pick, -/
def idsOf (c : Dev nD) : S96x1x6.Idx → BitVec 32 := V₀ m c (Proc.devRef .tc main_arg1)
/-- and the picks' weights. -/
def cwOf (c : Dev nD) : S96x1x6.Idx → EReal := V₀ m c (Proc.devRef .tc main_arg2)
/-- Column `d` of expert `e`'s answer on token `t`. -/
def answerOf (c : Dev nD) (t : Fin 96) (e : Fin 64) (d : Fin 2048) : EReal :=
  answer (V₀ m c (Proc.devRef .tc main_arg0)) (V₀ m c (Proc.devRef .tc main_arg3)) (V₀ m c (Proc.devRef .tc main_arg5)) (V₀ m c (Proc.devRef .tc main_arg4))
    (V₀ m c (Proc.devRef .tc main_arg6)) (V₀ m c (Proc.devRef .tc main_arg7)) (V₀ m c (Proc.devRef .tc main_arg8)) t e d
/-- What expert `e` adds to token `t`'s column `d`. -/
def part (c : Dev nD) (t : Fin 96) (d : Fin 2048) (e : Fin 64) : EReal :=
  answerOf m c t e d * ∑ k : Fin 6, (if idsOf m c (ix3 t 0 k) = BitVec.ofNat 32 e.val then cwOf m c (ix3 t 0 k) else 0)

/-- An array with its axis of one dropped. -/
theorem drop_one {α : Type} (w : S96x1x6.Idx → α) (t : Fin 96) (k : Fin 6) : shapeCast S96x6 w shapeCasts_S96x1x6_S96x6 (ix2 t k) = w (ix3 t 0 k) :=
  shapeCast_apply _ shapeCasts_S96x1x6_S96x6 (ix2 t k) (ix3 t 0 k) (by
    rw [Shape.rowMajor_val_two, Shape.rowMajor_val_three]
    show (t.val * 1 + 0) * 6 + k.val = t.val * 6 + k.val
    omega)

/-- The scales of a projection, block first. -/
theorem scales_in {α : Type} (w : S64x1408x32.Idx → α) (e : Fin 64) (b : Fin 32) (o : Fin 1408) :
    transpose S64x32x1408 [0, 2, 1] w transposes_S64x1408x32_S64x32x1408_0_2_1 (ix3 e b o) = w (ix3 e o b) :=
  transpose_apply [0, 2, 1] _ _ _ (ix3 e o b) fun a => by
    match a with
    | ⟨0, _⟩ => rfl
    | ⟨1, _⟩ => rfl
    | ⟨2, _⟩ => rfl

/-- The down codes, byte first. -/
theorem codes_out {α : Type} (w : S64x2048x704.Idx → α) (e : Fin 64) (k : Fin 704) (c : Fin 2048) :
    transpose S64x704x2048 [0, 2, 1] w transposes_S64x2048x704_S64x704x2048_0_2_1 (ix3 e k c) = w (ix3 e c k) :=
  transpose_apply [0, 2, 1] _ _ _ (ix3 e c k) fun a => by
    match a with
    | ⟨0, _⟩ => rfl
    | ⟨1, _⟩ => rfl
    | ⟨2, _⟩ => rfl

/-- The down scales, block first. -/
theorem scales_out {α : Type} (w : S64x2048x22.Idx → α) (e : Fin 64) (b : Fin 22) (c : Fin 2048) :
    transpose S22x64x2048 [2, 0, 1] w transposes_S64x2048x22_S22x64x2048_2_0_1 (ix3 b e c) = w (ix3 e c b) :=
  transpose_apply [2, 0, 1] _ _ _ (ix3 e c b) fun a => by
    match a with
    | ⟨0, _⟩ => rfl
    | ⟨1, _⟩ => rfl
    | ⟨2, _⟩ => rfl

/-- The expert listed at a point. -/
def here (t : Fin (cfg0 (tabs m 0)).N) : Fin 64 := expert (usedM m) ⟨t.val, point_lt (tabsOk m) t⟩

/-- The word the body reads from the list. -/
theorem word_at (t : Fin (cfg0 (tabs m 0)).N) :
    (tabs m 0).1 1 (ix1 ⟨(coordW (tabs m 0) t).toNat % 64, Nat.mod_lt _ (by decide)⟩) = BitVec.ofNat 32 (here m t).val := by
  refine ((tabsOk m).list _).trans (congrArg (fun s : Fin 64 => BitVec.ofNat 32 (expert (usedM m) s).val) (Fin.ext ?_))
  show (coordW (tabs m 0) t).toNat % 64 = t.val
  rw [coordW_toNat (tabsOk m), Nat.mod_eq_of_lt (point_lt (tabsOk m) t)]

/-- The share, from the arrays at launch. -/
theorem share_at (c : Dev nD) (t : Fin (cfg0 (tabs m 0)).N) (e : BitVec 32) (τ' : Fin 96) :
    share (blk (tabs m 0) (Vr m) c 1 t) (blk (tabs m 0) (Vr m) c 2 t) e τ'
      = ∑ k : Fin 6, if idsOf m c (ix3 τ' 0 k) = e then cwOf m c (ix3 τ' 0 k) else 0 := by
  unfold share
  refine Finset.sum_congr rfl fun k _ => ?_
  have h1 : blk (tabs m 0) (Vr m) c 1 t (ix2 τ' k) = idsOf m c (ix3 τ' 0 k) :=
    (blk1_at _ _ c t _).trans ((congrFun (val_main_v0 (V₀ m c)) _).trans (drop_one _ τ' k))
  have h2 : blk (tabs m 0) (Vr m) c 2 t (ix2 τ' k) = cwOf m c (ix3 τ' 0 k) :=
    (blk2_at _ _ c t _).trans ((congrFun (val_main_v1 (V₀ m c)) _).trans (drop_one _ τ' k))
  exact if_congr (by rw [← h1]) h2 rfl

/-- A step at an index. -/
theorem accStep_at (c : Dev nD) (t : Fin (cfg0 (tabs m 0)).N) (old : Vec Ideal S96x2048 .f32) (τ' : Fin 96) (d : Fin 2048) :
    accStep (tabs m 0) (Vr m) c t old (ix2 τ' d)
      = (if (coordW (tabs m 0) t == 0#32) then (0 : EReal) else old (ix2 τ' d)) + part m c τ' d (here m t) := by
  unfold accStep
  rw [word_at]
  refine (accNew_at _ (here m t) (V₀ m c (Proc.devRef .tc main_arg0)) (V₀ m c (Proc.devRef .tc main_arg3)) (V₀ m c (Proc.devRef .tc main_arg5))
    (V₀ m c (Proc.devRef .tc main_arg4)) (V₀ m c (Proc.devRef .tc main_arg6)) (V₀ m c (Proc.devRef .tc main_arg7)) (V₀ m c (Proc.devRef .tc main_arg8))
    (blk (tabs m 0) (Vr m) c 0 t) (blk (tabs m 0) (Vr m) c 1 t) (blk (tabs m 0) (Vr m) c 2 t) (blk (tabs m 0) (Vr m) c 3 t) (blk (tabs m 0) (Vr m) c 4 t)
    (blk (tabs m 0) (Vr m) c 5 t) (blk (tabs m 0) (Vr m) c 6 t) (blk (tabs m 0) (Vr m) c 7 t) (blk (tabs m 0) (Vr m) c 8 t) (blk (tabs m 0) (Vr m) c 9 t)
    (blk (tabs m 0) (Vr m) c 10 t) old ?_ ?_ ?_ ?_ ?_ ?_ ?_ ?_ ?_ τ' d).trans ?_
  · rw [show blk (tabs m 0) (Vr m) c 4 t = Host.table (F := Ideal) from
      funext fun i => (blk4_at _ _ c t i).trans (congrFun (val_main_v58 (V₀ m c)) i)]
    exact table_levels
  · rw [show blk (tabs m 0) (Vr m) c 3 t = Host.perm (F := Ideal) from
      funext fun i => (blk3_at _ _ c t i).trans (congrFun (val_main_v55 (V₀ m c)) i)]
    exact perm_permutes
  · exact fun t' n => (blk0_at _ _ c t _).trans ((congrFun (val_main_v32 (V₀ m c)) _).trans (xPerm_apply _ t' n))
  · exact fun o k => (blk5_at _ (tabsOk m) c t o k).trans (congrFun (keep (V₀ m c) main_arg3 (by decide +kernel)) _)
  · exact fun b o => (blk6_at _ (tabsOk m) c t b o).trans ((congrFun (val_main_v60 (V₀ m c)) _).trans (scales_in _ _ b o))
  · exact fun o k => (blk7_at _ (tabsOk m) c t o k).trans (congrFun (keep (V₀ m c) main_arg5 (by decide +kernel)) _)
  · exact fun b o => (blk8_at _ (tabsOk m) c t b o).trans ((congrFun (val_main_v61 (V₀ m c)) _).trans (scales_in _ _ b o))
  · exact fun k c' => (blk9_at _ (tabsOk m) c t k c').trans ((congrFun (val_main_v62 (V₀ m c)) _).trans (codes_out _ _ k c'))
  · exact fun b c' => (blk10_at _ (tabsOk m) c t b c').trans ((congrFun (val_main_v63 (V₀ m c)) _).trans (scales_out _ _ b c'))
  · rw [share_at]
    rfl

/-- The accumulator before point `n` at an index: the sum of what the experts listed so far add. -/
theorem accAt_at (c : Dev nD) (τ' : Fin 96) (d : Fin 2048) : ∀ n, n ≤ (cfg0 (tabs m 0)).N →
    accAt (tabs m 0) (Vr m) c n (ix2 τ' d) = ∑ s ∈ Finset.range n, if h : s < 64 then part m c τ' d (expert (usedM m) ⟨s, h⟩) else 0
  | 0, _ => pay2_at _
  | n + 1, hn => by
    have ih := accAt_at c τ' d n (Nat.le_of_succ_le hn)
    have hN : n < (cfg0 (tabs m 0)).N := hn
    have h64 : n < 64 := point_lt (tabsOk m) ⟨n, hN⟩
    rw [accAt_succ (tabs m 0) (Vr m) c ⟨n, hN⟩, accStep_at, Finset.sum_range_succ, dif_pos h64]
    refine congrArg₂ (fun p q : EReal => p + q) ?_ rfl
    have hw := coordW_toNat (tabsOk m) ⟨n, hN⟩
    by_cases h0 : coordW (tabs m 0) ⟨n, hN⟩ = 0#32
    · rw [h0] at hw
      have : n = 0 := hw.symm
      subst this
      rw [h0]
      rfl
    · rw [if_neg (by simpa using h0)]
      exact ih

end Cert.KernelIdeal.Value

end
-- ==== Proof.Value.Listed.lean ====
/-
  The list of used experts: an expert some token picks is on it, and a sum over the list is a sum over the experts.
-/
module

public import proofs.«01_k».proof.Proof.Value.Spec
public import proofs.«01_k».proof.Proof.Adm
public import Idealize.ShloMosaic.Lib.ReduceAll

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

open Cert.KernelIdeal.Host

/-- A left fold by `or` over one-bit words comes out 1 when and only when it starts at 1 or meets a 1. -/
theorem foldl_ori {ι : Type} (f : ι → BitVec 1) : ∀ (l : List ι) (init : BitVec 1),
    l.foldl (fun r n => IntOp.ori r (f n)) init = 1#1 ↔ init = 1#1 ∨ ∃ n ∈ l, f n = 1#1
  | [], init => by simp
  | a :: l, init => by
    have hor : ∀ x y : BitVec 1, IntOp.ori x y = 1#1 ↔ x = 1#1 ∨ y = 1#1 := by decide
    rw [List.foldl_cons, foldl_ori f l, hor]
    simp [or_assoc]

/-- A reduction by `or` that starts at 0 is 1 when and only when some element it takes in is. -/
theorem reduce_ori {s t u : Shape} {axes : List (Fin s.rank)} (x : s.Idx → BitVec 1) (init : u.Idx → BitVec 1) (h : s.ReducesTo axes t)
    (hu : 0 < u.numel) (h0 : init (Shape.Idx.first hu) = 0#1) (j : t.Idx) :
    Host.reduce IntOp.ori x init h hu j = 1#1 ↔ ∃ i, h.drop i = j ∧ x i = 1#1 := by
  rw [Host.reduce_eq_foldl, foldl_ori, h0]
  constructor
  · rintro (h | ⟨i, hi, hx⟩)
    · exact absurd h (by decide)
    · exact ⟨i, by simpa using (List.mem_filter.1 hi).2, hx⟩
  · rintro ⟨i, hi, hx⟩
    exact Or.inr ⟨i, List.mem_filter.2 ⟨List.mem_map.2 ⟨s.rowMajor i, List.mem_finRange _, Equiv.symm_apply_apply _ _⟩, by simp [hi]⟩, hx⟩

/-- An expert some token picks is marked used. -/
theorem used_of_pick (ids : IVec S96x1x6 32) (t : Fin 96) (k : Fin 6) (e : Fin 64) (h : ids (ix3 t 0 k) = BitVec.ofNat 32 e.val) :
    used ids (ix1 e) = 1#1 := by
  unfold used
  refine (reduce_ori _ _ _ _ rfl _).2 ⟨ix2 ⟨t.val * 6 + k.val, by omega⟩ e, ?_, ?_⟩
  · funext a
    match a with
    | ⟨0, _⟩ => rfl
  · show BitVec.ofBool (_ == _) = 1#1
    rw [show broadcastInDim S576x64 ![0, 1] bcast_S576x1_S576x64_0_1 (broadcastInDim S576x1 ![0] bcast_S576_S576x1_0
          (shapeCast S576 (shapeCast S96x6 ids shapeCasts_S96x1x6_S96x6) shapeCasts_S96x6_S576)) (ix2 ⟨t.val * 6 + k.val, by omega⟩ e)
        = shapeCast S576 (shapeCast S96x6 ids shapeCasts_S96x1x6_S96x6) shapeCasts_S96x6_S576 (ix1 ⟨t.val * 6 + k.val, by omega⟩)
        from Routing.bcRows (n := 576) (m := 64) bcast_S576_S576x1_0 bcast_S576x1_S576x64_0_1 _ _ e,
      show broadcastInDim S576x64 ![0, 1] bcast_S1x64_S576x64_0_1 (broadcastInDim S1x64 ![1] bcast_S64_S1x64_1 (iotaInDim S64 32 0)) (ix2 ⟨t.val * 6 + k.val, by omega⟩ e)
        = BitVec.ofNat 32 e.val from Routing.bcCols (n := 576) (m := 64) bcast_S64_S1x64_1 bcast_S1x64_S576x64_0_1 (iotaInDim S64 32 0) _ e,
      shapeCast_apply (shapeCast S96x6 ids shapeCasts_S96x1x6_S96x6) shapeCasts_S96x6_S576 (ix1 ⟨t.val * 6 + k.val, by omega⟩) (ix2 t k) (by
        rw [Shape.rowMajor_val_one, Shape.rowMajor_val_two]; rfl),
      shapeCast_apply ids shapeCasts_S96x1x6_S96x6 (ix2 t k) (ix3 t 0 k) (by
        rw [Shape.rowMajor_val_two, Shape.rowMajor_val_three]
        show (t.val * 1 + 0) * 6 + k.val = t.val * 6 + k.val
        omega), h]
    simp

/-- The listed experts are the used ones, each once: a sum over the list is a sum over all the experts, if the unused add nothing. -/
theorem sum_listed {M : Type} [AddCommMonoid M] (u : IVec S64 1) (g : Fin 64 → M) (hg : ∀ e : Fin 64, ¬ Used u e.val → g e = 0) :
    (∑ s ∈ Finset.range (cnt u), if h : s < 64 then g (expert u ⟨s, h⟩) else 0) = ∑ e : Fin 64, g e := by
  have hinj : Set.InjOn (fun e => Nat.count (Used u) e) ((Finset.range 64).filter (Used u) : Finset ℕ) := fun a ha b hb hab =>
    Nat.count_injective (Finset.mem_filter.1 ha).2 (Finset.mem_filter.1 hb).2 hab
  have himg : ((Finset.range 64).filter (Used u)).image (fun e => Nat.count (Used u) e) = Finset.range (cnt u) := by
    refine Finset.eq_of_subset_of_card_le (fun s hs => ?_) ?_
    · obtain ⟨e, he, rfl⟩ := Finset.mem_image.1 hs
      obtain ⟨h1, h2⟩ := Finset.mem_filter.1 he
      exact Finset.mem_range.2 (Nat.count_strict_mono h2 (Finset.mem_range.1 h1))
    · rw [Finset.card_image_of_injOn hinj, Finset.card_range]
      exact (Nat.count_eq_card_filter_range _ _).le
  rw [← himg, Finset.sum_image hinj, Finset.sum_filter, Finset.sum_range (n := 64)]
  refine Finset.sum_congr rfl fun e _ => ?_
  by_cases hu : Used u e.val
  · have hc : Nat.count (Used u) e.val < 64 := lt_of_lt_of_le (Nat.count_strict_mono hu e.isLt) (cnt_le u)
    rw [if_pos hu, dif_pos hc]
    refine congrArg g (Fin.ext ?_)
    show (Host.act u (ix1 ⟨Nat.count (Used u) e.val, hc⟩)).toNat = e.val
    rw [Host.act_of_used u ⟨_, hc⟩ e hu rfl, BitVec.toNat_ofNat]
    exact Nat.mod_eq_of_lt (by have := e.isLt; omega)
  · rw [if_neg hu, hg e hu]

end Cert.KernelIdeal.Value

end
-- ==== Proof.Value.Combine.lean ====
/-
  Weighting by expert and weighting by pick agree when the weights are nonnegative.
-/
module

public import proofs.«01_k».proof.Proof.Value.Spec

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

/-- Over the reals with infinities, a number times a sum of nonnegative numbers is the sum of the products. -/
theorem mul_sum_nonneg {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

/-- One pick: the sum over the experts has the picked one only. -/
theorem one_pick (w : BitVec 32) (cw : EReal) (A : Fin 64 → EReal) :
    ∑ e : Fin 64, A e * (if w = BitVec.ofNat 32 e.val then cw else 0) = (∑ e : Fin 64, if w = BitVec.ofNat 32 e.val then A e else 0) * cw := by
  by_cases h : ∃ e : Fin 64, w = BitVec.ofNat 32 e.val
  · obtain ⟨e, rfl⟩ := h
    have hne : ∀ b : Fin 64, b ≠ e → BitVec.ofNat 32 e.val ≠ BitVec.ofNat 32 b.val := fun b hb hh => hb (Fin.ext (by
      have h1 := congrArg BitVec.toNat hh
      have := e.isLt
      have := b.isLt
      simp only [BitVec.toNat_ofNat] at h1
      omega))
    rw [Finset.sum_eq_single e (fun b _ hb => by rw [if_neg (hne b hb), mul_zero]) (fun hn => absurd (Finset.mem_univ e) hn),
      Finset.sum_eq_single e (fun b _ hb => if_neg (hne b hb)) (fun hn => absurd (Finset.mem_univ e) hn), if_pos rfl, if_pos rfl]
  · have hn : ∀ e : Fin 64, ¬ w = BitVec.ofNat 32 e.val := fun e he => h ⟨e, he⟩
    rw [Finset.sum_eq_zero fun e _ => by rw [if_neg (hn e), mul_zero], Finset.sum_eq_zero fun e _ => if_neg (hn e), zero_mul]

/-- With nonnegative weights, the experts' answers weighted by their shares sum to the picks' answers weighted one by one. -/
theorem by_expert (ids : Fin 6 → BitVec 32) (cw : Fin 6 → EReal) (hcw : ∀ k, 0 ≤ cw k) (A : Fin 64 → EReal) :
    ∑ e : Fin 64, A e * ∑ k : Fin 6, (if ids k = BitVec.ofNat 32 e.val then cw k else 0)
      = ∑ k : Fin 6, (∑ e : Fin 64, if ids k = BitVec.ofNat 32 e.val then A e else 0) * cw k := by
  rw [Finset.sum_congr rfl fun e _ => mul_sum_nonneg Finset.univ (A e) (fun k : Fin 6 => if ids k = BitVec.ofNat 32 e.val then cw k else 0)
    (fun k => by split; exacts [hcw k, le_refl 0]), Finset.sum_comm]
  exact Finset.sum_congr rfl fun k _ => one_pick (ids k) (cw k) A

end Cert.KernelIdeal.Value

end
-- ==== Proof.Value.OutAt.lean ====
/-
  The kernel's result at an index: each pick's answer by its weight, summed over the picks.
-/
module

public import proofs.«01_k».proof.Proof.Value.AccAt
public import proofs.«01_k».proof.Proof.Value.Listed
public import proofs.«01_k».proof.Proof.Value.Combine

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

open Cert.KernelIdeal.Step Cert.KernelIdeal.Host
open Idealize.ShloMosaic.TcCoe

section
variable (a : (pcfg0 (F := Ideal)).Adm) (V : (c : Dev nD) → (b : Ref sig .tc) → Buf (Elt Ideal) ((c : Thread nD τ).loc b))

/-- A result written back once, whole, is the accumulator after that point. -/
theorem out_after (c : Dev nD) (t₀ : Fin (cfg0 a).N) (h : ((cfg0 a).win 11).WholeAt t₀) (i : S96x2048.Idx) :
    (dats a V 0 c).arrAt 11 (cfg0 a).N i = accAt a V c (t₀.val + 1) i :=
  (dats a V 0 c).arrAt_emb_eq_after_last 11 t₀ h i

variable {a} {n : Nat} {e : Fin 64 → Fin 64} (ht : Tables a.1 n e)
include ht

/-- The result's window is written back once, whole, at the last point. -/
theorem whole11 (t₀ : Fin (cfg0 a).N) (h : t₀.val + 1 = n) : ((cfg0 a).win 11).WholeAt t₀ := by
  refine ⟨(flush11 ht t₀).2 h, fun t hf => Fin.ext ?_, fun q => ?_⟩
  · exact Nat.succ.inj (((flush11 ht t).1 hf).trans h.symm)
  · match q with
    | ⟨0, _⟩ => exact ⟨rfl, rfl⟩
    | ⟨1, _⟩ => exact ⟨rfl, rfl⟩

/-- The result is the accumulator after the last point, when there is one. -/
theorem out_last (c : Dev nD) (hpos : 0 < n) (i : S96x2048.Idx) : (dats a V 0 c).arrAt 11 (cfg0 a).N i = accAt a V c n i := by
  have h1 : n - 1 + 1 = n := Nat.sub_add_cancel hpos
  have h2 : n - 1 < (cfg0 a).N := lt_of_lt_of_eq (Nat.sub_lt hpos Nat.one_pos) ht.N_eq.symm
  rw [out_after a V c ⟨n - 1, h2⟩ (whole11 ht ⟨n - 1, h2⟩ h1) i, h1]

end

variable (m : (ℓ : Loc nD τ sig) → Buf (Elt Ideal) ℓ)

/-- The result array's last contents. -/
def out (c : Dev nD) : S96x2048.Idx → EReal := (dats (tabs m 0) (Vr m) 0 c).arrAt 11 (cfg0 (tabs m 0)).N

/-- The result at an index, when the list is not empty: the sum over the list. -/
theorem out_listed (c : Dev nD) (hpos : 0 < cnt (usedM m)) (t : Fin 96) (d : Fin 2048) :
    out m c (ix2 t d) = ∑ s ∈ Finset.range (cnt (usedM m)), if h : s < 64 then part m c t d (expert (usedM m) ⟨s, h⟩) else 0 :=
  (out_last (Vr m) (tabsOk m) c hpos (ix2 t d)).trans (accAt_at m c t d _ (tabsOk m).N_eq.ge)

/-- The result at an index: each pick's answer by its weight, summed. -/
theorem out_at (c : Dev nD) (hcw : ∀ t k, 0 ≤ cwOf m c (ix3 t 0 k)) (hid : ∃ (t : Fin 96) (k : Fin 6) (e : Fin 64), idsOf m c (ix3 t 0 k) = BitVec.ofNat 32 e.val)
    (t : Fin 96) (d : Fin 2048) :
    out m c (ix2 t d)
      = ∑ k : Fin 6, (∑ e : Fin 64, if idsOf m c (ix3 t 0 k) = BitVec.ofNat 32 e.val then answerOf m c t e d else 0) * cwOf m c (ix3 t 0 k) := by
  have hc : c = 0 := Subsingleton.elim _ _
  have hused : ∀ (t : Fin 96) (k : Fin 6) (e : Fin 64), idsOf m c (ix3 t 0 k) = BitVec.ofNat 32 e.val → Used (usedM m) e.val := fun t k e h =>
    ⟨e.isLt, used_of_pick _ t k e (by rw [← h, hc]; rfl)⟩
  have hpos : 0 < cnt (usedM m) := by
    obtain ⟨t, k, e, h⟩ := hid
    exact lt_of_le_of_lt (Nat.zero_le _) (Nat.count_strict_mono (hused t k e h) e.isLt)
  rw [out_listed m c hpos t d, sum_listed (usedM m) (part m c t d) (fun e hu => ?_)]
  · exact by_expert (fun k => idsOf m c (ix3 t 0 k)) (fun k => cwOf m c (ix3 t 0 k)) (hcw t) (fun e => answerOf m c t e d)
  · unfold part
    rw [Finset.sum_eq_zero fun k _ => if_neg fun h => hu (hused t k e h), mul_zero]

end Cert.KernelIdeal.Value

end
-- ==== Proof.Value.PreAt.lean ====
/-
  The precondition, read back from the reductions it is written with.
-/
module

public import proofs.«01_k».proof.Proof.Value.Listed
public import proofs.«01_k».proof.Pre_routed

@[expose] public section

set_option maxRecDepth 100000
set_option maxHeartbeats 1000000

noncomputable section

namespace Cert.KernelIdeal.Value

open Cert.KernelIdeal Cert.KernelIdeal.Gen Cert.KernelIdeal.Tile
open Idealize.ShloMosaic hiding ix0 ix1 ix2 ix3 ix4 ix5
open Idealize.ShloMosaic.ValueIdx

/-- The precondition read back: every weight is nonnegative, and some pick names an expert. -/
theorem routed [hpre : Cert.Pre_routed.Facts] (x : FVec Ideal S96x1x2048 .bf16) (ids : IVec S96x1x6 32) (cw : FVec Ideal S96x1x6 .f32) (wg : IVec S64x1408x1024 8)
    (ag : FVec Ideal S64x1408x32 .f32) (wu : IVec S64x1408x1024 8) (au : FVec Ideal S64x1408x32 .f32) (wd : IVec S64x2048x704 8) (ad : FVec Ideal S64x2048x22 .f32)
    (h : Cert.Pre_routed.fn (F := Ideal) x ids cw wg ag wu au wd ad = fun _ => 1#1) :
    (∀ i : S96x1x6.Idx, (0 : EReal) ≤ cw i) ∧ ∃ i : S96x1x6.Idx, ∃ e : Fin 64, ids i = BitVec.ofNat 32 e.val := by
  have hand : ∀ a b : BitVec 1, IntOp.andi a b = 1#1 ↔ a = 1#1 ∧ b = 1#1 := by decide
  have h0 := congrFun h (Shape.Idx.first (s := Cert.Pre_routed.S_) (by decide))
  unfold Cert.Pre_routed.fn at h0
  obtain ⟨h1, h2⟩ := (hand _ _).1 h0
  haveI : Subsingleton Cert.Pre_routed.S_.Idx := ⟨fun a b => funext fun q => q.elim0⟩
  constructor
  · intro i
    have h3 := Host.reduce_andi_all _ _ _ _ _ h1 i
    have h4 : Ideal.cmp .oge (cw i) (Ideal.ofBits .f32 0x00000000#32) = 1#1 := h3
    rw [Ideal.ofBits_zero_f32] at h4
    by_contra hn
    simp [Ideal.cmp, hn] at h4
  · obtain ⟨i, -, hi⟩ := (reduce_ori _ _ _ _ rfl _).1 h2
    obtain ⟨h5, h6⟩ := (hand _ _).1 hi
    have h7 : (0#32).sle (ids i) = true := by
      have : BitVec.ofBool ((0#32).sle (ids i)) = 1#1 := h5
      revert this
      cases (0#32).sle (ids i) <;> simp
    have h8 : (ids i).slt 64#32 = true := by
      have : BitVec.ofBool ((ids i).slt 64#32) = 1#1 := h6
      revert this
      cases (ids i).slt 64#32 <;> simp
    have hlt : (ids i).toNat < 64 := by
      generalize ids i = w at h7 h8
      simp only [BitVec.sle_eq_decide, BitVec.slt_eq_decide, decide_eq_true_eq, BitVec.toInt_eq_toNat_cond, BitVec.toNat_ofNat] at h7 h8
      split at h7 <;> split at h8 <;> omega
    exact ⟨i, ⟨(ids i).toNat, hlt⟩, by simp⟩

end Cert.KernelIdeal.Value

end
-- ==== Proof.Value.RefAt.lean ====
/-
  The reference's decoding, read at an index: code `d` of a row is half of byte `d / 2`, its value is picked by the code's four
  bits, and the product with the block's scale is the weight.
-/
module

public import proofs.«01_k».proof.Proof.Value.Spec
public import proofs.«01_k».proof.Proof.Gen.ReferenceIdeal.Run

@[expose] public section

set_option maxRecDepth 100000
set_option maxHeartbeats 1000000

noncomputable section

namespace Cert.ReferenceIdeal.Value

open Cert.ReferenceIdeal Cert.ReferenceIdeal.Gen
open Idealize.ShloMosaic hiding ix0 ix1 ix2 ix3 ix4 ix5 levels
open Idealize.ShloMosaic.ValueIdx
open Cert.KernelIdeal.Value (nib nib_lt weight levels)

/-- A bit of a code. -/
def bit (c b : BitVec 32) : BitVec 1 := IntOp.cmpi .ne (IntOp.andi c b) 0#32

/-- One of two, by a bit. -/
def sel (b : BitVec 1) (x y : EReal) : EReal := if b = 1#1 then x else y

/-- A single-precision constant. -/
def f (b : BitVec 32) : EReal := FloatOps.ofBits (F := Ideal) .f32 b

/-- The value the code's four bits pick. -/
def pick (c : BitVec 32) : EReal :=
  sel (bit c 8#32)
    (sel (bit c 4#32)
      (sel (bit c 2#32) (sel (bit c 1#32) (f 0x3F800000#32) (f 0x3F3913B3#32)) (sel (bit c 1#32) (f 0x3F1007AB#32) (f 0x3EE1A4B8#32)))
      (sel (bit c 2#32) (sel (bit c 1#32) (f 0x3EAD033A#32) (f 0x3E7C04DD#32)) (sel (bit c 1#32) (f 0x3E24CAE3#32) (f 0x3DA2FAFF#32))))
    (sel (bit c 4#32)
      (sel (bit c 2#32) (sel (bit c 1#32) (f 0x00000000#32) (f 0xBDBA7871#32)) (sel (bit c 1#32) (f 0xBE3D353F#32) (f 0xBE91A24D#32)))
      (sel (bit c 2#32) (sel (bit c 1#32) (f 0xBECA32A0#32) (f 0xBF066B30#32)) (sel (bit c 1#32) (f 0xBF3239B1#32) (f 0xBF800000#32))))

theorem pick_eq (c : BitVec 32) (h : c.toNat < 16) : pick c = levels c.toNat := by
  have hc : c = BitVec.ofNat 32 c.toNat := by rw [BitVec.ofNat_toNat, BitVec.setWidth_eq]
  have key : ∀ n : Fin 16, pick (BitVec.ofNat 32 n.val) = levels n.val := by
    intro n
    have h8 : ∀ n : Fin 16, bit (BitVec.ofNat 32 n.val) 8#32 = BitVec.ofBool (n.val.testBit 3) := by decide
    have h4 : ∀ n : Fin 16, bit (BitVec.ofNat 32 n.val) 4#32 = BitVec.ofBool (n.val.testBit 2) := by decide
    have h2 : ∀ n : Fin 16, bit (BitVec.ofNat 32 n.val) 2#32 = BitVec.ofBool (n.val.testBit 1) := by decide
    have h1 : ∀ n : Fin 16, bit (BitVec.ofNat 32 n.val) 1#32 = BitVec.ofBool (n.val.testBit 0) := by decide
    unfold pick levels
    rw [h8, h4, h2, h1, dif_pos n.isLt]
    have ht : ∀ x y, sel (BitVec.ofBool true) x y = x := fun _ _ => if_pos rfl
    have hf : ∀ x y, sel (BitVec.ofBool false) x y = y := fun _ _ => if_neg (by decide)
    fin_cases n <;> simp (config := { decide := true }) only [ht, hf, Nat.testBit] <;> rfl
  calc pick c = pick (BitVec.ofNat 32 c.toNat) := congrArg pick hc
    _ = levels c.toNat := key ⟨c.toNat, h⟩

theorem shift_eq : ∀ b : BitVec 8, IntOp.andi (IntOp.shrsi .host (b.setWidth 32) 4#32) 15#32 = nib b false := by decide +kernel
theorem mask_eq : ∀ b : BitVec 8, IntOp.andi (b.setWidth 32) 15#32 = nib b true := by decide +kernel

/-- The codes of all rows, at an index. -/
theorem codes_at {O H B : Nat} (hH : H = 32 * B) (w : (⟨3, ![64, O, H]⟩ : Shape).Idx → BitVec 8) (hi lo : (⟨3, ![64, O, H]⟩ : Shape).Idx → BitVec 32)
    (hhi : ∀ i, hi i = nib (w i) false) (hlo : ∀ i, lo i = nib (w i) true)
    (hb : (⟨3, ![64, O, H]⟩ : Shape).BroadcastsInDim (⟨4, ![64, O, H, 1]⟩ : Shape) ![0, 1, 2])
    (hc : Shape.Concatenates [(⟨4, ![64, O, H, 1]⟩ : Shape), ⟨4, ![64, O, H, 1]⟩] (⟨4, ![64, O, H, 2]⟩ : Shape) 3)
    (hs : (⟨4, ![64, O, H, 2]⟩ : Shape).ShapeCasts (⟨4, ![64, O, B, 64]⟩ : Shape)) (e : Fin 64) (o : Fin O) (b : Fin B) (l : Fin 64) :
    shapeCast (⟨4, ![64, O, B, 64]⟩ : Shape) (concatenate (⟨4, ![64, O, H, 2]⟩ : Shape) 3
        [⟨(⟨4, ![64, O, H, 1]⟩ : Shape), broadcastInDim _ ![0, 1, 2] hb hi⟩, ⟨(⟨4, ![64, O, H, 1]⟩ : Shape), broadcastInDim _ ![0, 1, 2] hb lo⟩] hc) hs (ix4 e o b l)
      = nib (w (ix3 e o ⟨32 * b.val + l.val / 2, by omega⟩)) (l.val % 2 == 1) := by
  have hl := l.isLt
  rw [shapeCast_apply _ hs (ix4 e o b l) (ix4 e o ⟨32 * b.val + l.val / 2, by omega⟩ ⟨l.val % 2, by omega⟩) (by
    rw [Shape.rowMajor_val_four, Shape.rowMajor_val_four]
    show ((e.val * O + o.val) * H + (32 * b.val + l.val / 2)) * 2 + l.val % 2 = ((e.val * O + o.val) * B + b.val) * 64 + l.val
    subst hH
    have : (e.val * O + o.val) * (32 * B) = 32 * ((e.val * O + o.val) * B) := by ring
    rw [this]
    omega)]
  have hbr : ∀ (y : (⟨3, ![64, O, H]⟩ : Shape).Idx → BitVec 32) (k : Fin H), broadcastInDim (⟨4, ![64, O, H, 1]⟩ : Shape) ![0, 1, 2] hb y (ix4 e o k 0) = y (ix3 e o k) := fun y k =>
    broadcastInDim_apply ![0, 1, 2] hb y (ix4 e o k 0) (ix3 e o k) fun a => by
      match a with
      | ⟨0, _⟩ => rfl
      | ⟨1, _⟩ => show o.val = if O = 1 then 0 else o.val; split <;> omega
      | ⟨2, _⟩ => show k.val = if H = 1 then 0 else k.val; split <;> omega
  rcases Nat.mod_two_eq_zero_or_one l.val with h | h
  · rw [concatenate_apply_piece (t := (⟨4, ![64, O, H, 2]⟩ : Shape)) 3 [⟨(⟨4, ![64, O, H, 1]⟩ : Shape), broadcastInDim _ ![0, 1, 2] hb hi⟩, ⟨(⟨4, ![64, O, H, 1]⟩ : Shape), broadcastInDim _ ![0, 1, 2] hb lo⟩] hc _ 0 (show 0 < 2 by omega)
      (⟨4, ![64, O, H, 1]⟩ : Shape) (broadcastInDim _ ![0, 1, 2] hb hi) rfl rfl 0 rfl (ix4 e o ⟨32 * b.val + l.val / 2, by omega⟩ 0) (fun a ha => by
        match a with
        | ⟨0, _⟩ => rfl
        | ⟨1, _⟩ => rfl
        | ⟨2, _⟩ => rfl
        | ⟨3, _⟩ => exact absurd rfl ha) (by show 0 + 0 = l.val % 2; omega), hbr, hhi, h]
    rfl
  · rw [concatenate_apply_piece (t := (⟨4, ![64, O, H, 2]⟩ : Shape)) 3 [⟨(⟨4, ![64, O, H, 1]⟩ : Shape), broadcastInDim _ ![0, 1, 2] hb hi⟩, ⟨(⟨4, ![64, O, H, 1]⟩ : Shape), broadcastInDim _ ![0, 1, 2] hb lo⟩] hc _ 1 (show 1 < 2 by omega)
      (⟨4, ![64, O, H, 1]⟩ : Shape) (broadcastInDim _ ![0, 1, 2] hb lo) rfl rfl 1 rfl (ix4 e o ⟨32 * b.val + l.val / 2, by omega⟩ 0) (fun a ha => by
        match a with
        | ⟨0, _⟩ => rfl
        | ⟨1, _⟩ => rfl
        | ⟨2, _⟩ => rfl
        | ⟨3, _⟩ => exact absurd rfl ha) (by show 1 + 0 = l.val % 2; omega), hbr, hlo, h]
    rfl

/-- Values times scales, at an index: the weight. -/
theorem weights_at {O H B D : Nat} (hH : H = 32 * B) (hD : D = 64 * B) (w : (⟨3, ![64, O, H]⟩ : Shape).Idx → BitVec 8) (a : (⟨3, ![64, O, B]⟩ : Shape).Idx → EReal)
    (codes : (⟨4, ![64, O, B, 64]⟩ : Shape).Idx → BitVec 32)
    (hcodes : ∀ e o b l, codes (ix4 e o b l) = nib (w (ix3 e o ⟨32 * b.val + l.val / 2, by omega⟩)) (l.val % 2 == 1))
    (v : (⟨4, ![64, O, B, 64]⟩ : Shape).Idx → EReal) (hv : ∀ i, v i = pick (codes i))
    (h1 : (⟨3, ![64, O, B]⟩ : Shape).BroadcastsInDim (⟨4, ![64, O, B, 1]⟩ : Shape) ![0, 1, 2])
    (h2 : (⟨4, ![64, O, B, 1]⟩ : Shape).BroadcastsInDim (⟨4, ![64, O, B, 64]⟩ : Shape) ![0, 1, 2, 3])
    (hs : (⟨4, ![64, O, B, 64]⟩ : Shape).ShapeCasts (⟨3, ![64, O, D]⟩ : Shape)) (e : Fin 64) (o : Fin O) (d : Fin D) :
    shapeCast (⟨3, ![64, O, D]⟩ : Shape) (mulf (F := Ideal) (φ := .f32) v (broadcastInDim _ ![0, 1, 2, 3] h2 (broadcastInDim _ ![0, 1, 2] h1 a))) hs (ix3 e o d)
      = weight levels (w (ix3 e o ⟨d.val / 2, by omega⟩)) d.val (a (ix3 e o ⟨d.val / 64, by omega⟩)) := by
  have hd := d.isLt
  rw [shapeCast_apply _ hs (ix3 e o d) (ix4 e o ⟨d.val / 64, by omega⟩ ⟨d.val % 64, by omega⟩) (by
    rw [Shape.rowMajor_val_four, Shape.rowMajor_val_three]
    show ((e.val * O + o.val) * B + d.val / 64) * 64 + d.val % 64 = (e.val * O + o.val) * D + d.val
    subst hD
    have : (e.val * O + o.val) * (64 * B) = 64 * ((e.val * O + o.val) * B) := by ring
    rw [this]
    omega)]
  show v _ * broadcastInDim _ ![0, 1, 2, 3] h2 (broadcastInDim _ ![0, 1, 2] h1 a) _ = _
  rw [broadcastInDim_apply ![0, 1, 2, 3] h2 _ _ (ix4 e o ⟨d.val / 64, by omega⟩ 0) (fun q => by
      match q with
      | ⟨0, _⟩ => rfl
      | ⟨1, _⟩ => show o.val = if O = 1 then 0 else o.val; split <;> omega
      | ⟨2, _⟩ => show d.val / 64 = if B = 1 then 0 else d.val / 64; split <;> omega
      | ⟨3, _⟩ => rfl),
    broadcastInDim_apply ![0, 1, 2] h1 a _ (ix3 e o ⟨d.val / 64, by omega⟩) (fun q => by
      match q with
      | ⟨0, _⟩ => rfl
      | ⟨1, _⟩ => show o.val = if O = 1 then 0 else o.val; split <;> omega
      | ⟨2, _⟩ => show d.val / 64 = if B = 1 then 0 else d.val / 64; split <;> omega), hv, hcodes, pick_eq _ (nib_lt _ _)]
  have e1 : (⟨32 * (d.val / 64) + d.val % 64 / 2, by omega⟩ : Fin H) = ⟨d.val / 2, by omega⟩ := Fin.ext (by show 32 * (d.val / 64) + d.val % 64 / 2 = d.val / 2; omega)
  have e2 : d.val % 64 % 2 = d.val % 2 := by omega
  show levels (nib (w (ix3 e o ⟨32 * (d.val / 64) + d.val % 64 / 2, _⟩)) (d.val % 64 % 2 == 1)).toNat * _ = _
  rw [e1, e2]
  rfl

end Cert.ReferenceIdeal.Value

end
-- ==== Proof.Value.RefValue.lean ====
/-
  The reference's answer at an index: for each of the token's six picks, the picked expert's answer times its weight.
-/
module

public import proofs.«01_k».proof.Proof.Value.RefAt
public import Idealize.ShloMosaic.Lib.IdealHost
public import Idealize.ShloMosaic.Lib.Pointwise

@[expose] public section

set_option maxRecDepth 100000
set_option maxHeartbeats 1000000

noncomputable section

namespace Cert.ReferenceIdeal.Value

open Cert.ReferenceIdeal Cert.ReferenceIdeal.Gen
open Idealize.ShloMosaic hiding ix0 ix1 ix2 ix3 ix4 ix5 levels
open Idealize.ShloMosaic.ValueIdx
open Cert.KernelIdeal.Value (nib nib_lt weight levels column unit answer act)

variable (V : Valuation τ sig (Elt Ideal))

/-- The product of activations and weights, one column a sum over the activations. -/
theorem dot_columns (l : FVec Ideal S96x2048 .bf16) (r : FVec Ideal S64x1408x2048 .bf16) (t : Fin 96) (e : Fin 64) (o : Fin 1408) :
    (Host.dotGeneral dot_S96x2048_S64x1408x2048_S96x64x1408_1_2_0_01_n_n none l r : FVec Ideal S96x64x1408 .f32) (ix3 t e o) = ∑ d : Fin 2048, (l (ix2 t d) * r (ix3 e o d) : EReal) := by
  simp only [Host.dotGeneral]
  rw [Ideal.dotGeneral_apply]
  refine (Equiv.sum_comp (contrEquiv1 dot_S96x2048_S64x1408x2048_S96x64x1408_1_2_0_01_n_n 2048 rfl rfl).symm _).symm.trans (Finset.sum_congr rfl fun d _ => ?_)
  refine congrArg₂ (fun a b : EReal => a * b) (congrArg l (funext fun a => Fin.ext ?_)) (congrArg r (funext fun a => Fin.ext ?_))
  · match a with
    | ⟨0, _⟩ => rfl
    | ⟨1, _⟩ => exact contrEquiv1_symm_val dot_S96x2048_S64x1408x2048_S96x64x1408_1_2_0_01_n_n 2048 rfl rfl d
  · match a with
    | ⟨0, _⟩ => rfl
    | ⟨1, _⟩ => rfl
    | ⟨2, _⟩ => exact contrEquiv1_symm_val dot_S96x2048_S64x1408x2048_S96x64x1408_1_2_0_01_n_n 2048 rfl rfl d

/-- The product of down weights and hidden units, one entry a sum over an expert's units. -/
theorem dot_units (l : FVec Ideal S64x2048x1408 .bf16) (r : FVec Ideal S96x64x1408 .bf16) (e : Fin 64) (c : Fin 2048) (t : Fin 96) :
    (Host.dotGeneral dot_S64x2048x1408_S96x64x1408_S64x2048x96_2_2_1_0_0_1 none l r : FVec Ideal S64x2048x96 .f32) (ix3 e c t) = ∑ d : Fin 1408, (l (ix3 e c d) * r (ix3 t e d) : EReal) := by
  simp only [Host.dotGeneral]
  rw [Ideal.dotGeneral_apply]
  refine (Equiv.sum_comp (contrEquiv1 dot_S64x2048x1408_S96x64x1408_S64x2048x96_2_2_1_0_0_1 1408 rfl rfl).symm _).symm.trans (Finset.sum_congr rfl fun d _ => ?_)
  refine congrArg₂ (fun a b : EReal => a * b) (congrArg l (funext fun a => Fin.ext ?_)) (congrArg r (funext fun a => Fin.ext ?_))
  · match a with
    | ⟨0, _⟩ => rfl
    | ⟨1, _⟩ => rfl
    | ⟨2, _⟩ => exact contrEquiv1_symm_val dot_S64x2048x1408_S96x64x1408_S64x2048x96_2_2_1_0_0_1 1408 rfl rfl d
  · match a with
    | ⟨0, _⟩ => rfl
    | ⟨1, _⟩ => rfl
    | ⟨2, _⟩ => exact contrEquiv1_symm_val dot_S64x2048x1408_S96x64x1408_S64x2048x96_2_2_1_0_0_1 1408 rfl rfl d

theorem codes_gate (e : Fin 64) (o : Fin 1408) (b : Fin 32) (l : Fin 64) :
    res_main_v13 V (ix4 e o b l) = nib (V (Proc.devRef .tc main_arg3) (ix3 e o ⟨32 * b.val + l.val / 2, by omega⟩)) (l.val % 2 == 1) :=
  codes_at (O := 1408) (H := 1024) (B := 32) rfl (V (Proc.devRef .tc main_arg3)) _ _ (fun i => shift_eq _) (fun i => mask_eq _) _ _ _ e o b l

theorem codes_up (e : Fin 64) (o : Fin 1408) (b : Fin 32) (l : Fin 64) :
    res_main_v61 V (ix4 e o b l) = nib (V (Proc.devRef .tc main_arg5) (ix3 e o ⟨32 * b.val + l.val / 2, by omega⟩)) (l.val % 2 == 1) :=
  codes_at (O := 1408) (H := 1024) (B := 32) rfl (V (Proc.devRef .tc main_arg5)) _ _ (fun i => shift_eq _) (fun i => mask_eq _) _ _ _ e o b l

theorem codes_down (e : Fin 64) (o : Fin 2048) (b : Fin 22) (l : Fin 64) :
    res_main_v112 V (ix4 e o b l) = nib (V (Proc.devRef .tc main_arg7) (ix3 e o ⟨32 * b.val + l.val / 2, by omega⟩)) (l.val % 2 == 1) :=
  codes_at (O := 2048) (H := 704) (B := 22) rfl (V (Proc.devRef .tc main_arg7)) _ _ (fun i => shift_eq _) (fun i => mask_eq _) _ _ _ e o b l

theorem x_at (t : Fin 96) (d : Fin 2048) : res_main_v0 V (ix2 t d) = V (Proc.devRef .tc main_arg0) (ix3 t 0 d) :=
  shapeCast_apply _ shapeCasts_S96x1x2048_S96x2048 (ix2 t d) (ix3 t 0 d) (by
    rw [Shape.rowMajor_val_two, Shape.rowMajor_val_three]
    show (t.val * 1 + 0) * 2048 + d.val = t.val * 2048 + d.val
    omega)

theorem gate_at (t : Fin 96) (e : Fin 64) (o : Fin 1408) :
    res_main_v50 V (ix3 t e o) = column (V (Proc.devRef .tc main_arg0)) (V (Proc.devRef .tc main_arg3)) (V (Proc.devRef .tc main_arg4)) t e o := by
  unfold res_main_v50
  refine (dot_columns _ _ t e o).trans (Finset.sum_congr rfl fun d _ => ?_)
  exact congrArg₂ (fun a b : EReal => a * b) (x_at V t d)
    (weights_at (O := 1408) (H := 1024) (B := 32) (D := 2048) rfl rfl (V (Proc.devRef .tc main_arg3)) (V (Proc.devRef .tc main_arg4)) (res_main_v13 V) (codes_gate V) _ (fun _ => rfl) _ _ _ e o d)

/-- The logistic function written out. -/
theorem logistic_eq (g : EReal) : Ideal.div (Ideal.ofBits .f32 0x3F800000#32) (Ideal.ofBits .f32 0x3F800000#32 + Ideal.exp (-g)) = Ideal.logistic g := by
  have h1 : Ideal.ofBits .f32 0x3F800000#32 = 1 := by
    simp [Ideal.ofBits, Ideal.ieee, -EReal.coe_mul]
    norm_num
  rw [h1]
  rfl

theorem down_at (e : Fin 64) (c : Fin 2048) (t : Fin 96) :
    res_main_v149 V (ix3 e c t) = answer (V (Proc.devRef .tc main_arg0)) (V (Proc.devRef .tc main_arg3)) (V (Proc.devRef .tc main_arg5)) (V (Proc.devRef .tc main_arg4))
      (V (Proc.devRef .tc main_arg6)) (V (Proc.devRef .tc main_arg7)) (V (Proc.devRef .tc main_arg8)) t e c := by
  unfold res_main_v149
  refine (dot_units _ _ e c t).trans (Finset.sum_congr rfl fun f _ => ?_)
  refine (mul_comm _ _).trans ?_
  refine congrArg₂ (fun a b : EReal => a * b) ?_
    (weights_at (O := 2048) (H := 704) (B := 22) (D := 1408) rfl rfl (V (Proc.devRef .tc main_arg7)) (V (Proc.devRef .tc main_arg8)) (res_main_v112 V) (codes_down V) _ (fun _ => rfl) _ _ _ e c f)
  refine congrArg₂ (fun a b : EReal => a * b) ?_ ?_
  · refine Eq.trans ?_ (congrArg₂ (fun a b : EReal => a * b) (gate_at V t e f) (congrArg Ideal.logistic (gate_at V t e f)))
    exact congrArg (fun s : EReal => (show EReal from res_main_v50 V (ix3 t e f)) * s) (logistic_eq _)
  · refine (dot_columns _ _ t e f).trans (Finset.sum_congr rfl fun d _ => ?_)
    exact congrArg₂ (fun a b : EReal => a * b) (x_at V t d)
      (weights_at (O := 1408) (H := 1024) (B := 32) (D := 2048) rfl rfl (V (Proc.devRef .tc main_arg5)) (V (Proc.devRef .tc main_arg6)) (res_main_v61 V) (codes_up V) _ (fun _ => rfl) _ _ _ e f d)

/-- The reference's result. -/
def result : FVec Ideal S96x2048 .bf16 := truncf .bf16 (Host.reduceAdd (mulf (Host.reduceAdd (select (broadcastInDim S96x6x64x2048 ![0, 1, 2, 3] bcast_S96x6x64x1_S96x6x64x2048_0_1_2_3 (broadcastInDim S96x6x64x1 ![0, 1, 2] bcast_S96x6x64_S96x6x64x1_0_1_2 (cmpi .eq (broadcastInDim S96x6x64 ![0, 1, 2] bcast_S96x6x1_S96x6x64_0_1_2 (broadcastInDim S96x6x1 ![0, 1] bcast_S96x6_S96x6x1_0_1 (shapeCast _ (V (Proc.devRef .tc main_arg1)) shapeCasts_S96x1x6_S96x6))) (broadcastInDim S96x6x64 ![0, 1, 2] bcast_S1x1x64_S96x6x64_0_1_2 (broadcastInDim S1x1x64 ![2] bcast_S64_S1x1x64_2 (iotaInDim S64 32 0)))))) (broadcastInDim S96x6x64x2048 ![0, 1, 2, 3] bcast_S96x1x64x2048_S96x6x64x2048_0_1_2_3 (broadcastInDim S96x1x64x2048 ![0, 2, 3] bcast_S96x64x2048_S96x1x64x2048_0_2_3 (transpose S96x64x2048 [2, 0, 1] (res_main_v149 V) transposes_S64x2048x96_S96x64x2048_2_0_1))) (broadcastInDim S96x6x64x2048 ![] bcast_S_S96x6x64x2048 (id (constant S_ .f32 0x00000000#32)))) (constant S_ .f32 0x00000000#32) reducesTo_S96x6x64x2048_S96x6x2048_d2 h_S_) (broadcastInDim S96x6x2048 ![0, 1, 2] bcast_S96x6x1_S96x6x2048_0_1_2 (broadcastInDim S96x6x1 ![0, 1] bcast_S96x6_S96x6x1_0_1 (shapeCast _ (V (Proc.devRef .tc main_arg2)) shapeCasts_S96x1x6_S96x6)))) (constant S_ .f32 0x00000000#32) reducesTo_S96x6x2048_S96x2048_d1 h_S_) bitsLt_bf16_f32

/-- A test for equality of two words. -/
theorem eq_test (x y : BitVec 32) : IntOp.cmpi .eq x y = 1#1 ↔ x = y := by
  show BitVec.ofBool (x == y) = 1#1 ↔ _
  by_cases h : x = y
  · simp [h]
  · simp [h, beq_eq_false_iff_ne.2 h]

/-- The experts each token picks. -/
def picks : S96x1x6.Idx → BitVec 32 := V (Proc.devRef .tc main_arg1)

/-- The picks' weights. -/
def weightsOf : S96x1x6.Idx → EReal := V (Proc.devRef .tc main_arg2)

/-- The picks without the axis of one. -/
theorem flat_at {α : Type} (w : S96x1x6.Idx → α) (t : Fin 96) (k : Fin 6) : shapeCast S96x6 w shapeCasts_S96x1x6_S96x6 (ix2 t k) = w (ix3 t 0 k) :=
  shapeCast_apply _ shapeCasts_S96x1x6_S96x6 (ix2 t k) (ix3 t 0 k) (by
    rw [Shape.rowMajor_val_two, Shape.rowMajor_val_three]
    show (t.val * 1 + 0) * 6 + k.val = t.val * 6 + k.val
    omega)

/-- A value per pick, laid over experts. -/
theorem over_experts {α : Type} (w : S96x6.Idx → α) (t : Fin 96) (k : Fin 6) (e : Fin 64) :
    broadcastInDim S96x6x64 ![0, 1, 2] bcast_S96x6x1_S96x6x64_0_1_2 (broadcastInDim S96x6x1 ![0, 1] bcast_S96x6_S96x6x1_0_1 w) (ix3 t k e) = w (ix2 t k) :=
  (broadcastInDim_apply ![0, 1, 2] bcast_S96x6x1_S96x6x64_0_1_2 _ (ix3 t k e) (ix3 t k 0) (fun a => by
      match a with
      | ⟨0, _⟩ => rfl
      | ⟨1, _⟩ => rfl
      | ⟨2, _⟩ => rfl)).trans
    (broadcastInDim_apply ![0, 1] bcast_S96x6_S96x6x1_0_1 _ (ix3 t k 0) (ix2 t k) (fun a => by
      match a with
      | ⟨0, _⟩ => rfl
      | ⟨1, _⟩ => rfl))

/-- A value per pick, laid over columns. -/
theorem over_columns {α : Type} (w : S96x6.Idx → α) (t : Fin 96) (k : Fin 6) (c : Fin 2048) :
    broadcastInDim S96x6x2048 ![0, 1, 2] bcast_S96x6x1_S96x6x2048_0_1_2 (broadcastInDim S96x6x1 ![0, 1] bcast_S96x6_S96x6x1_0_1 w) (ix3 t k c) = w (ix2 t k) :=
  (broadcastInDim_apply ![0, 1, 2] bcast_S96x6x1_S96x6x2048_0_1_2 _ (ix3 t k c) (ix3 t k 0) (fun a => by
      match a with
      | ⟨0, _⟩ => rfl
      | ⟨1, _⟩ => rfl
      | ⟨2, _⟩ => rfl)).trans
    (broadcastInDim_apply ![0, 1] bcast_S96x6_S96x6x1_0_1 _ (ix3 t k 0) (ix2 t k) (fun a => by
      match a with
      | ⟨0, _⟩ => rfl
      | ⟨1, _⟩ => rfl))

/-- A value per expert, laid over picks. -/
theorem over_picks {α : Type} (w : S64.Idx → α) (t : Fin 96) (k : Fin 6) (e : Fin 64) :
    broadcastInDim S96x6x64 ![0, 1, 2] bcast_S1x1x64_S96x6x64_0_1_2 (broadcastInDim S1x1x64 ![2] bcast_S64_S1x1x64_2 w) (ix3 t k e) = w (ix1 e) :=
  (broadcastInDim_apply ![0, 1, 2] bcast_S1x1x64_S96x6x64_0_1_2 _ (ix3 t k e) (ix3 0 0 e) (fun a => by
      match a with
      | ⟨0, _⟩ => rfl
      | ⟨1, _⟩ => rfl
      | ⟨2, _⟩ => rfl)).trans
    (broadcastInDim_apply ![2] bcast_S64_S1x1x64_2 _ (ix3 0 0 e) (ix1 e) (fun a => by
      match a with
      | ⟨0, _⟩ => rfl))

/-- A value per pick and expert, laid over columns. -/
theorem over_columns' {α : Type} (w : S96x6x64.Idx → α) (t : Fin 96) (k : Fin 6) (e : Fin 64) (c : Fin 2048) :
    broadcastInDim S96x6x64x2048 ![0, 1, 2, 3] bcast_S96x6x64x1_S96x6x64x2048_0_1_2_3 (broadcastInDim S96x6x64x1 ![0, 1, 2] bcast_S96x6x64_S96x6x64x1_0_1_2 w) (ix4 t k e c) = w (ix3 t k e) :=
  (broadcastInDim_apply ![0, 1, 2, 3] bcast_S96x6x64x1_S96x6x64x2048_0_1_2_3 _ (ix4 t k e c) (ix4 t k e 0) (fun a => by
      match a with
      | ⟨0, _⟩ => rfl
      | ⟨1, _⟩ => rfl
      | ⟨2, _⟩ => rfl
      | ⟨3, _⟩ => rfl)).trans
    (broadcastInDim_apply ![0, 1, 2] bcast_S96x6x64_S96x6x64x1_0_1_2 _ (ix4 t k e 0) (ix3 t k e) (fun a => by
      match a with
      | ⟨0, _⟩ => rfl
      | ⟨1, _⟩ => rfl
      | ⟨2, _⟩ => rfl))

/-- The experts' answers, laid over picks. -/
theorem answers_at (y : S64x2048x96.Idx → EReal) (t : Fin 96) (k : Fin 6) (e : Fin 64) (c : Fin 2048) :
    broadcastInDim S96x6x64x2048 ![0, 1, 2, 3] bcast_S96x1x64x2048_S96x6x64x2048_0_1_2_3 (broadcastInDim S96x1x64x2048 ![0, 2, 3] bcast_S96x64x2048_S96x1x64x2048_0_2_3
      (transpose S96x64x2048 [2, 0, 1] y transposes_S64x2048x96_S96x64x2048_2_0_1)) (ix4 t k e c) = y (ix3 e c t) :=
  (broadcastInDim_apply ![0, 1, 2, 3] bcast_S96x1x64x2048_S96x6x64x2048_0_1_2_3 _ (ix4 t k e c) (ix4 t 0 e c) (fun a => by
      match a with
      | ⟨0, _⟩ => rfl
      | ⟨1, _⟩ => rfl
      | ⟨2, _⟩ => rfl
      | ⟨3, _⟩ => rfl)).trans
    ((broadcastInDim_apply ![0, 2, 3] bcast_S96x64x2048_S96x1x64x2048_0_2_3 _ (ix4 t 0 e c) (ix3 t e c) (fun a => by
      match a with
      | ⟨0, _⟩ => rfl
      | ⟨1, _⟩ => rfl
      | ⟨2, _⟩ => rfl)).trans
    (transpose_apply [2, 0, 1] _ transposes_S64x2048x96_S96x64x2048_2_0_1 _ (ix3 e c t) fun a => by
      match a with
      | ⟨0, _⟩ => rfl
      | ⟨1, _⟩ => rfl
      | ⟨2, _⟩ => rfl))

/-- A masked value at an index. -/
theorem masked_at {s : Shape} (C : IVec s 1) (A Z : FVec Ideal s .f32) (i : s.Idx) (p : Prop) [Decidable p] (a : EReal)
    (hC : C i = 1#1 ↔ p) (hA : A i = a) (hZ : Z i = (0 : EReal)) : select C A Z i = if p then a else (0 : EReal) := by
  show (if C i = 1#1 then A i else Z i) = _
  rw [hA, hZ]
  exact if_congr hC rfl rfl

/-- A sum over a token's picks. -/
theorem sum_picks (x : FVec Ideal S96x6x2048 .f32) (t : Fin 96) (c : Fin 2048) :
    Host.reduceAdd x (constant S_ .f32 0x00000000#32) reducesTo_S96x6x2048_S96x2048_d1 h_S_ (ix2 t c) = ∑ k : Fin 6, (x (ix3 t k c) : EReal) := by
  rw [hostReduceAdd_apply, Ideal.hostReduceAdd_r3_a1]
  show Ideal.ofBits .f32 0x00000000#32 + _ = _
  rw [Ideal.ofBits_zero_f32, zero_add]
  rfl

/-- A sum over the experts. -/
theorem sum_experts (x : FVec Ideal S96x6x64x2048 .f32) (t : Fin 96) (k : Fin 6) (c : Fin 2048) :
    Host.reduceAdd x (constant S_ .f32 0x00000000#32) reducesTo_S96x6x64x2048_S96x6x2048_d2 h_S_ (ix3 t k c) = ∑ e : Fin 64, (x (ix4 t k e c) : EReal) := by
  rw [hostReduceAdd_apply, Ideal.hostReduceAdd_r4_a2]
  show Ideal.ofBits .f32 0x00000000#32 + _ = _
  rw [Ideal.ofBits_zero_f32, zero_add]
  rfl

/-- An equality test at an index. -/
theorem same_at {s : Shape} (x y : IVec s 32) (i : s.Idx) (a b : BitVec 32) (hx : x i = a) (hy : y i = b) : cmpi .eq x y i = 1#1 ↔ a = b := by
  subst hx hy
  exact eq_test _ _

/-- The result at an index, from the experts' answers. -/
theorem result_at (t : Fin 96) (c : Fin 2048) :
    result V (ix2 t c) = ∑ k : Fin 6, (∑ e : Fin 64, if picks V (ix3 t 0 k) = BitVec.ofNat 32 e.val then answer (V (Proc.devRef .tc main_arg0)) (V (Proc.devRef .tc main_arg3)) (V (Proc.devRef .tc main_arg5)) (V (Proc.devRef .tc main_arg4))
      (V (Proc.devRef .tc main_arg6)) (V (Proc.devRef .tc main_arg7)) (V (Proc.devRef .tc main_arg8)) t e c else 0)
      * weightsOf V (ix3 t 0 k) := by
  unfold result
  refine (sum_picks _ t c).trans (Finset.sum_congr rfl fun k _ => ?_)
  refine congrArg₂ (fun a b : EReal => a * b) ?_ ((over_columns _ t k c).trans (flat_at _ t k))
  refine (sum_experts _ t k c).trans (Finset.sum_congr rfl fun e _ => ?_)
  refine masked_at _ _ _ _ _ _ ?_ ((answers_at _ t k e c).trans (down_at V e c t)) Ideal.ofBits_zero_f32
  rw [over_columns']
  exact same_at _ _ _ _ _ ((over_experts _ t k e).trans (flat_at _ t k)) (over_picks _ t k e)

end Cert.ReferenceIdeal.Value

end
-- ==== Proof.Algebraic.lean ====
/-
  At ideal values, and under the precondition, the kernel and the reference end with the same result.
-/
module

public import proofs.«01_k».proof.Defs
public import proofs.«01_k».proof.Proof.Frame
public import proofs.«01_k».proof.Proof.Value.OutAt
public import proofs.«01_k».proof.Proof.Value.PreAt
public import proofs.«01_k».proof.Proof.Value.RefValue

@[expose] public section

set_option maxRecDepth 100000
set_option maxHeartbeats 1000000

noncomputable section

namespace Cert.Proof

open Idealize.ShloMosaic hiding ix0 ix1 ix2 ix3 ix4 ix5 levels
open Idealize.ShloMosaic.ValueIdx Idealize.SL.Sem
open Cert.KernelIdeal.Value

/-- The side conditions of the precondition's operations. -/
theorem pre_facts : Cert.Pre_routed.Facts := ⟨by decide, by decide, by decide⟩

/-- Equal arrays give equal answers. -/
theorem answer_congr {x x' : KernelIdeal.S96x1x2048.Idx → EReal} {wg wg' wu wu' : KernelIdeal.S64x1408x1024.Idx → BitVec 8}
    {ag ag' au au' : KernelIdeal.S64x1408x32.Idx → EReal} {wd wd' : KernelIdeal.S64x2048x704.Idx → BitVec 8} {ad ad' : KernelIdeal.S64x2048x22.Idx → EReal}
    (h0 : x = x') (h3 : wg = wg') (h4 : ag = ag') (h5 : wu = wu') (h6 : au = au') (h7 : wd = wd') (h8 : ad = ad') :
    answer x wg wu ag au wd ad = answer x' wg' wu' ag' au' wd' ad' := by
  subst h0 h3 h4 h5 h6 h7 h8
  rfl

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal))

/-- The reference's result over the kernel's arguments is the kernel's. -/
theorem same_result (c : Dev Cert.KernelIdeal.nD)
    (hids : Cert.ReferenceIdeal.Value.picks V = idsOf m c) (hcw : Cert.ReferenceIdeal.Value.weightsOf V = cwOf m c)
    (hans : answer (V (Proc.devRef .tc ReferenceIdeal.main_arg0)) (V (Proc.devRef .tc ReferenceIdeal.main_arg3)) (V (Proc.devRef .tc ReferenceIdeal.main_arg5))
      (V (Proc.devRef .tc ReferenceIdeal.main_arg4)) (V (Proc.devRef .tc ReferenceIdeal.main_arg6)) (V (Proc.devRef .tc ReferenceIdeal.main_arg7))
      (V (Proc.devRef .tc ReferenceIdeal.main_arg8)) = answerOf m c)
    (hpos : ∀ i, 0 ≤ cwOf m c i) (hid : ∃ i, ∃ e : Fin 64, idsOf m c i = BitVec.ofNat 32 e.val) (t : Fin 96) (d : Fin 2048) :
    Cert.ReferenceIdeal.Value.result V (ix2 t d) = out m c (ix2 t d) := by
  refine (Cert.ReferenceIdeal.Value.result_at V t d).trans (Eq.trans ?_ (out_at m c (fun t k => hpos _) ?_ t d).symm)
  · rw [hids, hcw, hans]
  · obtain ⟨i, e, h⟩ := hid
    refine ⟨i 0, i 2, e, ?_⟩
    rw [← h]
    refine congrArg (idsOf m c) (funext fun q => ?_)
    match q with
    | ⟨0, _⟩ => rfl
    | ⟨1, _⟩ => exact Subsingleton.elim (α := Fin 1) _ _
    | ⟨2, _⟩ => rfl

/-- The whole array likewise. -/
theorem same_array (c : Dev Cert.KernelIdeal.nD)
    (hids : Cert.ReferenceIdeal.Value.picks V = idsOf m c) (hcw : Cert.ReferenceIdeal.Value.weightsOf V = cwOf m c)
    (hans : answer (V (Proc.devRef .tc ReferenceIdeal.main_arg0)) (V (Proc.devRef .tc ReferenceIdeal.main_arg3)) (V (Proc.devRef .tc ReferenceIdeal.main_arg5))
      (V (Proc.devRef .tc ReferenceIdeal.main_arg4)) (V (Proc.devRef .tc ReferenceIdeal.main_arg6)) (V (Proc.devRef .tc ReferenceIdeal.main_arg7))
      (V (Proc.devRef .tc ReferenceIdeal.main_arg8)) = answerOf m c)
    (hpos : ∀ i, 0 ≤ cwOf m c i) (hid : ∃ i, ∃ e : Fin 64, idsOf m c i = BitVec.ofNat 32 e.val) :
    Cert.ReferenceIdeal.Value.result V = out m c := by
  funext i
  have hi : i = ix2 (i 0) (i 1) := funext fun q => by
    match q with
    | ⟨0, _⟩ => rfl
    | ⟨1, _⟩ => rfl
  rw [hi]
  exact same_result m V c hids hcw hans hpos hid _ _

/-- Both programs, started on equal arguments that meet the precondition, end with equal results. -/
theorem algebraic : Cert.algebraic_KernelIdeal_ReferenceIdeal_pre_routed (hKernelIdeal := Cert.KernelIdeal.Gen.facts)
    (hReferenceIdeal := Cert.ReferenceIdeal.Gen.facts) (hPre_routed := pre_facts) := by
  intro m g m' g' hpre hargs
  have hsame : ∀ c : Dev Cert.KernelIdeal.nD, Cert.ReferenceIdeal.Value.result (StableHlo.launchContents m' c) = out m c := fun c => by
    obtain ⟨h0, h1, h2, h3, h4, h5, h6, h7, h8⟩ := hargs c
    obtain ⟨hpos, hid⟩ := routed (hpre := pre_facts) _ _ _ _ _ _ _ _ _ (hpre c)
    exact same_array m (StableHlo.launchContents m' c) c h1 h2 (answer_congr h0 h3 h4 h5 h6 h7 h8) hpos hid
  refine ⟨fun c => out m c, ?_, ?_⟩
  · exact (θ_run Cert.KernelIdeal.defs _ _).mono (fun _ h c => ⟨(h.1 c).1 11, Cert.KernelIdeal.Step.args m h c⟩) (Cert.KernelIdeal.Step.run m g)
  · exact (θ_run Cert.ReferenceIdeal.defs _ _).mono (fun _ h c => ⟨(h c).1.trans (hsame c), (h c).2⟩) (Cert.ReferenceIdeal.Value.run m' g')

end Cert.Proof

end
-- ==== Proof.lean ====
/-
  The proof of the claim: each program runs to its end and leaves its arguments and its semaphores as they were, the
  idealization is the program's own text, and at ideal values the kernel's result is the reference's.
-/
module

public import proofs.«01_k».proof.Defs
public import proofs.«01_k».proof.Proof.Bits.Frame
public import proofs.«01_k».proof.Proof.Frame
public import proofs.«01_k».proof.Proof.Algebraic
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel at bits: its run leaves the nine arguments and every semaphore as they were. -/
theorem frame_p : Cert.quiescent_Kernel (hKernel := Cert.Kernel.Gen.facts) := fun m g _ =>
  (θ_run Cert.Kernel.defs _ _).mono (fun _ h => ⟨fun c => Cert.Kernel.Step.args m h c, h.2⟩) (Cert.Kernel.Step.run m g)

/-- The kernel at ideal values, likewise. -/
theorem frame_pi : Cert.quiescent_KernelIdeal (hKernelIdeal := Cert.KernelIdeal.Gen.facts) := fun m g _ =>
  (θ_run Cert.KernelIdeal.defs _ _).mono (fun _ h => ⟨fun c => Cert.KernelIdeal.Step.args m h c, h.2⟩) (Cert.KernelIdeal.Step.run m g)

/-- The same, of the runs that meet the precondition. -/
theorem frame_pi_pre : Cert.quiescent_KernelIdeal_pre_routed (hKernelIdeal := Cert.KernelIdeal.Gen.facts) (hPre_routed := pre_facts) :=
  fun m g _ => frame_pi m g trivial

/-- The reference at ideal values, likewise; it has no semaphores. -/
theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The same, of the runs that meet the precondition. -/
theorem frame_ri_pre : Cert.quiescent_ReferenceIdeal_pre_routed (hReferenceIdeal := Cert.ReferenceIdeal.Gen.facts) (hPre_routed := pre_facts) :=
  fun m g _ => frame_ri m g trivial

theorem claim : Cert.Claim :=
  ⟨Cert.Kernel.Gen.facts, Cert.KernelIdeal.Gen.facts, Cert.ReferenceIdeal.Gen.facts, pre_facts, frame_p, frame_pi, frame_pi_pre, frame_ri, frame_ri_pre,
    trivial, algebraic⟩

end Cert.Proof

end
